-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)) (v7 : (c : Dev Cert.KernelIdeal.nD) → Buf (Elt Ideal) ((c.tc : Thread Cert.KernelIdeal.nD Cert.KernelIdeal.τ).loc Cert.KernelIdeal.main_v2_7)) (v8 : (c : Dev Cert.KernelIdeal.nD) → Buf (Elt Ideal) ((c.tc : Thread Cert.KernelIdeal.nD Cert.KernelIdeal.τ).loc Cert.KernelIdeal.main_v2_8)) (v9 : (c : Dev Cert.KernelIdeal.nD) → Buf (Elt Ideal) ((c.tc : Thread Cert.KernelIdeal.nD Cert.KernelIdeal.τ).loc Cert.KernelIdeal.main_v2_9)) (v10 : (c : Dev Cert.KernelIdeal.nD) → Buf (Elt Ideal) ((c.tc : Thread Cert.KernelIdeal.nD Cert.KernelIdeal.τ).loc Cert.KernelIdeal.main_v2_10)) (v11 : (c : Dev Cert.KernelIdeal.nD) → Buf (Elt Ideal) ((c.tc : Thread Cert.KernelIdeal.nD Cert.KernelIdeal.τ).loc Cert.KernelIdeal.main_v2_11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_v2_7) = v7 c
          ∧ r.2.mem ((c.tc : Thread Cert.KernelIdeal.nD Cert.KernelIdeal.τ).loc Cert.KernelIdeal.main_v2_8) = v8 c
          ∧ r.2.mem ((c.tc : Thread Cert.KernelIdeal.nD Cert.KernelIdeal.τ).loc Cert.KernelIdeal.main_v2_9) = v9 c
          ∧ r.2.mem ((c.tc : Thread Cert.KernelIdeal.nD Cert.KernelIdeal.τ).loc Cert.KernelIdeal.main_v2_10) = v10 c
          ∧ r.2.mem ((c.tc : Thread Cert.KernelIdeal.nD Cert.KernelIdeal.τ).loc Cert.KernelIdeal.main_v2_11) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_v102) = v4 c
          ∧ r.2.mem ((c.tc : Thread Cert.ReferenceIdeal.nD Cert.ReferenceIdeal.τ).loc Cert.ReferenceIdeal.main_v105) = v5 c
          ∧ r.2.mem ((c.tc : Thread Cert.ReferenceIdeal.nD Cert.ReferenceIdeal.τ).loc Cert.ReferenceIdeal.main_v111) = v6 c
          ∧ r.2.mem ((c.tc : Thread Cert.ReferenceIdeal.nD Cert.ReferenceIdeal.τ).loc Cert.ReferenceIdeal.main_v117) = v7 c
          ∧ r.2.mem ((c.tc : Thread Cert.ReferenceIdeal.nD Cert.ReferenceIdeal.τ).loc Cert.ReferenceIdeal.main_v123) = v8 c
          ∧ r.2.mem ((c.tc : Thread Cert.ReferenceIdeal.nD Cert.ReferenceIdeal.τ).loc Cert.ReferenceIdeal.main_v129) = v9 c
          ∧ r.2.mem ((c.tc : Thread Cert.ReferenceIdeal.nD Cert.ReferenceIdeal.τ).loc Cert.ReferenceIdeal.main_v133) = v10 c
          ∧ r.2.mem ((c.tc : Thread Cert.ReferenceIdeal.nD Cert.ReferenceIdeal.τ).loc Cert.ReferenceIdeal.main_v137) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v9) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v9) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg1) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg1) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg1) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg1) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg1) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v34) = v0 c
          ∧ r.2.mem ((c.tc : Thread Cert.Reference35Ideal.nD Cert.Reference35Ideal.τ).loc Cert.Reference35Ideal.main_v35) = v1 c
          ∧ r.2.mem ((c.tc : Thread Cert.Reference35Ideal.nD Cert.Reference35Ideal.τ).loc Cert.Reference35Ideal.main_v17) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v12) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
-- ==== Kernel.lean ====
abbrev S2x2048x1024 : Shape := ⟨3, ![2, 2048, 1024]⟩
abbrev S2x8x2048x64 : Shape := ⟨4, ![2, 8, 2048, 64]⟩
abbrev S2x32x8 : Shape := ⟨3, ![2, 32, 8]⟩
abbrev S32x8x128x128 : Shape := ⟨4, ![32, 8, 128, 128]⟩
abbrev S2048x1024 : Shape := ⟨2, ![2048, 1024]⟩
abbrev S2x32x8x1 : Shape := ⟨4, ![2, 32, 8, 1]⟩
abbrev S2x32x8x128 : Shape := ⟨4, ![2, 32, 8, 128]⟩
abbrev S8x2048x64 : Shape := ⟨3, ![8, 2048, 64]⟩
abbrev S32x8x128 : Shape := ⟨3, ![32, 8, 128]⟩
abbrev S1x64x1024 : Shape := ⟨3, ![1, 64, 1024]⟩
abbrev S1x8x64x64 : Shape := ⟨4, ![1, 8, 64, 64]⟩
abbrev S1x1x8x128 : Shape := ⟨4, ![1, 1, 8, 128]⟩
abbrev S1x8x128x128 : Shape := ⟨4, ![1, 8, 128, 128]⟩
abbrev S64x1024 : Shape := ⟨2, ![64, 1024]⟩
abbrev S8x64x64 : Shape := ⟨3, ![8, 64, 64]⟩
abbrev S1x8x128 : Shape := ⟨3, ![1, 8, 128]⟩
abbrev S16x128x128 : Shape := ⟨3, ![16, 128, 128]⟩
abbrev S1x1x128x128 : Shape := ⟨4, ![1, 1, 128, 128]⟩
abbrev S128x128 : Shape := ⟨2, ![128, 128]⟩
abbrev S1x64x128 : Shape := ⟨3, ![1, 64, 128]⟩
abbrev S64x128 : Shape := ⟨2, ![64, 128]⟩
abbrev S1x1x64x64 : Shape := ⟨4, ![1, 1, 64, 64]⟩
abbrev S64x64 : Shape := ⟨2, ![64, 64]⟩
abbrev S1x1x1x1 : Shape := ⟨4, ![1, 1, 1, 1]⟩
abbrev S1x1 : Shape := ⟨2, ![1, 1]⟩
abbrev S1x128x128 : Shape := ⟨3, ![1, 128, 128]⟩
abbrev S1 : Shape := ⟨1, ![1]⟩
abbrev S1x1x1 : Shape := ⟨3, ![1, 1, 1]⟩
abbrev S1x64x64 : Shape := ⟨3, ![1, 64, 64]⟩
abbrev S1x128 : Shape := ⟨2, ![1, 128]⟩
abbrev S1x1x128 : Shape := ⟨3, ![1, 1, 128]⟩

abbrev nBuf : Space → Nat
  | .hbm => 23
  | .vmem => 57
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x8x2048x64, .f32⟩
  | .hbm, ⟨5, _⟩ => ⟨S2x32x8, .f32⟩
  | .hbm, ⟨6, _⟩ => ⟨S32x8x128x128, .f32⟩
  | .hbm, ⟨7, _⟩ => ⟨S32x8x128x128, .f32⟩
  | .hbm, ⟨8, _⟩ => ⟨S2048x1024, .f32⟩
  | .hbm, ⟨9, _⟩ => ⟨S2x32x8x1, .f32⟩
  | .hbm, ⟨10, _⟩ => ⟨S2x32x8x128, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S8x2048x64, .f32⟩
  | .hbm, ⟨16, _⟩ => ⟨S32x8x128, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S8x2048x64, .f32⟩
  | .hbm, ⟨22, _⟩ => ⟨S32x8x128, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x8x64x64, .f32⟩
  | .local _ .vmem, ⟨9, _⟩ => ⟨S1x8x64x64, .f32⟩
  | .local _ .vmem, ⟨10, _⟩ => ⟨S1x1x8x128, .f32⟩
  | .local _ .vmem, ⟨11, _⟩ => ⟨S1x1x8x128, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | .local _ .vmem, ⟨18, _⟩ => ⟨S1x64x1024, .f32⟩
  | .local _ .vmem, ⟨19, _⟩ => ⟨S1x64x1024, .f32⟩
  | .local _ .vmem, ⟨20, _⟩ => ⟨S1x8x64x64, .f32⟩
  | .local _ .vmem, ⟨21, _⟩ => ⟨S1x8x64x64, .f32⟩
  | .local _ .vmem, ⟨22, _⟩ => ⟨S1x1x8x128, .f32⟩
  | .local _ .vmem, ⟨23, _⟩ => ⟨S1x1x8x128, .f32⟩
  | .local _ .vmem, ⟨24, _⟩ => ⟨S1x8x128x128, .f32⟩
  | .local _ .vmem, ⟨25, _⟩ => ⟨S1x8x128x128, .f32⟩
  | .local _ .vmem, ⟨26, _⟩ => ⟨S1x8x128x128, .f32⟩
  | .local _ .vmem, ⟨27, _⟩ => ⟨S1x8x128x128, .f32⟩
  | .local _ .vmem, ⟨28, _⟩ => ⟨S64x1024, .f32⟩
  | .local _ .vmem, ⟨29, _⟩ => ⟨S64x1024, .f32⟩
  | .local _ .vmem, ⟨30, _⟩ => ⟨S64x1024, .f32⟩
  | .local _ .vmem, ⟨31, _⟩ => ⟨S64x1024, .f32⟩
  | .local _ .vmem, ⟨32, _⟩ => ⟨S64x1024, .f32⟩
  | .local _ .vmem, ⟨33, _⟩ => ⟨S64x1024, .f32⟩
  | .local _ .vmem, ⟨34, _⟩ => ⟨S64x1024, .f32⟩
  | .local _ .vmem, ⟨35, _⟩ => ⟨S64x1024, .f32⟩
  | .local _ .vmem, ⟨36, _⟩ => ⟨S64x1024, .f32⟩
  | .local _ .vmem, ⟨37, _⟩ => ⟨S64x1024, .f32⟩
  | .local _ .vmem, ⟨38, _⟩ => ⟨S64x1024, .f32⟩
  | .local _ .vmem, ⟨39, _⟩ => ⟨S64x1024, .f32⟩
  | .local _ .vmem, ⟨40, _⟩ => ⟨S8x64x64, .f32⟩
  | .local _ .vmem, ⟨41, _⟩ => ⟨S8x64x64, .f32⟩
  | .local _ .vmem, ⟨42, _⟩ => ⟨S1x8x128, .f32⟩
  | .local _ .vmem, ⟨43, _⟩ => ⟨S1x8x128, .f32⟩
  | .local _ .vmem, ⟨44, _⟩ => ⟨S64x1024, .f32⟩
  | .local _ .vmem, ⟨45, _⟩ => ⟨S64x1024, .f32⟩
  | .local _ .vmem, ⟨46, _⟩ => ⟨S64x1024, .f32⟩
  | .local _ .vmem, ⟨47, _⟩ => ⟨S64x1024, .f32⟩
  | .local _ .vmem, ⟨48, _⟩ => ⟨S64x1024, .f32⟩
  | .local _ .vmem, ⟨49, _⟩ => ⟨S64x1024, .f32⟩
  | .local _ .vmem, ⟨50, _⟩ => ⟨S64x1024, .f32⟩
  | .local _ .vmem, ⟨51, _⟩ => ⟨S64x1024, .f32⟩
  | .local _ .vmem, ⟨52, _⟩ => ⟨S8x64x64, .f32⟩
  | .local _ .vmem, ⟨53, _⟩ => ⟨S8x64x64, .f32⟩
  | .local _ .vmem, ⟨54, _⟩ => ⟨S1x8x128, .f32⟩
  | .local _ .vmem, ⟨55, _⟩ => ⟨S1x8x128, .f32⟩
  | .local _ .vmem, ⟨56, _⟩ => ⟨S16x128x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev main_v2_5 : Ref sig .tc := ⟨.hbm, 16, rfl⟩
abbrev main_v2_6 : Ref sig .tc := ⟨.hbm, 17, rfl⟩
abbrev main_v2_7 : Ref sig .tc := ⟨.hbm, 18, rfl⟩
abbrev main_v2_8 : Ref sig .tc := ⟨.hbm, 19, rfl⟩
abbrev main_v2_9 : Ref sig .tc := ⟨.hbm, 20, rfl⟩
abbrev main_v2_10 : Ref sig .tc := ⟨.hbm, 21, rfl⟩
abbrev main_v2_11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_scratch0 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_5 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_11 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_12 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_20 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_21 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x64x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x8x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S64x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S64x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S64x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S64x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S8x64x64 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x8x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== ReferenceIdeal.lean ====
abbrev S2x2048x1024 : Shape := ⟨3, ![2, 2048, 1024]⟩
abbrev S2x8x2048x64 : Shape := ⟨4, ![2, 8, 2048, 64]⟩
abbrev S2x32x8 : Shape := ⟨3, ![2, 32, 8]⟩
abbrev S32x8x128x128 : Shape := ⟨4, ![32, 8, 128, 128]⟩
abbrev S2048x1024 : Shape := ⟨2, ![2048, 1024]⟩
abbrev S1x2048x1024 : Shape := ⟨3, ![1, 2048, 1024]⟩
abbrev S2048x8x128 : Shape := ⟨3, ![2048, 8, 128]⟩
abbrev S8x2048x128 : Shape := ⟨3, ![8, 2048, 128]⟩
abbrev S16x2048x128 : Shape := ⟨3, ![16, 2048, 128]⟩
abbrev S16x32x64x128 : Shape := ⟨4, ![16, 32, 64, 128]⟩
abbrev S32x16x64x128 : Shape := ⟨4, ![32, 16, 64, 128]⟩
abbrev S1x8x2048x64 : Shape := ⟨4, ![1, 8, 2048, 64]⟩
abbrev S8x2048x64 : Shape := ⟨3, ![8, 2048, 64]⟩
abbrev S16x2048x64 : Shape := ⟨3, ![16, 2048, 64]⟩
abbrev S16x32x64x64 : Shape := ⟨4, ![16, 32, 64, 64]⟩
abbrev S32x16x64x64 : Shape := ⟨4, ![32, 16, 64, 64]⟩
abbrev S1x32x8 : Shape := ⟨3, ![1, 32, 8]⟩
abbrev S32x8 : Shape := ⟨2, ![32, 8]⟩
abbrev S32x16 : Shape := ⟨2, ![32, 16]⟩
abbrev S32x16x128x128 : Shape := ⟨4, ![32, 16, 128, 128]⟩
abbrev S_ : Shape := ⟨0, ![]⟩
abbrev S16x128x128 : Shape := ⟨3, ![16, 128, 128]⟩
abbrev S1x16x128x128 : Shape := ⟨4, ![1, 16, 128, 128]⟩
abbrev S1x16x64x128 : Shape := ⟨4, ![1, 16, 64, 128]⟩
abbrev S16x64x128 : Shape := ⟨3, ![16, 64, 128]⟩
abbrev S1x16x64x64 : Shape := ⟨4, ![1, 16, 64, 64]⟩
abbrev S16x64x64 : Shape := ⟨3, ![16, 64, 64]⟩
abbrev S1x16 : Shape := ⟨2, ![1, 16]⟩
abbrev S16 : Shape := ⟨1, ![16]⟩
abbrev S16x1x1 : Shape := ⟨3, ![16, 1, 1]⟩
abbrev S16x128x64 : Shape := ⟨3, ![16, 128, 64]⟩
abbrev S32x8x1 : Shape := ⟨3, ![32, 8, 1]⟩
abbrev S32x8x128 : Shape := ⟨3, ![32, 8, 128]⟩

abbrev nBuf : Space → Nat
  | .hbm => 279
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S2x2048x1024, .f32⟩
  | 3 => ⟨S2x2048x1024, .f32⟩
  | 4 => ⟨S2x8x2048x64, .f32⟩
  | 5 => ⟨S2x32x8, .f32⟩
  | 6 => ⟨S32x8x128x128, .f32⟩
  | 7 => ⟨S32x8x128x128, .f32⟩
  | 8 => ⟨S2048x1024, .f32⟩
  | 9 => ⟨S1x2048x1024, .f32⟩
  | 10 => ⟨S2048x1024, .f32⟩
  | 11 => ⟨S1x2048x1024, .f32⟩
  | 12 => ⟨S2048x1024, .f32⟩
  | 13 => ⟨S2048x8x128, .f32⟩
  | 14 => ⟨S8x2048x128, .f32⟩
  | 15 => ⟨S2048x8x128, .f32⟩
  | 16 => ⟨S8x2048x128, .f32⟩
  | 17 => ⟨S8x2048x128, .f32⟩
  | 18 => ⟨S16x2048x128, .f32⟩
  | 19 => ⟨S16x32x64x128, .f32⟩
  | 20 => ⟨S32x16x64x128, .f32⟩
  | 21 => ⟨S1x2048x1024, .f32⟩
  | 22 => ⟨S2048x1024, .f32⟩
  | 23 => ⟨S1x2048x1024, .f32⟩
  | 24 => ⟨S2048x1024, .f32⟩
  | 25 => ⟨S2048x8x128, .f32⟩
  | 26 => ⟨S8x2048x128, .f32⟩
  | 27 => ⟨S2048x8x128, .f32⟩
  | 28 => ⟨S8x2048x128, .f32⟩
  | 29 => ⟨S8x2048x128, .f32⟩
  | 30 => ⟨S16x2048x128, .f32⟩
  | 31 => ⟨S16x32x64x128, .f32⟩
  | 32 => ⟨S32x16x64x128, .f32⟩
  | 33 => ⟨S1x2048x1024, .f32⟩
  | 34 => ⟨S2048x1024, .f32⟩
  | 35 => ⟨S1x2048x1024, .f32⟩
  | 36 => ⟨S2048x1024, .f32⟩
  | 37 => ⟨S2048x8x128, .f32⟩
  | 38 => ⟨S8x2048x128, .f32⟩
  | 39 => ⟨S2048x8x128, .f32⟩
  | 40 => ⟨S8x2048x128, .f32⟩
  | 41 => ⟨S8x2048x128, .f32⟩
  | 42 => ⟨S16x2048x128, .f32⟩
  | 43 => ⟨S16x32x64x128, .f32⟩
  | 44 => ⟨S32x16x64x128, .f32⟩
  | 45 => ⟨S1x2048x1024, .f32⟩
  | 46 => ⟨S2048x1024, .f32⟩
  | 47 => ⟨S1x2048x1024, .f32⟩
  | 48 => ⟨S2048x1024, .f32⟩
  | 49 => ⟨S2048x8x128, .f32⟩
  | 50 => ⟨S8x2048x128, .f32⟩
  | 51 => ⟨S2048x8x128, .f32⟩
  | 52 => ⟨S8x2048x128, .f32⟩
  | 53 => ⟨S8x2048x128, .f32⟩
  | 54 => ⟨S16x2048x128, .f32⟩
  | 55 => ⟨S16x32x64x128, .f32⟩
  | 56 => ⟨S32x16x64x128, .f32⟩
  | 57 => ⟨S1x8x2048x64, .f32⟩
  | 58 => ⟨S8x2048x64, .f32⟩
  | 59 => ⟨S1x8x2048x64, .f32⟩
  | 60 => ⟨S8x2048x64, .f32⟩
  | 61 => ⟨S8x2048x64, .f32⟩
  | 62 => ⟨S16x2048x64, .f32⟩
  | 63 => ⟨S16x32x64x64, .f32⟩
  | 64 => ⟨S32x16x64x64, .f32⟩
  | 65 => ⟨S1x32x8, .f32⟩
  | 66 => ⟨S32x8, .f32⟩
  | 67 => ⟨S1x32x8, .f32⟩
  | 68 => ⟨S32x8, .f32⟩
  | 69 => ⟨S32x8, .f32⟩
  | 70 => ⟨S32x16, .f32⟩
  | 71 => ⟨S32x8x128x128, .f32⟩
  | 72 => ⟨S32x16x128x128, .f32⟩
  | 73 => ⟨S2048x8x128, .f32⟩
  | 74 => ⟨S8x2048x128, .f32⟩
  | 75 => ⟨S2048x8x128, .f32⟩
  | 76 => ⟨S8x2048x128, .f32⟩
  | 77 => ⟨S8x2048x128, .f32⟩
  | 78 => ⟨S16x2048x128, .f32⟩
  | 79 => ⟨S16x32x64x128, .f32⟩
  | 80 => ⟨S32x16x64x128, .f32⟩
  | 81 => ⟨S_, .f32⟩
  | 82 => ⟨S16x128x128, .f32⟩
  | 83 => ⟨S_, .f32⟩
  | 84 => ⟨S32x16x64x128, .f32⟩
  | 85 => ⟨S_, .f32⟩
  | 86 => ⟨S32x16x64x64, .f32⟩
  | 87 => ⟨S_, .f32⟩
  | 88 => ⟨S32x16x64x128, .f32⟩
  | 89 => ⟨S_, .f32⟩
  | 90 => ⟨S32x16x64x128, .f32⟩
  | 91 => ⟨S_, .f32⟩
  | 92 => ⟨S32x16x64x128, .f32⟩
  | 93 => ⟨S_, .f32⟩
  | 94 => ⟨S32x16, .f32⟩
  | 95 => ⟨S_, .i32⟩
  | 96 => ⟨S32x16x128x128, .f32⟩
  | 97 => ⟨S32x16x64x128, .f32⟩
  | 98 => ⟨S32x16x64x64, .f32⟩
  | 99 => ⟨S32x16x64x128, .f32⟩
  | 100 => ⟨S32x16x64x128, .f32⟩
  | 101 => ⟨S32x16x64x128, .f32⟩
  | 102 => ⟨S32x16, .f32⟩
  | 103 => ⟨S32x16x64x128, .f32⟩
  | 104 => ⟨S_, .i32⟩
  | 105 => ⟨S16x128x128, .f32⟩
  | 106 => ⟨S32x16x64x128, .f32⟩
  | 107 => ⟨S32x16x64x64, .f32⟩
  | 108 => ⟨S32x16x64x128, .f32⟩
  | 109 => ⟨S32x16x64x128, .f32⟩
  | 110 => ⟨S32x16x64x128, .f32⟩
  | 111 => ⟨S32x16, .f32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S1x16x128x128, .f32⟩
  | 122 => ⟨S16x128x128, .f32⟩
  | 123 => ⟨S_, .i32⟩
  | 124 => ⟨S_, .i32⟩
  | 125 => ⟨S_, .i32⟩
  | 126 => ⟨S1x16x64x128, .f32⟩
  | 127 => ⟨S16x64x128, .f32⟩
  | _ => ⟨S2x2048x1024, .f32⟩

abbrev hbmTy0_1 (i : Nat) : BufTy := match i % 128 with
  | 0 => ⟨S_, .i32⟩
  | 1 => ⟨S_, .i32⟩
  | 2 => ⟨S_, .i32⟩
  | 3 => ⟨S1x16x64x64, .f32⟩
  | 4 => ⟨S16x64x64, .f32⟩
  | 5 => ⟨S_, .i32⟩
  | 6 => ⟨S_, .i32⟩
  | 7 => ⟨S_, .i32⟩
  | 8 => ⟨S1x16x64x128, .f32⟩
  | 9 => ⟨S16x64x128, .f32⟩
  | 10 => ⟨S_, .i32⟩
  | 11 => ⟨S_, .i32⟩
  | 12 => ⟨S_, .i32⟩
  | 13 => ⟨S1x16x64x128, .f32⟩
  | 14 => ⟨S16x64x128, .f32⟩
  | 15 => ⟨S_, .i32⟩
  | 16 => ⟨S_, .i32⟩
  | 17 => ⟨S_, .i32⟩
  | 18 => ⟨S1x16x64x128, .f32⟩
  | 19 => ⟨S16x64x128, .f32⟩
  | 20 => ⟨S_, .i32⟩
  | 21 => ⟨S1x16, .f32⟩
  | 22 => ⟨S16, .f32⟩
  | 23 => ⟨S_, .i32⟩
  | 24 => ⟨S_, .i32⟩
  | 25 => ⟨S_, .i32⟩
  | 26 => ⟨S1x16x64x128, .f32⟩
  | 27 => ⟨S16x64x128, .f32⟩
  | 28 => ⟨S16x64x128, .f32⟩
  | 29 => ⟨S16x64x128, .f32⟩
  | 30 => ⟨S16x64x128, .f32⟩
  | 31 => ⟨S16x64x128, .f32⟩
  | 32 => ⟨S16x64x128, .f32⟩
  | 33 => ⟨S16x1x1, .f32⟩
  | 34 => ⟨S16x128x128, .f32⟩
  | 35 => ⟨S16x128x128, .f32⟩
  | 36 => ⟨S16x128x128, .f32⟩
  | 37 => ⟨S16x128x128, .f32⟩
  | 38 => ⟨S16x128x64, .f32⟩
  | 39 => ⟨S16x64x128, .f32⟩
  | 40 => ⟨S16x128x64, .f32⟩
  | 41 => ⟨S16x64x128, .f32⟩
  | 42 => ⟨S16x128x128, .f32⟩
  | 43 => ⟨S_, .f32⟩
  | 44 => ⟨S16, .f32⟩
  | 45 => ⟨S16x1x1, .f32⟩
  | 46 => ⟨S16x128x128, .f32⟩
  | 47 => ⟨S16x128x128, .f32⟩
  | 48 => ⟨S_, .f32⟩
  | 49 => ⟨S16, .f32⟩
  | 50 => ⟨S16x128x64, .f32⟩
  | 51 => ⟨S16x64x128, .f32⟩
  | 52 => ⟨S16x64x128, .f32⟩
  | 53 => ⟨S16x64x64, .f32⟩
  | 54 => ⟨S16x128x128, .f32⟩
  | 55 => ⟨S16x128x128, .f32⟩
  | 56 => ⟨S16x128x128, .f32⟩
  | 57 => ⟨S16x64x128, .f32⟩
  | 58 => ⟨S16x64x128, .f32⟩
  | 59 => ⟨S16x128x128, .f32⟩
  | 60 => ⟨S16x128x128, .f32⟩
  | 61 => ⟨S16x128x128, .f32⟩
  | 62 => ⟨S16x64x128, .f32⟩
  | 63 => ⟨S1x16x64x128, .f32⟩
  | 64 => ⟨S_, .i32⟩
  | 65 => ⟨S_, .i32⟩
  | 66 => ⟨S_, .i32⟩
  | 67 => ⟨S32x16x64x128, .f32⟩
  | 68 => ⟨S1x16x64x64, .f32⟩
  | 69 => ⟨S_, .i32⟩
  | 70 => ⟨S_, .i32⟩
  | 71 => ⟨S_, .i32⟩
  | 72 => ⟨S32x16x64x64, .f32⟩
  | 73 => ⟨S1x16x64x128, .f32⟩
  | 74 => ⟨S_, .i32⟩
  | 75 => ⟨S_, .i32⟩
  | 76 => ⟨S_, .i32⟩
  | 77 => ⟨S32x16x64x128, .f32⟩
  | 78 => ⟨S1x16x64x128, .f32⟩
  | 79 => ⟨S_, .i32⟩
  | 80 => ⟨S_, .i32⟩
  | 81 => ⟨S_, .i32⟩
  | 82 => ⟨S32x16x64x128, .f32⟩
  | 83 => ⟨S1x16x64x128, .f32⟩
  | 84 => ⟨S_, .i32⟩
  | 85 => ⟨S_, .i32⟩
  | 86 => ⟨S_, .i32⟩
  | 87 => ⟨S32x16x64x128, .f32⟩
  | 88 => ⟨S1x16, .f32⟩
  | 89 => ⟨S_, .i32⟩
  | 90 => ⟨S32x16, .f32⟩
  | 91 => ⟨S_, .i32⟩
  | 92 => ⟨S_, .i32⟩
  | 93 => ⟨S16x32x64x128, .f32⟩
  | 94 => ⟨S16x2048x128, .f32⟩
  | 95 => ⟨S8x2048x128, .f32⟩
  | 96 => ⟨S2048x8x128, .f32⟩
  | 97 => ⟨S2048x1024, .f32⟩
  | 98 => ⟨S16x32x64x128, .f32⟩
  | 99 => ⟨S16x2048x128, .f32⟩
  | 100 => ⟨S8x2048x128, .f32⟩
  | 101 => ⟨S2048x8x128, .f32⟩
  | 102 => ⟨S2048x1024, .f32⟩
  | 103 => ⟨S16x32x64x128, .f32⟩
  | 104 => ⟨S16x2048x128, .f32⟩
  | 105 => ⟨S8x2048x128, .f32⟩
  | 106 => ⟨S2048x8x128, .f32⟩
  | 107 => ⟨S2048x1024, .f32⟩
  | 108 => ⟨S16x32x64x128, .f32⟩
  | 109 => ⟨S16x2048x128, .f32⟩
  | 110 => ⟨S8x2048x128, .f32⟩
  | 111 => ⟨S2048x8x128, .f32⟩
  | 112 => ⟨S2048x1024, .f32⟩
  | 113 => ⟨S16x32x64x64, .f32⟩
  | 114 => ⟨S16x2048x64, .f32⟩
  | 115 => ⟨S8x2048x64, .f32⟩
  | 116 => ⟨S32x8, .f32⟩
  | 117 => ⟨S32x8x1, .f32⟩
  | 118 => ⟨S32x8x128, .f32⟩
  | 119 => ⟨S16x32x64x128, .f32⟩
  | 120 => ⟨S16x2048x128, .f32⟩
  | 121 => ⟨S8x2048x128, .f32⟩
  | 122 => ⟨S8x2048x128, .f32⟩
  | 123 => ⟨S2048x8x128, .f32⟩
  | 124 => ⟨S2048x1024, .f32⟩
  | 125 => ⟨S16x32x64x128, .f32⟩
  | 126 => ⟨S16x2048x128, .f32⟩
  | 127 => ⟨S8x2048x128, .f32⟩
  | _ => ⟨S2x2048x1024, .f32⟩

abbrev hbmTy0_2 (i : Nat) : BufTy := match i % 128 with
  | 0 => ⟨S8x2048x128, .f32⟩
  | 1 => ⟨S2048x8x128, .f32⟩
  | 2 => ⟨S2048x1024, .f32⟩
  | 3 => ⟨S16x32x64x128, .f32⟩
  | 4 => ⟨S16x2048x128, .f32⟩
  | 5 => ⟨S8x2048x128, .f32⟩
  | 6 => ⟨S8x2048x128, .f32⟩
  | 7 => ⟨S2048x8x128, .f32⟩
  | 8 => ⟨S2048x1024, .f32⟩
  | 9 => ⟨S16x32x64x128, .f32⟩
  | 10 => ⟨S16x2048x128, .f32⟩
  | 11 => ⟨S8x2048x128, .f32⟩
  | 12 => ⟨S8x2048x128, .f32⟩
  | 13 => ⟨S2048x8x128, .f32⟩
  | 14 => ⟨S2048x1024, .f32⟩
  | 15 => ⟨S16x32x64x64, .f32⟩
  | 16 => ⟨S16x2048x64, .f32⟩
  | 17 => ⟨S8x2048x64, .f32⟩
  | 18 => ⟨S8x2048x64, .f32⟩
  | 19 => ⟨S32x8, .f32⟩
  | 20 => ⟨S32x8, .f32⟩
  | 21 => ⟨S32x8x1, .f32⟩
  | 22 => ⟨S32x8x128, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_cst : Ref sig .tc := ⟨.hbm, 81, rfl⟩
abbrev main_v72 : Ref sig .tc := ⟨.hbm, 82, rfl⟩
abbrev main_cst_0 : Ref sig .tc := ⟨.hbm, 83, rfl⟩
abbrev main_v73 : Ref sig .tc := ⟨.hbm, 84, rfl⟩
abbrev main_cst_1 : Ref sig .tc := ⟨.hbm, 85, rfl⟩
abbrev main_v74 : Ref sig .tc := ⟨.hbm, 86, rfl⟩
abbrev main_cst_2 : Ref sig .tc := ⟨.hbm, 87, rfl⟩
abbrev main_v75 : Ref sig .tc := ⟨.hbm, 88, rfl⟩
abbrev main_cst_3 : Ref sig .tc := ⟨.hbm, 89, rfl⟩
abbrev main_v76 : Ref sig .tc := ⟨.hbm, 90, rfl⟩
abbrev main_cst_4 : Ref sig .tc := ⟨.hbm, 91, rfl⟩
abbrev main_v77 : Ref sig .tc := ⟨.hbm, 92, rfl⟩
abbrev main_cst_5 : Ref sig .tc := ⟨.hbm, 93, rfl⟩
abbrev main_v78 : Ref sig .tc := ⟨.hbm, 94, rfl⟩
abbrev main_c : Ref sig .tc := ⟨.hbm, 95, rfl⟩
abbrev main_v79_0 : Ref sig .tc := ⟨.hbm, 96, rfl⟩
abbrev main_v79_1 : Ref sig .tc := ⟨.hbm, 97, rfl⟩
abbrev main_v79_2 : Ref sig .tc := ⟨.hbm, 98, rfl⟩
abbrev main_v79_3 : Ref sig .tc := ⟨.hbm, 99, rfl⟩
abbrev main_v79_4 : Ref sig .tc := ⟨.hbm, 100, rfl⟩
abbrev main_v79_5 : Ref sig .tc := ⟨.hbm, 101, rfl⟩
abbrev main_v79_6 : Ref sig .tc := ⟨.hbm, 102, rfl⟩
abbrev main_v79_7 : Ref sig .tc := ⟨.hbm, 103, rfl⟩
abbrev main_v79_8 : Ref sig .tc := ⟨.hbm, 104, rfl⟩
abbrev main_v79_9 : Ref sig .tc := ⟨.hbm, 105, rfl⟩
abbrev main_v79_10 : Ref sig .tc := ⟨.hbm, 106, rfl⟩
abbrev main_v79_11 : Ref sig .tc := ⟨.hbm, 107, rfl⟩
abbrev main_v79_12 : Ref sig .tc := ⟨.hbm, 108, rfl⟩
abbrev main_v79_13 : Ref sig .tc := ⟨.hbm, 109, rfl⟩
abbrev main_v79_14 : Ref sig .tc := ⟨.hbm, 110, rfl⟩
abbrev main_v79_15 : Ref sig .tc := ⟨.hbm, 111, rfl⟩
abbrev main_while0c_c_21 : Ref sig .tc := ⟨.hbm, 112, rfl⟩
abbrev main_while0c_v138 : Ref sig .tc := ⟨.hbm, 113, rfl⟩
abbrev main_while0b_c_21 : Ref sig .tc := ⟨.hbm, 114, rfl⟩
abbrev main_while0b_v138 : Ref sig .tc := ⟨.hbm, 115, rfl⟩
abbrev main_while0b_c_22 : Ref sig .tc := ⟨.hbm, 116, rfl⟩
abbrev main_while0b_v139 : Ref sig .tc := ⟨.hbm, 117, rfl⟩
abbrev main_while0b_call0_c : Ref sig .tc := ⟨.hbm, 118, rfl⟩
abbrev main_while0b_call0_c_0 : Ref sig .tc := ⟨.hbm, 119, rfl⟩
abbrev main_while0b_call0_c_1 : Ref sig .tc := ⟨.hbm, 120, rfl⟩
abbrev main_while0b_call0_v0 : Ref sig .tc := ⟨.hbm, 121, rfl⟩
abbrev main_while0b_v140 : Ref sig .tc := ⟨.hbm, 122, rfl⟩
abbrev main_while0b_call1_c : Ref sig .tc := ⟨.hbm, 123, rfl⟩
abbrev main_while0b_call1_c_0 : Ref sig .tc := ⟨.hbm, 124, rfl⟩
abbrev main_while0b_call1_c_1 : Ref sig .tc := ⟨.hbm, 125, rfl⟩
abbrev main_while0b_call1_v0 : Ref sig .tc := ⟨.hbm, 126, rfl⟩
abbrev main_while0b_v141 : Ref sig .tc := ⟨.hbm, 127, rfl⟩
abbrev main_while0b_call2_c : Ref sig .tc := ⟨.hbm, 128, rfl⟩
abbrev main_while0b_call2_c_0 : Ref sig .tc := ⟨.hbm, 129, rfl⟩
abbrev main_while0b_call2_c_1 : Ref sig .tc := ⟨.hbm, 130, rfl⟩
abbrev main_while0b_call2_v0 : Ref sig .tc := ⟨.hbm, 131, rfl⟩
abbrev main_while0b_v142 : Ref sig .tc := ⟨.hbm, 132, rfl⟩
abbrev main_while0b_call3_c : Ref sig .tc := ⟨.hbm, 133, rfl⟩
abbrev main_while0b_call3_c_0 : Ref sig .tc := ⟨.hbm, 134, rfl⟩
abbrev main_while0b_call3_c_1 : Ref sig .tc := ⟨.hbm, 135, rfl⟩
abbrev main_while0b_call3_v0 : Ref sig .tc := ⟨.hbm, 136, rfl⟩
abbrev main_while0b_v143 : Ref sig .tc := ⟨.hbm, 137, rfl⟩
abbrev main_while0b_call4_c : Ref sig .tc := ⟨.hbm, 138, rfl⟩
abbrev main_while0b_call4_c_0 : Ref sig .tc := ⟨.hbm, 139, rfl⟩
abbrev main_while0b_call4_c_1 : Ref sig .tc := ⟨.hbm, 140, rfl⟩
abbrev main_while0b_call4_v0 : Ref sig .tc := ⟨.hbm, 141, rfl⟩
abbrev main_while0b_v144 : Ref sig .tc := ⟨.hbm, 142, rfl⟩
abbrev main_while0b_call5_c : Ref sig .tc := ⟨.hbm, 143, rfl⟩
abbrev main_while0b_call5_c_0 : Ref sig .tc := ⟨.hbm, 144, rfl⟩
abbrev main_while0b_call5_c_1 : Ref sig .tc := ⟨.hbm, 145, rfl⟩
abbrev main_while0b_call5_v0 : Ref sig .tc := ⟨.hbm, 146, rfl⟩
abbrev main_while0b_v145 : Ref sig .tc := ⟨.hbm, 147, rfl⟩
abbrev main_while0b_call6_c : Ref sig .tc := ⟨.hbm, 148, rfl⟩
abbrev main_while0b_call6_v0 : Ref sig .tc := ⟨.hbm, 149, rfl⟩
abbrev main_while0b_v146 : Ref sig .tc := ⟨.hbm, 150, rfl⟩
abbrev main_while0b_call7_c : Ref sig .tc := ⟨.hbm, 151, rfl⟩
abbrev main_while0b_call7_c_0 : Ref sig .tc := ⟨.hbm, 152, rfl⟩
abbrev main_while0b_call7_c_1 : Ref sig .tc := ⟨.hbm, 153, rfl⟩
abbrev main_while0b_call7_v0 : Ref sig .tc := ⟨.hbm, 154, rfl⟩
abbrev main_while0b_v147 : Ref sig .tc := ⟨.hbm, 155, rfl⟩
abbrev main_while0b_v148 : Ref sig .tc := ⟨.hbm, 156, rfl⟩
abbrev main_while0b_v149 : Ref sig .tc := ⟨.hbm, 157, rfl⟩
abbrev main_while0b_v150 : Ref sig .tc := ⟨.hbm, 158, rfl⟩
abbrev main_while0b_v151 : Ref sig .tc := ⟨.hbm, 159, rfl⟩
abbrev main_while0b_v152 : Ref sig .tc := ⟨.hbm, 160, rfl⟩
abbrev main_while0b_v153 : Ref sig .tc := ⟨.hbm, 161, rfl⟩
abbrev main_while0b_v154 : Ref sig .tc := ⟨.hbm, 162, rfl⟩
abbrev main_while0b_v155 : Ref sig .tc := ⟨.hbm, 163, rfl⟩
abbrev main_while0b_v156 : Ref sig .tc := ⟨.hbm, 164, rfl⟩
abbrev main_while0b_v157 : Ref sig .tc := ⟨.hbm, 165, rfl⟩
abbrev main_while0b_v158 : Ref sig .tc := ⟨.hbm, 166, rfl⟩
abbrev main_while0b_v159 : Ref sig .tc := ⟨.hbm, 167, rfl⟩
abbrev main_while0b_v160 : Ref sig .tc := ⟨.hbm, 168, rfl⟩
abbrev main_while0b_v161 : Ref sig .tc := ⟨.hbm, 169, rfl⟩
abbrev main_while0b_v162 : Ref sig .tc := ⟨.hbm, 170, rfl⟩
abbrev main_while0b_cst_23 : Ref sig .tc := ⟨.hbm, 171, rfl⟩
abbrev main_while0b_v163 : Ref sig .tc := ⟨.hbm, 172, rfl⟩
abbrev main_while0b_v164 : Ref sig .tc := ⟨.hbm, 173, rfl⟩
abbrev main_while0b_v165 : Ref sig .tc := ⟨.hbm, 174, rfl⟩
abbrev main_while0b_v166 : Ref sig .tc := ⟨.hbm, 175, rfl⟩
abbrev main_while0b_cst_24 : Ref sig .tc := ⟨.hbm, 176, rfl⟩
abbrev main_while0b_v167 : Ref sig .tc := ⟨.hbm, 177, rfl⟩
abbrev main_while0b_v168 : Ref sig .tc := ⟨.hbm, 178, rfl⟩
abbrev main_while0b_v169 : Ref sig .tc := ⟨.hbm, 179, rfl⟩
abbrev main_while0b_v170 : Ref sig .tc := ⟨.hbm, 180, rfl⟩
abbrev main_while0b_v171 : Ref sig .tc := ⟨.hbm, 181, rfl⟩
abbrev main_while0b_v172 : Ref sig .tc := ⟨.hbm, 182, rfl⟩
abbrev main_while0b_v173 : Ref sig .tc := ⟨.hbm, 183, rfl⟩
abbrev main_while0b_v174 : Ref sig .tc := ⟨.hbm, 184, rfl⟩
abbrev main_while0b_v175 : Ref sig .tc := ⟨.hbm, 185, rfl⟩
abbrev main_while0b_v176 : Ref sig .tc := ⟨.hbm, 186, rfl⟩
abbrev main_while0b_v177 : Ref sig .tc := ⟨.hbm, 187, rfl⟩
abbrev main_while0b_v178 : Ref sig .tc := ⟨.hbm, 188, rfl⟩
abbrev main_while0b_v179 : Ref sig .tc := ⟨.hbm, 189, rfl⟩
abbrev main_while0b_v180 : Ref sig .tc := ⟨.hbm, 190, rfl⟩
abbrev main_while0b_call8_v0 : Ref sig .tc := ⟨.hbm, 191, rfl⟩
abbrev main_while0b_call8_c : Ref sig .tc := ⟨.hbm, 192, rfl⟩
abbrev main_while0b_call8_c_0 : Ref sig .tc := ⟨.hbm, 193, rfl⟩
abbrev main_while0b_call8_c_1 : Ref sig .tc := ⟨.hbm, 194, rfl⟩
abbrev main_while0b_v181 : Ref sig .tc := ⟨.hbm, 195, rfl⟩
abbrev main_while0b_call9_v0 : Ref sig .tc := ⟨.hbm, 196, rfl⟩
abbrev main_while0b_call9_c : Ref sig .tc := ⟨.hbm, 197, rfl⟩
abbrev main_while0b_call9_c_0 : Ref sig .tc := ⟨.hbm, 198, rfl⟩
abbrev main_while0b_call9_c_1 : Ref sig .tc := ⟨.hbm, 199, rfl⟩
abbrev main_while0b_v182 : Ref sig .tc := ⟨.hbm, 200, rfl⟩
abbrev main_while0b_call10_v0 : Ref sig .tc := ⟨.hbm, 201, rfl⟩
abbrev main_while0b_call10_c : Ref sig .tc := ⟨.hbm, 202, rfl⟩
abbrev main_while0b_call10_c_0 : Ref sig .tc := ⟨.hbm, 203, rfl⟩
abbrev main_while0b_call10_c_1 : Ref sig .tc := ⟨.hbm, 204, rfl⟩
abbrev main_while0b_v183 : Ref sig .tc := ⟨.hbm, 205, rfl⟩
abbrev main_while0b_call11_v0 : Ref sig .tc := ⟨.hbm, 206, rfl⟩
abbrev main_while0b_call11_c : Ref sig .tc := ⟨.hbm, 207, rfl⟩
abbrev main_while0b_call11_c_0 : Ref sig .tc := ⟨.hbm, 208, rfl⟩
abbrev main_while0b_call11_c_1 : Ref sig .tc := ⟨.hbm, 209, rfl⟩
abbrev main_while0b_v184 : Ref sig .tc := ⟨.hbm, 210, rfl⟩
abbrev main_while0b_call12_v0 : Ref sig .tc := ⟨.hbm, 211, rfl⟩
abbrev main_while0b_call12_c : Ref sig .tc := ⟨.hbm, 212, rfl⟩
abbrev main_while0b_call12_c_0 : Ref sig .tc := ⟨.hbm, 213, rfl⟩
abbrev main_while0b_call12_c_1 : Ref sig .tc := ⟨.hbm, 214, rfl⟩
abbrev main_while0b_v185 : Ref sig .tc := ⟨.hbm, 215, rfl⟩
abbrev main_while0b_call13_v0 : Ref sig .tc := ⟨.hbm, 216, rfl⟩
abbrev main_while0b_call13_c : Ref sig .tc := ⟨.hbm, 217, rfl⟩
abbrev main_while0b_v186 : Ref sig .tc := ⟨.hbm, 218, rfl⟩
abbrev main_while0b_c_25 : Ref sig .tc := ⟨.hbm, 219, rfl⟩
abbrev main_while0b_v187 : Ref sig .tc := ⟨.hbm, 220, rfl⟩
abbrev main_v80 : Ref sig .tc := ⟨.hbm, 221, rfl⟩
abbrev main_v81 : Ref sig .tc := ⟨.hbm, 222, rfl⟩
abbrev main_v82 : Ref sig .tc := ⟨.hbm, 223, rfl⟩
abbrev main_v83 : Ref sig .tc := ⟨.hbm, 224, rfl⟩
abbrev main_v84 : Ref sig .tc := ⟨.hbm, 225, rfl⟩
abbrev main_v85 : Ref sig .tc := ⟨.hbm, 226, rfl⟩
abbrev main_v86 : Ref sig .tc := ⟨.hbm, 227, rfl⟩
abbrev main_v87 : Ref sig .tc := ⟨.hbm, 228, rfl⟩
abbrev main_v88 : Ref sig .tc := ⟨.hbm, 229, rfl⟩
abbrev main_v89 : Ref sig .tc := ⟨.hbm, 230, rfl⟩
abbrev main_v90 : Ref sig .tc := ⟨.hbm, 231, rfl⟩
abbrev main_v91 : Ref sig .tc := ⟨.hbm, 232, rfl⟩
abbrev main_v92 : Ref sig .tc := ⟨.hbm, 233, rfl⟩
abbrev main_v93 : Ref sig .tc := ⟨.hbm, 234, rfl⟩
abbrev main_v94 : Ref sig .tc := ⟨.hbm, 235, rfl⟩
abbrev main_v95 : Ref sig .tc := ⟨.hbm, 236, rfl⟩
abbrev main_v96 : Ref sig .tc := ⟨.hbm, 237, rfl⟩
abbrev main_v97 : Ref sig .tc := ⟨.hbm, 238, rfl⟩
abbrev main_v98 : Ref sig .tc := ⟨.hbm, 239, rfl⟩
abbrev main_v99 : Ref sig .tc := ⟨.hbm, 240, rfl⟩
abbrev main_v100 : Ref sig .tc := ⟨.hbm, 241, rfl⟩
abbrev main_v101 : Ref sig .tc := ⟨.hbm, 242, rfl⟩
abbrev main_v102 : Ref sig .tc := ⟨.hbm, 243, rfl⟩
abbrev main_v103 : Ref sig .tc := ⟨.hbm, 244, rfl⟩
abbrev main_v104 : Ref sig .tc := ⟨.hbm, 245, rfl⟩
abbrev main_v105 : Ref sig .tc := ⟨.hbm, 246, rfl⟩
abbrev main_v106 : Ref sig .tc := ⟨.hbm, 247, rfl⟩
abbrev main_v107 : Ref sig .tc := ⟨.hbm, 248, rfl⟩
abbrev main_v108 : Ref sig .tc := ⟨.hbm, 249, rfl⟩
abbrev main_v109 : Ref sig .tc := ⟨.hbm, 250, rfl⟩
abbrev main_v110 : Ref sig .tc := ⟨.hbm, 251, rfl⟩
abbrev main_v111 : Ref sig .tc := ⟨.hbm, 252, rfl⟩
abbrev main_v112 : Ref sig .tc := ⟨.hbm, 253, rfl⟩
abbrev main_v113 : Ref sig .tc := ⟨.hbm, 254, rfl⟩
abbrev main_v114 : Ref sig .tc := ⟨.hbm, 255, rfl⟩
abbrev main_v115 : Ref sig .tc := ⟨.hbm, 256, rfl⟩
abbrev main_v116 : Ref sig .tc := ⟨.hbm, 257, rfl⟩
abbrev main_v117 : Ref sig .tc := ⟨.hbm, 258, rfl⟩
abbrev main_v118 : Ref sig .tc := ⟨.hbm, 259, rfl⟩
abbrev main_v119 : Ref sig .tc := ⟨.hbm, 260, rfl⟩
abbrev main_v120 : Ref sig .tc := ⟨.hbm, 261, rfl⟩
abbrev main_v121 : Ref sig .tc := ⟨.hbm, 262, rfl⟩
abbrev main_v122 : Ref sig .tc := ⟨.hbm, 263, rfl⟩
abbrev main_v123 : Ref sig .tc := ⟨.hbm, 264, rfl⟩
abbrev main_v124 : Ref sig .tc := ⟨.hbm, 265, rfl⟩
abbrev main_v125 : Ref sig .tc := ⟨.hbm, 266, rfl⟩
abbrev main_v126 : Ref sig .tc := ⟨.hbm, 267, rfl⟩
abbrev main_v127 : Ref sig .tc := ⟨.hbm, 268, rfl⟩
abbrev main_v128 : Ref sig .tc := ⟨.hbm, 269, rfl⟩
abbrev main_v129 : Ref sig .tc := ⟨.hbm, 270, rfl⟩
abbrev main_v130 : Ref sig .tc := ⟨.hbm, 271, rfl⟩
abbrev main_v131 : Ref sig .tc := ⟨.hbm, 272, rfl⟩
abbrev main_v132 : Ref sig .tc := ⟨.hbm, 273, rfl⟩
abbrev main_v133 : Ref sig .tc := ⟨.hbm, 274, rfl⟩
abbrev main_v134 : Ref sig .tc := ⟨.hbm, 275, rfl⟩
abbrev main_v135 : Ref sig .tc := ⟨.hbm, 276, rfl⟩
abbrev main_v136 : Ref sig .tc := ⟨.hbm, 277, rfl⟩
abbrev main_v137 : Ref sig .tc := ⟨.hbm, 278, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S2048x2048 : Shape := ⟨2, ![2048, 2048]⟩
abbrev S2048x10368 : Shape := ⟨2, ![2048, 10368]⟩
abbrev S2048x1152 : Shape := ⟨2, ![2048, 1152]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x10368, .bf16⟩
  | .hbm, ⟨2, _⟩ => ⟨S2048x10368, .bf16⟩
  | .local _ .vmem, ⟨0, _⟩ => ⟨S2048x2048, .bf16⟩
  | .local _ .vmem, ⟨1, _⟩ => ⟨S2048x1152, .bf16⟩
  | .local _ .vmem, ⟨2, _⟩ => ⟨S2048x1152, .bf16⟩
  | .local _ .vmem, ⟨3, _⟩ => ⟨S2048x1152, .bf16⟩
  | .local _ .vmem, ⟨4, _⟩ => ⟨S2048x1152, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x2048 : Shape := ⟨2, ![2048, 2048]⟩
abbrev S2048x10368 : Shape := ⟨2, ![2048, 10368]⟩
abbrev S_ : Shape := ⟨0, ![]⟩
abbrev S10368x2048 : Shape := ⟨2, ![10368, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10368, .bf16⟩
  | .hbm, ⟨2, _⟩ => ⟨S_, .f32⟩
  | .hbm, ⟨3, _⟩ => ⟨S2048x10368, .f32⟩
  | .hbm, ⟨4, _⟩ => ⟨S2048x2048, .f32⟩
  | .hbm, ⟨5, _⟩ => ⟨S2048x10368, .f32⟩
  | .hbm, ⟨6, _⟩ => ⟨S2048x10368, .f32⟩
  | .hbm, ⟨7, _⟩ => ⟨S10368x2048, .f32⟩
  | .hbm, ⟨8, _⟩ => ⟨S2048x10368, .f32⟩
  | .hbm, ⟨9, _⟩ => ⟨S2048x2048, .f32⟩
  | .hbm, ⟨10, _⟩ => ⟨S2048x10368, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S2048x5632, .f32⟩
  | .hbm, ⟨10, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S2048x2048 : Shape := ⟨2, ![2048, 2048]⟩
abbrev S5632x2048 : Shape := ⟨2, ![5632, 2048]⟩
abbrev S2048x5632 : Shape := ⟨2, ![2048, 5632]⟩
abbrev S1408x2048 : Shape := ⟨2, ![1408, 2048]⟩
abbrev S2048x1408 : Shape := ⟨2, ![2048, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .local _ .vmem, ⟨0, _⟩ => ⟨S2048x2048, .bf16⟩
  | .local _ .vmem, ⟨1, _⟩ => ⟨S1408x2048, .bf16⟩
  | .local _ .vmem, ⟨2, _⟩ => ⟨S1408x2048, .bf16⟩
  | .local _ .vmem, ⟨3, _⟩ => ⟨S2048x1408, .bf16⟩
  | .local _ .vmem, ⟨4, _⟩ => ⟨S2048x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S_, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S2048x5632, .f32⟩
  | .hbm, ⟨10, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S2048x2048 : Shape := ⟨2, ![2048, 2048]⟩
abbrev S2x2048x5632 : Shape := ⟨3, ![2, 2048, 5632]⟩
abbrev S4x2048x2816 : Shape := ⟨3, ![4, 2048, 2816]⟩
abbrev S1x2048x1408 : Shape := ⟨3, ![1, 2048, 1408]⟩
abbrev S2048x1408 : Shape := ⟨2, ![2048, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S4x2048x2816, .bf16⟩
  | .local _ .vmem, ⟨0, _⟩ => ⟨S2048x2048, .bf16⟩
  | .local _ .vmem, ⟨1, _⟩ => ⟨S1x2048x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x2048 : Shape := ⟨2, ![2048, 2048]⟩
abbrev S2x2048x5632 : Shape := ⟨3, ![2, 2048, 5632]⟩
abbrev S_ : Shape := ⟨0, ![]⟩
abbrev S2048x11264 : Shape := ⟨2, ![2048, 11264]⟩
abbrev S1x2048x5632 : Shape := ⟨3, ![1, 2048, 5632]⟩
abbrev S2048x5632 : Shape := ⟨2, ![2048, 5632]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S_, .f32⟩
  | .hbm, ⟨3, _⟩ => ⟨S2048x11264, .f32⟩
  | .hbm, ⟨4, _⟩ => ⟨S1x2048x5632, .bf16⟩
  | .hbm, ⟨5, _⟩ => ⟨S2048x5632, .bf16⟩
  | .hbm, ⟨6, _⟩ => ⟨S1x2048x5632, .bf16⟩
  | .hbm, ⟨7, _⟩ => ⟨S2048x5632, .bf16⟩
  | .hbm, ⟨8, _⟩ => ⟨S2048x11264, .bf16⟩
  | .hbm, ⟨9, _⟩ => ⟨S2048x2048, .f32⟩
  | .hbm, ⟨10, _⟩ => ⟨S2048x11264, .f32⟩
  | .hbm, ⟨11, _⟩ => ⟨S2048x11264, .f32⟩
  | .hbm, ⟨12, _⟩ => ⟨S11264x2048, .f32⟩
  | .hbm, ⟨13, _⟩ => ⟨S2048x11264, .f32⟩
  | .hbm, ⟨14, _⟩ => ⟨S2048x2048, .f32⟩
  | .hbm, ⟨15, _⟩ => ⟨S2048x4x2816, .f32⟩
  | .hbm, ⟨16, _⟩ => ⟨S4x2048x2816, .f32⟩
  | .hbm, ⟨17, _⟩ => ⟨S4x2048x2816, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel6.lean ====
abbrev S2x2048x5632 : Shape := ⟨3, ![2, 2048, 5632]⟩
abbrev S4x2048x2816 : Shape := ⟨3, ![4, 2048, 2816]⟩
abbrev S2048x2048 : Shape := ⟨2, ![2048, 2048]⟩
abbrev S1x1024x2816 : Shape := ⟨3, ![1, 1024, 2816]⟩
abbrev S1024x1024 : Shape := ⟨2, ![1024, 1024]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S4x2048x2816, .bf16⟩
  | .hbm, ⟨2, _⟩ => ⟨S2048x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_8 : BitVec 32 := 3#32
  let v13 : BitVec 1 := Scalar.cmpi .eq arg2 c3_i32_8
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2x2048x5632 : Shape := ⟨3, ![2, 2048, 5632]⟩
abbrev S4x2048x2816 : Shape := ⟨3, ![4, 2048, 2816]⟩
abbrev S_ : Shape := ⟨0, ![]⟩
abbrev S2048x2048 : Shape := ⟨2, ![2048, 2048]⟩
abbrev S2048x4x2816 : Shape := ⟨3, ![2048, 4, 2816]⟩
abbrev S2048x11264 : Shape := ⟨2, ![2048, 11264]⟩
abbrev S1x2048x5632 : Shape := ⟨3, ![1, 2048, 5632]⟩
abbrev S2048x5632 : Shape := ⟨2, ![2048, 5632]⟩
abbrev S11264x2048 : Shape := ⟨2, ![11264, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S4x2048x2816, .bf16⟩
  | .hbm, ⟨2, _⟩ => ⟨S_, .f32⟩
  | .hbm, ⟨3, _⟩ => ⟨S2048x2048, .f32⟩
  | .hbm, ⟨4, _⟩ => ⟨S2048x4x2816, .bf16⟩
  | .hbm, ⟨5, _⟩ => ⟨S2048x11264, .bf16⟩
  | .hbm, ⟨6, _⟩ => ⟨S1x2048x5632, .bf16⟩
  | .hbm, ⟨7, _⟩ => ⟨S2048x5632, .bf16⟩
  | .hbm, ⟨8, _⟩ => ⟨S1x2048x5632, .bf16⟩
  | .hbm, ⟨9, _⟩ => ⟨S2048x5632, .bf16⟩
  | .hbm, ⟨10, _⟩ => ⟨S2048x11264, .bf16⟩
  | .hbm, ⟨11, _⟩ => ⟨S2048x11264, .f32⟩
  | .hbm, ⟨12, _⟩ => ⟨S2048x11264, .f32⟩
  | .hbm, ⟨13, _⟩ => ⟨S2048x11264, .f32⟩
  | .hbm, ⟨14, _⟩ => ⟨S11264x2048, .f32⟩
  | .hbm, ⟨15, _⟩ => ⟨S2048x11264, .f32⟩
  | .hbm, ⟨16, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel7.lean ====
abbrev S2048x10368 : Shape := ⟨2, ![2048, 10368]⟩
abbrev S2048x2048 : Shape := ⟨2, ![2048, 2048]⟩
abbrev S1024x3456 : Shape := ⟨2, ![1024, 3456]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x10368, .bf16⟩
  | .hbm, ⟨1, _⟩ => ⟨S2048x10368, .bf16⟩
  | .hbm, ⟨2, _⟩ => ⟨S2048x2048, .f32⟩
  | .local _ .vmem, ⟨0, _⟩ => ⟨S1024x3456, .bf16⟩
  | .local _ .vmem, ⟨1, _⟩ => ⟨S1024x3456, .bf16⟩
  | .local _ .vmem, ⟨2, _⟩ => ⟨S1024x3456, .bf16⟩
  | .local _ .vmem, ⟨3, _⟩ => ⟨S1024x3456, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3456 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x10368 : Shape := ⟨2, ![2048, 10368]⟩
abbrev S_ : Shape := ⟨0, ![]⟩
abbrev S2048x2048 : Shape := ⟨2, ![2048, 2048]⟩
abbrev S10368x2048 : Shape := ⟨2, ![10368, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x10368, .bf16⟩
  | .hbm, ⟨1, _⟩ => ⟨S2048x10368, .bf16⟩
  | .hbm, ⟨2, _⟩ => ⟨S_, .f32⟩
  | .hbm, ⟨3, _⟩ => ⟨S2048x2048, .f32⟩
  | .hbm, ⟨4, _⟩ => ⟨S2048x10368, .f32⟩
  | .hbm, ⟨5, _⟩ => ⟨S2048x10368, .f32⟩
  | .hbm, ⟨6, _⟩ => ⟨S2048x10368, .f32⟩
  | .hbm, ⟨7, _⟩ => ⟨S10368x2048, .f32⟩
  | .hbm, ⟨8, _⟩ => ⟨S2048x10368, .f32⟩
  | .hbm, ⟨9, _⟩ => ⟨S2048x2048, .f32⟩
  | _, _ => ⟨S2048x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S2048x2048 : Shape := ⟨2, ![2048, 2048]⟩
abbrev S2048x10368 : Shape := ⟨2, ![2048, 10368]⟩
abbrev S2048x1152 : Shape := ⟨2, ![2048, 1152]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x10368, .bf16⟩
  | .hbm, ⟨2, _⟩ => ⟨S2048x10368, .f32⟩
  | .local _ .vmem, ⟨0, _⟩ => ⟨S2048x2048, .bf16⟩
  | .local _ .vmem, ⟨1, _⟩ => ⟨S2048x1152, .bf16⟩
  | .local _ .vmem, ⟨2, _⟩ => ⟨S2048x1152, .bf16⟩
  | .local _ .vmem, ⟨3, _⟩ => ⟨S2048x1152, .f32⟩
  | .local _ .vmem, ⟨4, _⟩ => ⟨S2048x1152, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S2048x10368 : Shape := ⟨2, ![2048, 10368]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10368, .bf16⟩
  | .hbm, ⟨2, _⟩ => ⟨S2048x2048, .f32⟩
  | .hbm, ⟨3, _⟩ => ⟨S2048x10368, .f32⟩
  | .hbm, ⟨4, _⟩ => ⟨S2048x10368, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S2048x2048 : Shape := ⟨2, ![2048, 2048]⟩
abbrev S4x2048x2816 : Shape := ⟨3, ![4, 2048, 2816]⟩
abbrev S2x2048x5632 : Shape := ⟨3, ![2, 2048, 5632]⟩
abbrev S1024x2048 : Shape := ⟨2, ![1024, 2048]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2x2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S2048x5632 : Shape := ⟨2, ![2048, 5632]⟩
abbrev S1x2048x5632 : Shape := ⟨3, ![1, 2048, 5632]⟩
abbrev S2x2048x5632 : Shape := ⟨3, ![2, 2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x2048, .f32⟩
  | .hbm, ⟨3, _⟩ => ⟨S2048x4x2816, .bf16⟩
  | .hbm, ⟨4, _⟩ => ⟨S2048x11264, .bf16⟩
  | .hbm, ⟨5, _⟩ => ⟨S2048x11264, .f32⟩
  | .hbm, ⟨6, _⟩ => ⟨S2048x11264, .f32⟩
  | .hbm, ⟨7, _⟩ => ⟨S2048x5632, .f32⟩
  | .hbm, ⟨8, _⟩ => ⟨S2048x5632, .f32⟩
  | .hbm, ⟨9, _⟩ => ⟨S1x2048x5632, .f32⟩
  | .hbm, ⟨10, _⟩ => ⟨S1x2048x5632, .f32⟩
  | .hbm, ⟨11, _⟩ => ⟨S2x2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel10.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S2048x2048 : Shape := ⟨2, ![2048, 2048]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x2048, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x2048, .bf16⟩
  | .local _ .vmem, ⟨1, _⟩ => ⟨S1024x2048, .bf16⟩
  | .local _ .vmem, ⟨2, _⟩ => ⟨S1024x2048, .bf16⟩
  | .local _ .vmem, ⟨3, _⟩ => ⟨S2048x1024, .f32⟩
  | .local _ .vmem, ⟨4, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S2048x1024 : Shape := ⟨2, ![2048, 1024]⟩
abbrev S2048x2048 : Shape := ⟨2, ![2048, 2048]⟩
abbrev S4x1024x512 : Shape := ⟨3, ![4, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S4x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x4x512 : Shape := ⟨3, ![1024, 4, 512]⟩
abbrev S4x1024x512 : Shape := ⟨3, ![4, 1024, 512]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S1024x4x512, .f32⟩
  | .hbm, ⟨11, _⟩ => ⟨S4x1024x512, .f32⟩
  | .hbm, ⟨12, _⟩ => ⟨S4x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel14.lean ====
abbrev S2048x2048 : Shape := ⟨2, ![2048, 2048]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x1024x512, .bf16⟩
  | .hbm, ⟨2, _⟩ => ⟨S2048x1024, .bf16⟩
  | .local _ .vmem, ⟨0, _⟩ => ⟨S2048x512, .bf16⟩
  | .local _ .vmem, ⟨1, _⟩ => ⟨S2048x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x1024, .bf16⟩
  | .local _ .vmem, ⟨5, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S2048x2048 : Shape := ⟨2, ![2048, 2048]⟩
abbrev S4x1024x512 : Shape := ⟨3, ![4, 1024, 512]⟩
abbrev S_ : Shape := ⟨0, ![]⟩
abbrev S2048x1024 : Shape := ⟨2, ![2048, 1024]⟩
abbrev S1024x4x512 : Shape := ⟨3, ![1024, 4, 512]⟩
abbrev S1024x2048 : Shape := ⟨2, ![1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x1024x512, .bf16⟩
  | .hbm, ⟨2, _⟩ => ⟨S_, .f32⟩
  | .hbm, ⟨3, _⟩ => ⟨S2048x1024, .f32⟩
  | .hbm, ⟨4, _⟩ => ⟨S1024x4x512, .bf16⟩
  | .hbm, ⟨5, _⟩ => ⟨S1024x2048, .bf16⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S2048x1024, .f32⟩
  | .hbm, ⟨10, _⟩ => ⟨S1024x2048, .f32⟩
  | .hbm, ⟨11, _⟩ => ⟨S2048x1024, .f32⟩
  | .hbm, ⟨12, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel15.lean ====
abbrev S2048x1024 : Shape := ⟨2, ![2048, 1024]⟩
abbrev S2048x2048 : Shape := ⟨2, ![2048, 2048]⟩
abbrev S4x1024x512 : Shape := ⟨3, ![4, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S4x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x4x512 : Shape := ⟨3, ![1024, 4, 512]⟩
abbrev S4x1024x512 : Shape := ⟨3, ![4, 1024, 512]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S1024x4x512, .f32⟩
  | .hbm, ⟨11, _⟩ => ⟨S4x1024x512, .f32⟩
  | .hbm, ⟨12, _⟩ => ⟨S4x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel16.lean ====
abbrev S2048x2048 : Shape := ⟨2, ![2048, 2048]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x1024x512, .bf16⟩
  | .hbm, ⟨2, _⟩ => ⟨S2048x1024, .bf16⟩
  | .local _ .vmem, ⟨0, _⟩ => ⟨S2048x512, .bf16⟩
  | .local _ .vmem, ⟨1, _⟩ => ⟨S2048x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x1024, .bf16⟩
  | .local _ .vmem, ⟨5, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S2048x2048 : Shape := ⟨2, ![2048, 2048]⟩
abbrev S4x1024x512 : Shape := ⟨3, ![4, 1024, 512]⟩
abbrev S_ : Shape := ⟨0, ![]⟩
abbrev S2048x1024 : Shape := ⟨2, ![2048, 1024]⟩
abbrev S1024x4x512 : Shape := ⟨3, ![1024, 4, 512]⟩
abbrev S1024x2048 : Shape := ⟨2, ![1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x1024x512, .bf16⟩
  | .hbm, ⟨2, _⟩ => ⟨S_, .f32⟩
  | .hbm, ⟨3, _⟩ => ⟨S2048x1024, .f32⟩
  | .hbm, ⟨4, _⟩ => ⟨S1024x4x512, .bf16⟩
  | .hbm, ⟨5, _⟩ => ⟨S1024x2048, .bf16⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S2048x1024, .f32⟩
  | .hbm, ⟨10, _⟩ => ⟨S1024x2048, .f32⟩
  | .hbm, ⟨11, _⟩ => ⟨S2048x1024, .f32⟩
  | .hbm, ⟨12, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel17.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S2048x1024 : Shape := ⟨2, ![2048, 1024]⟩
abbrev S4x1024x512 : Shape := ⟨3, ![4, 1024, 512]⟩
abbrev S2048x2048 : Shape := ⟨2, ![2048, 2048]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S4x1024x512, .bf16⟩
  | .hbm, ⟨2, _⟩ => ⟨S2048x2048, .f32⟩
  | .local _ .vmem, ⟨0, _⟩ => ⟨S2048x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x1024 : Shape := ⟨2, ![2048, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x512, .bf16⟩
  | .hbm, ⟨2, _⟩ => ⟨S2048x1024, .f32⟩
  | .hbm, ⟨3, _⟩ => ⟨S1024x4x512, .bf16⟩
  | .hbm, ⟨4, _⟩ => ⟨S1024x2048, .bf16⟩
  | .hbm, ⟨5, _⟩ => ⟨S1024x2048, .f32⟩
  | .hbm, ⟨6, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel19.lean ====
abbrev S2048x1024 : Shape := ⟨2, ![2048, 1024]⟩
abbrev S4x1024x512 : Shape := ⟨3, ![4, 1024, 512]⟩
abbrev S2048x2048 : Shape := ⟨2, ![2048, 2048]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S4x1024x512, .bf16⟩
  | .hbm, ⟨2, _⟩ => ⟨S2048x2048, .f32⟩
  | .local _ .vmem, ⟨0, _⟩ => ⟨S2048x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x1024 : Shape := ⟨2, ![2048, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x512, .bf16⟩
  | .hbm, ⟨2, _⟩ => ⟨S2048x1024, .f32⟩
  | .hbm, ⟨3, _⟩ => ⟨S1024x4x512, .bf16⟩
  | .hbm, ⟨4, _⟩ => ⟨S1024x2048, .bf16⟩
  | .hbm, ⟨5, _⟩ => ⟨S1024x2048, .f32⟩
  | .hbm, ⟨6, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel20.lean ====
abbrev S8192x2568 : Shape := ⟨2, ![8192, 2568]⟩
abbrev S64x2568 : Shape := ⟨2, ![64, 2568]⟩

abbrev nBuf : Space → Nat
  | .hbm => 8
  | .vmem => 16
  | .smem => 0
  | _ => 0

abbrev bufTy : (tb : Table) → Fin (tcTables nBuf tb) → BufTy
  | .hbm, ⟨0, _⟩ => ⟨S8192x2568, .f32⟩
  | .hbm, ⟨1, _⟩ => ⟨S8192x2568, .f32⟩
  | .hbm, ⟨2, _⟩ => ⟨S8192x2568, .f32⟩
  | .hbm, ⟨3, _⟩ => ⟨S8192x2568, .f32⟩
  | .hbm, ⟨4, _⟩ => ⟨S8192x2568, .f32⟩
  | .hbm, ⟨5, _⟩ => ⟨S8192x2568, .f32⟩
  | .hbm, ⟨6, _⟩ => ⟨S8192x2568, .f32⟩
  | .hbm, ⟨7, _⟩ => ⟨S8192x2568, .f32⟩
  | .local _ .vmem, ⟨0, _⟩ => ⟨S64x2568, .f32⟩
  | .local _ .vmem, ⟨1, _⟩ => ⟨S64x2568, .f32⟩
  | .local _ .vmem, ⟨2, _⟩ => ⟨S64x2568, .f32⟩
  | .local _ .vmem, ⟨3, _⟩ => ⟨S64x2568, .f32⟩
  | .local _ .vmem, ⟨4, _⟩ => ⟨S64x2568, .f32⟩
  | .local _ .vmem, ⟨5, _⟩ => ⟨S64x2568, .f32⟩
  | .local _ .vmem, ⟨6, _⟩ => ⟨S64x2568, .f32⟩
  | .local _ .vmem, ⟨7, _⟩ => ⟨S64x2568, .f32⟩
  | .local _ .vmem, ⟨8, _⟩ => ⟨S64x2568, .f32⟩
  | .local _ .vmem, ⟨9, _⟩ => ⟨S64x2568, .f32⟩
  | .local _ .vmem, ⟨10, _⟩ => ⟨S64x2568, .f32⟩
  | .local _ .vmem, ⟨11, _⟩ => ⟨S64x2568, .f32⟩
  | .local _ .vmem, ⟨12, _⟩ => ⟨S64x2568, .f32⟩
  | .local _ .vmem, ⟨13, _⟩ => ⟨S64x2568, .f32⟩
  | .local _ .vmem, ⟨14, _⟩ => ⟨S64x2568, .f32⟩
  | .local _ .vmem, ⟨15, _⟩ => ⟨S64x2568, .f32⟩
  | _, _ => ⟨S8192x2568, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2568 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2568 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2568 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2568 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2568 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2568 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2568 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2568 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S8192x2568 : Shape := ⟨2, ![8192, 2568]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2568, .f32⟩
  | .hbm, ⟨1, _⟩ => ⟨S8192x2568, .f32⟩
  | .hbm, ⟨2, _⟩ => ⟨S8192x2568, .f32⟩
  | .hbm, ⟨3, _⟩ => ⟨S8192x2568, .f32⟩
  | .hbm, ⟨4, _⟩ => ⟨S_, .f32⟩
  | .hbm, ⟨5, _⟩ => ⟨S8192x2568, .f32⟩
  | .hbm, ⟨6, _⟩ => ⟨S8192x2568, .f32⟩
  | .hbm, ⟨7, _⟩ => ⟨S_, .f32⟩
  | .hbm, ⟨8, _⟩ => ⟨S8192x2568, .f32⟩
  | .hbm, ⟨9, _⟩ => ⟨S8192x2568, .f32⟩
  | .hbm, ⟨10, _⟩ => ⟨S8192x2568, .f32⟩
  | .hbm, ⟨11, _⟩ => ⟨S_, .f32⟩
  | .hbm, ⟨12, _⟩ => ⟨S8192x2568, .f32⟩
  | .hbm, ⟨13, _⟩ => ⟨S8192x2568, .f32⟩
  | .hbm, ⟨14, _⟩ => ⟨S8192x2568, .f32⟩
  | .hbm, ⟨15, _⟩ => ⟨S_, .f32⟩
  | .hbm, ⟨16, _⟩ => ⟨S8192x2568, .f32⟩
  | .hbm, ⟨17, _⟩ => ⟨S8192x2568, .f32⟩
  | .hbm, ⟨18, _⟩ => ⟨S8192x2568, .f32⟩
  | .hbm, ⟨19, _⟩ => ⟨S_, .f32⟩
  | .hbm, ⟨20, _⟩ => ⟨S8192x2568, .f32⟩
  | .hbm, ⟨21, _⟩ => ⟨S8192x2568, .f32⟩
  | .hbm, ⟨22, _⟩ => ⟨S_, .f32⟩
  | .hbm, ⟨23, _⟩ => ⟨S8192x2568, .f32⟩
  | .hbm, ⟨24, _⟩ => ⟨S8192x2568, .f32⟩
  | .hbm, ⟨25, _⟩ => ⟨S8192x2568, .f32⟩
  | .hbm, ⟨26, _⟩ => ⟨S_, .f32⟩
  | .hbm, ⟨27, _⟩ => ⟨S8192x2568, .f32⟩
  | .hbm, ⟨28, _⟩ => ⟨S8192x2568, .f32⟩
  | .hbm, ⟨29, _⟩ => ⟨S8192x2568, .f32⟩
  | .hbm, ⟨30, _⟩ => ⟨S_, .f32⟩
  | .hbm, ⟨31, _⟩ => ⟨S8192x2568, .f32⟩
  | .hbm, ⟨32, _⟩ => ⟨S8192x2568, .f32⟩
  | .hbm, ⟨33, _⟩ => ⟨S8192x2568, .f32⟩
  | .hbm, ⟨34, _⟩ => ⟨S_, .f32⟩
  | .hbm, ⟨35, _⟩ => ⟨S8192x2568, .f32⟩
  | .hbm, ⟨36, _⟩ => ⟨S8192x2568, .f32⟩
  | _, _ => ⟨S8192x2568, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S8192x2816 : Shape := ⟨2, ![8192, 2816]⟩
abbrev S64x2816 : Shape := ⟨2, ![64, 2816]⟩

abbrev nBuf : Space → Nat
  | .hbm => 8
  | .vmem => 16
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | .local _ .vmem, ⟨14, _⟩ => ⟨S64x2816, .f32⟩
  | .local _ .vmem, ⟨15, _⟩ => ⟨S64x2816, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S8192x2816 : Shape := ⟨2, ![8192, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S_, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S5632x2048 : Shape := ⟨2, ![5632, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .hbm, ⟨7, _⟩ => ⟨S5632x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S5632x2048 : Shape := ⟨2, ![5632, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S_, .f32⟩
  | .hbm, ⟨5, _⟩ => ⟨S5632x2048, .f32⟩
  | .hbm, ⟨6, _⟩ => ⟨S5632x2048, .f32⟩
  | .hbm, ⟨7, _⟩ => ⟨S_, .f32⟩
  | .hbm, ⟨8, _⟩ => ⟨S5632x2048, .f32⟩
  | .hbm, ⟨9, _⟩ => ⟨S5632x2048, .f32⟩
  | .hbm, ⟨10, _⟩ => ⟨S5632x2048, .f32⟩
  | .hbm, ⟨11, _⟩ => ⟨S_, .f32⟩
  | .hbm, ⟨12, _⟩ => ⟨S5632x2048, .f32⟩
  | .hbm, ⟨13, _⟩ => ⟨S5632x2048, .f32⟩
  | .hbm, ⟨14, _⟩ => ⟨S5632x2048, .f32⟩
  | .hbm, ⟨15, _⟩ => ⟨S_, .f32⟩
  | .hbm, ⟨16, _⟩ => ⟨S5632x2048, .f32⟩
  | .hbm, ⟨17, _⟩ => ⟨S5632x2048, .f32⟩
  | .hbm, ⟨18, _⟩ => ⟨S5632x2048, .f32⟩
  | .hbm, ⟨19, _⟩ => ⟨S_, .f32⟩
  | .hbm, ⟨20, _⟩ => ⟨S5632x2048, .f32⟩
  | .hbm, ⟨21, _⟩ => ⟨S5632x2048, .f32⟩
  | .hbm, ⟨22, _⟩ => ⟨S_, .f32⟩
  | .hbm, ⟨23, _⟩ => ⟨S5632x2048, .f32⟩
  | .hbm, ⟨24, _⟩ => ⟨S5632x2048, .f32⟩
  | .hbm, ⟨25, _⟩ => ⟨S5632x2048, .f32⟩
  | .hbm, ⟨26, _⟩ => ⟨S_, .f32⟩
  | .hbm, ⟨27, _⟩ => ⟨S5632x2048, .f32⟩
  | .hbm, ⟨28, _⟩ => ⟨S5632x2048, .f32⟩
  | .hbm, ⟨29, _⟩ => ⟨S5632x2048, .f32⟩
  | .hbm, ⟨30, _⟩ => ⟨S_, .f32⟩
  | .hbm, ⟨31, _⟩ => ⟨S5632x2048, .f32⟩
  | .hbm, ⟨32, _⟩ => ⟨S5632x2048, .f32⟩
  | .hbm, ⟨33, _⟩ => ⟨S5632x2048, .f32⟩
  | .hbm, ⟨34, _⟩ => ⟨S_, .f32⟩
  | .hbm, ⟨35, _⟩ => ⟨S5632x2048, .f32⟩
  | .hbm, ⟨36, _⟩ => ⟨S5632x2048, .f32⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2048x2048 : Shape := ⟨2, ![2048, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S4096x512 : Shape := ⟨2, ![4096, 512]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S4096x512 : Shape := ⟨2, ![4096, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S4x2048 : Shape := ⟨2, ![4, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference26Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference27Ideal.lean ====
abbrev S4x128 : Shape := ⟨2, ![4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S_, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S8x8 : Shape := ⟨2, ![8, 8]⟩

abbrev nBuf : Space → Nat
  | .hbm => 7
  | .vmem => 7
  | .smem => 0
  | _ => 0

abbrev bufTy : (tb : Table) → Fin (tcTables nBuf tb) → BufTy
  | .hbm, ⟨0, _⟩ => ⟨S8x8, .f32⟩
  | .hbm, ⟨1, _⟩ => ⟨S8x8, .f32⟩
  | .hbm, ⟨2, _⟩ => ⟨S8x8, .f32⟩
  | .hbm, ⟨3, _⟩ => ⟨S8x8, .f32⟩
  | .hbm, ⟨4, _⟩ => ⟨S8x8, .f32⟩
  | .hbm, ⟨5, _⟩ => ⟨S8x8, .f32⟩
  | .hbm, ⟨6, _⟩ => ⟨S8x8, .f32⟩
  | .local _ .vmem, ⟨0, _⟩ => ⟨S8x8, .f32⟩
  | .local _ .vmem, ⟨1, _⟩ => ⟨S8x8, .f32⟩
  | .local _ .vmem, ⟨2, _⟩ => ⟨S8x8, .f32⟩
  | .local _ .vmem, ⟨3, _⟩ => ⟨S8x8, .f32⟩
  | .local _ .vmem, ⟨4, _⟩ => ⟨S8x8, .f32⟩
  | .local _ .vmem, ⟨5, _⟩ => ⟨S8x8, .f32⟩
  | .local _ .vmem, ⟨6, _⟩ => ⟨S8x8, .f32⟩
  | _, _ => ⟨S8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S8x8 : Shape := ⟨2, ![8, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x8, .f32⟩
  | .hbm, ⟨1, _⟩ => ⟨S8x8, .f32⟩
  | .hbm, ⟨2, _⟩ => ⟨S8x8, .f32⟩
  | .hbm, ⟨3, _⟩ => ⟨S8x8, .f32⟩
  | .hbm, ⟨4, _⟩ => ⟨S_, .f32⟩
  | .hbm, ⟨5, _⟩ => ⟨S8x8, .f32⟩
  | .hbm, ⟨6, _⟩ => ⟨S8x8, .f32⟩
  | .hbm, ⟨7, _⟩ => ⟨S_, .f32⟩
  | .hbm, ⟨8, _⟩ => ⟨S8x8, .f32⟩
  | .hbm, ⟨9, _⟩ => ⟨S8x8, .f32⟩
  | .hbm, ⟨10, _⟩ => ⟨S8x8, .f32⟩
  | .hbm, ⟨11, _⟩ => ⟨S_, .f32⟩
  | .hbm, ⟨12, _⟩ => ⟨S8x8, .f32⟩
  | .hbm, ⟨13, _⟩ => ⟨S8x8, .f32⟩
  | .hbm, ⟨14, _⟩ => ⟨S8x8, .f32⟩
  | .hbm, ⟨15, _⟩ => ⟨S_, .f32⟩
  | .hbm, ⟨16, _⟩ => ⟨S8x8, .f32⟩
  | .hbm, ⟨17, _⟩ => ⟨S8x8, .f32⟩
  | .hbm, ⟨18, _⟩ => ⟨S8x8, .f32⟩
  | .hbm, ⟨19, _⟩ => ⟨S_, .f32⟩
  | .hbm, ⟨20, _⟩ => ⟨S8x8, .f32⟩
  | .hbm, ⟨21, _⟩ => ⟨S8x8, .f32⟩
  | .hbm, ⟨22, _⟩ => ⟨S_, .f32⟩
  | .hbm, ⟨23, _⟩ => ⟨S8x8, .f32⟩
  | .hbm, ⟨24, _⟩ => ⟨S8x8, .f32⟩
  | .hbm, ⟨25, _⟩ => ⟨S8x8, .f32⟩
  | .hbm, ⟨26, _⟩ => ⟨S_, .f32⟩
  | .hbm, ⟨27, _⟩ => ⟨S8x8, .f32⟩
  | .hbm, ⟨28, _⟩ => ⟨S8x8, .f32⟩
  | .hbm, ⟨29, _⟩ => ⟨S8x8, .f32⟩
  | .hbm, ⟨30, _⟩ => ⟨S_, .f32⟩
  | .hbm, ⟨31, _⟩ => ⟨S8x8, .f32⟩
  | .hbm, ⟨32, _⟩ => ⟨S8x8, .f32⟩
  | .hbm, ⟨33, _⟩ => ⟨S8x8, .f32⟩
  | .hbm, ⟨34, _⟩ => ⟨S_, .f32⟩
  | .hbm, ⟨35, _⟩ => ⟨S8x8, .f32⟩
  | .hbm, ⟨36, _⟩ => ⟨S8x8, .f32⟩
  | _, _ => ⟨S8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S4096x128 : Shape := ⟨2, ![4096, 128]⟩
abbrev S2048x128 : Shape := ⟨2, ![2048, 128]⟩

abbrev nBuf : Space → Nat
  | .hbm => 7
  | .vmem => 14
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference29Ideal.lean ====
abbrev S4096x128 : Shape := ⟨2, ![4096, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S4096x128, .f32⟩
  | .hbm, ⟨4, _⟩ => ⟨S_, .f32⟩
  | .hbm, ⟨5, _⟩ => ⟨S4096x128, .f32⟩
  | .hbm, ⟨6, _⟩ => ⟨S4096x128, .f32⟩
  | .hbm, ⟨7, _⟩ => ⟨S_, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S_, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S_, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S_, .f32⟩
  | .hbm, ⟨20, _⟩ => ⟨S4096x128, .f32⟩
  | .hbm, ⟨21, _⟩ => ⟨S4096x128, .f32⟩
  | .hbm, ⟨22, _⟩ => ⟨S_, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S_, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S_, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S_, .f32⟩
  | .hbm, ⟨35, _⟩ => ⟨S4096x128, .f32⟩
  | .hbm, ⟨36, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S32x128 : Shape := ⟨2, ![32, 128]⟩

abbrev nBuf : Space → Nat
  | .hbm => 7
  | .vmem => 7
  | .smem => 0
  | _ => 0

abbrev bufTy : (tb : Table) → Fin (tcTables nBuf tb) → BufTy
  | .hbm, ⟨0, _⟩ => ⟨S32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S32x128, .f32⟩
  | .hbm, ⟨5, _⟩ => ⟨S32x128, .f32⟩
  | .hbm, ⟨6, _⟩ => ⟨S32x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference30Ideal.lean ====
abbrev S32x128 : Shape := ⟨2, ![32, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S_, .f32⟩
  | .hbm, ⟨5, _⟩ => ⟨S32x128, .f32⟩
  | .hbm, ⟨6, _⟩ => ⟨S32x128, .f32⟩
  | .hbm, ⟨7, _⟩ => ⟨S_, .f32⟩
  | .hbm, ⟨8, _⟩ => ⟨S32x128, .f32⟩
  | .hbm, ⟨9, _⟩ => ⟨S32x128, .f32⟩
  | .hbm, ⟨10, _⟩ => ⟨S32x128, .f32⟩
  | .hbm, ⟨11, _⟩ => ⟨S_, .f32⟩
  | .hbm, ⟨12, _⟩ => ⟨S32x128, .f32⟩
  | .hbm, ⟨13, _⟩ => ⟨S32x128, .f32⟩
  | .hbm, ⟨14, _⟩ => ⟨S32x128, .f32⟩
  | .hbm, ⟨15, _⟩ => ⟨S_, .f32⟩
  | .hbm, ⟨16, _⟩ => ⟨S32x128, .f32⟩
  | .hbm, ⟨17, _⟩ => ⟨S32x128, .f32⟩
  | .hbm, ⟨18, _⟩ => ⟨S32x128, .f32⟩
  | .hbm, ⟨19, _⟩ => ⟨S_, .f32⟩
  | .hbm, ⟨20, _⟩ => ⟨S32x128, .f32⟩
  | .hbm, ⟨21, _⟩ => ⟨S32x128, .f32⟩
  | .hbm, ⟨22, _⟩ => ⟨S_, .f32⟩
  | .hbm, ⟨23, _⟩ => ⟨S32x128, .f32⟩
  | .hbm, ⟨24, _⟩ => ⟨S32x128, .f32⟩
  | .hbm, ⟨25, _⟩ => ⟨S32x128, .f32⟩
  | .hbm, ⟨26, _⟩ => ⟨S_, .f32⟩
  | .hbm, ⟨27, _⟩ => ⟨S32x128, .f32⟩
  | .hbm, ⟨28, _⟩ => ⟨S32x128, .f32⟩
  | .hbm, ⟨29, _⟩ => ⟨S32x128, .f32⟩
  | .hbm, ⟨30, _⟩ => ⟨S_, .f32⟩
  | .hbm, ⟨31, _⟩ => ⟨S32x128, .f32⟩
  | .hbm, ⟨32, _⟩ => ⟨S32x128, .f32⟩
  | .hbm, ⟨33, _⟩ => ⟨S32x128, .f32⟩
  | .hbm, ⟨34, _⟩ => ⟨S_, .f32⟩
  | .hbm, ⟨35, _⟩ => ⟨S32x128, .f32⟩
  | .hbm, ⟨36, _⟩ => ⟨S32x128, .f32⟩
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S20x768 : Shape := ⟨2, ![20, 768]⟩

abbrev nBuf : Space → Nat
  | .hbm => 7
  | .vmem => 7
  | .smem => 0
  | _ => 0

abbrev bufTy : (tb : Table) → Fin (tcTables nBuf tb) → BufTy
  | .hbm, ⟨0, _⟩ => ⟨S20x768, .f32⟩
  | .hbm, ⟨1, _⟩ => ⟨S20x768, .f32⟩
  | .hbm, ⟨2, _⟩ => ⟨S20x768, .f32⟩
  | .hbm, ⟨3, _⟩ => ⟨S20x768, .f32⟩
  | .hbm, ⟨4, _⟩ => ⟨S20x768, .f32⟩
  | .hbm, ⟨5, _⟩ => ⟨S20x768, .f32⟩
  | .hbm, ⟨6, _⟩ => ⟨S20x768, .f32⟩
  | .local _ .vmem, ⟨0, _⟩ => ⟨S20x768, .f32⟩
  | .local _ .vmem, ⟨1, _⟩ => ⟨S20x768, .f32⟩
  | .local _ .vmem, ⟨2, _⟩ => ⟨S20x768, .f32⟩
  | .local _ .vmem, ⟨3, _⟩ => ⟨S20x768, .f32⟩
  | .local _ .vmem, ⟨4, _⟩ => ⟨S20x768, .f32⟩
  | .local _ .vmem, ⟨5, _⟩ => ⟨S20x768, .f32⟩
  | .local _ .vmem, ⟨6, _⟩ => ⟨S20x768, .f32⟩
  | _, _ => ⟨S20x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S20x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S20x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S20x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S20x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S20x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S20x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S20x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference31Ideal.lean ====
abbrev S20x768 : Shape := ⟨2, ![20, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S20x768, .f32⟩
  | .hbm, ⟨1, _⟩ => ⟨S20x768, .f32⟩
  | .hbm, ⟨2, _⟩ => ⟨S20x768, .f32⟩
  | .hbm, ⟨3, _⟩ => ⟨S20x768, .f32⟩
  | .hbm, ⟨4, _⟩ => ⟨S_, .f32⟩
  | .hbm, ⟨5, _⟩ => ⟨S20x768, .f32⟩
  | .hbm, ⟨6, _⟩ => ⟨S20x768, .f32⟩
  | .hbm, ⟨7, _⟩ => ⟨S_, .f32⟩
  | .hbm, ⟨8, _⟩ => ⟨S20x768, .f32⟩
  | .hbm, ⟨9, _⟩ => ⟨S20x768, .f32⟩
  | .hbm, ⟨10, _⟩ => ⟨S20x768, .f32⟩
  | .hbm, ⟨11, _⟩ => ⟨S_, .f32⟩
  | .hbm, ⟨12, _⟩ => ⟨S20x768, .f32⟩
  | .hbm, ⟨13, _⟩ => ⟨S20x768, .f32⟩
  | .hbm, ⟨14, _⟩ => ⟨S20x768, .f32⟩
  | .hbm, ⟨15, _⟩ => ⟨S_, .f32⟩
  | .hbm, ⟨16, _⟩ => ⟨S20x768, .f32⟩
  | .hbm, ⟨17, _⟩ => ⟨S20x768, .f32⟩
  | .hbm, ⟨18, _⟩ => ⟨S20x768, .f32⟩
  | .hbm, ⟨19, _⟩ => ⟨S_, .f32⟩
  | .hbm, ⟨20, _⟩ => ⟨S20x768, .f32⟩
  | .hbm, ⟨21, _⟩ => ⟨S20x768, .f32⟩
  | .hbm, ⟨22, _⟩ => ⟨S_, .f32⟩
  | .hbm, ⟨23, _⟩ => ⟨S20x768, .f32⟩
  | .hbm, ⟨24, _⟩ => ⟨S20x768, .f32⟩
  | .hbm, ⟨25, _⟩ => ⟨S20x768, .f32⟩
  | .hbm, ⟨26, _⟩ => ⟨S_, .f32⟩
  | .hbm, ⟨27, _⟩ => ⟨S20x768, .f32⟩
  | .hbm, ⟨28, _⟩ => ⟨S20x768, .f32⟩
  | .hbm, ⟨29, _⟩ => ⟨S20x768, .f32⟩
  | .hbm, ⟨30, _⟩ => ⟨S_, .f32⟩
  | .hbm, ⟨31, _⟩ => ⟨S20x768, .f32⟩
  | .hbm, ⟨32, _⟩ => ⟨S20x768, .f32⟩
  | .hbm, ⟨33, _⟩ => ⟨S20x768, .f32⟩
  | .hbm, ⟨34, _⟩ => ⟨S_, .f32⟩
  | .hbm, ⟨35, _⟩ => ⟨S20x768, .f32⟩
  | .hbm, ⟨36, _⟩ => ⟨S20x768, .f32⟩
  | _, _ => ⟨S20x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S12x2816 : Shape := ⟨2, ![12, 2816]⟩

abbrev nBuf : Space → Nat
  | .hbm => 7
  | .vmem => 7
  | .smem => 0
  | _ => 0

abbrev bufTy : (tb : Table) → Fin (tcTables nBuf tb) → BufTy
  | .hbm, ⟨0, _⟩ => ⟨S12x2816, .f32⟩
  | .hbm, ⟨1, _⟩ => ⟨S12x2816, .f32⟩
  | .hbm, ⟨2, _⟩ => ⟨S12x2816, .f32⟩
  | .hbm, ⟨3, _⟩ => ⟨S12x2816, .f32⟩
  | .hbm, ⟨4, _⟩ => ⟨S12x2816, .f32⟩
  | .hbm, ⟨5, _⟩ => ⟨S12x2816, .f32⟩
  | .hbm, ⟨6, _⟩ => ⟨S12x2816, .f32⟩
  | .local _ .vmem, ⟨0, _⟩ => ⟨S12x2816, .f32⟩
  | .local _ .vmem, ⟨1, _⟩ => ⟨S12x2816, .f32⟩
  | .local _ .vmem, ⟨2, _⟩ => ⟨S12x2816, .f32⟩
  | .local _ .vmem, ⟨3, _⟩ => ⟨S12x2816, .f32⟩
  | .local _ .vmem, ⟨4, _⟩ => ⟨S12x2816, .f32⟩
  | .local _ .vmem, ⟨5, _⟩ => ⟨S12x2816, .f32⟩
  | .local _ .vmem, ⟨6, _⟩ => ⟨S12x2816, .f32⟩
  | _, _ => ⟨S12x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference32Ideal.lean ====
abbrev S12x2816 : Shape := ⟨2, ![12, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12x2816, .f32⟩
  | .hbm, ⟨1, _⟩ => ⟨S12x2816, .f32⟩
  | .hbm, ⟨2, _⟩ => ⟨S12x2816, .f32⟩
  | .hbm, ⟨3, _⟩ => ⟨S12x2816, .f32⟩
  | .hbm, ⟨4, _⟩ => ⟨S_, .f32⟩
  | .hbm, ⟨5, _⟩ => ⟨S12x2816, .f32⟩
  | .hbm, ⟨6, _⟩ => ⟨S12x2816, .f32⟩
  | .hbm, ⟨7, _⟩ => ⟨S_, .f32⟩
  | .hbm, ⟨8, _⟩ => ⟨S12x2816, .f32⟩
  | .hbm, ⟨9, _⟩ => ⟨S12x2816, .f32⟩
  | .hbm, ⟨10, _⟩ => ⟨S12x2816, .f32⟩
  | .hbm, ⟨11, _⟩ => ⟨S_, .f32⟩
  | .hbm, ⟨12, _⟩ => ⟨S12x2816, .f32⟩
  | .hbm, ⟨13, _⟩ => ⟨S12x2816, .f32⟩
  | .hbm, ⟨14, _⟩ => ⟨S12x2816, .f32⟩
  | .hbm, ⟨15, _⟩ => ⟨S_, .f32⟩
  | .hbm, ⟨16, _⟩ => ⟨S12x2816, .f32⟩
  | .hbm, ⟨17, _⟩ => ⟨S12x2816, .f32⟩
  | .hbm, ⟨18, _⟩ => ⟨S12x2816, .f32⟩
  | .hbm, ⟨19, _⟩ => ⟨S_, .f32⟩
  | .hbm, ⟨20, _⟩ => ⟨S12x2816, .f32⟩
  | .hbm, ⟨21, _⟩ => ⟨S12x2816, .f32⟩
  | .hbm, ⟨22, _⟩ => ⟨S_, .f32⟩
  | .hbm, ⟨23, _⟩ => ⟨S12x2816, .f32⟩
  | .hbm, ⟨24, _⟩ => ⟨S12x2816, .f32⟩
  | .hbm, ⟨25, _⟩ => ⟨S12x2816, .f32⟩
  | .hbm, ⟨26, _⟩ => ⟨S_, .f32⟩
  | .hbm, ⟨27, _⟩ => ⟨S12x2816, .f32⟩
  | .hbm, ⟨28, _⟩ => ⟨S12x2816, .f32⟩
  | .hbm, ⟨29, _⟩ => ⟨S12x2816, .f32⟩
  | .hbm, ⟨30, _⟩ => ⟨S_, .f32⟩
  | .hbm, ⟨31, _⟩ => ⟨S12x2816, .f32⟩
  | .hbm, ⟨32, _⟩ => ⟨S12x2816, .f32⟩
  | .hbm, ⟨33, _⟩ => ⟨S12x2816, .f32⟩
  | .hbm, ⟨34, _⟩ => ⟨S_, .f32⟩
  | .hbm, ⟨35, _⟩ => ⟨S12x2816, .f32⟩
  | .hbm, ⟨36, _⟩ => ⟨S12x2816, .f32⟩
  | _, _ => ⟨S12x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S4x11264 : Shape := ⟨2, ![4, 11264]⟩

abbrev nBuf : Space → Nat
  | .hbm => 7
  | .vmem => 7
  | .smem => 0
  | _ => 0

abbrev bufTy : (tb : Table) → Fin (tcTables nBuf tb) → BufTy
  | .hbm, ⟨0, _⟩ => ⟨S4x11264, .f32⟩
  | .hbm, ⟨1, _⟩ => ⟨S4x11264, .f32⟩
  | .hbm, ⟨2, _⟩ => ⟨S4x11264, .f32⟩
  | .hbm, ⟨3, _⟩ => ⟨S4x11264, .f32⟩
  | .hbm, ⟨4, _⟩ => ⟨S4x11264, .f32⟩
  | .hbm, ⟨5, _⟩ => ⟨S4x11264, .f32⟩
  | .hbm, ⟨6, _⟩ => ⟨S4x11264, .f32⟩
  | .local _ .vmem, ⟨0, _⟩ => ⟨S4x11264, .f32⟩
  | .local _ .vmem, ⟨1, _⟩ => ⟨S4x11264, .f32⟩
  | .local _ .vmem, ⟨2, _⟩ => ⟨S4x11264, .f32⟩
  | .local _ .vmem, ⟨3, _⟩ => ⟨S4x11264, .f32⟩
  | .local _ .vmem, ⟨4, _⟩ => ⟨S4x11264, .f32⟩
  | .local _ .vmem, ⟨5, _⟩ => ⟨S4x11264, .f32⟩
  | .local _ .vmem, ⟨6, _⟩ => ⟨S4x11264, .f32⟩
  | _, _ => ⟨S4x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x11264 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x11264 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x11264 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x11264 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x11264 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x11264 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference33Ideal.lean ====
abbrev S4x11264 : Shape := ⟨2, ![4, 11264]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x11264, .f32⟩
  | .hbm, ⟨1, _⟩ => ⟨S4x11264, .f32⟩
  | .hbm, ⟨2, _⟩ => ⟨S4x11264, .f32⟩
  | .hbm, ⟨3, _⟩ => ⟨S4x11264, .f32⟩
  | .hbm, ⟨4, _⟩ => ⟨S_, .f32⟩
  | .hbm, ⟨5, _⟩ => ⟨S4x11264, .f32⟩
  | .hbm, ⟨6, _⟩ => ⟨S4x11264, .f32⟩
  | .hbm, ⟨7, _⟩ => ⟨S_, .f32⟩
  | .hbm, ⟨8, _⟩ => ⟨S4x11264, .f32⟩
  | .hbm, ⟨9, _⟩ => ⟨S4x11264, .f32⟩
  | .hbm, ⟨10, _⟩ => ⟨S4x11264, .f32⟩
  | .hbm, ⟨11, _⟩ => ⟨S_, .f32⟩
  | .hbm, ⟨12, _⟩ => ⟨S4x11264, .f32⟩
  | .hbm, ⟨13, _⟩ => ⟨S4x11264, .f32⟩
  | .hbm, ⟨14, _⟩ => ⟨S4x11264, .f32⟩
  | .hbm, ⟨15, _⟩ => ⟨S_, .f32⟩
  | .hbm, ⟨16, _⟩ => ⟨S4x11264, .f32⟩
  | .hbm, ⟨17, _⟩ => ⟨S4x11264, .f32⟩
  | .hbm, ⟨18, _⟩ => ⟨S4x11264, .f32⟩
  | .hbm, ⟨19, _⟩ => ⟨S_, .f32⟩
  | .hbm, ⟨20, _⟩ => ⟨S4x11264, .f32⟩
  | .hbm, ⟨21, _⟩ => ⟨S4x11264, .f32⟩
  | .hbm, ⟨22, _⟩ => ⟨S_, .f32⟩
  | .hbm, ⟨23, _⟩ => ⟨S4x11264, .f32⟩
  | .hbm, ⟨24, _⟩ => ⟨S4x11264, .f32⟩
  | .hbm, ⟨25, _⟩ => ⟨S4x11264, .f32⟩
  | .hbm, ⟨26, _⟩ => ⟨S_, .f32⟩
  | .hbm, ⟨27, _⟩ => ⟨S4x11264, .f32⟩
  | .hbm, ⟨28, _⟩ => ⟨S4x11264, .f32⟩
  | .hbm, ⟨29, _⟩ => ⟨S4x11264, .f32⟩
  | .hbm, ⟨30, _⟩ => ⟨S_, .f32⟩
  | .hbm, ⟨31, _⟩ => ⟨S4x11264, .f32⟩
  | .hbm, ⟨32, _⟩ => ⟨S4x11264, .f32⟩
  | .hbm, ⟨33, _⟩ => ⟨S4x11264, .f32⟩
  | .hbm, ⟨34, _⟩ => ⟨S_, .f32⟩
  | .hbm, ⟨35, _⟩ => ⟨S4x11264, .f32⟩
  | .hbm, ⟨36, _⟩ => ⟨S4x11264, .f32⟩
  | _, _ => ⟨S4x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference34Ideal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_18 : BitVec 32 := 0#32
  let v43 : BitVec 1 := Scalar.cmpi .ne v42 c0_i32_18
  v43

def k0_cond2 (i : grid0.Coords) : BitVec 1 :=
  let arg0 : BitVec 32 := BitVec.ofNat 32 (i 0).val
  let c0_i32 : BitVec 32 := 0#32
  let v41 : BitVec 1 := Scalar.cmpi .eq arg0 c0_i32
  let v_true : BitVec 1 := 1#1
  let v44 : BitVec 1 := Scalar.xori v41 v_true
  let v45 : BitVec 32 := Scalar.extui v44
  let c0_i32_19 : BitVec 32 := 0#32
  let v46 : BitVec 1 := Scalar.cmpi .ne v45 c0_i32_19
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference35Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel36.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference36Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.KOut.lean ====
/- What one grid point of the kernel leaves in each output block and in the scratch it carries: the pieces its run
stores, read back. One section for the first point (the scratch is zeroed there), one for every other point. -/
module

public import proofs.«01_k».proof.Proof.Gen.KernelIdeal.Frame.RunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable (c : Dev nD) (i : grid0.Coords) (arg1 : Memref sig .tc .vmem S1x64x1024 .f32) (harg1 : arg1.IsWhole) (arg2 : Memref sig .tc .vmem S1x64x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S1x8x64x64 .f32) (harg5 : arg5.IsWhole) (arg6 : Memref sig .tc .vmem S1x1x8x128 .f32) (harg6 : arg6.IsWhole) (arg7 : Memref sig .tc .vmem S1x64x1024 .f32) (harg7 : arg7.IsWhole) (arg8 : Memref sig .tc .vmem S1x64x1024 .f32) (harg8 : arg8.IsWhole) (arg9 : Memref sig .tc .vmem S1x64x1024 .f32) (harg9 : arg9.IsWhole) (arg10 : Memref sig .tc .vmem S1x64x1024 .f32) (harg10 : arg10.IsWhole) (arg11 : Memref sig .tc .vmem S1x8x64x64 .f32) (harg11 : arg11.IsWhole) (arg12 : Memref sig .tc .vmem S1x1x8x128 .f32) (harg12 : arg12.IsWhole) (arg13 : Memref sig .tc .vmem S1x8x128x128 .f32) (harg13 : arg13.IsWhole) (arg14 : Memref sig .tc .vmem S1x8x128x128 .f32) (harg14 : arg14.IsWhole) (arg15 : Memref sig .tc .vmem S64x1024 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S64x1024 .f32) (harg20 : arg20.IsWhole) (arg21 : Memref sig .tc .vmem S8x64x64 .f32) (harg21 : arg21.IsWhole) (arg22 : Memref sig .tc .vmem S1x8x128 .f32) (harg22 : arg22.IsWhole) (arg23 : Memref sig .tc .vmem S64x1024 .f32) (harg23 : arg23.IsWhole) (arg24 : Memref sig .tc .vmem S64x1024 .f32) (harg24 : arg24.IsWhole) (arg25 : Memref sig .tc .vmem S64x1024 .f32) (harg25 : arg25.IsWhole) (arg26 : Memref sig .tc .vmem S64x1024 .f32) (harg26 : arg26.IsWhole) (arg27 : Memref sig .tc .vmem S8x64x64 .f32) (harg27 : arg27.IsWhole) (arg28 : Memref sig .tc .vmem S1x8x128 .f32) (harg28 : arg28.IsWhole) (arg29 : Memref sig .tc .vmem S16x128x128 .f32) (harg29 : arg29.IsWhole) (hc0 : cond0_0 i)
variable (x0 : Vec F S1x64x1024 .f32) (x1 : Vec F S1x64x1024 .f32) (x2 : Vec F S1x64x1024 .f32) (x3 : Vec F S1x64x1024 .f32) (x4 : Vec F S1x8x64x64 .f32) (x5 : Vec F S1x1x8x128 .f32) (x6 : Vec F S1x64x1024 .f32) (x7 : Vec F S1x64x1024 .f32) (x8 : Vec F S1x64x1024 .f32) (x9 : Vec F S1x64x1024 .f32) (x10 : Vec F S1x8x64x64 .f32) (x11 : Vec F S1x1x8x128 .f32) (x12 : Vec F S1x8x128x128 .f32) (x13 : Vec F S1x8x128x128 .f32) (x14 : Vec F S64x1024 .f32) (x15 : Vec F S64x1024 .f32)

theorem cover0_A_16 (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).1 S64x128.size (by sl_kernel_rfl) y

def out0_A_16 : Vec F S64x1024 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).1)

theorem cover0_A_17 (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.1 S64x128.size (by sl_kernel_rfl) y

def out0_A_17 : Vec F S64x1024 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.1)

theorem cover0_A_18 (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.1 S64x128.size (by sl_kernel_rfl) y

def out0_A_18 : Vec F S64x1024 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.1)

theorem cover0_A_19 (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.1 S64x128.size (by sl_kernel_rfl) y

def out0_A_19 : Vec F S64x1024 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.1)

theorem cover0_A_20 (y : S8x64x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.1 S1x64x64.size (by sl_kernel_rfl) y

def out0_A_20 : Vec F S8x64x64 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.1)

theorem cover0_A_21 (y : S1x8x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.1 S1x1x128.size (by sl_kernel_rfl) y

def out0_A_21 : Vec F S1x8x128 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.1)

theorem cover0_A_22 (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.2.1 S64x128.size (by sl_kernel_rfl) y

def out0_A_22 : Vec F S64x1024 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.2.1)

theorem cover0_A_23 (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.2.2.1 S64x128.size (by sl_kernel_rfl) y

def out0_A_23 : Vec F S64x1024 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.2.2.1)

theorem cover0_A_24 (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.2.2.2.1 S64x128.size (by sl_kernel_rfl) y

def out0_A_24 : Vec F S64x1024 .f32 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.2.2.2.1)

theorem cover0_A_25 (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.2.2.2.2.1 S64x128.size (by sl_kernel_rfl) y

def out0_A_25 : Vec F S64x1024 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.2.2.2.2.1)

theorem cover0_A_26 (y : S8x64x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.2.2.2.2.2.1 S1x64x64.size (by sl_kernel_rfl) y

def out0_A_26 : Vec F S8x64x64 .f32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.2.2.2.2.2.1)

theorem cover0_A_27 (y : S1x8x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.2.2.2.2.2.2.1 S1x1x128.size (by sl_kernel_rfl) y

def out0_A_27 : Vec F S1x8x128 .f32 :=
  VO0_27.read (Elt F) (VO0_27.writes (Elt F) VO0_27.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.2.2.2.2.2.2.1)

theorem scover0_A_0 (y : S16x128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.2.2.2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.2.2.2.2.2.2.2.1 (by sl_whole_mem) y

def sout0_A_0 : Vec F S16x128x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15).2.2.2.2.2.2.2.2.2.2.2.2.1)

end

section
variable (c : Dev nD) (i : grid0.Coords) (arg1 : Memref sig .tc .vmem S1x64x1024 .f32) (harg1 : arg1.IsWhole) (arg2 : Memref sig .tc .vmem S1x64x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S1x8x64x64 .f32) (harg5 : arg5.IsWhole) (arg6 : Memref sig .tc .vmem S1x1x8x128 .f32) (harg6 : arg6.IsWhole) (arg7 : Memref sig .tc .vmem S1x64x1024 .f32) (harg7 : arg7.IsWhole) (arg8 : Memref sig .tc .vmem S1x64x1024 .f32) (harg8 : arg8.IsWhole) (arg9 : Memref sig .tc .vmem S1x64x1024 .f32) (harg9 : arg9.IsWhole) (arg10 : Memref sig .tc .vmem S1x64x1024 .f32) (harg10 : arg10.IsWhole) (arg11 : Memref sig .tc .vmem S1x8x64x64 .f32) (harg11 : arg11.IsWhole) (arg12 : Memref sig .tc .vmem S1x1x8x128 .f32) (harg12 : arg12.IsWhole) (arg13 : Memref sig .tc .vmem S1x8x128x128 .f32) (harg13 : arg13.IsWhole) (arg14 : Memref sig .tc .vmem S1x8x128x128 .f32) (harg14 : arg14.IsWhole) (arg15 : Memref sig .tc .vmem S64x1024 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S64x1024 .f32) (harg20 : arg20.IsWhole) (arg21 : Memref sig .tc .vmem S8x64x64 .f32) (harg21 : arg21.IsWhole) (arg22 : Memref sig .tc .vmem S1x8x128 .f32) (harg22 : arg22.IsWhole) (arg23 : Memref sig .tc .vmem S64x1024 .f32) (harg23 : arg23.IsWhole) (arg24 : Memref sig .tc .vmem S64x1024 .f32) (harg24 : arg24.IsWhole) (arg25 : Memref sig .tc .vmem S64x1024 .f32) (harg25 : arg25.IsWhole) (arg26 : Memref sig .tc .vmem S64x1024 .f32) (harg26 : arg26.IsWhole) (arg27 : Memref sig .tc .vmem S8x64x64 .f32) (harg27 : arg27.IsWhole) (arg28 : Memref sig .tc .vmem S1x8x128 .f32) (harg28 : arg28.IsWhole) (arg29 : Memref sig .tc .vmem S16x128x128 .f32) (harg29 : arg29.IsWhole) (hc0 : ¬cond0_0 i)
variable (x0 : Vec F S1x64x1024 .f32) (x1 : Vec F S1x64x1024 .f32) (x2 : Vec F S1x64x1024 .f32) (x3 : Vec F S1x64x1024 .f32) (x4 : Vec F S1x8x64x64 .f32) (x5 : Vec F S1x1x8x128 .f32) (x6 : Vec F S1x64x1024 .f32) (x7 : Vec F S1x64x1024 .f32) (x8 : Vec F S1x64x1024 .f32) (x9 : Vec F S1x64x1024 .f32) (x10 : Vec F S1x8x64x64 .f32) (x11 : Vec F S1x1x8x128 .f32) (x12 : Vec F S1x8x128x128 .f32) (x13 : Vec F S1x8x128x128 .f32) (x14 : Vec F S64x1024 .f32) (x15 : Vec F S64x1024 .f32) (xs0 : Vec F S16x128x128 .f32)

theorem cover0_B_16 (y : S64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).1 S64x128.size (by sl_kernel_rfl) y

def out0_B_16 : Vec F S64x1024 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).1)

theorem cover0_B_17 (y : S64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.1 S64x128.size (by sl_kernel_rfl) y

def out0_B_17 : Vec F S64x1024 .f32 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.1)

theorem cover0_B_18 (y : S64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.1 S64x128.size (by sl_kernel_rfl) y

def out0_B_18 : Vec F S64x1024 .f32 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.1)

theorem cover0_B_19 (y : S64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.1 S64x128.size (by sl_kernel_rfl) y

def out0_B_19 : Vec F S64x1024 .f32 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.1)

theorem cover0_B_20 (y : S8x64x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.1 S1x64x64.size (by sl_kernel_rfl) y

def out0_B_20 : Vec F S8x64x64 .f32 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.1)

theorem cover0_B_21 (y : S1x8x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.1 S1x1x128.size (by sl_kernel_rfl) y

def out0_B_21 : Vec F S1x8x128 .f32 :=
  VO0_21.read (Elt F) (VO0_21.writes (Elt F) VO0_21.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.1)

theorem cover0_B_22 (y : S64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.2.1 S64x128.size (by sl_kernel_rfl) y

def out0_B_22 : Vec F S64x1024 .f32 :=
  VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.2.1)

theorem cover0_B_23 (y : S64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.2.2.1 S64x128.size (by sl_kernel_rfl) y

def out0_B_23 : Vec F S64x1024 .f32 :=
  VO0_23.read (Elt F) (VO0_23.writes (Elt F) VO0_23.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.2.2.1)

theorem cover0_B_24 (y : S64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.2.2.2.1 S64x128.size (by sl_kernel_rfl) y

def out0_B_24 : Vec F S64x1024 .f32 :=
  VO0_24.read (Elt F) (VO0_24.writes (Elt F) VO0_24.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.2.2.2.1)

theorem cover0_B_25 (y : S64x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.2.2.2.2.1 S64x128.size (by sl_kernel_rfl) y

def out0_B_25 : Vec F S64x1024 .f32 :=
  VO0_25.read (Elt F) (VO0_25.writes (Elt F) VO0_25.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.2.2.2.2.1)

theorem cover0_B_26 (y : S8x64x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.2.2.2.2.2.1 S1x64x64.size (by sl_kernel_rfl) y

def out0_B_26 : Vec F S8x64x64 .f32 :=
  VO0_26.read (Elt F) (VO0_26.writes (Elt F) VO0_26.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.2.2.2.2.2.1)

theorem cover0_B_27 (y : S1x8x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.2.2.2.2.2.2.1 S1x1x128.size (by sl_kernel_rfl) y

def out0_B_27 : Vec F S1x8x128 .f32 :=
  VO0_27.read (Elt F) (VO0_27.writes (Elt F) VO0_27.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.2.2.2.2.2.2.1)

theorem scover0_B_0 (y : S16x128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.2.2.2.2.2.2.2.1 S1x128x128.size (by sl_kernel_rfl) y

def sout0_B_0 : Vec F S16x128x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0).2.2.2.2.2.2.2.2.2.2.2.2.1)

end

end Cert.KernelIdeal.Gen

end
-- ==== Proof.KDat.lean ====
/- The run of the kernel with what it leaves: what each point leaves in the output blocks and in the scratch, the
proof data of the pipeline, the body at a generic point, the run, and the frame over any float values. -/
module

public import proofs.«01_k».proof.Proof.KOut

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first point leaves in the twelve output blocks and the scratch. -/
def leftA (c : Dev nD) (t : Fin cfg0.N) (h0 : t.val % 32 = 0) : Vec F S64x1024 .f32 × Vec F S64x1024 .f32 × Vec F S64x1024 .f32 × Vec F S64x1024 .f32 × Vec F S8x64x64 .f32 × Vec F S1x8x128 .f32 × Vec F S64x1024 .f32 × Vec F S64x1024 .f32 × Vec F S64x1024 .f32 × Vec F S64x1024 .f32 × Vec F S8x64x64 .f32 × Vec F S1x8x128 .f32 × Vec F S16x128x128 .f32 :=
  (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))

/-- What any other point leaves, over the scratch `xs` that the point before left. -/
def leftB (c : Dev nD) (t : Fin cfg0.N) (h0 : ¬t.val % 32 = 0) (xs : Vec F S16x128x128 .f32) : Vec F S64x1024 .f32 × Vec F S64x1024 .f32 × Vec F S64x1024 .f32 × Vec F S64x1024 .f32 × Vec F S8x64x64 .f32 × Vec F S1x8x128 .f32 × Vec F S64x1024 .f32 × Vec F S64x1024 .f32 × Vec F S64x1024 .f32 × Vec F S64x1024 .f32 × Vec F S8x64x64 .f32 × Vec F S1x8x128 .f32 × Vec F S16x128x128 .f32 :=
  (out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs, out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs, out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs, out0_B_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs, out0_B_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs, out0_B_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs)

/-- What each point leaves, by recursion over the points. -/
def outsAt0 (c : Dev nD) : (n : ℕ) → n < cfg0.N → Vec F S64x1024 .f32 × Vec F S64x1024 .f32 × Vec F S64x1024 .f32 × Vec F S64x1024 .f32 × Vec F S8x64x64 .f32 × Vec F S1x8x128 .f32 × Vec F S64x1024 .f32 × Vec F S64x1024 .f32 × Vec F S64x1024 .f32 × Vec F S64x1024 .f32 × Vec F S8x64x64 .f32 × Vec F S1x8x128 .f32 × Vec F S16x128x128 .f32
  | 0, hn => leftA m c ⟨0, hn⟩ (Nat.zero_mod _)
  | n + 1, hn =>
    if h0 : (n + 1) % 32 = 0 then leftA m c ⟨n + 1, hn⟩ h0
    else leftB m c ⟨n + 1, hn⟩ h0 (outsAt0 c n (Nat.lt_of_succ_lt hn)).2.2.2.2.2.2.2.2.2.2.2.2

theorem outsAt0_A (c : Dev nD) (t : Fin cfg0.N) (h0 : t.val % 32 = 0) :
    outsAt0 m c t.val t.isLt = leftA m c t h0 := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = leftB m c t h0 (outsAt0 m c (t.val - 1) (Nat.lt_of_le_of_lt (Nat.sub_le _ _) t.isLt)).2.2.2.2.2.2.2.2.2.2.2.2 := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t.val t.isLt).1
    | ⟨17, _⟩ => (outsAt0 m c t.val t.isLt).2.1
    | ⟨18, _⟩ => (outsAt0 m c t.val t.isLt).2.2.1
    | ⟨19, _⟩ => (outsAt0 m c t.val t.isLt).2.2.2.1
    | ⟨20, _⟩ => (outsAt0 m c t.val t.isLt).2.2.2.2.1
    | ⟨21, _⟩ => (outsAt0 m c t.val t.isLt).2.2.2.2.2.1
    | ⟨22, _⟩ => (outsAt0 m c t.val t.isLt).2.2.2.2.2.2.1
    | ⟨23, _⟩ => (outsAt0 m c t.val t.isLt).2.2.2.2.2.2.2.1
    | ⟨24, _⟩ => (outsAt0 m c t.val t.isLt).2.2.2.2.2.2.2.2.1
    | ⟨25, _⟩ => (outsAt0 m c t.val t.isLt).2.2.2.2.2.2.2.2.2.1
    | ⟨26, _⟩ => (outsAt0 m c t.val t.isLt).2.2.2.2.2.2.2.2.2.2.1
    | ⟨27, _⟩ => (outsAt0 m c t.val t.isLt).2.2.2.2.2.2.2.2.2.2.2.1
    | ⟨_ + 28, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t.val t.isLt).1 := by dsimp only [dats]
theorem after0_17 (c : Dev nD) (t : Fin cfg0.N) : (dats m 0 c).after 17 t = (outsAt0 m c t.val t.isLt).2.1 := by dsimp only [dats]
theorem after0_18 (c : Dev nD) (t : Fin cfg0.N) : (dats m 0 c).after 18 t = (outsAt0 m c t.val t.isLt).2.2.1 := by dsimp only [dats]
theorem after0_19 (c : Dev nD) (t : Fin cfg0.N) : (dats m 0 c).after 19 t = (outsAt0 m c t.val t.isLt).2.2.2.1 := by dsimp only [dats]
theorem after0_20 (c : Dev nD) (t : Fin cfg0.N) : (dats m 0 c).after 20 t = (outsAt0 m c t.val t.isLt).2.2.2.2.1 := by dsimp only [dats]
theorem after0_21 (c : Dev nD) (t : Fin cfg0.N) : (dats m 0 c).after 21 t = (outsAt0 m c t.val t.isLt).2.2.2.2.2.1 := by dsimp only [dats]
theorem after0_22 (c : Dev nD) (t : Fin cfg0.N) : (dats m 0 c).after 22 t = (outsAt0 m c t.val t.isLt).2.2.2.2.2.2.1 := by dsimp only [dats]
theorem after0_23 (c : Dev nD) (t : Fin cfg0.N) : (dats m 0 c).after 23 t = (outsAt0 m c t.val t.isLt).2.2.2.2.2.2.2.1 := by dsimp only [dats]
theorem after0_24 (c : Dev nD) (t : Fin cfg0.N) : (dats m 0 c).after 24 t = (outsAt0 m c t.val t.isLt).2.2.2.2.2.2.2.2.1 := by dsimp only [dats]
theorem after0_25 (c : Dev nD) (t : Fin cfg0.N) : (dats m 0 c).after 25 t = (outsAt0 m c t.val t.isLt).2.2.2.2.2.2.2.2.2.1 := by dsimp only [dats]
theorem after0_26 (c : Dev nD) (t : Fin cfg0.N) : (dats m 0 c).after 26 t = (outsAt0 m c t.val t.isLt).2.2.2.2.2.2.2.2.2.2.1 := by dsimp only [dats]
theorem after0_27 (c : Dev nD) (t : Fin cfg0.N) : (dats m 0 c).after 27 t = (outsAt0 m c t.val t.isLt).2.2.2.2.2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t))

set_option maxHeartbeats 22400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt0_A m c t h0, leftA]
      unfold out0_A_16 out0_A_17 out0_A_18 out0_A_19 out0_A_20 out0_A_21 out0_A_22 out0_A_23 out0_A_24 out0_A_25 out0_A_26 out0_A_27 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [HS0]; · iexact HS0
      iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H23]
      · unfold owns; iexists _; isplitr
        swap; · iexact H23
        ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H24]
      · unfold owns; iexists _; isplitr
        swap; · iexact H24
        ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H25]
      · unfold owns; iexists _; isplitr
        swap; · iexact H25
        ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H26]
      · unfold owns; iexists _; isplitr
        swap; · iexact H26
        ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H27
      ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0, leftB]
      unfold out0_B_16 out0_B_17 out0_B_18 out0_B_19 out0_B_20 out0_B_21 out0_B_22 out0_B_23 out0_B_24 out0_B_25 out0_B_26 out0_B_27 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _).2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [HS0]; · iexact HS0
      iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H19]
      · unfold owns; iexists _; isplitr
        swap; · iexact H19
        ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H20]
      · unfold owns; iexists _; isplitr
        swap; · iexact H20
        ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H23]
      · unfold owns; iexists _; isplitr
        swap; · iexact H23
        ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H24]
      · unfold owns; iexists _; isplitr
        swap; · iexact H24
        ipureintro; exact View.read_writes_of_cover _ _ _ _ _ (cover0_B_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H25]
      · unfold owns; iexists _; isplitr
        swap; · iexact H25
        ipureintro; exact View.read_writes_of_cover _ _ _ _ _ (cover0_B_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H26]
      · unfold owns; iexists _; isplitr
        swap; · iexact H26
        ipureintro; exact View.read_writes_of_cover _ _ _ _ _ (cover0_B_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H27
      ipureintro; exact View.read_writes_of_cover _ _ _ _ _ (cover0_B_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

-- `θ_run_frame_track_shared`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Gen

end
-- ==== Proof.Chain.lean ====
/- The mathematics of one chunk of the gated delta rule's backward scan, over the extended reals: the gradients of
   the step `state, chunk ↦ new state, output` at a saved state, and the scan of the state's cotangent through the
   chunks. Reversing the rows of a chunk reverses the rows of its gradients and leaves the cotangent as it is. -/
module

public import Idealize.ShloMosaic.PureOps.Ideal

@[expose] public noncomputable section

namespace Cert.Chain

open scoped BigOperators

/-- A matrix of extended reals. -/
abbrev Mat (a b : ℕ) := Fin a → Fin b → EReal

/-- What the backward step reads of one chunk of one head: the saved state, the five operands of the forward step,
    the decay and the output's cotangent. -/
structure Data where
  S : Mat 128 128
  u : Mat 64 128
  w : Mat 64 128
  q : Mat 64 128
  k : Mat 64 128
  qk : Mat 64 64
  dec : EReal
  g : Mat 64 128

namespace Data

/-- The new values of the forward step. -/
def vnew (x : Data) : Mat 64 128 := fun i v => x.u i v - ∑ a, x.w i a * x.S a v

/-- The cotangent of the new values: also `u`'s gradient. -/
def du (x : Data) (D : Mat 128 128) : Mat 64 128 := fun i v =>
  (∑ a, x.k i a * D a v) + ∑ c, x.qk c i * x.g c v

def dw (x : Data) (D : Mat 128 128) : Mat 64 128 := fun i a => ∑ v, (-(x.du D i v)) * x.S a v

def dq (x : Data) : Mat 64 128 := fun i a => ∑ v, x.g i v * x.S a v

def dk (x : Data) (D : Mat 128 128) : Mat 64 128 := fun i a => ∑ v, x.vnew i v * D a v

def dqk (x : Data) : Mat 64 64 := fun i j => ∑ v, x.g i v * x.vnew j v

def ddec (x : Data) (D : Mat 128 128) : EReal := ∑ a, ∑ v, x.S a v * D a v

/-- The cotangent of the state the step was given. -/
def dS (x : Data) (D : Mat 128 128) : Mat 128 128 := fun a v =>
  (D a v * x.dec + ∑ i, x.q i a * x.g i v) + ∑ i, x.w i a * (-(x.du D i v))

/-- The chunk with its rows in reversed order. -/
def flip (x : Data) : Data where
  S := x.S
  u := fun i => x.u i.rev
  w := fun i => x.w i.rev
  q := fun i => x.q i.rev
  k := fun i => x.k i.rev
  qk := fun i j => x.qk i.rev j.rev
  dec := x.dec
  g := fun i => x.g i.rev

theorem sum_rev (f : Fin 64 → EReal) : ∑ i : Fin 64, f i.rev = ∑ i, f i :=
  Equiv.sum_comp Fin.revPerm f

theorem flip_vnew (x : Data) (i v) : x.flip.vnew i v = x.vnew i.rev v := rfl

theorem flip_du (x : Data) (D) (i v) : x.flip.du D i v = x.du D i.rev v :=
  congrArg (_ + ·) (sum_rev fun c => x.qk c i.rev * x.g c v)

theorem flip_dw (x : Data) (D) (i a) : x.flip.dw D i a = x.dw D i.rev a :=
  Finset.sum_congr rfl fun v _ => by rw [flip_du]; rfl

theorem flip_dq (x : Data) (i a) : x.flip.dq i a = x.dq i.rev a := rfl

theorem flip_dk (x : Data) (D) (i a) : x.flip.dk D i a = x.dk D i.rev a := rfl

theorem flip_dqk (x : Data) (i j) : x.flip.dqk i j = x.dqk i.rev j.rev := rfl

theorem flip_ddec (x : Data) (D) : x.flip.ddec D = x.ddec D := rfl

theorem flip_dS (x : Data) (D) : x.flip.dS D = x.dS D := by
  funext a v
  show (_ + ∑ i : Fin 64, x.q i.rev a * x.g i.rev v) + ∑ i : Fin 64, x.w i.rev a * (-(x.flip.du D i v)) = _
  simp only [flip_du]
  rw [sum_rev fun i => x.q i a * x.g i v, sum_rev fun i => x.w i a * (-(x.du D i v))]
  rfl

end Data

/-- The state's cotangent before step `t`: zero, then a step per chunk. -/
def cot (x : ℕ → Data) : ℕ → Mat 128 128
  | 0 => fun _ _ => 0
  | t + 1 => (x t).dS (cot x t)

/-- Reversing every chunk's rows changes no cotangent. -/
theorem cot_flip (x : ℕ → Data) : ∀ t, cot (fun n => (x n).flip) t = cot x t
  | 0 => rfl
  | t + 1 => by simp only [cot, cot_flip x t, Data.flip_dS]

theorem cot_congr {x y : ℕ → Data} {N : ℕ} (h : ∀ t, t < N → x t = y t) : ∀ t, t ≤ N → cot x t = cot y t
  | 0, _ => rfl
  | t + 1, ht => by rw [cot, cot, cot_congr h t (by omega), h t (by omega)]

end Cert.Chain

end
-- ==== Proof.Args.lean ====
/- One chunk of one head in the arrays that the backward scan is given. -/
module

public import proofs.«01_k».proof.Proof.Chain
public import Idealize.ShloMosaic.Lib.Pointwise

@[expose] public noncomputable section

namespace Cert.Args

open Idealize.ShloMosaic

abbrev Wide := Vec Ideal ⟨3, ![2, 2048, 1024]⟩ .f32

/-- The nine arguments. -/
structure Arrays where
  u : Wide
  w : Wide
  q : Wide
  k : Wide
  qk : Vec Ideal ⟨4, ![2, 8, 2048, 64]⟩ .f32
  dec : Vec Ideal ⟨3, ![2, 32, 8]⟩ .f32
  st0 : Vec Ideal ⟨4, ![32, 8, 128, 128]⟩ .f32
  st1 : Vec Ideal ⟨4, ![32, 8, 128, 128]⟩ .f32
  g : Vec Ideal ⟨2, ![2048, 1024]⟩ .f32

/-- Row `i` of chunk `n`. -/
def row (n : Fin 32) (i : Fin 64) : Fin 2048 := ⟨64 * n.val + i.val, by omega⟩

/-- Column `v` of head `h`. -/
def col (h : Fin 8) (v : Fin 128) : Fin 1024 := ⟨128 * h.val + v.val, by omega⟩

/-- Chunk `n` of head `h` in direction `d`. -/
def Arrays.chunk (X : Arrays) (d : Fin 2) (h : Fin 8) (n : Fin 32) : Chain.Data where
  S := fun a v => (if d = 0 then X.st0 else X.st1) (ix4 n h a v)
  u := fun i v => X.u (ix3 d (row n i) (col h v))
  w := fun i v => X.w (ix3 d (row n i) (col h v))
  q := fun i v => X.q (ix3 d (row n i) (col h v))
  k := fun i v => X.k (ix3 d (row n i) (col h v))
  qk := fun i s => X.qk (ix4 d h (row n i) s)
  dec := X.dec (ix3 d n h)
  g := fun i v => X.g (ix2 (row n i) (col h v))

/-- The chunks of a head in the order in which the backward scan takes them: direction 0 from the last chunk,
    direction 1 from the first. -/
def Arrays.order (d : Fin 2) (t : ℕ) : Fin 32 :=
  if d = 0 then ⟨31 - t, by omega⟩ else (⟨31 - t, by omega⟩ : Fin 32).rev

def Arrays.scan (X : Arrays) (d : Fin 2) (h : Fin 8) (t : ℕ) : Chain.Data := X.chunk d h (Arrays.order d t)

/-- When the scan comes to chunk `n`. -/
def Arrays.time (d : Fin 2) (n : Fin 32) : ℕ := if d = 0 then 31 - n.val else n.val

/-- The state's cotangent when the scan comes to chunk `n`. -/
def Arrays.cotAt (X : Arrays) (d : Fin 2) (h : Fin 8) (n : Fin 32) : Chain.Mat 128 128 :=
  Chain.cot (X.scan d h) (Arrays.time d n)

theorem ext_wide {A B : Vec Ideal ⟨2, ![2048, 1024]⟩ .f32}
    (e : ∀ n i h v, A (ix2 (row n i) (col h v)) = B (ix2 (row n i) (col h v))) : A = B := by
  funext y
  have h0 : (y 0).val < 2048 := (y 0).isLt
  have h1 : (y 1).val < 1024 := (y 1).isLt
  have hy : y = ix2 (row ⟨(y 0).val / 64, by omega⟩ ⟨(y 0).val % 64, by omega⟩)
      (col ⟨(y 1).val / 128, by omega⟩ ⟨(y 1).val % 128, by omega⟩) := by
    funext d
    fin_cases d
    · exact Fin.ext (show (y 0).val = 64 * ((y 0).val / 64) + (y 0).val % 64 by omega)
    · exact Fin.ext (show (y 1).val = 128 * ((y 1).val / 128) + (y 1).val % 128 by omega)
  rw [hy]
  exact e _ _ _ _

theorem ext_qk {A B : Vec Ideal ⟨3, ![8, 2048, 64]⟩ .f32}
    (e : ∀ h n i s, A (ix3 h (row n i) s) = B (ix3 h (row n i) s)) : A = B := by
  funext y
  have h1 : (y 1).val < 2048 := (y 1).isLt
  have hy : y = ix3 (y 0) (row ⟨(y 1).val / 64, by omega⟩ ⟨(y 1).val % 64, by omega⟩) (y 2) := by
    funext d
    fin_cases d
    · rfl
    · exact Fin.ext (show (y 1).val = 64 * ((y 1).val / 64) + (y 1).val % 64 by omega)
    · rfl
  rw [hy]
  exact e _ _ _ _

theorem ext_dec {A B : Vec Ideal ⟨3, ![32, 8, 128]⟩ .f32} (e : ∀ n h l, A (ix3 n h l) = B (ix3 n h l)) : A = B := by
  funext y
  have hy : y = ix3 (y 0) (y 1) (y 2) := by
    funext d
    fin_cases d <;> rfl
  rw [hy]
  exact e _ _ _

end Cert.Args

end
-- ==== Proof.KBlk.lean ====
/- One chunk of one head in the blocks that a grid point of the kernel works on. -/
module

public import proofs.«01_k».proof.Proof.Gen.KernelIdeal
public import proofs.«01_k».proof.Proof.Args

@[expose] public noncomputable section

namespace Cert.KBlk

open Idealize.ShloMosaic Cert.KernelIdeal Cert.Args

def bdat (S : Vec Ideal S1x8x128x128 .f32) (u w q k : Vec Ideal S1x64x1024 .f32) (qk : Vec Ideal S1x8x64x64 .f32)
    (dec : Vec Ideal S1x1x8x128 .f32) (g : Vec Ideal S64x1024 .f32) (h : Fin 8) : Chain.Data where
  S := fun a v => S (ix4 0 h a v)
  u := fun i v => u (ix3 0 i (col h v))
  w := fun i v => w (ix3 0 i (col h v))
  q := fun i v => q (ix3 0 i (col h v))
  k := fun i v => k (ix3 0 i (col h v))
  qk := fun i s => qk (ix4 0 h i s)
  dec := dec (ix4 0 0 h 0)
  g := fun i v => g (ix2 i (col h v))

theorem col_zero (v : Fin 128) : col 0 v = ⟨v.val, by omega⟩ := Fin.ext (Nat.zero_add _)

end Cert.KBlk

end
-- ==== Proof.KRead.lean ====
/- The blocks that a grid point of the kernel works on, as chunks of the arguments. -/
module

public import proofs.«01_k».proof.Proof.Gen.KernelIdeal.Frame.Runs
public import proofs.«01_k».proof.Proof.KBlk
public import Idealize.ShloMosaic.Lib.Pipeline.ValueKit
public import Idealize.ShloMosaic.Lib.Pointwise
public import Idealize.ShloMosaic.Lib.Claim

@[expose] public noncomputable section

set_option maxRecDepth 16384

namespace Cert.KRead

open Idealize.ShloMosaic Idealize.ShloMosaic.TcCoe Idealize.SL Idealize.SL.Sem
open Cert.KernelIdeal Cert.KernelIdeal.Gen Cert.KBlk Cert.Args

variable (m : (ℓ : Loc nD τ sig) → Buf (Elt Ideal) ℓ) (c : Dev nD)

/-- The arguments as the kernel's run finds them. -/
def arrays : Arrays where
  u := m ((c.tc : Thread nD τ).loc main_arg0)
  w := m ((c.tc : Thread nD τ).loc main_arg1)
  q := m ((c.tc : Thread nD τ).loc main_arg2)
  k := m ((c.tc : Thread nD τ).loc main_arg3)
  qk := m ((c.tc : Thread nD τ).loc main_arg4)
  dec := m ((c.tc : Thread nD τ).loc main_arg5)
  st0 := m ((c.tc : Thread nD τ).loc main_arg6)
  st1 := m ((c.tc : Thread nD τ).loc main_arg7)
  g := m ((c.tc : Thread nD τ).loc main_arg8)

theorem idx_fwd : ∀ t : Fin grid0.N,
    win0_0.index t = ![0, 31 - t.val, 0] ∧ win0_1.index t = ![0, 31 - t.val, 0] ∧ win0_2.index t = ![0, 31 - t.val, 0] ∧
    win0_3.index t = ![0, 31 - t.val, 0] ∧ win0_4.index t = ![0, 0, 31 - t.val, 0] ∧ win0_5.index t = ![0, 31 - t.val, 0, 0] ∧
    win0_12.index t = ![31 - t.val, 0, 0, 0] ∧ win0_14.index t = ![31 - t.val, 0] := by decide +kernel

theorem idx_bwd : ∀ t : Fin grid0.N,
    win0_6.index t = ![1, t.val, 0] ∧ win0_7.index t = ![1, t.val, 0] ∧ win0_8.index t = ![1, t.val, 0] ∧
    win0_9.index t = ![1, t.val, 0] ∧ win0_10.index t = ![1, 0, t.val, 0] ∧ win0_11.index t = ![1, t.val, 0, 0] ∧
    win0_13.index t = ![t.val, 0, 0, 0] ∧ win0_15.index t = ![t.val, 0] := by decide +kernel

theorem order_fwd (t : Fin cfg0.N) : (Arrays.order 0 t.val).val = 31 - t.val := rfl

theorem order_bwd (t : Fin cfg0.N) : (Arrays.order 1 t.val).val = t.val := by
  have hN : t.val < 32 := lt_of_lt_of_eq t.isLt (show cfg0.N = 32 from N_0)
  show ((⟨31 - t.val, by omega⟩ : Fin 32).rev).val = _
  rw [Fin.val_rev]
  show 32 - (31 - t.val + 1) = _
  omega

set_option maxHeartbeats 3200000 in
theorem blk_fwd (t : Fin cfg0.N) (h : Fin 8) :
    bdat (iblk m c 12 t) (iblk m c 0 t) (iblk m c 1 t) (iblk m c 2 t) (iblk m c 3 t) (iblk m c 4 t) (iblk m c 5 t) (iblk m c 14 t) h
      = (arrays m c).scan 0 h t.val := by
  obtain ⟨i0, i1, i2, i3, i4, i5, i12, i14⟩ := idx_fwd t
  have ho := order_fwd t
  refine (Chain.Data.mk.injEq ..).mpr ⟨?_, ?_, ?_, ?_, ?_, ?_, ?_, ?_⟩
  · funext a v
    show iblk m c 12 t (ix4 0 h a v) = (arrays m c).st0 (ix4 (Arrays.order 0 t.val) h a v)
    simp only [arrays]
    blk_ext [iblk, V, i12]
  · funext i v
    simp only [arrays]
    blk_ext [iblk, V, i0, row, col]
  · funext i v
    simp only [arrays]
    blk_ext [iblk, V, i1, row, col]
  · funext i v
    simp only [arrays]
    blk_ext [iblk, V, i2, row, col]
  · funext i v
    simp only [arrays]
    blk_ext [iblk, V, i3, row, col]
  · funext i s
    simp only [arrays]
    blk_ext [iblk, V, i4, row, col]
  · simp only [arrays]
    blk_simp [iblk, i5]
    entry_read
    pointwise
    blk_ext [i5]
  · funext i v
    simp only [arrays]
    blk_ext [iblk, V, i14, row, col]

set_option maxHeartbeats 3200000 in
theorem blk_bwd (t : Fin cfg0.N) (h : Fin 8) :
    bdat (iblk m c 13 t) (iblk m c 6 t) (iblk m c 7 t) (iblk m c 8 t) (iblk m c 9 t) (iblk m c 10 t) (iblk m c 11 t) (iblk m c 15 t) h
      = (arrays m c).scan 1 h t.val := by
  obtain ⟨i6, i7, i8, i9, i10, i11, i13, i15⟩ := idx_bwd t
  have ho := order_bwd t
  refine (Chain.Data.mk.injEq ..).mpr ⟨?_, ?_, ?_, ?_, ?_, ?_, ?_, ?_⟩
  · funext a v
    show iblk m c 13 t (ix4 0 h a v) = (arrays m c).st1 (ix4 (Arrays.order 1 t.val) h a v)
    simp only [arrays]
    blk_ext [iblk, V, i13]
  · funext i v
    simp only [arrays]
    blk_ext [iblk, V, i6, row, col]
  · funext i v
    simp only [arrays]
    blk_ext [iblk, V, i7, row, col]
  · funext i v
    simp only [arrays]
    blk_ext [iblk, V, i8, row, col]
  · funext i v
    simp only [arrays]
    blk_ext [iblk, V, i9, row, col]
  · funext i s
    simp only [arrays]
    blk_ext [iblk, V, i10, row, col]
  · simp only [arrays]
    blk_simp [iblk, i11]
    entry_read
    pointwise
    blk_ext [i11]
  · funext i v
    simp only [arrays]
    blk_ext [iblk, V, i15, row, col]

end Cert.KRead

end
-- ==== Proof.KBodyA0.lean ====
/- The first point's output blocks of direction 0, entry by entry. -/
module

public import proofs.«01_k».proof.Proof.KOut
public import proofs.«01_k».proof.Proof.KBlk
public import Idealize.ShloMosaic.Lib.Pipeline.ValueKit
public import Idealize.ShloMosaic.Lib.Pipeline.ReadBack
public import Idealize.ShloMosaic.Lib.Pointwise

@[expose] public noncomputable section

set_option maxRecDepth 16384

namespace Cert.KBody

open Idealize.ShloMosaic Idealize.ShloMosaic.TcCoe Idealize.SL Idealize.SL.Sem
open Cert.KernelIdeal Cert.KernelIdeal.Gen Cert.KBlk Cert.Args
open scoped BigOperators

section
variable (c : Dev nD) (i : grid0.Coords) (arg1 : Memref sig .tc .vmem S1x64x1024 .f32) (harg1 : arg1.IsWhole) (arg2 : Memref sig .tc .vmem S1x64x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S1x8x64x64 .f32) (harg5 : arg5.IsWhole) (arg6 : Memref sig .tc .vmem S1x1x8x128 .f32) (harg6 : arg6.IsWhole) (arg7 : Memref sig .tc .vmem S1x64x1024 .f32) (harg7 : arg7.IsWhole) (arg8 : Memref sig .tc .vmem S1x64x1024 .f32) (harg8 : arg8.IsWhole) (arg9 : Memref sig .tc .vmem S1x64x1024 .f32) (harg9 : arg9.IsWhole) (arg10 : Memref sig .tc .vmem S1x64x1024 .f32) (harg10 : arg10.IsWhole) (arg11 : Memref sig .tc .vmem S1x8x64x64 .f32) (harg11 : arg11.IsWhole) (arg12 : Memref sig .tc .vmem S1x1x8x128 .f32) (harg12 : arg12.IsWhole) (arg13 : Memref sig .tc .vmem S1x8x128x128 .f32) (harg13 : arg13.IsWhole) (arg14 : Memref sig .tc .vmem S1x8x128x128 .f32) (harg14 : arg14.IsWhole) (arg15 : Memref sig .tc .vmem S64x1024 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S64x1024 .f32) (harg20 : arg20.IsWhole) (arg21 : Memref sig .tc .vmem S8x64x64 .f32) (harg21 : arg21.IsWhole) (arg22 : Memref sig .tc .vmem S1x8x128 .f32) (harg22 : arg22.IsWhole) (arg23 : Memref sig .tc .vmem S64x1024 .f32) (harg23 : arg23.IsWhole) (arg24 : Memref sig .tc .vmem S64x1024 .f32) (harg24 : arg24.IsWhole) (arg25 : Memref sig .tc .vmem S64x1024 .f32) (harg25 : arg25.IsWhole) (arg26 : Memref sig .tc .vmem S64x1024 .f32) (harg26 : arg26.IsWhole) (arg27 : Memref sig .tc .vmem S8x64x64 .f32) (harg27 : arg27.IsWhole) (arg28 : Memref sig .tc .vmem S1x8x128 .f32) (harg28 : arg28.IsWhole) (arg29 : Memref sig .tc .vmem S16x128x128 .f32) (harg29 : arg29.IsWhole) (hc0 : cond0_0 i)
variable (x0 : Vec Ideal S1x64x1024 .f32) (x1 : Vec Ideal S1x64x1024 .f32) (x2 : Vec Ideal S1x64x1024 .f32) (x3 : Vec Ideal S1x64x1024 .f32) (x4 : Vec Ideal S1x8x64x64 .f32) (x5 : Vec Ideal S1x1x8x128 .f32) (x6 : Vec Ideal S1x64x1024 .f32) (x7 : Vec Ideal S1x64x1024 .f32) (x8 : Vec Ideal S1x64x1024 .f32) (x9 : Vec Ideal S1x64x1024 .f32) (x10 : Vec Ideal S1x8x64x64 .f32) (x11 : Vec Ideal S1x1x8x128 .f32) (x12 : Vec Ideal S1x8x128x128 .f32) (x13 : Vec Ideal S1x8x128x128 .f32) (x14 : Vec Ideal S64x1024 .f32) (x15 : Vec Ideal S64x1024 .f32)

theorem a16 (y : S64x1024.Idx) (h : Fin 8) (r : Fin 64) (v : Fin 128) (hr : (y 0).val = r.val) (hv : (y 1).val = 128 * h.val + v.val) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 y = (bdat x12 x0 x1 x2 x3 x4 x5 x14 h).du (fun _ _ => 0) r v := by
  frame_out
  canon_tiles x hx
  case piece0 =>
    open_payloads
    simp (disch := decide) only [↓ View.readCov_skip, ↓ View.readCov_cons_toLoadRect, ↓ View.readCov_fill]
    pointwise
    obtain rfl : h = 7 := Fin.ext (by show h.val = 7; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    simp (disch := decide) only [↓ View.readCov_skip, ↓ View.readCov_cons_toLoadRect, ↓ View.readCov_fill]
    pointwise
    obtain rfl : h = 6 := Fin.ext (by show h.val = 6; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    simp (disch := decide) only [↓ View.readCov_skip, ↓ View.readCov_cons_toLoadRect, ↓ View.readCov_fill]
    pointwise
    obtain rfl : h = 5 := Fin.ext (by show h.val = 5; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    simp (disch := decide) only [↓ View.readCov_skip, ↓ View.readCov_cons_toLoadRect, ↓ View.readCov_fill]
    pointwise
    obtain rfl : h = 4 := Fin.ext (by show h.val = 4; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    simp (disch := decide) only [↓ View.readCov_skip, ↓ View.readCov_cons_toLoadRect, ↓ View.readCov_fill]
    pointwise
    obtain rfl : h = 3 := Fin.ext (by show h.val = 3; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    simp (disch := decide) only [↓ View.readCov_skip, ↓ View.readCov_cons_toLoadRect, ↓ View.readCov_fill]
    pointwise
    obtain rfl : h = 2 := Fin.ext (by show h.val = 2; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    simp (disch := decide) only [↓ View.readCov_skip, ↓ View.readCov_cons_toLoadRect, ↓ View.readCov_fill]
    pointwise
    obtain rfl : h = 1 := Fin.ext (by show h.val = 1; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    simp (disch := decide) only [↓ View.readCov_skip, ↓ View.readCov_cons_toLoadRect, ↓ View.readCov_fill]
    pointwise
    obtain rfl : h = 0 := Fin.ext (by show h.val = 0; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem a17 (y : S64x1024.Idx) (h : Fin 8) (r : Fin 64) (v : Fin 128) (hr : (y 0).val = r.val) (hv : (y 1).val = 128 * h.val + v.val) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 y = (bdat x12 x0 x1 x2 x3 x4 x5 x14 h).dw (fun _ _ => 0) r v := by
  frame_out
  canon_tiles x hx
  case piece0 =>
    open_payloads
    simp (disch := decide) only [↓ View.readCov_skip, ↓ View.readCov_cons_toLoadRect, ↓ View.readCov_fill]
    pointwise
    obtain rfl : h = 7 := Fin.ext (by show h.val = 7; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    simp (disch := decide) only [↓ View.readCov_skip, ↓ View.readCov_cons_toLoadRect, ↓ View.readCov_fill]
    pointwise
    obtain rfl : h = 6 := Fin.ext (by show h.val = 6; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    simp (disch := decide) only [↓ View.readCov_skip, ↓ View.readCov_cons_toLoadRect, ↓ View.readCov_fill]
    pointwise
    obtain rfl : h = 5 := Fin.ext (by show h.val = 5; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    simp (disch := decide) only [↓ View.readCov_skip, ↓ View.readCov_cons_toLoadRect, ↓ View.readCov_fill]
    pointwise
    obtain rfl : h = 4 := Fin.ext (by show h.val = 4; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    simp (disch := decide) only [↓ View.readCov_skip, ↓ View.readCov_cons_toLoadRect, ↓ View.readCov_fill]
    pointwise
    obtain rfl : h = 3 := Fin.ext (by show h.val = 3; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    simp (disch := decide) only [↓ View.readCov_skip, ↓ View.readCov_cons_toLoadRect, ↓ View.readCov_fill]
    pointwise
    obtain rfl : h = 2 := Fin.ext (by show h.val = 2; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    simp (disch := decide) only [↓ View.readCov_skip, ↓ View.readCov_cons_toLoadRect, ↓ View.readCov_fill]
    pointwise
    obtain rfl : h = 1 := Fin.ext (by show h.val = 1; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    simp (disch := decide) only [↓ View.readCov_skip, ↓ View.readCov_cons_toLoadRect, ↓ View.readCov_fill]
    pointwise
    obtain rfl : h = 0 := Fin.ext (by show h.val = 0; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem a18 (y : S64x1024.Idx) (h : Fin 8) (r : Fin 64) (v : Fin 128) (hr : (y 0).val = r.val) (hv : (y 1).val = 128 * h.val + v.val) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 y = (bdat x12 x0 x1 x2 x3 x4 x5 x14 h).dq r v := by
  frame_out
  canon_tiles x hx
  case piece0 =>
    open_payloads
    pointwise
    obtain rfl : h = 7 := Fin.ext (by show h.val = 7; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    pointwise
    obtain rfl : h = 6 := Fin.ext (by show h.val = 6; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    pointwise
    obtain rfl : h = 5 := Fin.ext (by show h.val = 5; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    pointwise
    obtain rfl : h = 4 := Fin.ext (by show h.val = 4; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    pointwise
    obtain rfl : h = 3 := Fin.ext (by show h.val = 3; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    pointwise
    obtain rfl : h = 2 := Fin.ext (by show h.val = 2; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    pointwise
    obtain rfl : h = 1 := Fin.ext (by show h.val = 1; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    pointwise
    obtain rfl : h = 0 := Fin.ext (by show h.val = 0; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem a19 (y : S64x1024.Idx) (h : Fin 8) (r : Fin 64) (v : Fin 128) (hr : (y 0).val = r.val) (hv : (y 1).val = 128 * h.val + v.val) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 y = (bdat x12 x0 x1 x2 x3 x4 x5 x14 h).dk (fun _ _ => 0) r v := by
  frame_out
  canon_tiles x hx
  case piece0 =>
    open_payloads
    simp (disch := decide) only [↓ View.readCov_skip, ↓ View.readCov_cons_toLoadRect, ↓ View.readCov_fill]
    pointwise
    obtain rfl : h = 7 := Fin.ext (by show h.val = 7; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    simp (disch := decide) only [↓ View.readCov_skip, ↓ View.readCov_cons_toLoadRect, ↓ View.readCov_fill]
    pointwise
    obtain rfl : h = 6 := Fin.ext (by show h.val = 6; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    simp (disch := decide) only [↓ View.readCov_skip, ↓ View.readCov_cons_toLoadRect, ↓ View.readCov_fill]
    pointwise
    obtain rfl : h = 5 := Fin.ext (by show h.val = 5; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    simp (disch := decide) only [↓ View.readCov_skip, ↓ View.readCov_cons_toLoadRect, ↓ View.readCov_fill]
    pointwise
    obtain rfl : h = 4 := Fin.ext (by show h.val = 4; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    simp (disch := decide) only [↓ View.readCov_skip, ↓ View.readCov_cons_toLoadRect, ↓ View.readCov_fill]
    pointwise
    obtain rfl : h = 3 := Fin.ext (by show h.val = 3; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    simp (disch := decide) only [↓ View.readCov_skip, ↓ View.readCov_cons_toLoadRect, ↓ View.readCov_fill]
    pointwise
    obtain rfl : h = 2 := Fin.ext (by show h.val = 2; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    simp (disch := decide) only [↓ View.readCov_skip, ↓ View.readCov_cons_toLoadRect, ↓ View.readCov_fill]
    pointwise
    obtain rfl : h = 1 := Fin.ext (by show h.val = 1; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    simp (disch := decide) only [↓ View.readCov_skip, ↓ View.readCov_cons_toLoadRect, ↓ View.readCov_fill]
    pointwise
    obtain rfl : h = 0 := Fin.ext (by show h.val = 0; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem a20 (y : S8x64x64.Idx) (h : Fin 8) (r s : Fin 64) (hh : (y 0).val = h.val) (hr : (y 1).val = r.val) (hs : (y 2).val = s.val) :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 y = (bdat x12 x0 x1 x2 x3 x4 x5 x14 h).dqk r s := by
  frame_out
  canon_tiles x hx
  case piece0 =>
    open_payloads
    pointwise
    obtain rfl : h = 7 := Fin.ext (by show h.val = 7; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    pointwise
    obtain rfl : h = 6 := Fin.ext (by show h.val = 6; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    pointwise
    obtain rfl : h = 5 := Fin.ext (by show h.val = 5; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    pointwise
    obtain rfl : h = 4 := Fin.ext (by show h.val = 4; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    pointwise
    obtain rfl : h = 3 := Fin.ext (by show h.val = 3; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    pointwise
    obtain rfl : h = 2 := Fin.ext (by show h.val = 2; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    pointwise
    obtain rfl : h = 1 := Fin.ext (by show h.val = 1; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    pointwise
    obtain rfl : h = 0 := Fin.ext (by show h.val = 0; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem a21 (y : S1x8x128.Idx) (h : Fin 8) (hh : (y 1).val = h.val) :
    out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 y = (bdat x12 x0 x1 x2 x3 x4 x5 x14 h).ddec (fun _ _ => 0) := by
  frame_out
  canon_tiles x hx
  case piece0 =>
    open_payloads
    simp (disch := decide) only [↓ View.readCov_skip, ↓ View.readCov_cons_toLoadRect, ↓ View.readCov_fill]
    pointwise
    obtain rfl : h = 7 := Fin.ext (by show h.val = 7; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    simp (disch := decide) only [↓ View.readCov_skip, ↓ View.readCov_cons_toLoadRect, ↓ View.readCov_fill]
    pointwise
    obtain rfl : h = 6 := Fin.ext (by show h.val = 6; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    simp (disch := decide) only [↓ View.readCov_skip, ↓ View.readCov_cons_toLoadRect, ↓ View.readCov_fill]
    pointwise
    obtain rfl : h = 5 := Fin.ext (by show h.val = 5; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    simp (disch := decide) only [↓ View.readCov_skip, ↓ View.readCov_cons_toLoadRect, ↓ View.readCov_fill]
    pointwise
    obtain rfl : h = 4 := Fin.ext (by show h.val = 4; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    simp (disch := decide) only [↓ View.readCov_skip, ↓ View.readCov_cons_toLoadRect, ↓ View.readCov_fill]
    pointwise
    obtain rfl : h = 3 := Fin.ext (by show h.val = 3; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    simp (disch := decide) only [↓ View.readCov_skip, ↓ View.readCov_cons_toLoadRect, ↓ View.readCov_fill]
    pointwise
    obtain rfl : h = 2 := Fin.ext (by show h.val = 2; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    simp (disch := decide) only [↓ View.readCov_skip, ↓ View.readCov_cons_toLoadRect, ↓ View.readCov_fill]
    pointwise
    obtain rfl : h = 1 := Fin.ext (by show h.val = 1; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    simp (disch := decide) only [↓ View.readCov_skip, ↓ View.readCov_cons_toLoadRect, ↓ View.readCov_fill]
    pointwise
    obtain rfl : h = 0 := Fin.ext (by show h.val = 0; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

end

end Cert.KBody

end
-- ==== Proof.KBodyA1.lean ====
/- The first point's output blocks of direction 1, entry by entry. -/
module

public import proofs.«01_k».proof.Proof.KOut
public import proofs.«01_k».proof.Proof.KBlk
public import Idealize.ShloMosaic.Lib.Pipeline.ValueKit
public import Idealize.ShloMosaic.Lib.Pipeline.ReadBack
public import Idealize.ShloMosaic.Lib.Pointwise

@[expose] public noncomputable section

set_option maxRecDepth 16384

namespace Cert.KBody

open Idealize.ShloMosaic Idealize.ShloMosaic.TcCoe Idealize.SL Idealize.SL.Sem
open Cert.KernelIdeal Cert.KernelIdeal.Gen Cert.KBlk Cert.Args
open scoped BigOperators

section
variable (c : Dev nD) (i : grid0.Coords) (arg1 : Memref sig .tc .vmem S1x64x1024 .f32) (harg1 : arg1.IsWhole) (arg2 : Memref sig .tc .vmem S1x64x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S1x8x64x64 .f32) (harg5 : arg5.IsWhole) (arg6 : Memref sig .tc .vmem S1x1x8x128 .f32) (harg6 : arg6.IsWhole) (arg7 : Memref sig .tc .vmem S1x64x1024 .f32) (harg7 : arg7.IsWhole) (arg8 : Memref sig .tc .vmem S1x64x1024 .f32) (harg8 : arg8.IsWhole) (arg9 : Memref sig .tc .vmem S1x64x1024 .f32) (harg9 : arg9.IsWhole) (arg10 : Memref sig .tc .vmem S1x64x1024 .f32) (harg10 : arg10.IsWhole) (arg11 : Memref sig .tc .vmem S1x8x64x64 .f32) (harg11 : arg11.IsWhole) (arg12 : Memref sig .tc .vmem S1x1x8x128 .f32) (harg12 : arg12.IsWhole) (arg13 : Memref sig .tc .vmem S1x8x128x128 .f32) (harg13 : arg13.IsWhole) (arg14 : Memref sig .tc .vmem S1x8x128x128 .f32) (harg14 : arg14.IsWhole) (arg15 : Memref sig .tc .vmem S64x1024 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S64x1024 .f32) (harg20 : arg20.IsWhole) (arg21 : Memref sig .tc .vmem S8x64x64 .f32) (harg21 : arg21.IsWhole) (arg22 : Memref sig .tc .vmem S1x8x128 .f32) (harg22 : arg22.IsWhole) (arg23 : Memref sig .tc .vmem S64x1024 .f32) (harg23 : arg23.IsWhole) (arg24 : Memref sig .tc .vmem S64x1024 .f32) (harg24 : arg24.IsWhole) (arg25 : Memref sig .tc .vmem S64x1024 .f32) (harg25 : arg25.IsWhole) (arg26 : Memref sig .tc .vmem S64x1024 .f32) (harg26 : arg26.IsWhole) (arg27 : Memref sig .tc .vmem S8x64x64 .f32) (harg27 : arg27.IsWhole) (arg28 : Memref sig .tc .vmem S1x8x128 .f32) (harg28 : arg28.IsWhole) (arg29 : Memref sig .tc .vmem S16x128x128 .f32) (harg29 : arg29.IsWhole) (hc0 : cond0_0 i)
variable (x0 : Vec Ideal S1x64x1024 .f32) (x1 : Vec Ideal S1x64x1024 .f32) (x2 : Vec Ideal S1x64x1024 .f32) (x3 : Vec Ideal S1x64x1024 .f32) (x4 : Vec Ideal S1x8x64x64 .f32) (x5 : Vec Ideal S1x1x8x128 .f32) (x6 : Vec Ideal S1x64x1024 .f32) (x7 : Vec Ideal S1x64x1024 .f32) (x8 : Vec Ideal S1x64x1024 .f32) (x9 : Vec Ideal S1x64x1024 .f32) (x10 : Vec Ideal S1x8x64x64 .f32) (x11 : Vec Ideal S1x1x8x128 .f32) (x12 : Vec Ideal S1x8x128x128 .f32) (x13 : Vec Ideal S1x8x128x128 .f32) (x14 : Vec Ideal S64x1024 .f32) (x15 : Vec Ideal S64x1024 .f32)

theorem a22 (y : S64x1024.Idx) (h : Fin 8) (r : Fin 64) (v : Fin 128) (hr : (y 0).val = r.val) (hv : (y 1).val = 128 * h.val + v.val) :
    out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 y = (bdat x13 x6 x7 x8 x9 x10 x11 x15 h).du (fun _ _ => 0) r v := by
  frame_out
  canon_tiles x hx
  case piece0 =>
    open_payloads
    simp (disch := decide) only [↓ View.readCov_skip, ↓ View.readCov_cons_toLoadRect, ↓ View.readCov_fill]
    pointwise
    obtain rfl : h = 7 := Fin.ext (by show h.val = 7; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    simp (disch := decide) only [↓ View.readCov_skip, ↓ View.readCov_cons_toLoadRect, ↓ View.readCov_fill]
    pointwise
    obtain rfl : h = 6 := Fin.ext (by show h.val = 6; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    simp (disch := decide) only [↓ View.readCov_skip, ↓ View.readCov_cons_toLoadRect, ↓ View.readCov_fill]
    pointwise
    obtain rfl : h = 5 := Fin.ext (by show h.val = 5; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    simp (disch := decide) only [↓ View.readCov_skip, ↓ View.readCov_cons_toLoadRect, ↓ View.readCov_fill]
    pointwise
    obtain rfl : h = 4 := Fin.ext (by show h.val = 4; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    simp (disch := decide) only [↓ View.readCov_skip, ↓ View.readCov_cons_toLoadRect, ↓ View.readCov_fill]
    pointwise
    obtain rfl : h = 3 := Fin.ext (by show h.val = 3; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    simp (disch := decide) only [↓ View.readCov_skip, ↓ View.readCov_cons_toLoadRect, ↓ View.readCov_fill]
    pointwise
    obtain rfl : h = 2 := Fin.ext (by show h.val = 2; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    simp (disch := decide) only [↓ View.readCov_skip, ↓ View.readCov_cons_toLoadRect, ↓ View.readCov_fill]
    pointwise
    obtain rfl : h = 1 := Fin.ext (by show h.val = 1; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    simp (disch := decide) only [↓ View.readCov_skip, ↓ View.readCov_cons_toLoadRect, ↓ View.readCov_fill]
    pointwise
    obtain rfl : h = 0 := Fin.ext (by show h.val = 0; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem a23 (y : S64x1024.Idx) (h : Fin 8) (r : Fin 64) (v : Fin 128) (hr : (y 0).val = r.val) (hv : (y 1).val = 128 * h.val + v.val) :
    out0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 y = (bdat x13 x6 x7 x8 x9 x10 x11 x15 h).dw (fun _ _ => 0) r v := by
  frame_out
  canon_tiles x hx
  case piece0 =>
    open_payloads
    simp (disch := decide) only [↓ View.readCov_skip, ↓ View.readCov_cons_toLoadRect, ↓ View.readCov_fill]
    pointwise
    obtain rfl : h = 7 := Fin.ext (by show h.val = 7; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    simp (disch := decide) only [↓ View.readCov_skip, ↓ View.readCov_cons_toLoadRect, ↓ View.readCov_fill]
    pointwise
    obtain rfl : h = 6 := Fin.ext (by show h.val = 6; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    simp (disch := decide) only [↓ View.readCov_skip, ↓ View.readCov_cons_toLoadRect, ↓ View.readCov_fill]
    pointwise
    obtain rfl : h = 5 := Fin.ext (by show h.val = 5; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    simp (disch := decide) only [↓ View.readCov_skip, ↓ View.readCov_cons_toLoadRect, ↓ View.readCov_fill]
    pointwise
    obtain rfl : h = 4 := Fin.ext (by show h.val = 4; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    simp (disch := decide) only [↓ View.readCov_skip, ↓ View.readCov_cons_toLoadRect, ↓ View.readCov_fill]
    pointwise
    obtain rfl : h = 3 := Fin.ext (by show h.val = 3; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    simp (disch := decide) only [↓ View.readCov_skip, ↓ View.readCov_cons_toLoadRect, ↓ View.readCov_fill]
    pointwise
    obtain rfl : h = 2 := Fin.ext (by show h.val = 2; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    simp (disch := decide) only [↓ View.readCov_skip, ↓ View.readCov_cons_toLoadRect, ↓ View.readCov_fill]
    pointwise
    obtain rfl : h = 1 := Fin.ext (by show h.val = 1; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    simp (disch := decide) only [↓ View.readCov_skip, ↓ View.readCov_cons_toLoadRect, ↓ View.readCov_fill]
    pointwise
    obtain rfl : h = 0 := Fin.ext (by show h.val = 0; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem a24 (y : S64x1024.Idx) (h : Fin 8) (r : Fin 64) (v : Fin 128) (hr : (y 0).val = r.val) (hv : (y 1).val = 128 * h.val + v.val) :
    out0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 y = (bdat x13 x6 x7 x8 x9 x10 x11 x15 h).dq r v := by
  frame_out
  canon_tiles x hx
  case piece0 =>
    open_payloads
    pointwise
    obtain rfl : h = 7 := Fin.ext (by show h.val = 7; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    pointwise
    obtain rfl : h = 6 := Fin.ext (by show h.val = 6; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    pointwise
    obtain rfl : h = 5 := Fin.ext (by show h.val = 5; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    pointwise
    obtain rfl : h = 4 := Fin.ext (by show h.val = 4; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    pointwise
    obtain rfl : h = 3 := Fin.ext (by show h.val = 3; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    pointwise
    obtain rfl : h = 2 := Fin.ext (by show h.val = 2; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    pointwise
    obtain rfl : h = 1 := Fin.ext (by show h.val = 1; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    pointwise
    obtain rfl : h = 0 := Fin.ext (by show h.val = 0; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem a25 (y : S64x1024.Idx) (h : Fin 8) (r : Fin 64) (v : Fin 128) (hr : (y 0).val = r.val) (hv : (y 1).val = 128 * h.val + v.val) :
    out0_A_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 y = (bdat x13 x6 x7 x8 x9 x10 x11 x15 h).dk (fun _ _ => 0) r v := by
  frame_out
  canon_tiles x hx
  case piece0 =>
    open_payloads
    simp (disch := decide) only [↓ View.readCov_skip, ↓ View.readCov_cons_toLoadRect, ↓ View.readCov_fill]
    pointwise
    obtain rfl : h = 7 := Fin.ext (by show h.val = 7; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    simp (disch := decide) only [↓ View.readCov_skip, ↓ View.readCov_cons_toLoadRect, ↓ View.readCov_fill]
    pointwise
    obtain rfl : h = 6 := Fin.ext (by show h.val = 6; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    simp (disch := decide) only [↓ View.readCov_skip, ↓ View.readCov_cons_toLoadRect, ↓ View.readCov_fill]
    pointwise
    obtain rfl : h = 5 := Fin.ext (by show h.val = 5; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    simp (disch := decide) only [↓ View.readCov_skip, ↓ View.readCov_cons_toLoadRect, ↓ View.readCov_fill]
    pointwise
    obtain rfl : h = 4 := Fin.ext (by show h.val = 4; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    simp (disch := decide) only [↓ View.readCov_skip, ↓ View.readCov_cons_toLoadRect, ↓ View.readCov_fill]
    pointwise
    obtain rfl : h = 3 := Fin.ext (by show h.val = 3; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    simp (disch := decide) only [↓ View.readCov_skip, ↓ View.readCov_cons_toLoadRect, ↓ View.readCov_fill]
    pointwise
    obtain rfl : h = 2 := Fin.ext (by show h.val = 2; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    simp (disch := decide) only [↓ View.readCov_skip, ↓ View.readCov_cons_toLoadRect, ↓ View.readCov_fill]
    pointwise
    obtain rfl : h = 1 := Fin.ext (by show h.val = 1; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    simp (disch := decide) only [↓ View.readCov_skip, ↓ View.readCov_cons_toLoadRect, ↓ View.readCov_fill]
    pointwise
    obtain rfl : h = 0 := Fin.ext (by show h.val = 0; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem a26 (y : S8x64x64.Idx) (h : Fin 8) (r s : Fin 64) (hh : (y 0).val = h.val) (hr : (y 1).val = r.val) (hs : (y 2).val = s.val) :
    out0_A_26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 y = (bdat x13 x6 x7 x8 x9 x10 x11 x15 h).dqk r s := by
  frame_out
  canon_tiles x hx
  case piece0 =>
    open_payloads
    pointwise
    obtain rfl : h = 7 := Fin.ext (by show h.val = 7; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    pointwise
    obtain rfl : h = 6 := Fin.ext (by show h.val = 6; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    pointwise
    obtain rfl : h = 5 := Fin.ext (by show h.val = 5; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    pointwise
    obtain rfl : h = 4 := Fin.ext (by show h.val = 4; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    pointwise
    obtain rfl : h = 3 := Fin.ext (by show h.val = 3; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    pointwise
    obtain rfl : h = 2 := Fin.ext (by show h.val = 2; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    pointwise
    obtain rfl : h = 1 := Fin.ext (by show h.val = 1; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    pointwise
    obtain rfl : h = 0 := Fin.ext (by show h.val = 0; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem a27 (y : S1x8x128.Idx) (h : Fin 8) (hh : (y 1).val = h.val) :
    out0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 y = (bdat x13 x6 x7 x8 x9 x10 x11 x15 h).ddec (fun _ _ => 0) := by
  frame_out
  canon_tiles x hx
  case piece0 =>
    open_payloads
    simp (disch := decide) only [↓ View.readCov_skip, ↓ View.readCov_cons_toLoadRect, ↓ View.readCov_fill]
    pointwise
    obtain rfl : h = 7 := Fin.ext (by show h.val = 7; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    simp (disch := decide) only [↓ View.readCov_skip, ↓ View.readCov_cons_toLoadRect, ↓ View.readCov_fill]
    pointwise
    obtain rfl : h = 6 := Fin.ext (by show h.val = 6; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    simp (disch := decide) only [↓ View.readCov_skip, ↓ View.readCov_cons_toLoadRect, ↓ View.readCov_fill]
    pointwise
    obtain rfl : h = 5 := Fin.ext (by show h.val = 5; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    simp (disch := decide) only [↓ View.readCov_skip, ↓ View.readCov_cons_toLoadRect, ↓ View.readCov_fill]
    pointwise
    obtain rfl : h = 4 := Fin.ext (by show h.val = 4; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    simp (disch := decide) only [↓ View.readCov_skip, ↓ View.readCov_cons_toLoadRect, ↓ View.readCov_fill]
    pointwise
    obtain rfl : h = 3 := Fin.ext (by show h.val = 3; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    simp (disch := decide) only [↓ View.readCov_skip, ↓ View.readCov_cons_toLoadRect, ↓ View.readCov_fill]
    pointwise
    obtain rfl : h = 2 := Fin.ext (by show h.val = 2; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    simp (disch := decide) only [↓ View.readCov_skip, ↓ View.readCov_cons_toLoadRect, ↓ View.readCov_fill]
    pointwise
    obtain rfl : h = 1 := Fin.ext (by show h.val = 1; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    simp (disch := decide) only [↓ View.readCov_skip, ↓ View.readCov_cons_toLoadRect, ↓ View.readCov_fill]
    pointwise
    obtain rfl : h = 0 := Fin.ext (by show h.val = 0; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

end

end Cert.KBody

end
-- ==== Proof.KBodyB0.lean ====
/- Any later point's output blocks of direction 0, entry by entry. -/
module

public import proofs.«01_k».proof.Proof.KOut
public import proofs.«01_k».proof.Proof.KBlk
public import Idealize.ShloMosaic.Lib.Pipeline.ValueKit
public import Idealize.ShloMosaic.Lib.Pipeline.ReadBack
public import Idealize.ShloMosaic.Lib.Pointwise

@[expose] public noncomputable section

set_option maxRecDepth 16384

namespace Cert.KBody

open Idealize.ShloMosaic Idealize.ShloMosaic.TcCoe Idealize.SL Idealize.SL.Sem
open Cert.KernelIdeal Cert.KernelIdeal.Gen Cert.KBlk Cert.Args
open scoped BigOperators

section
variable (c : Dev nD) (i : grid0.Coords) (arg1 : Memref sig .tc .vmem S1x64x1024 .f32) (harg1 : arg1.IsWhole) (arg2 : Memref sig .tc .vmem S1x64x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S1x8x64x64 .f32) (harg5 : arg5.IsWhole) (arg6 : Memref sig .tc .vmem S1x1x8x128 .f32) (harg6 : arg6.IsWhole) (arg7 : Memref sig .tc .vmem S1x64x1024 .f32) (harg7 : arg7.IsWhole) (arg8 : Memref sig .tc .vmem S1x64x1024 .f32) (harg8 : arg8.IsWhole) (arg9 : Memref sig .tc .vmem S1x64x1024 .f32) (harg9 : arg9.IsWhole) (arg10 : Memref sig .tc .vmem S1x64x1024 .f32) (harg10 : arg10.IsWhole) (arg11 : Memref sig .tc .vmem S1x8x64x64 .f32) (harg11 : arg11.IsWhole) (arg12 : Memref sig .tc .vmem S1x1x8x128 .f32) (harg12 : arg12.IsWhole) (arg13 : Memref sig .tc .vmem S1x8x128x128 .f32) (harg13 : arg13.IsWhole) (arg14 : Memref sig .tc .vmem S1x8x128x128 .f32) (harg14 : arg14.IsWhole) (arg15 : Memref sig .tc .vmem S64x1024 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S64x1024 .f32) (harg20 : arg20.IsWhole) (arg21 : Memref sig .tc .vmem S8x64x64 .f32) (harg21 : arg21.IsWhole) (arg22 : Memref sig .tc .vmem S1x8x128 .f32) (harg22 : arg22.IsWhole) (arg23 : Memref sig .tc .vmem S64x1024 .f32) (harg23 : arg23.IsWhole) (arg24 : Memref sig .tc .vmem S64x1024 .f32) (harg24 : arg24.IsWhole) (arg25 : Memref sig .tc .vmem S64x1024 .f32) (harg25 : arg25.IsWhole) (arg26 : Memref sig .tc .vmem S64x1024 .f32) (harg26 : arg26.IsWhole) (arg27 : Memref sig .tc .vmem S8x64x64 .f32) (harg27 : arg27.IsWhole) (arg28 : Memref sig .tc .vmem S1x8x128 .f32) (harg28 : arg28.IsWhole) (arg29 : Memref sig .tc .vmem S16x128x128 .f32) (harg29 : arg29.IsWhole) (hc0 : ¬cond0_0 i)
variable (x0 : Vec Ideal S1x64x1024 .f32) (x1 : Vec Ideal S1x64x1024 .f32) (x2 : Vec Ideal S1x64x1024 .f32) (x3 : Vec Ideal S1x64x1024 .f32) (x4 : Vec Ideal S1x8x64x64 .f32) (x5 : Vec Ideal S1x1x8x128 .f32) (x6 : Vec Ideal S1x64x1024 .f32) (x7 : Vec Ideal S1x64x1024 .f32) (x8 : Vec Ideal S1x64x1024 .f32) (x9 : Vec Ideal S1x64x1024 .f32) (x10 : Vec Ideal S1x8x64x64 .f32) (x11 : Vec Ideal S1x1x8x128 .f32) (x12 : Vec Ideal S1x8x128x128 .f32) (x13 : Vec Ideal S1x8x128x128 .f32) (x14 : Vec Ideal S64x1024 .f32) (x15 : Vec Ideal S64x1024 .f32) (xs0 : Vec Ideal S16x128x128 .f32)

theorem b16 (y : S64x1024.Idx) (h : Fin 8) (r : Fin 64) (v : Fin 128) (hr : (y 0).val = r.val) (hv : (y 1).val = 128 * h.val + v.val) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0 y = (bdat x12 x0 x1 x2 x3 x4 x5 x14 h).du (fun a v => xs0 (ix3 ⟨h.val, by omega⟩ a v)) r v := by
  frame_out
  canon_tiles x hx
  case piece0 =>
    open_payloads
    pointwise
    obtain rfl : h = 7 := Fin.ext (by show h.val = 7; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    pointwise
    obtain rfl : h = 6 := Fin.ext (by show h.val = 6; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    pointwise
    obtain rfl : h = 5 := Fin.ext (by show h.val = 5; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    pointwise
    obtain rfl : h = 4 := Fin.ext (by show h.val = 4; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    pointwise
    obtain rfl : h = 3 := Fin.ext (by show h.val = 3; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    pointwise
    obtain rfl : h = 2 := Fin.ext (by show h.val = 2; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    pointwise
    obtain rfl : h = 1 := Fin.ext (by show h.val = 1; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    pointwise
    obtain rfl : h = 0 := Fin.ext (by show h.val = 0; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem b17 (y : S64x1024.Idx) (h : Fin 8) (r : Fin 64) (v : Fin 128) (hr : (y 0).val = r.val) (hv : (y 1).val = 128 * h.val + v.val) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0 y = (bdat x12 x0 x1 x2 x3 x4 x5 x14 h).dw (fun a v => xs0 (ix3 ⟨h.val, by omega⟩ a v)) r v := by
  frame_out
  canon_tiles x hx
  case piece0 =>
    open_payloads
    pointwise
    obtain rfl : h = 7 := Fin.ext (by show h.val = 7; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    pointwise
    obtain rfl : h = 6 := Fin.ext (by show h.val = 6; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    pointwise
    obtain rfl : h = 5 := Fin.ext (by show h.val = 5; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    pointwise
    obtain rfl : h = 4 := Fin.ext (by show h.val = 4; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    pointwise
    obtain rfl : h = 3 := Fin.ext (by show h.val = 3; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    pointwise
    obtain rfl : h = 2 := Fin.ext (by show h.val = 2; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    pointwise
    obtain rfl : h = 1 := Fin.ext (by show h.val = 1; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    pointwise
    obtain rfl : h = 0 := Fin.ext (by show h.val = 0; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem b18 (y : S64x1024.Idx) (h : Fin 8) (r : Fin 64) (v : Fin 128) (hr : (y 0).val = r.val) (hv : (y 1).val = 128 * h.val + v.val) :
    out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0 y = (bdat x12 x0 x1 x2 x3 x4 x5 x14 h).dq r v := by
  frame_out
  canon_tiles x hx
  case piece0 =>
    open_payloads
    pointwise
    obtain rfl : h = 7 := Fin.ext (by show h.val = 7; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    pointwise
    obtain rfl : h = 6 := Fin.ext (by show h.val = 6; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    pointwise
    obtain rfl : h = 5 := Fin.ext (by show h.val = 5; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    pointwise
    obtain rfl : h = 4 := Fin.ext (by show h.val = 4; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    pointwise
    obtain rfl : h = 3 := Fin.ext (by show h.val = 3; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    pointwise
    obtain rfl : h = 2 := Fin.ext (by show h.val = 2; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    pointwise
    obtain rfl : h = 1 := Fin.ext (by show h.val = 1; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    pointwise
    obtain rfl : h = 0 := Fin.ext (by show h.val = 0; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem b19 (y : S64x1024.Idx) (h : Fin 8) (r : Fin 64) (v : Fin 128) (hr : (y 0).val = r.val) (hv : (y 1).val = 128 * h.val + v.val) :
    out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0 y = (bdat x12 x0 x1 x2 x3 x4 x5 x14 h).dk (fun a v => xs0 (ix3 ⟨h.val, by omega⟩ a v)) r v := by
  frame_out
  canon_tiles x hx
  case piece0 =>
    open_payloads
    pointwise
    obtain rfl : h = 7 := Fin.ext (by show h.val = 7; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    pointwise
    obtain rfl : h = 6 := Fin.ext (by show h.val = 6; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    pointwise
    obtain rfl : h = 5 := Fin.ext (by show h.val = 5; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    pointwise
    obtain rfl : h = 4 := Fin.ext (by show h.val = 4; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    pointwise
    obtain rfl : h = 3 := Fin.ext (by show h.val = 3; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    pointwise
    obtain rfl : h = 2 := Fin.ext (by show h.val = 2; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    pointwise
    obtain rfl : h = 1 := Fin.ext (by show h.val = 1; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    pointwise
    obtain rfl : h = 0 := Fin.ext (by show h.val = 0; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem b20 (y : S8x64x64.Idx) (h : Fin 8) (r s : Fin 64) (hh : (y 0).val = h.val) (hr : (y 1).val = r.val) (hs : (y 2).val = s.val) :
    out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0 y = (bdat x12 x0 x1 x2 x3 x4 x5 x14 h).dqk r s := by
  frame_out
  canon_tiles x hx
  case piece0 =>
    open_payloads
    pointwise
    obtain rfl : h = 7 := Fin.ext (by show h.val = 7; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    pointwise
    obtain rfl : h = 6 := Fin.ext (by show h.val = 6; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    pointwise
    obtain rfl : h = 5 := Fin.ext (by show h.val = 5; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    pointwise
    obtain rfl : h = 4 := Fin.ext (by show h.val = 4; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    pointwise
    obtain rfl : h = 3 := Fin.ext (by show h.val = 3; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    pointwise
    obtain rfl : h = 2 := Fin.ext (by show h.val = 2; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    pointwise
    obtain rfl : h = 1 := Fin.ext (by show h.val = 1; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    pointwise
    obtain rfl : h = 0 := Fin.ext (by show h.val = 0; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem b21 (y : S1x8x128.Idx) (h : Fin 8) (hh : (y 1).val = h.val) :
    out0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0 y = (bdat x12 x0 x1 x2 x3 x4 x5 x14 h).ddec (fun a v => xs0 (ix3 ⟨h.val, by omega⟩ a v)) := by
  frame_out
  canon_tiles x hx
  case piece0 =>
    open_payloads
    pointwise
    obtain rfl : h = 7 := Fin.ext (by show h.val = 7; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    pointwise
    obtain rfl : h = 6 := Fin.ext (by show h.val = 6; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    pointwise
    obtain rfl : h = 5 := Fin.ext (by show h.val = 5; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    pointwise
    obtain rfl : h = 4 := Fin.ext (by show h.val = 4; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    pointwise
    obtain rfl : h = 3 := Fin.ext (by show h.val = 3; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    pointwise
    obtain rfl : h = 2 := Fin.ext (by show h.val = 2; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    pointwise
    obtain rfl : h = 1 := Fin.ext (by show h.val = 1; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    pointwise
    obtain rfl : h = 0 := Fin.ext (by show h.val = 0; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

end

end Cert.KBody

end
-- ==== Proof.KBodyB1.lean ====
/- Any later point's output blocks of direction 1, entry by entry. -/
module

public import proofs.«01_k».proof.Proof.KOut
public import proofs.«01_k».proof.Proof.KBlk
public import Idealize.ShloMosaic.Lib.Pipeline.ValueKit
public import Idealize.ShloMosaic.Lib.Pipeline.ReadBack
public import Idealize.ShloMosaic.Lib.Pointwise

@[expose] public noncomputable section

set_option maxRecDepth 16384

namespace Cert.KBody

open Idealize.ShloMosaic Idealize.ShloMosaic.TcCoe Idealize.SL Idealize.SL.Sem
open Cert.KernelIdeal Cert.KernelIdeal.Gen Cert.KBlk Cert.Args
open scoped BigOperators

section
variable (c : Dev nD) (i : grid0.Coords) (arg1 : Memref sig .tc .vmem S1x64x1024 .f32) (harg1 : arg1.IsWhole) (arg2 : Memref sig .tc .vmem S1x64x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S1x8x64x64 .f32) (harg5 : arg5.IsWhole) (arg6 : Memref sig .tc .vmem S1x1x8x128 .f32) (harg6 : arg6.IsWhole) (arg7 : Memref sig .tc .vmem S1x64x1024 .f32) (harg7 : arg7.IsWhole) (arg8 : Memref sig .tc .vmem S1x64x1024 .f32) (harg8 : arg8.IsWhole) (arg9 : Memref sig .tc .vmem S1x64x1024 .f32) (harg9 : arg9.IsWhole) (arg10 : Memref sig .tc .vmem S1x64x1024 .f32) (harg10 : arg10.IsWhole) (arg11 : Memref sig .tc .vmem S1x8x64x64 .f32) (harg11 : arg11.IsWhole) (arg12 : Memref sig .tc .vmem S1x1x8x128 .f32) (harg12 : arg12.IsWhole) (arg13 : Memref sig .tc .vmem S1x8x128x128 .f32) (harg13 : arg13.IsWhole) (arg14 : Memref sig .tc .vmem S1x8x128x128 .f32) (harg14 : arg14.IsWhole) (arg15 : Memref sig .tc .vmem S64x1024 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S64x1024 .f32) (harg20 : arg20.IsWhole) (arg21 : Memref sig .tc .vmem S8x64x64 .f32) (harg21 : arg21.IsWhole) (arg22 : Memref sig .tc .vmem S1x8x128 .f32) (harg22 : arg22.IsWhole) (arg23 : Memref sig .tc .vmem S64x1024 .f32) (harg23 : arg23.IsWhole) (arg24 : Memref sig .tc .vmem S64x1024 .f32) (harg24 : arg24.IsWhole) (arg25 : Memref sig .tc .vmem S64x1024 .f32) (harg25 : arg25.IsWhole) (arg26 : Memref sig .tc .vmem S64x1024 .f32) (harg26 : arg26.IsWhole) (arg27 : Memref sig .tc .vmem S8x64x64 .f32) (harg27 : arg27.IsWhole) (arg28 : Memref sig .tc .vmem S1x8x128 .f32) (harg28 : arg28.IsWhole) (arg29 : Memref sig .tc .vmem S16x128x128 .f32) (harg29 : arg29.IsWhole) (hc0 : ¬cond0_0 i)
variable (x0 : Vec Ideal S1x64x1024 .f32) (x1 : Vec Ideal S1x64x1024 .f32) (x2 : Vec Ideal S1x64x1024 .f32) (x3 : Vec Ideal S1x64x1024 .f32) (x4 : Vec Ideal S1x8x64x64 .f32) (x5 : Vec Ideal S1x1x8x128 .f32) (x6 : Vec Ideal S1x64x1024 .f32) (x7 : Vec Ideal S1x64x1024 .f32) (x8 : Vec Ideal S1x64x1024 .f32) (x9 : Vec Ideal S1x64x1024 .f32) (x10 : Vec Ideal S1x8x64x64 .f32) (x11 : Vec Ideal S1x1x8x128 .f32) (x12 : Vec Ideal S1x8x128x128 .f32) (x13 : Vec Ideal S1x8x128x128 .f32) (x14 : Vec Ideal S64x1024 .f32) (x15 : Vec Ideal S64x1024 .f32) (xs0 : Vec Ideal S16x128x128 .f32)

theorem b22 (y : S64x1024.Idx) (h : Fin 8) (r : Fin 64) (v : Fin 128) (hr : (y 0).val = r.val) (hv : (y 1).val = 128 * h.val + v.val) :
    out0_B_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0 y = (bdat x13 x6 x7 x8 x9 x10 x11 x15 h).du (fun a v => xs0 (ix3 ⟨8 + h.val, by omega⟩ a v)) r v := by
  frame_out
  canon_tiles x hx
  case piece0 =>
    open_payloads
    pointwise
    obtain rfl : h = 7 := Fin.ext (by show h.val = 7; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    pointwise
    obtain rfl : h = 6 := Fin.ext (by show h.val = 6; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    pointwise
    obtain rfl : h = 5 := Fin.ext (by show h.val = 5; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    pointwise
    obtain rfl : h = 4 := Fin.ext (by show h.val = 4; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    pointwise
    obtain rfl : h = 3 := Fin.ext (by show h.val = 3; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    pointwise
    obtain rfl : h = 2 := Fin.ext (by show h.val = 2; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    pointwise
    obtain rfl : h = 1 := Fin.ext (by show h.val = 1; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    pointwise
    obtain rfl : h = 0 := Fin.ext (by show h.val = 0; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem b23 (y : S64x1024.Idx) (h : Fin 8) (r : Fin 64) (v : Fin 128) (hr : (y 0).val = r.val) (hv : (y 1).val = 128 * h.val + v.val) :
    out0_B_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0 y = (bdat x13 x6 x7 x8 x9 x10 x11 x15 h).dw (fun a v => xs0 (ix3 ⟨8 + h.val, by omega⟩ a v)) r v := by
  frame_out
  canon_tiles x hx
  case piece0 =>
    open_payloads
    pointwise
    obtain rfl : h = 7 := Fin.ext (by show h.val = 7; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    pointwise
    obtain rfl : h = 6 := Fin.ext (by show h.val = 6; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    pointwise
    obtain rfl : h = 5 := Fin.ext (by show h.val = 5; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    pointwise
    obtain rfl : h = 4 := Fin.ext (by show h.val = 4; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    pointwise
    obtain rfl : h = 3 := Fin.ext (by show h.val = 3; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    pointwise
    obtain rfl : h = 2 := Fin.ext (by show h.val = 2; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    pointwise
    obtain rfl : h = 1 := Fin.ext (by show h.val = 1; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    pointwise
    obtain rfl : h = 0 := Fin.ext (by show h.val = 0; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem b24 (y : S64x1024.Idx) (h : Fin 8) (r : Fin 64) (v : Fin 128) (hr : (y 0).val = r.val) (hv : (y 1).val = 128 * h.val + v.val) :
    out0_B_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0 y = (bdat x13 x6 x7 x8 x9 x10 x11 x15 h).dq r v := by
  frame_out
  canon_tiles x hx
  case piece0 =>
    open_payloads
    pointwise
    obtain rfl : h = 7 := Fin.ext (by show h.val = 7; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    pointwise
    obtain rfl : h = 6 := Fin.ext (by show h.val = 6; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    pointwise
    obtain rfl : h = 5 := Fin.ext (by show h.val = 5; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    pointwise
    obtain rfl : h = 4 := Fin.ext (by show h.val = 4; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    pointwise
    obtain rfl : h = 3 := Fin.ext (by show h.val = 3; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    pointwise
    obtain rfl : h = 2 := Fin.ext (by show h.val = 2; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    pointwise
    obtain rfl : h = 1 := Fin.ext (by show h.val = 1; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    pointwise
    obtain rfl : h = 0 := Fin.ext (by show h.val = 0; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem b25 (y : S64x1024.Idx) (h : Fin 8) (r : Fin 64) (v : Fin 128) (hr : (y 0).val = r.val) (hv : (y 1).val = 128 * h.val + v.val) :
    out0_B_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0 y = (bdat x13 x6 x7 x8 x9 x10 x11 x15 h).dk (fun a v => xs0 (ix3 ⟨8 + h.val, by omega⟩ a v)) r v := by
  frame_out
  canon_tiles x hx
  case piece0 =>
    open_payloads
    pointwise
    obtain rfl : h = 7 := Fin.ext (by show h.val = 7; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    pointwise
    obtain rfl : h = 6 := Fin.ext (by show h.val = 6; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    pointwise
    obtain rfl : h = 5 := Fin.ext (by show h.val = 5; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    pointwise
    obtain rfl : h = 4 := Fin.ext (by show h.val = 4; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    pointwise
    obtain rfl : h = 3 := Fin.ext (by show h.val = 3; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    pointwise
    obtain rfl : h = 2 := Fin.ext (by show h.val = 2; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    pointwise
    obtain rfl : h = 1 := Fin.ext (by show h.val = 1; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    pointwise
    obtain rfl : h = 0 := Fin.ext (by show h.val = 0; omega)
    obtain rfl : r = x 0 := Fin.ext (by omega)
    obtain rfl : v = x 1 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem b26 (y : S8x64x64.Idx) (h : Fin 8) (r s : Fin 64) (hh : (y 0).val = h.val) (hr : (y 1).val = r.val) (hs : (y 2).val = s.val) :
    out0_B_26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0 y = (bdat x13 x6 x7 x8 x9 x10 x11 x15 h).dqk r s := by
  frame_out
  canon_tiles x hx
  case piece0 =>
    open_payloads
    pointwise
    obtain rfl : h = 7 := Fin.ext (by show h.val = 7; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    pointwise
    obtain rfl : h = 6 := Fin.ext (by show h.val = 6; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    pointwise
    obtain rfl : h = 5 := Fin.ext (by show h.val = 5; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    pointwise
    obtain rfl : h = 4 := Fin.ext (by show h.val = 4; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    pointwise
    obtain rfl : h = 3 := Fin.ext (by show h.val = 3; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    pointwise
    obtain rfl : h = 2 := Fin.ext (by show h.val = 2; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    pointwise
    obtain rfl : h = 1 := Fin.ext (by show h.val = 1; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    pointwise
    obtain rfl : h = 0 := Fin.ext (by show h.val = 0; omega)
    obtain rfl : r = x 1 := Fin.ext (by omega)
    obtain rfl : s = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem b27 (y : S1x8x128.Idx) (h : Fin 8) (hh : (y 1).val = h.val) :
    out0_B_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0 y = (bdat x13 x6 x7 x8 x9 x10 x11 x15 h).ddec (fun a v => xs0 (ix3 ⟨8 + h.val, by omega⟩ a v)) := by
  frame_out
  canon_tiles x hx
  case piece0 =>
    open_payloads
    pointwise
    obtain rfl : h = 7 := Fin.ext (by show h.val = 7; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    pointwise
    obtain rfl : h = 6 := Fin.ext (by show h.val = 6; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    pointwise
    obtain rfl : h = 5 := Fin.ext (by show h.val = 5; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    pointwise
    obtain rfl : h = 4 := Fin.ext (by show h.val = 4; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    pointwise
    obtain rfl : h = 3 := Fin.ext (by show h.val = 3; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    pointwise
    obtain rfl : h = 2 := Fin.ext (by show h.val = 2; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    pointwise
    obtain rfl : h = 1 := Fin.ext (by show h.val = 1; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    pointwise
    obtain rfl : h = 0 := Fin.ext (by show h.val = 0; omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

end

end Cert.KBody

end
-- ==== Proof.KBodyS.lean ====
/- The scratch that a point leaves, entry by entry: the cotangent of the state that each step was given. -/
module

public import proofs.«01_k».proof.Proof.KOut
public import proofs.«01_k».proof.Proof.KBlk
public import Idealize.ShloMosaic.Lib.Pipeline.ValueKit
public import Idealize.ShloMosaic.Lib.Pipeline.ReadBack
public import Idealize.ShloMosaic.Lib.Pointwise

@[expose] public noncomputable section

set_option maxRecDepth 16384

namespace Cert.KBody

open Idealize.ShloMosaic Idealize.ShloMosaic.TcCoe Idealize.SL Idealize.SL.Sem
open Cert.KernelIdeal Cert.KernelIdeal.Gen Cert.KBlk Cert.Args
open scoped BigOperators

theorem canon_drop {S : Shape} {e : EltTy} {Val : EltTy → Type} [∀ e, Nonempty (Val e)] :
    ∀ (L : List (View.Piece Val S e)) (q : View.Piece Val S e) (y : S.Idx) (_ : ∃ p ∈ L, y ∈ p.1.set),
      View.canon (L ++ [q]) y = View.canon L y
  | [], _, _, hc => by obtain ⟨p, hp, _⟩ := hc; exact absurd hp List.not_mem_nil
  | p :: L, q, y, hc => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop L q y ?_
      obtain ⟨r, hr, hy⟩ := hc
      rcases List.mem_cons.mp hr with rfl | hr
      · exact absurd hy hm
      · exact ⟨r, hr, hy⟩

section
variable (c : Dev nD) (i : grid0.Coords) (arg1 : Memref sig .tc .vmem S1x64x1024 .f32) (harg1 : arg1.IsWhole) (arg2 : Memref sig .tc .vmem S1x64x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S1x8x64x64 .f32) (harg5 : arg5.IsWhole) (arg6 : Memref sig .tc .vmem S1x1x8x128 .f32) (harg6 : arg6.IsWhole) (arg7 : Memref sig .tc .vmem S1x64x1024 .f32) (harg7 : arg7.IsWhole) (arg8 : Memref sig .tc .vmem S1x64x1024 .f32) (harg8 : arg8.IsWhole) (arg9 : Memref sig .tc .vmem S1x64x1024 .f32) (harg9 : arg9.IsWhole) (arg10 : Memref sig .tc .vmem S1x64x1024 .f32) (harg10 : arg10.IsWhole) (arg11 : Memref sig .tc .vmem S1x8x64x64 .f32) (harg11 : arg11.IsWhole) (arg12 : Memref sig .tc .vmem S1x1x8x128 .f32) (harg12 : arg12.IsWhole) (arg13 : Memref sig .tc .vmem S1x8x128x128 .f32) (harg13 : arg13.IsWhole) (arg14 : Memref sig .tc .vmem S1x8x128x128 .f32) (harg14 : arg14.IsWhole) (arg15 : Memref sig .tc .vmem S64x1024 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S64x1024 .f32) (harg20 : arg20.IsWhole) (arg21 : Memref sig .tc .vmem S8x64x64 .f32) (harg21 : arg21.IsWhole) (arg22 : Memref sig .tc .vmem S1x8x128 .f32) (harg22 : arg22.IsWhole) (arg23 : Memref sig .tc .vmem S64x1024 .f32) (harg23 : arg23.IsWhole) (arg24 : Memref sig .tc .vmem S64x1024 .f32) (harg24 : arg24.IsWhole) (arg25 : Memref sig .tc .vmem S64x1024 .f32) (harg25 : arg25.IsWhole) (arg26 : Memref sig .tc .vmem S64x1024 .f32) (harg26 : arg26.IsWhole) (arg27 : Memref sig .tc .vmem S8x64x64 .f32) (harg27 : arg27.IsWhole) (arg28 : Memref sig .tc .vmem S1x8x128 .f32) (harg28 : arg28.IsWhole) (arg29 : Memref sig .tc .vmem S16x128x128 .f32) (harg29 : arg29.IsWhole) (hc0 : cond0_0 i)
variable (x0 : Vec Ideal S1x64x1024 .f32) (x1 : Vec Ideal S1x64x1024 .f32) (x2 : Vec Ideal S1x64x1024 .f32) (x3 : Vec Ideal S1x64x1024 .f32) (x4 : Vec Ideal S1x8x64x64 .f32) (x5 : Vec Ideal S1x1x8x128 .f32) (x6 : Vec Ideal S1x64x1024 .f32) (x7 : Vec Ideal S1x64x1024 .f32) (x8 : Vec Ideal S1x64x1024 .f32) (x9 : Vec Ideal S1x64x1024 .f32) (x10 : Vec Ideal S1x8x64x64 .f32) (x11 : Vec Ideal S1x1x8x128 .f32) (x12 : Vec Ideal S1x8x128x128 .f32) (x13 : Vec Ideal S1x8x128x128 .f32) (x14 : Vec Ideal S64x1024 .f32) (x15 : Vec Ideal S64x1024 .f32)

theorem as0 (y : S16x128x128.Idx) (h : Fin 8) (a v : Fin 128) (hh : (y 0).val = h.val) (ha : (y 1).val = a.val) (hv : (y 2).val = v.val) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 y = (bdat x12 x0 x1 x2 x3 x4 x5 x14 h).dS (fun _ _ => 0) a v := by
  frame_out
  refine (canon_drop [_, _, _, _, _, _, _, _, _, _, _, _, _, _, _, _] _ y ?_).trans ?_
  · exact View.cover_of_tiled_head _ _ _ (by rfl) _
  canon_tiles x hx
  case piece0 =>
    exfalso; omega
  case piece1 =>
    exfalso; omega
  case piece2 =>
    exfalso; omega
  case piece3 =>
    exfalso; omega
  case piece4 =>
    exfalso; omega
  case piece5 =>
    exfalso; omega
  case piece6 =>
    exfalso; omega
  case piece7 =>
    exfalso; omega
  case piece8 =>
    open_payloads
    simp (disch := decide) only [↓ View.readCov_skip, ↓ View.readCov_cons_toLoadRect, ↓ View.readCov_fill]
    pointwise
    obtain rfl : h = 7 := Fin.ext (by show h.val = 7; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece9 =>
    open_payloads
    simp (disch := decide) only [↓ View.readCov_skip, ↓ View.readCov_cons_toLoadRect, ↓ View.readCov_fill]
    pointwise
    obtain rfl : h = 6 := Fin.ext (by show h.val = 6; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece10 =>
    open_payloads
    simp (disch := decide) only [↓ View.readCov_skip, ↓ View.readCov_cons_toLoadRect, ↓ View.readCov_fill]
    pointwise
    obtain rfl : h = 5 := Fin.ext (by show h.val = 5; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece11 =>
    open_payloads
    simp (disch := decide) only [↓ View.readCov_skip, ↓ View.readCov_cons_toLoadRect, ↓ View.readCov_fill]
    pointwise
    obtain rfl : h = 4 := Fin.ext (by show h.val = 4; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece12 =>
    open_payloads
    simp (disch := decide) only [↓ View.readCov_skip, ↓ View.readCov_cons_toLoadRect, ↓ View.readCov_fill]
    pointwise
    obtain rfl : h = 3 := Fin.ext (by show h.val = 3; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece13 =>
    open_payloads
    simp (disch := decide) only [↓ View.readCov_skip, ↓ View.readCov_cons_toLoadRect, ↓ View.readCov_fill]
    pointwise
    obtain rfl : h = 2 := Fin.ext (by show h.val = 2; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece14 =>
    open_payloads
    simp (disch := decide) only [↓ View.readCov_skip, ↓ View.readCov_cons_toLoadRect, ↓ View.readCov_fill]
    pointwise
    obtain rfl : h = 1 := Fin.ext (by show h.val = 1; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece15 =>
    open_payloads
    simp (disch := decide) only [↓ View.readCov_skip, ↓ View.readCov_cons_toLoadRect, ↓ View.readCov_fill]
    pointwise
    obtain rfl : h = 0 := Fin.ext (by show h.val = 0; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem as1 (y : S16x128x128.Idx) (h : Fin 8) (a v : Fin 128) (hh : (y 0).val = 8 + h.val) (ha : (y 1).val = a.val) (hv : (y 2).val = v.val) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 y = (bdat x13 x6 x7 x8 x9 x10 x11 x15 h).dS (fun _ _ => 0) a v := by
  frame_out
  refine (canon_drop [_, _, _, _, _, _, _, _, _, _, _, _, _, _, _, _] _ y ?_).trans ?_
  · exact View.cover_of_tiled_head _ _ _ (by rfl) _
  canon_tiles x hx
  case piece0 =>
    open_payloads
    simp (disch := decide) only [↓ View.readCov_skip, ↓ View.readCov_cons_toLoadRect, ↓ View.readCov_fill]
    pointwise
    obtain rfl : h = 7 := Fin.ext (by show h.val = 7; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    simp (disch := decide) only [↓ View.readCov_skip, ↓ View.readCov_cons_toLoadRect, ↓ View.readCov_fill]
    pointwise
    obtain rfl : h = 6 := Fin.ext (by show h.val = 6; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    simp (disch := decide) only [↓ View.readCov_skip, ↓ View.readCov_cons_toLoadRect, ↓ View.readCov_fill]
    pointwise
    obtain rfl : h = 5 := Fin.ext (by show h.val = 5; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    simp (disch := decide) only [↓ View.readCov_skip, ↓ View.readCov_cons_toLoadRect, ↓ View.readCov_fill]
    pointwise
    obtain rfl : h = 4 := Fin.ext (by show h.val = 4; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    simp (disch := decide) only [↓ View.readCov_skip, ↓ View.readCov_cons_toLoadRect, ↓ View.readCov_fill]
    pointwise
    obtain rfl : h = 3 := Fin.ext (by show h.val = 3; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    simp (disch := decide) only [↓ View.readCov_skip, ↓ View.readCov_cons_toLoadRect, ↓ View.readCov_fill]
    pointwise
    obtain rfl : h = 2 := Fin.ext (by show h.val = 2; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    simp (disch := decide) only [↓ View.readCov_skip, ↓ View.readCov_cons_toLoadRect, ↓ View.readCov_fill]
    pointwise
    obtain rfl : h = 1 := Fin.ext (by show h.val = 1; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    simp (disch := decide) only [↓ View.readCov_skip, ↓ View.readCov_cons_toLoadRect, ↓ View.readCov_fill]
    pointwise
    obtain rfl : h = 0 := Fin.ext (by show h.val = 0; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece8 =>
    exfalso; omega
  case piece9 =>
    exfalso; omega
  case piece10 =>
    exfalso; omega
  case piece11 =>
    exfalso; omega
  case piece12 =>
    exfalso; omega
  case piece13 =>
    exfalso; omega
  case piece14 =>
    exfalso; omega
  case piece15 =>
    exfalso; omega

end

section
variable (c : Dev nD) (i : grid0.Coords) (arg1 : Memref sig .tc .vmem S1x64x1024 .f32) (harg1 : arg1.IsWhole) (arg2 : Memref sig .tc .vmem S1x64x1024 .f32) (harg2 : arg2.IsWhole) (arg3 : Memref sig .tc .vmem S1x64x1024 .f32) (harg3 : arg3.IsWhole) (arg4 : Memref sig .tc .vmem S1x64x1024 .f32) (harg4 : arg4.IsWhole) (arg5 : Memref sig .tc .vmem S1x8x64x64 .f32) (harg5 : arg5.IsWhole) (arg6 : Memref sig .tc .vmem S1x1x8x128 .f32) (harg6 : arg6.IsWhole) (arg7 : Memref sig .tc .vmem S1x64x1024 .f32) (harg7 : arg7.IsWhole) (arg8 : Memref sig .tc .vmem S1x64x1024 .f32) (harg8 : arg8.IsWhole) (arg9 : Memref sig .tc .vmem S1x64x1024 .f32) (harg9 : arg9.IsWhole) (arg10 : Memref sig .tc .vmem S1x64x1024 .f32) (harg10 : arg10.IsWhole) (arg11 : Memref sig .tc .vmem S1x8x64x64 .f32) (harg11 : arg11.IsWhole) (arg12 : Memref sig .tc .vmem S1x1x8x128 .f32) (harg12 : arg12.IsWhole) (arg13 : Memref sig .tc .vmem S1x8x128x128 .f32) (harg13 : arg13.IsWhole) (arg14 : Memref sig .tc .vmem S1x8x128x128 .f32) (harg14 : arg14.IsWhole) (arg15 : Memref sig .tc .vmem S64x1024 .f32) (harg15 : arg15.IsWhole) (arg16 : Memref sig .tc .vmem S64x1024 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S64x1024 .f32) (harg20 : arg20.IsWhole) (arg21 : Memref sig .tc .vmem S8x64x64 .f32) (harg21 : arg21.IsWhole) (arg22 : Memref sig .tc .vmem S1x8x128 .f32) (harg22 : arg22.IsWhole) (arg23 : Memref sig .tc .vmem S64x1024 .f32) (harg23 : arg23.IsWhole) (arg24 : Memref sig .tc .vmem S64x1024 .f32) (harg24 : arg24.IsWhole) (arg25 : Memref sig .tc .vmem S64x1024 .f32) (harg25 : arg25.IsWhole) (arg26 : Memref sig .tc .vmem S64x1024 .f32) (harg26 : arg26.IsWhole) (arg27 : Memref sig .tc .vmem S8x64x64 .f32) (harg27 : arg27.IsWhole) (arg28 : Memref sig .tc .vmem S1x8x128 .f32) (harg28 : arg28.IsWhole) (arg29 : Memref sig .tc .vmem S16x128x128 .f32) (harg29 : arg29.IsWhole) (hc0 : ¬cond0_0 i)
variable (x0 : Vec Ideal S1x64x1024 .f32) (x1 : Vec Ideal S1x64x1024 .f32) (x2 : Vec Ideal S1x64x1024 .f32) (x3 : Vec Ideal S1x64x1024 .f32) (x4 : Vec Ideal S1x8x64x64 .f32) (x5 : Vec Ideal S1x1x8x128 .f32) (x6 : Vec Ideal S1x64x1024 .f32) (x7 : Vec Ideal S1x64x1024 .f32) (x8 : Vec Ideal S1x64x1024 .f32) (x9 : Vec Ideal S1x64x1024 .f32) (x10 : Vec Ideal S1x8x64x64 .f32) (x11 : Vec Ideal S1x1x8x128 .f32) (x12 : Vec Ideal S1x8x128x128 .f32) (x13 : Vec Ideal S1x8x128x128 .f32) (x14 : Vec Ideal S64x1024 .f32) (x15 : Vec Ideal S64x1024 .f32) (xs0 : Vec Ideal S16x128x128 .f32)

theorem bs0 (y : S16x128x128.Idx) (h : Fin 8) (a v : Fin 128) (hh : (y 0).val = h.val) (ha : (y 1).val = a.val) (hv : (y 2).val = v.val) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0 y = (bdat x12 x0 x1 x2 x3 x4 x5 x14 h).dS (fun a v => xs0 (ix3 ⟨h.val, by omega⟩ a v)) a v := by
  frame_out
  canon_tiles x hx
  case piece0 =>
    exfalso; omega
  case piece1 =>
    exfalso; omega
  case piece2 =>
    exfalso; omega
  case piece3 =>
    exfalso; omega
  case piece4 =>
    exfalso; omega
  case piece5 =>
    exfalso; omega
  case piece6 =>
    exfalso; omega
  case piece7 =>
    exfalso; omega
  case piece8 =>
    open_payloads
    pointwise
    obtain rfl : h = 7 := Fin.ext (by show h.val = 7; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece9 =>
    open_payloads
    pointwise
    obtain rfl : h = 6 := Fin.ext (by show h.val = 6; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece10 =>
    open_payloads
    pointwise
    obtain rfl : h = 5 := Fin.ext (by show h.val = 5; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece11 =>
    open_payloads
    pointwise
    obtain rfl : h = 4 := Fin.ext (by show h.val = 4; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece12 =>
    open_payloads
    pointwise
    obtain rfl : h = 3 := Fin.ext (by show h.val = 3; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece13 =>
    open_payloads
    pointwise
    obtain rfl : h = 2 := Fin.ext (by show h.val = 2; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece14 =>
    open_payloads
    pointwise
    obtain rfl : h = 1 := Fin.ext (by show h.val = 1; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece15 =>
    open_payloads
    pointwise
    obtain rfl : h = 0 := Fin.ext (by show h.val = 0; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl

theorem bs1 (y : S16x128x128.Idx) (h : Fin 8) (a v : Fin 128) (hh : (y 0).val = 8 + h.val) (ha : (y 1).val = a.val) (hv : (y 2).val = v.val) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 xs0 y = (bdat x13 x6 x7 x8 x9 x10 x11 x15 h).dS (fun a v => xs0 (ix3 ⟨8 + h.val, by omega⟩ a v)) a v := by
  frame_out
  canon_tiles x hx
  case piece0 =>
    open_payloads
    pointwise
    obtain rfl : h = 7 := Fin.ext (by show h.val = 7; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece1 =>
    open_payloads
    pointwise
    obtain rfl : h = 6 := Fin.ext (by show h.val = 6; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece2 =>
    open_payloads
    pointwise
    obtain rfl : h = 5 := Fin.ext (by show h.val = 5; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece3 =>
    open_payloads
    pointwise
    obtain rfl : h = 4 := Fin.ext (by show h.val = 4; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece4 =>
    open_payloads
    pointwise
    obtain rfl : h = 3 := Fin.ext (by show h.val = 3; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece5 =>
    open_payloads
    pointwise
    obtain rfl : h = 2 := Fin.ext (by show h.val = 2; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece6 =>
    open_payloads
    pointwise
    obtain rfl : h = 1 := Fin.ext (by show h.val = 1; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece7 =>
    open_payloads
    pointwise
    obtain rfl : h = 0 := Fin.ext (by show h.val = 0; omega)
    obtain rfl : a = x 1 := Fin.ext (by omega)
    obtain rfl : v = x 2 := Fin.ext (by omega)
    simp only [bdat, col_zero, Chain.Data.du, Chain.Data.dw, Chain.Data.dq, Chain.Data.dk, Chain.Data.dqk, Chain.Data.ddec, Chain.Data.dS, Chain.Data.vnew, zero_sub, zero_mul, mul_zero, Finset.sum_const_zero, zero_add, add_zero] <;> rfl
  case piece8 =>
    exfalso; omega
  case piece9 =>
    exfalso; omega
  case piece10 =>
    exfalso; omega
  case piece11 =>
    exfalso; omega
  case piece12 =>
    exfalso; omega
  case piece13 =>
    exfalso; omega
  case piece14 =>
    exfalso; omega
  case piece15 =>
    exfalso; omega

end

end Cert.KBody

end
-- ==== Proof.KPoint.lean ====
/- What each grid point of the kernel leaves, in terms of the chunks of the arguments and the cotangents of the states. -/
module

public import proofs.«01_k».proof.Proof.KDat
public import proofs.«01_k».proof.Proof.KRead
public import proofs.«01_k».proof.Proof.KBodyA0
public import proofs.«01_k».proof.Proof.KBodyA1
public import proofs.«01_k».proof.Proof.KBodyB0
public import proofs.«01_k».proof.Proof.KBodyB1
public import proofs.«01_k».proof.Proof.KBodyS

@[expose] public noncomputable section

set_option maxRecDepth 16384

namespace Cert.KPoint

open Idealize.ShloMosaic Idealize.ShloMosaic.TcCoe Idealize.SL Idealize.SL.Sem
open Cert.KernelIdeal Cert.KernelIdeal.Gen Cert.KBlk Cert.Args Cert.KRead

variable (m : (ℓ : Loc nD τ sig) → Buf (Elt Ideal) ℓ) (c : Dev nD)

theorem cot_first (x : ℕ → Chain.Data) (t : Fin cfg0.N) (h0 : t.val % 32 = 0) : Chain.cot x t.val = fun _ _ => 0 := by
  have hN : t.val < 32 := lt_of_lt_of_eq t.isLt (show cfg0.N = 32 from N_0)
  rw [show t.val = 0 by omega]
  rfl

/-- The scratch that point `n` leaves, direction 0. -/
theorem scratch_fwd : ∀ (n : ℕ) (hn : n < cfg0.N) (y : S16x128x128.Idx) (h : Fin 8) (a v : Fin 128) (_ : (y 0).val = h.val)
    (_ : (y 1).val = a.val) (_ : (y 2).val = v.val),
    (outsAt0 m c n hn).2.2.2.2.2.2.2.2.2.2.2.2 y = Chain.cot ((arrays m c).scan 0 h) (n + 1) a v
  | 0, hn, y, h, a, v, hh, ha, hv => by
    rw [outsAt0_A m c ⟨0, hn⟩ (Nat.zero_mod _)]
    dsimp only [leftA]
    refine (KBody.as0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h a v hh ha hv).trans ?_
    rw [blk_fwd]
    rfl
  | n + 1, hn, y, h, a, v, hh, ha, hv => by
    have hN : n + 1 < 32 := lt_of_lt_of_eq hn (show cfg0.N = 32 from N_0)
    have h0 : ¬(n + 1) % 32 = 0 := by omega
    rw [outsAt0_B m c ⟨n + 1, hn⟩ h0]
    dsimp only [leftB]
    refine (KBody.bs0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h a v hh ha hv).trans ?_
    rw [blk_fwd]
    exact congrArg (fun D => (((arrays m c).scan 0 h) (n + 1)).dS D a v) (funext fun a => funext fun v =>
      scratch_fwd n (Nat.lt_of_succ_lt hn) _ h a v rfl rfl rfl)

theorem carry_fwd (t : Fin cfg0.N) (h0 : ¬t.val % 32 = 0) (h : Fin 8) (q : h.val < 16) :
    (fun a v => (outsAt0 m c (t.val - 1) (Nat.lt_of_le_of_lt (Nat.sub_le _ _) t.isLt)).2.2.2.2.2.2.2.2.2.2.2.2 (ix3 ⟨h.val, q⟩ a v))
      = Chain.cot ((arrays m c).scan 0 h) t.val := by
  funext a v
  refine (scratch_fwd m c (t.val - 1) _ _ h a v rfl rfl rfl).trans ?_
  rw [show t.val - 1 + 1 = t.val by omega]

/-- The scratch that point `n` leaves, direction 1. -/
theorem scratch_bwd : ∀ (n : ℕ) (hn : n < cfg0.N) (y : S16x128x128.Idx) (h : Fin 8) (a v : Fin 128) (_ : (y 0).val = 8 + h.val)
    (_ : (y 1).val = a.val) (_ : (y 2).val = v.val),
    (outsAt0 m c n hn).2.2.2.2.2.2.2.2.2.2.2.2 y = Chain.cot ((arrays m c).scan 1 h) (n + 1) a v
  | 0, hn, y, h, a, v, hh, ha, hv => by
    rw [outsAt0_A m c ⟨0, hn⟩ (Nat.zero_mod _)]
    dsimp only [leftA]
    refine (KBody.as1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h a v hh ha hv).trans ?_
    rw [blk_bwd]
    rfl
  | n + 1, hn, y, h, a, v, hh, ha, hv => by
    have hN : n + 1 < 32 := lt_of_lt_of_eq hn (show cfg0.N = 32 from N_0)
    have h0 : ¬(n + 1) % 32 = 0 := by omega
    rw [outsAt0_B m c ⟨n + 1, hn⟩ h0]
    dsimp only [leftB]
    refine (KBody.bs1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h a v hh ha hv).trans ?_
    rw [blk_bwd]
    exact congrArg (fun D => (((arrays m c).scan 1 h) (n + 1)).dS D a v) (funext fun a => funext fun v =>
      scratch_bwd n (Nat.lt_of_succ_lt hn) _ h a v rfl rfl rfl)

theorem carry_bwd (t : Fin cfg0.N) (h0 : ¬t.val % 32 = 0) (h : Fin 8) (q : 8 + h.val < 16) :
    (fun a v => (outsAt0 m c (t.val - 1) (Nat.lt_of_le_of_lt (Nat.sub_le _ _) t.isLt)).2.2.2.2.2.2.2.2.2.2.2.2 (ix3 ⟨8 + h.val, q⟩ a v))
      = Chain.cot ((arrays m c).scan 1 h) t.val := by
  funext a v
  refine (scratch_bwd m c (t.val - 1) _ _ h a v rfl rfl rfl).trans ?_
  rw [show t.val - 1 + 1 = t.val by omega]

theorem o16 (t : Fin cfg0.N) (y : S64x1024.Idx) (h : Fin 8) (r : Fin 64) (v : Fin 128) (hr : (y 0).val = r.val) (hv : (y 1).val = 128 * h.val + v.val) :
    (outsAt0 m c t.val t.isLt).1 y = ((arrays m c).scan 0 h t.val).du (Chain.cot ((arrays m c).scan 0 h) t.val) r v := by
  by_cases h0 : t.val % 32 = 0
  · rw [outsAt0_A m c t h0]
    dsimp only [leftA]
    refine (KBody.a16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h r v hr hv).trans ?_
    rw [blk_fwd, cot_first _ t h0]
  · rw [outsAt0_B m c t h0]
    dsimp only [leftB]
    refine (KBody.b16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h r v hr hv).trans ?_
    rw [blk_fwd, carry_fwd m c t h0 h]

theorem o17 (t : Fin cfg0.N) (y : S64x1024.Idx) (h : Fin 8) (r : Fin 64) (v : Fin 128) (hr : (y 0).val = r.val) (hv : (y 1).val = 128 * h.val + v.val) :
    (outsAt0 m c t.val t.isLt).2.1 y = ((arrays m c).scan 0 h t.val).dw (Chain.cot ((arrays m c).scan 0 h) t.val) r v := by
  by_cases h0 : t.val % 32 = 0
  · rw [outsAt0_A m c t h0]
    dsimp only [leftA]
    refine (KBody.a17 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h r v hr hv).trans ?_
    rw [blk_fwd, cot_first _ t h0]
  · rw [outsAt0_B m c t h0]
    dsimp only [leftB]
    refine (KBody.b17 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h r v hr hv).trans ?_
    rw [blk_fwd, carry_fwd m c t h0 h]

theorem o18 (t : Fin cfg0.N) (y : S64x1024.Idx) (h : Fin 8) (r : Fin 64) (v : Fin 128) (hr : (y 0).val = r.val) (hv : (y 1).val = 128 * h.val + v.val) :
    (outsAt0 m c t.val t.isLt).2.2.1 y = ((arrays m c).scan 0 h t.val).dq r v := by
  by_cases h0 : t.val % 32 = 0
  · rw [outsAt0_A m c t h0]
    dsimp only [leftA]
    refine (KBody.a18 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h r v hr hv).trans ?_
    rw [blk_fwd]
  · rw [outsAt0_B m c t h0]
    dsimp only [leftB]
    refine (KBody.b18 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h r v hr hv).trans ?_
    rw [blk_fwd]

theorem o19 (t : Fin cfg0.N) (y : S64x1024.Idx) (h : Fin 8) (r : Fin 64) (v : Fin 128) (hr : (y 0).val = r.val) (hv : (y 1).val = 128 * h.val + v.val) :
    (outsAt0 m c t.val t.isLt).2.2.2.1 y = ((arrays m c).scan 0 h t.val).dk (Chain.cot ((arrays m c).scan 0 h) t.val) r v := by
  by_cases h0 : t.val % 32 = 0
  · rw [outsAt0_A m c t h0]
    dsimp only [leftA]
    refine (KBody.a19 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h r v hr hv).trans ?_
    rw [blk_fwd, cot_first _ t h0]
  · rw [outsAt0_B m c t h0]
    dsimp only [leftB]
    refine (KBody.b19 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h r v hr hv).trans ?_
    rw [blk_fwd, carry_fwd m c t h0 h]

theorem o20 (t : Fin cfg0.N) (y : S8x64x64.Idx) (h : Fin 8) (r s : Fin 64) (hh : (y 0).val = h.val) (hr : (y 1).val = r.val) (hs : (y 2).val = s.val) :
    (outsAt0 m c t.val t.isLt).2.2.2.2.1 y = ((arrays m c).scan 0 h t.val).dqk r s := by
  by_cases h0 : t.val % 32 = 0
  · rw [outsAt0_A m c t h0]
    dsimp only [leftA]
    refine (KBody.a20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h r s hh hr hs).trans ?_
    rw [blk_fwd]
  · rw [outsAt0_B m c t h0]
    dsimp only [leftB]
    refine (KBody.b20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h r s hh hr hs).trans ?_
    rw [blk_fwd]

theorem o21 (t : Fin cfg0.N) (y : S1x8x128.Idx) (h : Fin 8) (hh : (y 1).val = h.val) :
    (outsAt0 m c t.val t.isLt).2.2.2.2.2.1 y = ((arrays m c).scan 0 h t.val).ddec (Chain.cot ((arrays m c).scan 0 h) t.val) := by
  by_cases h0 : t.val % 32 = 0
  · rw [outsAt0_A m c t h0]
    dsimp only [leftA]
    refine (KBody.a21 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h hh).trans ?_
    rw [blk_fwd, cot_first _ t h0]
  · rw [outsAt0_B m c t h0]
    dsimp only [leftB]
    refine (KBody.b21 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h hh).trans ?_
    rw [blk_fwd, carry_fwd m c t h0 h]

theorem o22 (t : Fin cfg0.N) (y : S64x1024.Idx) (h : Fin 8) (r : Fin 64) (v : Fin 128) (hr : (y 0).val = r.val) (hv : (y 1).val = 128 * h.val + v.val) :
    (outsAt0 m c t.val t.isLt).2.2.2.2.2.2.1 y = ((arrays m c).scan 1 h t.val).du (Chain.cot ((arrays m c).scan 1 h) t.val) r v := by
  by_cases h0 : t.val % 32 = 0
  · rw [outsAt0_A m c t h0]
    dsimp only [leftA]
    refine (KBody.a22 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h r v hr hv).trans ?_
    rw [blk_bwd, cot_first _ t h0]
  · rw [outsAt0_B m c t h0]
    dsimp only [leftB]
    refine (KBody.b22 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h r v hr hv).trans ?_
    rw [blk_bwd, carry_bwd m c t h0 h]

theorem o23 (t : Fin cfg0.N) (y : S64x1024.Idx) (h : Fin 8) (r : Fin 64) (v : Fin 128) (hr : (y 0).val = r.val) (hv : (y 1).val = 128 * h.val + v.val) :
    (outsAt0 m c t.val t.isLt).2.2.2.2.2.2.2.1 y = ((arrays m c).scan 1 h t.val).dw (Chain.cot ((arrays m c).scan 1 h) t.val) r v := by
  by_cases h0 : t.val % 32 = 0
  · rw [outsAt0_A m c t h0]
    dsimp only [leftA]
    refine (KBody.a23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h r v hr hv).trans ?_
    rw [blk_bwd, cot_first _ t h0]
  · rw [outsAt0_B m c t h0]
    dsimp only [leftB]
    refine (KBody.b23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h r v hr hv).trans ?_
    rw [blk_bwd, carry_bwd m c t h0 h]

theorem o24 (t : Fin cfg0.N) (y : S64x1024.Idx) (h : Fin 8) (r : Fin 64) (v : Fin 128) (hr : (y 0).val = r.val) (hv : (y 1).val = 128 * h.val + v.val) :
    (outsAt0 m c t.val t.isLt).2.2.2.2.2.2.2.2.1 y = ((arrays m c).scan 1 h t.val).dq r v := by
  by_cases h0 : t.val % 32 = 0
  · rw [outsAt0_A m c t h0]
    dsimp only [leftA]
    refine (KBody.a24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h r v hr hv).trans ?_
    rw [blk_bwd]
  · rw [outsAt0_B m c t h0]
    dsimp only [leftB]
    refine (KBody.b24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h r v hr hv).trans ?_
    rw [blk_bwd]

theorem o25 (t : Fin cfg0.N) (y : S64x1024.Idx) (h : Fin 8) (r : Fin 64) (v : Fin 128) (hr : (y 0).val = r.val) (hv : (y 1).val = 128 * h.val + v.val) :
    (outsAt0 m c t.val t.isLt).2.2.2.2.2.2.2.2.2.1 y = ((arrays m c).scan 1 h t.val).dk (Chain.cot ((arrays m c).scan 1 h) t.val) r v := by
  by_cases h0 : t.val % 32 = 0
  · rw [outsAt0_A m c t h0]
    dsimp only [leftA]
    refine (KBody.a25 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h r v hr hv).trans ?_
    rw [blk_bwd, cot_first _ t h0]
  · rw [outsAt0_B m c t h0]
    dsimp only [leftB]
    refine (KBody.b25 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h r v hr hv).trans ?_
    rw [blk_bwd, carry_bwd m c t h0 h]

theorem o26 (t : Fin cfg0.N) (y : S8x64x64.Idx) (h : Fin 8) (r s : Fin 64) (hh : (y 0).val = h.val) (hr : (y 1).val = r.val) (hs : (y 2).val = s.val) :
    (outsAt0 m c t.val t.isLt).2.2.2.2.2.2.2.2.2.2.1 y = ((arrays m c).scan 1 h t.val).dqk r s := by
  by_cases h0 : t.val % 32 = 0
  · rw [outsAt0_A m c t h0]
    dsimp only [leftA]
    refine (KBody.a26 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h r s hh hr hs).trans ?_
    rw [blk_bwd]
  · rw [outsAt0_B m c t h0]
    dsimp only [leftB]
    refine (KBody.b26 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h r s hh hr hs).trans ?_
    rw [blk_bwd]

theorem o27 (t : Fin cfg0.N) (y : S1x8x128.Idx) (h : Fin 8) (hh : (y 1).val = h.val) :
    (outsAt0 m c t.val t.isLt).2.2.2.2.2.2.2.2.2.2.2.1 y = ((arrays m c).scan 1 h t.val).ddec (Chain.cot ((arrays m c).scan 1 h) t.val) := by
  by_cases h0 : t.val % 32 = 0
  · rw [outsAt0_A m c t h0]
    dsimp only [leftA]
    refine (KBody.a27 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h hh).trans ?_
    rw [blk_bwd, cot_first _ t h0]
  · rw [outsAt0_B m c t h0]
    dsimp only [leftB]
    refine (KBody.b27 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y h hh).trans ?_
    rw [blk_bwd, carry_bwd m c t h0 h]

end Cert.KPoint

end
-- ==== Proof.KArr.lean ====
/- The kernel's result arrays, whole: each block is written by the grid point of its chunk. -/
module

public import proofs.«01_k».proof.Proof.KPoint

@[expose] public noncomputable section

set_option maxRecDepth 16384

namespace Cert.KArr

open Idealize.ShloMosaic Idealize.ShloMosaic.TcCoe Idealize.SL Idealize.SL.Sem
open Cert.KernelIdeal Cert.KernelIdeal.Gen Cert.Args Cert.KRead

variable (m : (ℓ : Loc nD τ sig) → Buf (Elt Ideal) ℓ) (c : Dev nD)

/-- An array of rows and heads, from its entries by head, chunk, row and column. -/
def wide (f : Fin 8 → Fin 32 → Chain.Mat 64 128) : Vec Ideal S2048x1024 .f32 := fun y =>
  have h0 : (y 0).val < 2048 := (y 0).isLt
  have h1 : (y 1).val < 1024 := (y 1).isLt
  f ⟨(y 1).val / 128, by omega⟩ ⟨(y 0).val / 64, by omega⟩ ⟨(y 0).val % 64, by omega⟩ ⟨(y 1).val % 128, by omega⟩

theorem wide_at (f : Fin 8 → Fin 32 → Chain.Mat 64 128) (y : S2048x1024.Idx) (h : Fin 8) (n : Fin 32) (i : Fin 64) (v : Fin 128)
    (h0 : (y 0).val = 64 * n.val + i.val) (h1 : (y 1).val = 128 * h.val + v.val) : wide f y = f h n i v := by
  have e0 : (y 1).val / 128 = h.val := by omega
  have e1 : (y 0).val / 64 = n.val := by omega
  have e2 : (y 0).val % 64 = i.val := by omega
  have e3 : (y 1).val % 128 = v.val := by omega
  simp only [wide, e0, e1, e2, e3]

/-- The same with 64 columns, head by head. -/
def tall (f : Fin 8 → Fin 32 → Chain.Mat 64 64) : Vec Ideal S8x2048x64 .f32 := fun y =>
  have h1 : (y 1).val < 2048 := (y 1).isLt
  f ⟨(y 0).val, (y 0).isLt⟩ ⟨(y 1).val / 64, by omega⟩ ⟨(y 1).val % 64, by omega⟩ ⟨(y 2).val, (y 2).isLt⟩

theorem tall_at (f : Fin 8 → Fin 32 → Chain.Mat 64 64) (y : S8x2048x64.Idx) (h : Fin 8) (n : Fin 32) (i s : Fin 64)
    (h0 : (y 0).val = h.val) (h1 : (y 1).val = 64 * n.val + i.val) (h2 : (y 2).val = s.val) : tall f y = f h n i s := by
  have e1 : (y 1).val / 64 = n.val := by omega
  have e2 : (y 1).val % 64 = i.val := by omega
  simp only [tall, h0, e1, e2, h2]

/-- One number for each chunk and head, in every lane. -/
def lanes (f : Fin 8 → Fin 32 → EReal) : Vec Ideal S32x8x128 .f32 := fun y =>
  f ⟨(y 1).val, (y 1).isLt⟩ ⟨(y 0).val, (y 0).isLt⟩

theorem lanes_at (f : Fin 8 → Fin 32 → EReal) (y : S32x8x128.Idx) (h : Fin 8) (n : Fin 32)
    (h0 : (y 0).val = n.val) (h1 : (y 1).val = h.val) : lanes f y = f h n := by
  simp only [lanes, h0, h1]

theorem out_fwd : ∀ t : Fin grid0.N,
    win0_16.index t = ![31 - t.val, 0] ∧ win0_17.index t = ![31 - t.val, 0] ∧ win0_18.index t = ![31 - t.val, 0] ∧
    win0_19.index t = ![31 - t.val, 0] ∧ win0_20.index t = ![0, 31 - t.val, 0] ∧ win0_21.index t = ![31 - t.val, 0, 0] := by
  decide +kernel

theorem out_bwd : ∀ t : Fin grid0.N,
    win0_22.index t = ![t.val, 0] ∧ win0_23.index t = ![t.val, 0] ∧ win0_24.index t = ![t.val, 0] ∧
    win0_25.index t = ![t.val, 0] ∧ win0_26.index t = ![0, t.val, 0] ∧ win0_27.index t = ![t.val, 0, 0] := by
  decide +kernel

theorem time_fwd (t : Fin cfg0.N) : Arrays.time 0 (Arrays.order 0 t.val) = t.val := by
  have hN : t.val < 32 := lt_of_lt_of_eq t.isLt (show cfg0.N = 32 from N_0)
  show 31 - (31 - t.val) = _
  omega

theorem time_bwd (t : Fin cfg0.N) : Arrays.time 1 (Arrays.order 1 t.val) = t.val := order_bwd t

theorem cotAt_fwd (X : Arrays) (h : Fin 8) (t : Fin cfg0.N) :
    X.cotAt 0 h (Arrays.order 0 t.val) = Chain.cot (X.scan 0 h) t.val := by rw [Arrays.cotAt, time_fwd]

theorem cotAt_bwd (X : Arrays) (h : Fin 8) (t : Fin cfg0.N) :
    X.cotAt 1 h (Arrays.order 1 t.val) = Chain.cot (X.scan 1 h) t.val := by rw [Arrays.cotAt, time_bwd]

theorem arr16 : (dats m 0 c).arrAt 16 cfg0.N
    = wide fun h n => ((arrays m c).chunk 0 h n).du ((arrays m c).cotAt 0 h n) := by
  refine (dats m 0 c).arrAt_eq_of_covers 16 _ (by decide +kernel) fun t hf y => ?_
  obtain ⟨i, _, _, _, _, _⟩ := out_fwd t
  have ho := order_fwd t
  have hN : t.val < 32 := lt_of_lt_of_eq t.isLt (show cfg0.N = 32 from N_0)
  blk_simp
  rw [after0_16]
  have y0 : (y 0).val < 64 := (y 0).isLt
  have y1 : (y 1).val < 1024 := (y 1).isLt
  obtain ⟨h, v, hv⟩ : ∃ (h : Fin 8) (v : Fin 128), (y 1).val = 128 * h.val + v.val :=
    ⟨⟨(y 1).val / 128, by omega⟩, ⟨(y 1).val % 128, by omega⟩, (Nat.div_add_mod _ _).symm⟩
  obtain ⟨r, hr⟩ : ∃ r : Fin 64, (y 0).val = r.val := ⟨⟨_, y0⟩, rfl⟩
  refine (KPoint.o16 m c t y h r v hr hv).trans ?_
  refine Eq.trans ?_ (wide_at _ _ h (Arrays.order 0 t.val) r v ?_ ?_).symm
  · rw [cotAt_fwd]
    rfl
  all_goals (blk_simp [i, ho] <;> omega)

theorem arr17 : (dats m 0 c).arrAt 17 cfg0.N
    = wide fun h n => ((arrays m c).chunk 0 h n).dw ((arrays m c).cotAt 0 h n) := by
  refine (dats m 0 c).arrAt_eq_of_covers 17 _ (by decide +kernel) fun t hf y => ?_
  obtain ⟨_, i, _, _, _, _⟩ := out_fwd t
  have ho := order_fwd t
  have hN : t.val < 32 := lt_of_lt_of_eq t.isLt (show cfg0.N = 32 from N_0)
  blk_simp
  rw [after0_17]
  have y0 : (y 0).val < 64 := (y 0).isLt
  have y1 : (y 1).val < 1024 := (y 1).isLt
  obtain ⟨h, v, hv⟩ : ∃ (h : Fin 8) (v : Fin 128), (y 1).val = 128 * h.val + v.val :=
    ⟨⟨(y 1).val / 128, by omega⟩, ⟨(y 1).val % 128, by omega⟩, (Nat.div_add_mod _ _).symm⟩
  obtain ⟨r, hr⟩ : ∃ r : Fin 64, (y 0).val = r.val := ⟨⟨_, y0⟩, rfl⟩
  refine (KPoint.o17 m c t y h r v hr hv).trans ?_
  refine Eq.trans ?_ (wide_at _ _ h (Arrays.order 0 t.val) r v ?_ ?_).symm
  · rw [cotAt_fwd]
    rfl
  all_goals (blk_simp [i, ho] <;> omega)

theorem arr18 : (dats m 0 c).arrAt 18 cfg0.N
    = wide fun h n => ((arrays m c).chunk 0 h n).dq := by
  refine (dats m 0 c).arrAt_eq_of_covers 18 _ (by decide +kernel) fun t hf y => ?_
  obtain ⟨_, _, i, _, _, _⟩ := out_fwd t
  have ho := order_fwd t
  have hN : t.val < 32 := lt_of_lt_of_eq t.isLt (show cfg0.N = 32 from N_0)
  blk_simp
  rw [after0_18]
  have y0 : (y 0).val < 64 := (y 0).isLt
  have y1 : (y 1).val < 1024 := (y 1).isLt
  obtain ⟨h, v, hv⟩ : ∃ (h : Fin 8) (v : Fin 128), (y 1).val = 128 * h.val + v.val :=
    ⟨⟨(y 1).val / 128, by omega⟩, ⟨(y 1).val % 128, by omega⟩, (Nat.div_add_mod _ _).symm⟩
  obtain ⟨r, hr⟩ : ∃ r : Fin 64, (y 0).val = r.val := ⟨⟨_, y0⟩, rfl⟩
  refine (KPoint.o18 m c t y h r v hr hv).trans ?_
  refine Eq.trans ?_ (wide_at _ _ h (Arrays.order 0 t.val) r v ?_ ?_).symm
  · rfl
  all_goals (blk_simp [i, ho] <;> omega)

theorem arr19 : (dats m 0 c).arrAt 19 cfg0.N
    = wide fun h n => ((arrays m c).chunk 0 h n).dk ((arrays m c).cotAt 0 h n) := by
  refine (dats m 0 c).arrAt_eq_of_covers 19 _ (by decide +kernel) fun t hf y => ?_
  obtain ⟨_, _, _, i, _, _⟩ := out_fwd t
  have ho := order_fwd t
  have hN : t.val < 32 := lt_of_lt_of_eq t.isLt (show cfg0.N = 32 from N_0)
  blk_simp
  rw [after0_19]
  have y0 : (y 0).val < 64 := (y 0).isLt
  have y1 : (y 1).val < 1024 := (y 1).isLt
  obtain ⟨h, v, hv⟩ : ∃ (h : Fin 8) (v : Fin 128), (y 1).val = 128 * h.val + v.val :=
    ⟨⟨(y 1).val / 128, by omega⟩, ⟨(y 1).val % 128, by omega⟩, (Nat.div_add_mod _ _).symm⟩
  obtain ⟨r, hr⟩ : ∃ r : Fin 64, (y 0).val = r.val := ⟨⟨_, y0⟩, rfl⟩
  refine (KPoint.o19 m c t y h r v hr hv).trans ?_
  refine Eq.trans ?_ (wide_at _ _ h (Arrays.order 0 t.val) r v ?_ ?_).symm
  · rw [cotAt_fwd]
    rfl
  all_goals (blk_simp [i, ho] <;> omega)

theorem arr20 : (dats m 0 c).arrAt 20 cfg0.N
    = tall fun h n => ((arrays m c).chunk 0 h n).dqk := by
  refine (dats m 0 c).arrAt_eq_of_covers 20 _ (by decide +kernel) fun t hf y => ?_
  obtain ⟨_, _, _, _, i, _⟩ := out_fwd t
  have ho := order_fwd t
  have hN : t.val < 32 := lt_of_lt_of_eq t.isLt (show cfg0.N = 32 from N_0)
  blk_simp
  rw [after0_20]
  obtain ⟨h, hh⟩ : ∃ h : Fin 8, (y 0).val = h.val := ⟨⟨_, (y 0).isLt⟩, rfl⟩
  obtain ⟨r, hr⟩ : ∃ r : Fin 64, (y 1).val = r.val := ⟨⟨_, (y 1).isLt⟩, rfl⟩
  obtain ⟨v, hv⟩ : ∃ v : Fin 64, (y 2).val = v.val := ⟨⟨_, (y 2).isLt⟩, rfl⟩
  refine (KPoint.o20 m c t y h r v hh hr hv).trans ?_
  refine Eq.trans ?_ (tall_at _ _ h (Arrays.order 0 t.val) r v ?_ ?_ ?_).symm
  · rfl
  all_goals (blk_simp [i, ho] <;> omega)

theorem arr21 : (dats m 0 c).arrAt 21 cfg0.N
    = lanes fun h n => ((arrays m c).chunk 0 h n).ddec ((arrays m c).cotAt 0 h n) := by
  refine (dats m 0 c).arrAt_eq_of_covers 21 _ (by decide +kernel) fun t hf y => ?_
  obtain ⟨_, _, _, _, _, i⟩ := out_fwd t
  have ho := order_fwd t
  have hN : t.val < 32 := lt_of_lt_of_eq t.isLt (show cfg0.N = 32 from N_0)
  blk_simp
  rw [after0_21]
  have y0 : (y 0).val < 1 := (y 0).isLt
  obtain ⟨h, hh⟩ : ∃ h : Fin 8, (y 1).val = h.val := ⟨⟨_, (y 1).isLt⟩, rfl⟩
  refine (KPoint.o21 m c t y h hh).trans ?_
  refine Eq.trans ?_ (lanes_at _ _ h (Arrays.order 0 t.val) ?_ ?_).symm
  · rw [cotAt_fwd]
    rfl
  all_goals (blk_simp [i, ho] <;> omega)

theorem arr22 : (dats m 0 c).arrAt 22 cfg0.N
    = wide fun h n => ((arrays m c).chunk 1 h n).du ((arrays m c).cotAt 1 h n) := by
  refine (dats m 0 c).arrAt_eq_of_covers 22 _ (by decide +kernel) fun t hf y => ?_
  obtain ⟨i, _, _, _, _, _⟩ := out_bwd t
  have ho := order_bwd t
  have hN : t.val < 32 := lt_of_lt_of_eq t.isLt (show cfg0.N = 32 from N_0)
  blk_simp
  rw [after0_22]
  have y0 : (y 0).val < 64 := (y 0).isLt
  have y1 : (y 1).val < 1024 := (y 1).isLt
  obtain ⟨h, v, hv⟩ : ∃ (h : Fin 8) (v : Fin 128), (y 1).val = 128 * h.val + v.val :=
    ⟨⟨(y 1).val / 128, by omega⟩, ⟨(y 1).val % 128, by omega⟩, (Nat.div_add_mod _ _).symm⟩
  obtain ⟨r, hr⟩ : ∃ r : Fin 64, (y 0).val = r.val := ⟨⟨_, y0⟩, rfl⟩
  refine (KPoint.o22 m c t y h r v hr hv).trans ?_
  refine Eq.trans ?_ (wide_at _ _ h (Arrays.order 1 t.val) r v ?_ ?_).symm
  · rw [cotAt_bwd]
    rfl
  all_goals (blk_simp [i, ho] <;> omega)

theorem arr23 : (dats m 0 c).arrAt 23 cfg0.N
    = wide fun h n => ((arrays m c).chunk 1 h n).dw ((arrays m c).cotAt 1 h n) := by
  refine (dats m 0 c).arrAt_eq_of_covers 23 _ (by decide +kernel) fun t hf y => ?_
  obtain ⟨_, i, _, _, _, _⟩ := out_bwd t
  have ho := order_bwd t
  have hN : t.val < 32 := lt_of_lt_of_eq t.isLt (show cfg0.N = 32 from N_0)
  blk_simp
  rw [after0_23]
  have y0 : (y 0).val < 64 := (y 0).isLt
  have y1 : (y 1).val < 1024 := (y 1).isLt
  obtain ⟨h, v, hv⟩ : ∃ (h : Fin 8) (v : Fin 128), (y 1).val = 128 * h.val + v.val :=
    ⟨⟨(y 1).val / 128, by omega⟩, ⟨(y 1).val % 128, by omega⟩, (Nat.div_add_mod _ _).symm⟩
  obtain ⟨r, hr⟩ : ∃ r : Fin 64, (y 0).val = r.val := ⟨⟨_, y0⟩, rfl⟩
  refine (KPoint.o23 m c t y h r v hr hv).trans ?_
  refine Eq.trans ?_ (wide_at _ _ h (Arrays.order 1 t.val) r v ?_ ?_).symm
  · rw [cotAt_bwd]
    rfl
  all_goals (blk_simp [i, ho] <;> omega)

theorem arr24 : (dats m 0 c).arrAt 24 cfg0.N
    = wide fun h n => ((arrays m c).chunk 1 h n).dq := by
  refine (dats m 0 c).arrAt_eq_of_covers 24 _ (by decide +kernel) fun t hf y => ?_
  obtain ⟨_, _, i, _, _, _⟩ := out_bwd t
  have ho := order_bwd t
  have hN : t.val < 32 := lt_of_lt_of_eq t.isLt (show cfg0.N = 32 from N_0)
  blk_simp
  rw [after0_24]
  have y0 : (y 0).val < 64 := (y 0).isLt
  have y1 : (y 1).val < 1024 := (y 1).isLt
  obtain ⟨h, v, hv⟩ : ∃ (h : Fin 8) (v : Fin 128), (y 1).val = 128 * h.val + v.val :=
    ⟨⟨(y 1).val / 128, by omega⟩, ⟨(y 1).val % 128, by omega⟩, (Nat.div_add_mod _ _).symm⟩
  obtain ⟨r, hr⟩ : ∃ r : Fin 64, (y 0).val = r.val := ⟨⟨_, y0⟩, rfl⟩
  refine (KPoint.o24 m c t y h r v hr hv).trans ?_
  refine Eq.trans ?_ (wide_at _ _ h (Arrays.order 1 t.val) r v ?_ ?_).symm
  · rfl
  all_goals (blk_simp [i, ho] <;> omega)

theorem arr25 : (dats m 0 c).arrAt 25 cfg0.N
    = wide fun h n => ((arrays m c).chunk 1 h n).dk ((arrays m c).cotAt 1 h n) := by
  refine (dats m 0 c).arrAt_eq_of_covers 25 _ (by decide +kernel) fun t hf y => ?_
  obtain ⟨_, _, _, i, _, _⟩ := out_bwd t
  have ho := order_bwd t
  have hN : t.val < 32 := lt_of_lt_of_eq t.isLt (show cfg0.N = 32 from N_0)
  blk_simp
  rw [after0_25]
  have y0 : (y 0).val < 64 := (y 0).isLt
  have y1 : (y 1).val < 1024 := (y 1).isLt
  obtain ⟨h, v, hv⟩ : ∃ (h : Fin 8) (v : Fin 128), (y 1).val = 128 * h.val + v.val :=
    ⟨⟨(y 1).val / 128, by omega⟩, ⟨(y 1).val % 128, by omega⟩, (Nat.div_add_mod _ _).symm⟩
  obtain ⟨r, hr⟩ : ∃ r : Fin 64, (y 0).val = r.val := ⟨⟨_, y0⟩, rfl⟩
  refine (KPoint.o25 m c t y h r v hr hv).trans ?_
  refine Eq.trans ?_ (wide_at _ _ h (Arrays.order 1 t.val) r v ?_ ?_).symm
  · rw [cotAt_bwd]
    rfl
  all_goals (blk_simp [i, ho] <;> omega)

theorem arr26 : (dats m 0 c).arrAt 26 cfg0.N
    = tall fun h n => ((arrays m c).chunk 1 h n).dqk := by
  refine (dats m 0 c).arrAt_eq_of_covers 26 _ (by decide +kernel) fun t hf y => ?_
  obtain ⟨_, _, _, _, i, _⟩ := out_bwd t
  have ho := order_bwd t
  have hN : t.val < 32 := lt_of_lt_of_eq t.isLt (show cfg0.N = 32 from N_0)
  blk_simp
  rw [after0_26]
  obtain ⟨h, hh⟩ : ∃ h : Fin 8, (y 0).val = h.val := ⟨⟨_, (y 0).isLt⟩, rfl⟩
  obtain ⟨r, hr⟩ : ∃ r : Fin 64, (y 1).val = r.val := ⟨⟨_, (y 1).isLt⟩, rfl⟩
  obtain ⟨v, hv⟩ : ∃ v : Fin 64, (y 2).val = v.val := ⟨⟨_, (y 2).isLt⟩, rfl⟩
  refine (KPoint.o26 m c t y h r v hh hr hv).trans ?_
  refine Eq.trans ?_ (tall_at _ _ h (Arrays.order 1 t.val) r v ?_ ?_ ?_).symm
  · rfl
  all_goals (blk_simp [i, ho] <;> omega)

theorem arr27 : (dats m 0 c).arrAt 27 cfg0.N
    = lanes fun h n => ((arrays m c).chunk 1 h n).ddec ((arrays m c).cotAt 1 h n) := by
  refine (dats m 0 c).arrAt_eq_of_covers 27 _ (by decide +kernel) fun t hf y => ?_
  obtain ⟨_, _, _, _, _, i⟩ := out_bwd t
  have ho := order_bwd t
  have hN : t.val < 32 := lt_of_lt_of_eq t.isLt (show cfg0.N = 32 from N_0)
  blk_simp
  rw [after0_27]
  have y0 : (y 0).val < 1 := (y 0).isLt
  obtain ⟨h, hh⟩ : ∃ h : Fin 8, (y 1).val = h.val := ⟨⟨_, (y 1).isLt⟩, rfl⟩
  refine (KPoint.o27 m c t y h hh).trans ?_
  refine Eq.trans ?_ (lanes_at _ _ h (Arrays.order 1 t.val) ?_ ?_).symm
  · rw [cotAt_bwd]
    rfl
  all_goals (blk_simp [i, ho] <;> omega)

end Cert.KArr

end
-- ==== Proof.RStep.lean ====
module

public import proofs.«01_k».proof.Proof.Gen.ReferenceIdeal.Run
public import proofs.«01_k».proof.Proof.Chain
public import Idealize.ShloMosaic.Lib.Pointwise

@[expose] public noncomputable section

namespace Cert.RStep

open Idealize.ShloMosaic Idealize.ShloMosaic.TcCoe Idealize.SL.Sem
open Cert.ReferenceIdeal Cert.ReferenceIdeal.Gen Cert.ReferenceIdeal.Value
open scoped BigOperators

abbrev Val := Valuation τ sig (Elt Ideal)

/-- What the reference reads of chunk `n` of head `j`. -/
def rdat (V : Val) (n : Fin 32) (j : Fin 16) : Chain.Data where
  S := fun a v => (V (Proc.devRef .tc main_v79_0) : Vec Ideal S32x16x128x128 .f32) (ix4 n j a v)
  q := fun i a => (V (Proc.devRef .tc main_v79_1) : Vec Ideal S32x16x64x128 .f32) (ix4 n j i a)
  qk := fun i s => (V (Proc.devRef .tc main_v79_2) : Vec Ideal S32x16x64x64 .f32) (ix4 n j i s)
  u := fun i a => (V (Proc.devRef .tc main_v79_3) : Vec Ideal S32x16x64x128 .f32) (ix4 n j i a)
  w := fun i a => (V (Proc.devRef .tc main_v79_4) : Vec Ideal S32x16x64x128 .f32) (ix4 n j i a)
  k := fun i a => (V (Proc.devRef .tc main_v79_5) : Vec Ideal S32x16x64x128 .f32) (ix4 n j i a)
  dec := (V (Proc.devRef .tc main_v79_6) : Vec Ideal S32x16 .f32) (ix2 n j)
  g := fun i a => (V (Proc.devRef .tc main_v79_7) : Vec Ideal S32x16x64x128 .f32) (ix4 n j i a)

def rcot (V : Val) (j : Fin 16) : Chain.Mat 128 128 := fun a v =>
  (V (Proc.devRef .tc main_v79_9) : Vec Ideal S16x128x128 .f32) (ix3 j a v)

variable {V : Val} {k : ℕ}

theorem res139 (hk : k < 32) (hc : V (Proc.devRef .tc main_v79_8) = fun _ => Scf.iv 0#32 1#32 k) (x) :
    (res_main_while0b_v139 V x).toInt = 31 - k := by
  unfold res_main_while0b_v139
  rw [hc]
  have h : ∀ k : Fin 32, ((32#32 - Scf.iv 0#32 1#32 k.val) - 1#32).toInt = 31 - (k.val : ℤ) := by decide
  exact h ⟨k, hk⟩

/-- A slice of one chunk, read at an element. -/
theorem slice4 {a b c : ℕ} (X : Vec Ideal ⟨4, ![32, a, b, c]⟩ .f32) (start : Fin 4 → Int)
    (h : Shape.Slices ⟨4, ![32, a, b, c]⟩ (fun _ => 0) ⟨4, ![1, a, b, c]⟩) (n : Fin 32) (h0 : start 0 = n.val)
    (h1 : start 1 = 0) (h2 : start 2 = 0) (h3 : start 3 = 0) (z : Fin 1) (i : Fin a) (j : Fin b) (k : Fin c) :
    Host.dynamicSlice ⟨4, ![1, a, b, c]⟩ X start h (ix4 z i j k) = X (ix4 n i j k) := by
  pointwise
  have c0 := Host.clampedStart_of_le h.1 start 0 n.val h0 (by show n.val + 1 ≤ 32; omega)
  have c1 := Host.clampedStart_of_le h.1 start 1 0 h1 (by show 0 + a ≤ a; omega)
  have c2 := Host.clampedStart_of_le h.1 start 2 0 h2 (by show 0 + b ≤ b; omega)
  have c3 := Host.clampedStart_of_le h.1 start 3 0 h3 (by show 0 + c ≤ c; omega)
  congr 1
  funext d
  fin_cases d <;> refine Fin.ext ?_
  · exact (congrArg (· + z.val) c0).trans (show n.val + z.val = n.val by omega)
  · exact (congrArg (· + i.val) c1).trans (Nat.zero_add _)
  · exact (congrArg (· + j.val) c2).trans (Nat.zero_add _)
  · exact (congrArg (· + k.val) c3).trans (Nat.zero_add _)

/-- One chunk written into a stack, read at an element. -/
theorem update4 {a b c : ℕ} (X : Vec Ideal ⟨4, ![32, a, b, c]⟩ .f32) (U : Vec Ideal ⟨4, ![1, a, b, c]⟩ .f32) (start : Fin 4 → Int)
    (h : Shape.Slices ⟨4, ![32, a, b, c]⟩ (fun _ => 0) ⟨4, ![1, a, b, c]⟩) (m : ℕ) (hm : m < 32) (h0 : start 0 = m)
    (h1 : start 1 = 0) (h2 : start 2 = 0) (h3 : start 3 = 0) (n : Fin 32) (i : Fin a) (j : Fin b) (k : Fin c) :
    Host.dynamicUpdateSlice X U start h (ix4 n i j k) = if n.val = m then U (ix4 0 i j k) else X (ix4 n i j k) := by
  have c0 := Host.clampedStart_of_le h.1 start 0 m h0 (by show m + 1 ≤ 32; omega)
  have c1 := Host.clampedStart_of_le h.1 start 1 0 h1 (by show 0 + a ≤ a; omega)
  have c2 := Host.clampedStart_of_le h.1 start 2 0 h2 (by show 0 + b ≤ b; omega)
  have c3 := Host.clampedStart_of_le h.1 start 3 0 h3 (by show 0 + c ≤ c; omega)
  pointwise
  by_cases hn : n.val = m
  · rw [dif_pos (by simp only [c0, c1, c2, c3]; refine ⟨⟨?_, ?_⟩, ⟨?_, ?_⟩, ⟨?_, ?_⟩, ?_, ?_⟩ <;> omega), if_pos hn]
    congr 1
    funext d
    fin_cases d
    · exact Fin.ext ((congrArg (n.val - ·) c0).trans (show n.val - m = 0 by omega))
    · exact Fin.ext ((congrArg (i.val - ·) c1).trans (Nat.sub_zero _))
    · exact Fin.ext ((congrArg (j.val - ·) c2).trans (Nat.sub_zero _))
    · exact Fin.ext ((congrArg (k.val - ·) c3).trans (Nat.sub_zero _))
  · rw [dif_neg (by simp only [c0]; omega), if_neg hn]

theorem slice2 {a : ℕ} (X : Vec Ideal ⟨2, ![32, a]⟩ .f32) (start : Fin 2 → Int)
    (h : Shape.Slices ⟨2, ![32, a]⟩ (fun _ => 0) ⟨2, ![1, a]⟩) (n : Fin 32) (h0 : start 0 = n.val)
    (h1 : start 1 = 0) (z : Fin 1) (i : Fin a) :
    Host.dynamicSlice ⟨2, ![1, a]⟩ X start h (ix2 z i) = X (ix2 n i) := by
  pointwise
  have c0 := Host.clampedStart_of_le h.1 start 0 n.val h0 (by show n.val + 1 ≤ 32; omega)
  have c1 := Host.clampedStart_of_le h.1 start 1 0 h1 (by show 0 + a ≤ a; omega)
  congr 1
  funext d
  fin_cases d <;> refine Fin.ext ?_
  · exact (congrArg (· + z.val) c0).trans (show n.val + z.val = n.val by omega)
  · exact (congrArg (· + i.val) c1).trans (Nat.zero_add _)

theorem update2 {a : ℕ} (X : Vec Ideal ⟨2, ![32, a]⟩ .f32) (U : Vec Ideal ⟨2, ![1, a]⟩ .f32) (start : Fin 2 → Int)
    (h : Shape.Slices ⟨2, ![32, a]⟩ (fun _ => 0) ⟨2, ![1, a]⟩) (m : ℕ) (hm : m < 32) (h0 : start 0 = m)
    (h1 : start 1 = 0) (n : Fin 32) (i : Fin a) :
    Host.dynamicUpdateSlice X U start h (ix2 n i) = if n.val = m then U (ix2 0 i) else X (ix2 n i) := by
  have c0 := Host.clampedStart_of_le h.1 start 0 m h0 (by show m + 1 ≤ 32; omega)
  have c1 := Host.clampedStart_of_le h.1 start 1 0 h1 (by show 0 + a ≤ a; omega)
  pointwise
  by_cases hn : n.val = m
  · rw [dif_pos (by simp only [c0, c1]; refine ⟨⟨?_, ?_⟩, ?_, ?_⟩ <;> omega), if_pos hn]
    congr 1
    funext d
    fin_cases d
    · exact Fin.ext ((congrArg (n.val - ·) c0).trans (show n.val - m = 0 by omega))
    · exact Fin.ext ((congrArg (i.val - ·) c1).trans (Nat.sub_zero _))
  · rw [dif_neg (by simp only [c0]; omega), if_neg hn]

theorem squeeze4 {a b : ℕ} (ha : a = 64 ∨ a = 128) (hb : b = 64 ∨ b = 128) (X : Vec Ideal ⟨4, ![1, 16, a, b]⟩ .f32)
    (h : Shape.ShapeCasts ⟨4, ![1, 16, a, b]⟩ ⟨3, ![16, a, b]⟩) (i : Fin 16) (j : Fin a) (k : Fin b) :
    shapeCast ⟨3, ![16, a, b]⟩ X h (ix3 i j k) = X (ix4 0 i j k) := by
  rcases ha with rfl | rfl <;> rcases hb with rfl | rfl <;> pointwise

theorem r140 (hk : k < 32) (hc : V (Proc.devRef .tc main_v79_8) = fun _ => Scf.iv 0#32 1#32 k)
    (n : Fin 32) (hn : n.val = 31 - k) (j : Fin 16) (a : Fin 128) (v : Fin 128) :
    (res_main_while0b_v140 V : Vec Ideal S16x128x128 .f32) (ix3 j a v) = (rdat V n j).S a v := by
  have h := res139 hk hc (Shape.Idx.first h_S_)
  unfold res_main_while0b_v140
  refine (squeeze4 (by decide) (by decide) _ _ j a v).trans ?_
  exact slice4 _ _ _ n (by rw [hn]; exact h.trans (by omega)) rfl rfl rfl 0 j a v

theorem r141 (hk : k < 32) (hc : V (Proc.devRef .tc main_v79_8) = fun _ => Scf.iv 0#32 1#32 k)
    (n : Fin 32) (hn : n.val = 31 - k) (j : Fin 16) (a : Fin 64) (v : Fin 128) :
    (res_main_while0b_v141 V : Vec Ideal S16x64x128 .f32) (ix3 j a v) = (rdat V n j).q a v := by
  have h := res139 hk hc (Shape.Idx.first h_S_)
  unfold res_main_while0b_v141
  refine (squeeze4 (by decide) (by decide) _ _ j a v).trans ?_
  exact slice4 _ _ _ n (by rw [hn]; exact h.trans (by omega)) rfl rfl rfl 0 j a v

theorem r142 (hk : k < 32) (hc : V (Proc.devRef .tc main_v79_8) = fun _ => Scf.iv 0#32 1#32 k)
    (n : Fin 32) (hn : n.val = 31 - k) (j : Fin 16) (a : Fin 64) (v : Fin 64) :
    (res_main_while0b_v142 V : Vec Ideal S16x64x64 .f32) (ix3 j a v) = (rdat V n j).qk a v := by
  have h := res139 hk hc (Shape.Idx.first h_S_)
  unfold res_main_while0b_v142
  refine (squeeze4 (by decide) (by decide) _ _ j a v).trans ?_
  exact slice4 _ _ _ n (by rw [hn]; exact h.trans (by omega)) rfl rfl rfl 0 j a v

theorem r144 (hk : k < 32) (hc : V (Proc.devRef .tc main_v79_8) = fun _ => Scf.iv 0#32 1#32 k)
    (n : Fin 32) (hn : n.val = 31 - k) (j : Fin 16) (a : Fin 64) (v : Fin 128) :
    (res_main_while0b_v144 V : Vec Ideal S16x64x128 .f32) (ix3 j a v) = (rdat V n j).w a v := by
  have h := res139 hk hc (Shape.Idx.first h_S_)
  unfold res_main_while0b_v144
  refine (squeeze4 (by decide) (by decide) _ _ j a v).trans ?_
  exact slice4 _ _ _ n (by rw [hn]; exact h.trans (by omega)) rfl rfl rfl 0 j a v

theorem r145 (hk : k < 32) (hc : V (Proc.devRef .tc main_v79_8) = fun _ => Scf.iv 0#32 1#32 k)
    (n : Fin 32) (hn : n.val = 31 - k) (j : Fin 16) (a : Fin 64) (v : Fin 128) :
    (res_main_while0b_v145 V : Vec Ideal S16x64x128 .f32) (ix3 j a v) = (rdat V n j).k a v := by
  have h := res139 hk hc (Shape.Idx.first h_S_)
  unfold res_main_while0b_v145
  refine (squeeze4 (by decide) (by decide) _ _ j a v).trans ?_
  exact slice4 _ _ _ n (by rw [hn]; exact h.trans (by omega)) rfl rfl rfl 0 j a v

theorem r147 (hk : k < 32) (hc : V (Proc.devRef .tc main_v79_8) = fun _ => Scf.iv 0#32 1#32 k)
    (n : Fin 32) (hn : n.val = 31 - k) (j : Fin 16) (a : Fin 64) (v : Fin 128) :
    (res_main_while0b_v147 V : Vec Ideal S16x64x128 .f32) (ix3 j a v) = (rdat V n j).g a v := by
  have h := res139 hk hc (Shape.Idx.first h_S_)
  unfold res_main_while0b_v147
  refine (squeeze4 (by decide) (by decide) _ _ j a v).trans ?_
  exact slice4 _ _ _ n (by rw [hn]; exact h.trans (by omega)) rfl rfl rfl 0 j a v

theorem r153 (hk : k < 32) (hc : V (Proc.devRef .tc main_v79_8) = fun _ => Scf.iv 0#32 1#32 k)
    (n : Fin 32) (hn : n.val = 31 - k) (j : Fin 16) (z z' : Fin 1) :
    (res_main_while0b_v153 V : Vec Ideal S16x1x1 .f32) (ix3 j z z') = (rdat V n j).dec := by
  have h := res139 hk hc (Shape.Idx.first h_S_)
  unfold res_main_while0b_v153
  rw [show ∀ (X : Vec Ideal S1x16 .f32), (broadcastInDim S16x1x1 ![0] bcast_S16_S16x1x1_0 (shapeCast S16 X shapeCasts_S1x16_S16)) (ix3 j z z')
    = X (ix2 0 j) from fun X => by pointwise]
  exact slice2 _ _ _ n (by rw [hn]; exact h.trans (by omega)) rfl 0 j

theorem r143 (hk : k < 32) (hc : V (Proc.devRef .tc main_v79_8) = fun _ => Scf.iv 0#32 1#32 k)
    (n : Fin 32) (hn : n.val = 31 - k) (j : Fin 16) (i : Fin 64) (v : Fin 128) :
    shapeCast S16x64x128 (Host.dynamicSlice S1x16x64x128 (V (Proc.devRef .tc main_v79_3) : Vec Ideal S32x16x64x128 .f32) (fun k => (((![res_main_while0b_v139 V, constantI S_ 32 0#32, constantI S_ 32 0#32, constantI S_ 32 0#32] : Fin 4 → (⟨S_, .i32⟩ : BufTy).Contents (Elt Ideal))) k (Shape.Idx.first h_S_)).toInt) sliceFits_S32x16x64x128_S1x16x64x128) shapeCasts_S1x16x64x128_S16x64x128 (ix3 j i v)
      = (rdat V n j).u i v := by
  have h := res139 hk hc (Shape.Idx.first h_S_)
  refine (squeeze4 (by decide) (by decide) _ _ j i v).trans ?_
  exact slice4 _ _ _ n (by rw [hn]; exact h.trans (by omega)) rfl rfl rfl 0 j i v

theorem r149 (hk : k < 32) (hc : V (Proc.devRef .tc main_v79_8) = fun _ => Scf.iv 0#32 1#32 k)
    (n : Fin 32) (hn : n.val = 31 - k) (j : Fin 16) (i : Fin 64) (v : Fin 128) :
    (res_main_while0b_v149 V : Vec Ideal S16x64x128 .f32) (ix3 j i v) = (rdat V n j).vnew i v := by
  unfold res_main_while0b_v149
  refine congrArg₂ (· - ·) (r143 hk hc n hn j i v) ?_
  pointwise
  simp only [r144 hk hc n hn, r140 hk hc n hn]

theorem r170 (hk : k < 32) (hc : V (Proc.devRef .tc main_v79_8) = fun _ => Scf.iv 0#32 1#32 k)
    (n : Fin 32) (hn : n.val = 31 - k) (j : Fin 16) (i : Fin 64) (v : Fin 128) :
    (res_main_while0b_v170 V : Vec Ideal S16x64x128 .f32) (ix3 j i v) = (rdat V n j).du (rcot V j) i v := by
  unfold res_main_while0b_v170
  pointwise
  simp only [r145 hk hc n hn, r147 hk hc n hn, r142 hk hc n hn]
  exact congrArg₂ (· + ·) (Finset.sum_congr rfl fun _ _ => mul_comm _ _) (Finset.sum_congr rfl fun _ _ => mul_comm _ _)

theorem r176 (hk : k < 32) (hc : V (Proc.devRef .tc main_v79_8) = fun _ => Scf.iv 0#32 1#32 k)
    (n : Fin 32) (hn : n.val = 31 - k) (j : Fin 16) (i : Fin 64) (v : Fin 128) :
    (res_main_while0b_v176 V : Vec Ideal S16x64x128 .f32) (ix3 j i v) = -((rdat V n j).du (rcot V j) i v) :=
  congrArg (fun e : EReal => -e) (r170 hk hc n hn j i v)

theorem step9 (hk : k < 32) (hc : V (Proc.devRef .tc main_v79_8) = fun _ => Scf.iv 0#32 1#32 k)
    (n : Fin 32) (hn : n.val = 31 - k) (j : Fin 16) (a v : Fin 128) :
    (step_main_v79_9 V : Vec Ideal S16x128x128 .f32) (ix3 j a v) = (rdat V n j).dS (rcot V j) a v := by
  unfold step_main_v79_9
  simp only [id]
  pointwise
  simp only [r153 hk hc n hn, r147 hk hc n hn, r141 hk hc n hn, r176 hk hc n hn, r144 hk hc n hn]
  exact congrArg₂ (· + ·) (congrArg₂ (· + ·) rfl (Finset.sum_congr rfl fun _ _ => mul_comm _ _))
    (Finset.sum_congr rfl fun _ _ => mul_comm _ _)

theorem step10 (hk : k < 32) (hc : V (Proc.devRef .tc main_v79_8) = fun _ => Scf.iv 0#32 1#32 k)
    (n n' : Fin 32) (hn : n.val = 31 - k) (j : Fin 16) (i : Fin 64) (v : Fin 128) :
    (step_main_v79_10 V : Vec Ideal S32x16x64x128 .f32) (ix4 n' j i v)
      = if n' = n then (rdat V n j).dq i v else (V (Proc.devRef .tc main_v79_10) : Vec Ideal S32x16x64x128 .f32) (ix4 n' j i v) := by
  have h := res139 hk hc (Shape.Idx.first h_S_)
  unfold step_main_v79_10
  simp only [id]
  refine (update4 _ _ _ _ n.val n.isLt (by rw [hn]; exact h.trans (by omega)) rfl rfl rfl n' j i v).trans ?_
  simp only [Fin.val_inj]
  refine ite_congr rfl (fun _ => ?_) fun _ => rfl
  pointwise
  simp only [r147 hk hc n hn, r140 hk hc n hn]
  rfl

theorem step11 (hk : k < 32) (hc : V (Proc.devRef .tc main_v79_8) = fun _ => Scf.iv 0#32 1#32 k)
    (n n' : Fin 32) (hn : n.val = 31 - k) (j : Fin 16) (i : Fin 64) (v : Fin 64) :
    (step_main_v79_11 V : Vec Ideal S32x16x64x64 .f32) (ix4 n' j i v)
      = if n' = n then (rdat V n j).dqk i v else (V (Proc.devRef .tc main_v79_11) : Vec Ideal S32x16x64x64 .f32) (ix4 n' j i v) := by
  have h := res139 hk hc (Shape.Idx.first h_S_)
  unfold step_main_v79_11
  simp only [id]
  refine (update4 _ _ _ _ n.val n.isLt (by rw [hn]; exact h.trans (by omega)) rfl rfl rfl n' j i v).trans ?_
  simp only [Fin.val_inj]
  refine ite_congr rfl (fun _ => ?_) fun _ => rfl
  pointwise
  simp only [r147 hk hc n hn, r149 hk hc n hn]
  rfl

theorem step12 (hk : k < 32) (hc : V (Proc.devRef .tc main_v79_8) = fun _ => Scf.iv 0#32 1#32 k)
    (n n' : Fin 32) (hn : n.val = 31 - k) (j : Fin 16) (i : Fin 64) (v : Fin 128) :
    (step_main_v79_12 V : Vec Ideal S32x16x64x128 .f32) (ix4 n' j i v)
      = if n' = n then (rdat V n j).du (rcot V j) i v else (V (Proc.devRef .tc main_v79_12) : Vec Ideal S32x16x64x128 .f32) (ix4 n' j i v) := by
  have h := res139 hk hc (Shape.Idx.first h_S_)
  unfold step_main_v79_12
  simp only [id]
  refine (update4 _ _ _ _ n.val n.isLt (by rw [hn]; exact h.trans (by omega)) rfl rfl rfl n' j i v).trans ?_
  simp only [Fin.val_inj]
  refine ite_congr rfl (fun _ => ?_) fun _ => rfl
  pointwise
  simp only [r170 hk hc n hn]

theorem step13 (hk : k < 32) (hc : V (Proc.devRef .tc main_v79_8) = fun _ => Scf.iv 0#32 1#32 k)
    (n n' : Fin 32) (hn : n.val = 31 - k) (j : Fin 16) (i : Fin 64) (v : Fin 128) :
    (step_main_v79_13 V : Vec Ideal S32x16x64x128 .f32) (ix4 n' j i v)
      = if n' = n then (rdat V n j).dw (rcot V j) i v else (V (Proc.devRef .tc main_v79_13) : Vec Ideal S32x16x64x128 .f32) (ix4 n' j i v) := by
  have h := res139 hk hc (Shape.Idx.first h_S_)
  unfold step_main_v79_13
  simp only [id]
  refine (update4 _ _ _ _ n.val n.isLt (by rw [hn]; exact h.trans (by omega)) rfl rfl rfl n' j i v).trans ?_
  simp only [Fin.val_inj]
  refine ite_congr rfl (fun _ => ?_) fun _ => rfl
  pointwise
  simp only [r176 hk hc n hn, r140 hk hc n hn]
  rfl

theorem step14 (hk : k < 32) (hc : V (Proc.devRef .tc main_v79_8) = fun _ => Scf.iv 0#32 1#32 k)
    (n n' : Fin 32) (hn : n.val = 31 - k) (j : Fin 16) (i : Fin 64) (v : Fin 128) :
    (step_main_v79_14 V : Vec Ideal S32x16x64x128 .f32) (ix4 n' j i v)
      = if n' = n then (rdat V n j).dk (rcot V j) i v else (V (Proc.devRef .tc main_v79_14) : Vec Ideal S32x16x64x128 .f32) (ix4 n' j i v) := by
  have h := res139 hk hc (Shape.Idx.first h_S_)
  unfold step_main_v79_14
  simp only [id]
  refine (update4 _ _ _ _ n.val n.isLt (by rw [hn]; exact h.trans (by omega)) rfl rfl rfl n' j i v).trans ?_
  simp only [Fin.val_inj]
  refine ite_congr rfl (fun _ => ?_) fun _ => rfl
  pointwise
  simp only [r149 hk hc n hn]
  exact Finset.sum_congr rfl fun _ _ => mul_comm _ _

theorem step15 (hk : k < 32) (hc : V (Proc.devRef .tc main_v79_8) = fun _ => Scf.iv 0#32 1#32 k)
    (n n' : Fin 32) (hn : n.val = 31 - k) (j : Fin 16) :
    (step_main_v79_15 V : Vec Ideal S32x16 .f32) (ix2 n' j)
      = if n' = n then (rdat V n j).ddec (rcot V j) else (V (Proc.devRef .tc main_v79_15) : Vec Ideal S32x16 .f32) (ix2 n' j) := by
  have h := res139 hk hc (Shape.Idx.first h_S_)
  unfold step_main_v79_15
  simp only [id]
  refine (update2 _ _ _ _ n.val n.isLt (by rw [hn]; exact h.trans (by omega)) rfl n' j).trans ?_
  simp only [Fin.val_inj]
  refine ite_congr rfl (fun _ => ?_) fun _ => rfl
  pointwise
  simp only [r140 hk hc n hn, Finset.univ_unique, Finset.sum_singleton]
  rfl

end Cert.RStep

end
-- ==== Proof.RIter.lean ====
module

public import proofs.«01_k».proof.Proof.RStep

@[expose] public noncomputable section

namespace Cert.RIter

open Idealize.ShloMosaic Idealize.ShloMosaic.TcCoe Idealize.SL.Sem
open Cert.ReferenceIdeal Cert.ReferenceIdeal.Gen Cert.ReferenceIdeal.Value
open Cert.RStep
open scoped BigOperators

/-- The chunks of head `j` in the order in which the scan takes them: the last one first. -/
def back (E : Val) (j : Fin 16) (t : ℕ) : Chain.Data := rdat E ⟨31 - t, by omega⟩ j

theorem rdat_step (V : Val) : rdat (STEP V) = rdat V := by
  funext n j
  exact (Chain.Data.mk.injEq ..).mpr ⟨(funext fun _ => funext fun _ => congrFun (STEP_main_v79_0 V) _),
    (funext fun _ => funext fun _ => congrFun (STEP_main_v79_3 V) _),
    (funext fun _ => funext fun _ => congrFun (STEP_main_v79_4 V) _),
    (funext fun _ => funext fun _ => congrFun (STEP_main_v79_1 V) _),
    (funext fun _ => funext fun _ => congrFun (STEP_main_v79_5 V) _),
    (funext fun _ => funext fun _ => congrFun (STEP_main_v79_2 V) _),
    congrFun (STEP_main_v79_6 V) _,
    (funext fun _ => funext fun _ => congrFun (STEP_main_v79_7 V) _)⟩

theorem rdat_iter (E : Val) : ∀ k, rdat (STEP^[k] E) = rdat E
  | 0 => rfl
  | k + 1 => by rw [Function.iterate_succ_apply', rdat_step, rdat_iter E k]

variable {E : Val} (hE : E (Proc.devRef .tc main_v79_8) = fun _ => (0#32 : BitVec 32))
include hE

theorem ctr (k : ℕ) : (STEP^[k] E) (Proc.devRef .tc main_v79_8) = fun _ => Scf.iv 0#32 1#32 k := by
  induction k with
  | zero => rw [Function.iterate_zero, id, hE]; funext _; rfl
  | succ k ih =>
    rw [Function.iterate_succ_apply', STEP_main_v79_8]
    unfold step_main_v79_8
    rw [ih]
    funext x
    exact (Scf.iv_succ _ _ _).symm

theorem cot_iter (j : Fin 16) : ∀ k, k ≤ 32 → (rcot E j = fun _ _ => 0) → rcot (STEP^[k] E) j = Chain.cot (back E j) k
  | 0, _, h0 => h0
  | k + 1, hk, h0 => by
    funext a v
    rw [Function.iterate_succ_apply']
    have hs := step9 (V := STEP^[k] E) (by omega) (ctr hE k) ⟨31 - k, by omega⟩ rfl j a v
    rw [rdat_iter, cot_iter j k (by omega) h0] at hs
    exact (congrFun (STEP_main_v79_9 _) _).trans hs

variable (h0 : ∀ j, rcot E j = fun _ _ => 0)
include h0

theorem stack10 (n : Fin 32) (j : Fin 16) (i : Fin 64) (v : Fin 128) : ∀ k, k ≤ 32 → 31 - n.val < k →
    ((STEP^[k] E) (Proc.devRef .tc main_v79_10) : Vec Ideal S32x16x64x128 .f32) (ix4 n j i v)
      = (rdat E n j).dq i v
  | 0, _, h => absurd h (by omega)
  | k + 1, hk, h => by
    rw [Function.iterate_succ_apply']
    refine (congrFun (STEP_main_v79_10 _) _).trans ?_
    refine (step10 (V := STEP^[k] E) (by omega) (ctr hE k) ⟨31 - k, by omega⟩ n rfl j i v).trans ?_
    by_cases hn : n = ⟨31 - k, by omega⟩
    · rw [if_pos hn, rdat_iter, hn]
    · rw [if_neg hn]
      exact stack10 n j i v k (by omega) (by have := Fin.val_ne_of_ne hn; simp only at this; omega)

theorem stack11 (n : Fin 32) (j : Fin 16) (i : Fin 64) (v : Fin 64) : ∀ k, k ≤ 32 → 31 - n.val < k →
    ((STEP^[k] E) (Proc.devRef .tc main_v79_11) : Vec Ideal S32x16x64x64 .f32) (ix4 n j i v)
      = (rdat E n j).dqk i v
  | 0, _, h => absurd h (by omega)
  | k + 1, hk, h => by
    rw [Function.iterate_succ_apply']
    refine (congrFun (STEP_main_v79_11 _) _).trans ?_
    refine (step11 (V := STEP^[k] E) (by omega) (ctr hE k) ⟨31 - k, by omega⟩ n rfl j i v).trans ?_
    by_cases hn : n = ⟨31 - k, by omega⟩
    · rw [if_pos hn, rdat_iter, hn]
    · rw [if_neg hn]
      exact stack11 n j i v k (by omega) (by have := Fin.val_ne_of_ne hn; simp only at this; omega)

theorem stack12 (n : Fin 32) (j : Fin 16) (i : Fin 64) (v : Fin 128) : ∀ k, k ≤ 32 → 31 - n.val < k →
    ((STEP^[k] E) (Proc.devRef .tc main_v79_12) : Vec Ideal S32x16x64x128 .f32) (ix4 n j i v)
      = (rdat E n j).du (Chain.cot (back E j) (31 - n.val)) i v
  | 0, _, h => absurd h (by omega)
  | k + 1, hk, h => by
    rw [Function.iterate_succ_apply']
    refine (congrFun (STEP_main_v79_12 _) _).trans ?_
    refine (step12 (V := STEP^[k] E) (by omega) (ctr hE k) ⟨31 - k, by omega⟩ n rfl j i v).trans ?_
    by_cases hn : n = ⟨31 - k, by omega⟩
    · rw [if_pos hn, rdat_iter, cot_iter hE j k (by omega) (h0 j), hn]
      have e : 31 - (31 - k) = k := by omega
      simp only [e]
    · rw [if_neg hn]
      exact stack12 n j i v k (by omega) (by have := Fin.val_ne_of_ne hn; simp only at this; omega)

theorem stack13 (n : Fin 32) (j : Fin 16) (i : Fin 64) (v : Fin 128) : ∀ k, k ≤ 32 → 31 - n.val < k →
    ((STEP^[k] E) (Proc.devRef .tc main_v79_13) : Vec Ideal S32x16x64x128 .f32) (ix4 n j i v)
      = (rdat E n j).dw (Chain.cot (back E j) (31 - n.val)) i v
  | 0, _, h => absurd h (by omega)
  | k + 1, hk, h => by
    rw [Function.iterate_succ_apply']
    refine (congrFun (STEP_main_v79_13 _) _).trans ?_
    refine (step13 (V := STEP^[k] E) (by omega) (ctr hE k) ⟨31 - k, by omega⟩ n rfl j i v).trans ?_
    by_cases hn : n = ⟨31 - k, by omega⟩
    · rw [if_pos hn, rdat_iter, cot_iter hE j k (by omega) (h0 j), hn]
      have e : 31 - (31 - k) = k := by omega
      simp only [e]
    · rw [if_neg hn]
      exact stack13 n j i v k (by omega) (by have := Fin.val_ne_of_ne hn; simp only at this; omega)

theorem stack14 (n : Fin 32) (j : Fin 16) (i : Fin 64) (v : Fin 128) : ∀ k, k ≤ 32 → 31 - n.val < k →
    ((STEP^[k] E) (Proc.devRef .tc main_v79_14) : Vec Ideal S32x16x64x128 .f32) (ix4 n j i v)
      = (rdat E n j).dk (Chain.cot (back E j) (31 - n.val)) i v
  | 0, _, h => absurd h (by omega)
  | k + 1, hk, h => by
    rw [Function.iterate_succ_apply']
    refine (congrFun (STEP_main_v79_14 _) _).trans ?_
    refine (step14 (V := STEP^[k] E) (by omega) (ctr hE k) ⟨31 - k, by omega⟩ n rfl j i v).trans ?_
    by_cases hn : n = ⟨31 - k, by omega⟩
    · rw [if_pos hn, rdat_iter, cot_iter hE j k (by omega) (h0 j), hn]
      have e : 31 - (31 - k) = k := by omega
      simp only [e]
    · rw [if_neg hn]
      exact stack14 n j i v k (by omega) (by have := Fin.val_ne_of_ne hn; simp only at this; omega)

theorem stack15 (n : Fin 32) (j : Fin 16) : ∀ k, k ≤ 32 → 31 - n.val < k →
    ((STEP^[k] E) (Proc.devRef .tc main_v79_15) : Vec Ideal S32x16 .f32) (ix2 n j)
      = (rdat E n j).ddec (Chain.cot (back E j) (31 - n.val))
  | 0, _, h => absurd h (by omega)
  | k + 1, hk, h => by
    rw [Function.iterate_succ_apply']
    refine (congrFun (STEP_main_v79_15 _) _).trans ?_
    refine (step15 (V := STEP^[k] E) (by omega) (ctr hE k) ⟨31 - k, by omega⟩ n rfl j).trans ?_
    by_cases hn : n = ⟨31 - k, by omega⟩
    · rw [if_pos hn, rdat_iter, cot_iter hE j k (by omega) (h0 j), hn]
      have e : 31 - (31 - k) = k := by omega
      simp only [e]
    · rw [if_neg hn]
      exact stack15 n j k (by omega) (by have := Fin.val_ne_of_ne hn; simp only at this; omega)

end Cert.RIter

end
-- ==== Proof.REntry.lean ====
module

public import proofs.«01_k».proof.Proof.RIter
public import proofs.«01_k».proof.Proof.Args

@[expose] public noncomputable section

namespace Cert.REntry

open Idealize.ShloMosaic Idealize.ShloMosaic.TcCoe Idealize.SL.Sem
open Cert.ReferenceIdeal Cert.ReferenceIdeal.Gen Cert.ReferenceIdeal.Value
open Cert.RStep Cert.Args Idealize.ShloMosaic.StableHlo Idealize.ShloMosaic.Tactic
open scoped BigOperators

variable (m : (ℓ : Loc nD τ sig) → Buf (Elt Ideal) ℓ) (c : Dev nD)

theorem entry1 (n : Fin 32) (j : Fin 16) (i : Fin 64) (a : Fin 128) :
    (entryContents preI m c (Proc.devRef .tc main_v79_1) : Vec Ideal S32x16x64x128 .f32) (ix4 n j i a)
      = if h : j.val < 8 then (m ((c.tc : Thread nD τ).loc main_arg2) : Vec Ideal S2x2048x1024 .f32) (ix3 0 (row n i) (col ⟨j.val, h⟩ a)) else (m ((c.tc : Thread nD τ).loc main_arg2) : Vec Ideal S2x2048x1024 .f32) (ix3 1 (row n.rev i.rev) (col ⟨j.val - 8, by omega⟩ a)) := by
  simp only [entryContents, afterL_cons, afterL_nil]
  after_reads_simp
  simp only [id]
  pointwise
  refine dite_congr rfl (fun h => ?_) fun h => ?_
  · after_reads_simp
    pointwise
    exact congrArg (m ((c.tc : Thread nD τ).loc main_arg2)) (funext fun d => Fin.ext (by fin_cases d <;> simp [ix4, ix3, ix2, row, col, Fin.rev] <;> omega))
  · after_reads_simp
    pointwise
    exact congrArg (m ((c.tc : Thread nD τ).loc main_arg2)) (funext fun d => Fin.ext (by fin_cases d <;> simp [ix4, ix3, ix2, row, col, Fin.rev] <;> omega))

theorem entry3 (n : Fin 32) (j : Fin 16) (i : Fin 64) (a : Fin 128) :
    (entryContents preI m c (Proc.devRef .tc main_v79_3) : Vec Ideal S32x16x64x128 .f32) (ix4 n j i a)
      = if h : j.val < 8 then (m ((c.tc : Thread nD τ).loc main_arg0) : Vec Ideal S2x2048x1024 .f32) (ix3 0 (row n i) (col ⟨j.val, h⟩ a)) else (m ((c.tc : Thread nD τ).loc main_arg0) : Vec Ideal S2x2048x1024 .f32) (ix3 1 (row n.rev i.rev) (col ⟨j.val - 8, by omega⟩ a)) := by
  simp only [entryContents, afterL_cons, afterL_nil]
  after_reads_simp
  simp only [id]
  pointwise
  refine dite_congr rfl (fun h => ?_) fun h => ?_
  · after_reads_simp
    pointwise
    exact congrArg (m ((c.tc : Thread nD τ).loc main_arg0)) (funext fun d => Fin.ext (by fin_cases d <;> simp [ix4, ix3, ix2, row, col, Fin.rev] <;> omega))
  · after_reads_simp
    pointwise
    exact congrArg (m ((c.tc : Thread nD τ).loc main_arg0)) (funext fun d => Fin.ext (by fin_cases d <;> simp [ix4, ix3, ix2, row, col, Fin.rev] <;> omega))

theorem entry4 (n : Fin 32) (j : Fin 16) (i : Fin 64) (a : Fin 128) :
    (entryContents preI m c (Proc.devRef .tc main_v79_4) : Vec Ideal S32x16x64x128 .f32) (ix4 n j i a)
      = if h : j.val < 8 then (m ((c.tc : Thread nD τ).loc main_arg1) : Vec Ideal S2x2048x1024 .f32) (ix3 0 (row n i) (col ⟨j.val, h⟩ a)) else (m ((c.tc : Thread nD τ).loc main_arg1) : Vec Ideal S2x2048x1024 .f32) (ix3 1 (row n.rev i.rev) (col ⟨j.val - 8, by omega⟩ a)) := by
  simp only [entryContents, afterL_cons, afterL_nil]
  after_reads_simp
  simp only [id]
  pointwise
  refine dite_congr rfl (fun h => ?_) fun h => ?_
  · after_reads_simp
    pointwise
    exact congrArg (m ((c.tc : Thread nD τ).loc main_arg1)) (funext fun d => Fin.ext (by fin_cases d <;> simp [ix4, ix3, ix2, row, col, Fin.rev] <;> omega))
  · after_reads_simp
    pointwise
    exact congrArg (m ((c.tc : Thread nD τ).loc main_arg1)) (funext fun d => Fin.ext (by fin_cases d <;> simp [ix4, ix3, ix2, row, col, Fin.rev] <;> omega))

theorem entry5 (n : Fin 32) (j : Fin 16) (i : Fin 64) (a : Fin 128) :
    (entryContents preI m c (Proc.devRef .tc main_v79_5) : Vec Ideal S32x16x64x128 .f32) (ix4 n j i a)
      = if h : j.val < 8 then (m ((c.tc : Thread nD τ).loc main_arg3) : Vec Ideal S2x2048x1024 .f32) (ix3 0 (row n i) (col ⟨j.val, h⟩ a)) else (m ((c.tc : Thread nD τ).loc main_arg3) : Vec Ideal S2x2048x1024 .f32) (ix3 1 (row n.rev i.rev) (col ⟨j.val - 8, by omega⟩ a)) := by
  simp only [entryContents, afterL_cons, afterL_nil]
  after_reads_simp
  simp only [id]
  pointwise
  refine dite_congr rfl (fun h => ?_) fun h => ?_
  · after_reads_simp
    pointwise
    exact congrArg (m ((c.tc : Thread nD τ).loc main_arg3)) (funext fun d => Fin.ext (by fin_cases d <;> simp [ix4, ix3, ix2, row, col, Fin.rev] <;> omega))
  · after_reads_simp
    pointwise
    exact congrArg (m ((c.tc : Thread nD τ).loc main_arg3)) (funext fun d => Fin.ext (by fin_cases d <;> simp [ix4, ix3, ix2, row, col, Fin.rev] <;> omega))

theorem entry7 (n : Fin 32) (j : Fin 16) (i : Fin 64) (a : Fin 128) :
    (entryContents preI m c (Proc.devRef .tc main_v79_7) : Vec Ideal S32x16x64x128 .f32) (ix4 n j i a)
      = if h : j.val < 8 then (m ((c.tc : Thread nD τ).loc main_arg8) : Vec Ideal S2048x1024 .f32) (ix2 (row n i) (col ⟨j.val, h⟩ a)) else (m ((c.tc : Thread nD τ).loc main_arg8) : Vec Ideal S2048x1024 .f32) (ix2 (row n.rev i.rev) (col ⟨j.val - 8, by omega⟩ a)) := by
  simp only [entryContents, afterL_cons, afterL_nil]
  after_reads_simp
  simp only [id]
  pointwise
  refine dite_congr rfl (fun h => ?_) fun h => ?_
  · after_reads_simp
    pointwise
    exact congrArg (m ((c.tc : Thread nD τ).loc main_arg8)) (funext fun d => Fin.ext (by fin_cases d <;> simp [ix4, ix3, ix2, row, col, Fin.rev] <;> omega))
  · after_reads_simp
    pointwise
    exact congrArg (m ((c.tc : Thread nD τ).loc main_arg8)) (funext fun d => Fin.ext (by fin_cases d <;> simp [ix4, ix3, ix2, row, col, Fin.rev] <;> omega))

theorem entry2 (n : Fin 32) (j : Fin 16) (i : Fin 64) (a : Fin 64) :
    (entryContents preI m c (Proc.devRef .tc main_v79_2) : Vec Ideal S32x16x64x64 .f32) (ix4 n j i a)
      = if h : j.val < 8 then (m ((c.tc : Thread nD τ).loc main_arg4) : Vec Ideal S2x8x2048x64 .f32) (ix4 0 ⟨j.val, h⟩ (row n i) a) else (m ((c.tc : Thread nD τ).loc main_arg4) : Vec Ideal S2x8x2048x64 .f32) (ix4 1 ⟨j.val - 8, by omega⟩ (row n.rev i.rev) a.rev) := by
  simp only [entryContents, afterL_cons, afterL_nil]
  after_reads_simp
  simp only [id]
  pointwise
  refine dite_congr rfl (fun h => ?_) fun h => ?_
  · after_reads_simp
    pointwise
    exact congrArg (m ((c.tc : Thread nD τ).loc main_arg4)) (funext fun d => Fin.ext (by fin_cases d <;> simp [ix4, ix3, ix2, row, col, Fin.rev] <;> omega))
  · after_reads_simp
    pointwise
    exact congrArg (m ((c.tc : Thread nD τ).loc main_arg4)) (funext fun d => Fin.ext (by fin_cases d <;> simp [ix4, ix3, ix2, row, col, Fin.rev] <;> omega))

theorem entry6 (n : Fin 32) (j : Fin 16) :
    (entryContents preI m c (Proc.devRef .tc main_v79_6) : Vec Ideal S32x16 .f32) (ix2 n j)
      = if h : j.val < 8 then (m ((c.tc : Thread nD τ).loc main_arg5) : Vec Ideal S2x32x8 .f32) (ix3 0 n ⟨j.val, h⟩) else (m ((c.tc : Thread nD τ).loc main_arg5) : Vec Ideal S2x32x8 .f32) (ix3 1 n.rev ⟨j.val - 8, by omega⟩) := by
  simp only [entryContents, afterL_cons, afterL_nil]
  after_reads_simp
  simp only [id]
  pointwise
  refine dite_congr rfl (fun h => ?_) fun h => ?_
  · after_reads_simp
    pointwise
    all_goals exact congrArg (m ((c.tc : Thread nD τ).loc main_arg5)) (funext fun d => Fin.ext (by fin_cases d <;> simp [ix4, ix3, ix2, row, col, Fin.rev] <;> omega))
  · after_reads_simp
    pointwise
    exact congrArg (m ((c.tc : Thread nD τ).loc main_arg5)) (funext fun d => Fin.ext (by fin_cases d <;> simp [ix4, ix3, ix2, row, col, Fin.rev] <;> omega))

theorem entry0 (n : Fin 32) (j : Fin 16) (i : Fin 128) (a : Fin 128) :
    (entryContents preI m c (Proc.devRef .tc main_v79_0) : Vec Ideal S32x16x128x128 .f32) (ix4 n j i a)
      = if h : j.val < 8 then (m ((c.tc : Thread nD τ).loc main_arg6) : Vec Ideal S32x8x128x128 .f32) (ix4 n ⟨j.val, h⟩ i a) else (m ((c.tc : Thread nD τ).loc main_arg7) : Vec Ideal S32x8x128x128 .f32) (ix4 n.rev ⟨j.val - 8, by omega⟩ i a) := by
  simp only [entryContents, afterL_cons, afterL_nil]
  after_reads_simp
  simp only [id]
  pointwise
  refine dite_congr rfl (fun h => ?_) fun h => ?_
  · after_reads_simp
  · after_reads_simp
    pointwise
    exact congrArg (m ((c.tc : Thread nD τ).loc main_arg7)) (funext fun d => Fin.ext (by fin_cases d <;> simp [ix4, ix3, ix2, row, col, Fin.rev] <;> omega))

theorem entry9 (j : Fin 16) : rcot (entryContents preI m c) j = fun _ _ => 0 := by
  funext a v
  show (entryContents preI m c (Proc.devRef .tc main_v79_9) : Vec Ideal S16x128x128 .f32) (ix3 j a v) = (0 : EReal)
  simp only [entryContents, afterL_cons, afterL_nil]
  after_reads_simp
  simp only [id]
  pointwise

/-- The arguments as the reference's run finds them. -/
def arrays : Arrays where
  u := m ((c.tc : Thread nD τ).loc main_arg0)
  w := m ((c.tc : Thread nD τ).loc main_arg1)
  q := m ((c.tc : Thread nD τ).loc main_arg2)
  k := m ((c.tc : Thread nD τ).loc main_arg3)
  qk := m ((c.tc : Thread nD τ).loc main_arg4)
  dec := m ((c.tc : Thread nD τ).loc main_arg5)
  st0 := m ((c.tc : Thread nD τ).loc main_arg6)
  st1 := m ((c.tc : Thread nD τ).loc main_arg7)
  g := m ((c.tc : Thread nD τ).loc main_arg8)

theorem rdat_fwd (n : Fin 32) (h : Fin 8) :
    rdat (entryContents preI m c) n ⟨h.val, by omega⟩ = (arrays m c).chunk 0 h n := by
  have hj : (⟨h.val, by omega⟩ : Fin 16).val < 8 := h.isLt
  refine (Chain.Data.mk.injEq ..).mpr ⟨?_, ?_, ?_, ?_, ?_, ?_, ?_, ?_⟩
  · funext i a; exact (entry0 m c n _ i a).trans (dif_pos hj)
  · funext i a; exact (entry3 m c n _ i a).trans (dif_pos hj)
  · funext i a; exact (entry4 m c n _ i a).trans (dif_pos hj)
  · funext i a; exact (entry1 m c n _ i a).trans (dif_pos hj)
  · funext i a; exact (entry5 m c n _ i a).trans (dif_pos hj)
  · funext i a; exact (entry2 m c n _ i a).trans (dif_pos hj)
  · exact (entry6 m c n _).trans (dif_pos hj)
  · funext i a; exact (entry7 m c n _ i a).trans (dif_pos hj)

theorem rdat_bwd (n : Fin 32) (h : Fin 8) :
    rdat (entryContents preI m c) n ⟨8 + h.val, by omega⟩ = ((arrays m c).chunk 1 h n.rev).flip := by
  have hj : ¬ (⟨8 + h.val, by omega⟩ : Fin 16).val < 8 := by simp
  have e : (⟨(⟨8 + h.val, by omega⟩ : Fin 16).val - 8, by simp only; omega⟩ : Fin 8) = h := Fin.ext (by simp)
  refine (Chain.Data.mk.injEq ..).mpr ⟨?_, ?_, ?_, ?_, ?_, ?_, ?_, ?_⟩
  · funext i a; exact (entry0 m c n _ i a).trans ((dif_neg hj).trans (by rw [e]; rfl))
  · funext i a; exact (entry3 m c n _ i a).trans ((dif_neg hj).trans (by rw [e]; rfl))
  · funext i a; exact (entry4 m c n _ i a).trans ((dif_neg hj).trans (by rw [e]; rfl))
  · funext i a; exact (entry1 m c n _ i a).trans ((dif_neg hj).trans (by rw [e]; rfl))
  · funext i a; exact (entry5 m c n _ i a).trans ((dif_neg hj).trans (by rw [e]; rfl))
  · funext i a; exact (entry2 m c n _ i a).trans ((dif_neg hj).trans (by rw [e]; rfl))
  · exact (entry6 m c n _).trans ((dif_neg hj).trans (by rw [e]; rfl))
  · funext i a; exact (entry7 m c n _ i a).trans ((dif_neg hj).trans (by rw [e]; rfl))

end Cert.REntry

end
-- ==== Proof.RValue.lean ====
module

public import proofs.«01_k».proof.Proof.REntry

@[expose] public noncomputable section

namespace Cert.RValue

open Idealize.ShloMosaic Idealize.ShloMosaic.TcCoe Idealize.SL.Sem
open Cert.ReferenceIdeal Cert.ReferenceIdeal.Gen Cert.ReferenceIdeal.Value
open Cert.RStep Cert.RIter Cert.REntry Cert.Args Idealize.ShloMosaic.StableHlo
open scoped BigOperators

abbrev fw (h : Fin 8) : Fin 16 := ⟨h.val, by omega⟩
abbrev bw (h : Fin 8) : Fin 16 := ⟨8 + h.val, by omega⟩

theorem read84 (V : Val) (n : Fin 32) (i : Fin 64) (h : Fin 8) (v : Fin 128) :
    (out_main_v84 V : Vec Ideal S2048x1024 .f32) (ix2 (row n i) (col h v))
      = (V (Proc.devRef .tc main_v79_12) : Vec Ideal S32x16x64x128 .f32) (ix4 n (fw h) i v) := by
  unfold out_main_v84
  pointwise
  exact congrArg (V (Proc.devRef .tc main_v79_12)) (by
    funext d; refine Fin.ext ?_; fin_cases d <;> simp [ix4, ix3, ix2, row, col, Fin.rev] <;> omega)

theorem read89 (V : Val) (n : Fin 32) (i : Fin 64) (h : Fin 8) (v : Fin 128) :
    (out_main_v89 V : Vec Ideal S2048x1024 .f32) (ix2 (row n i) (col h v))
      = (V (Proc.devRef .tc main_v79_13) : Vec Ideal S32x16x64x128 .f32) (ix4 n (fw h) i v) := by
  unfold out_main_v89
  pointwise
  exact congrArg (V (Proc.devRef .tc main_v79_13)) (by
    funext d; refine Fin.ext ?_; fin_cases d <;> simp [ix4, ix3, ix2, row, col, Fin.rev] <;> omega)

theorem read94 (V : Val) (n : Fin 32) (i : Fin 64) (h : Fin 8) (v : Fin 128) :
    (out_main_v94 V : Vec Ideal S2048x1024 .f32) (ix2 (row n i) (col h v))
      = (V (Proc.devRef .tc main_v79_10) : Vec Ideal S32x16x64x128 .f32) (ix4 n (fw h) i v) := by
  unfold out_main_v94
  pointwise
  exact congrArg (V (Proc.devRef .tc main_v79_10)) (by
    funext d; refine Fin.ext ?_; fin_cases d <;> simp [ix4, ix3, ix2, row, col, Fin.rev] <;> omega)

theorem read99 (V : Val) (n : Fin 32) (i : Fin 64) (h : Fin 8) (v : Fin 128) :
    (out_main_v99 V : Vec Ideal S2048x1024 .f32) (ix2 (row n i) (col h v))
      = (V (Proc.devRef .tc main_v79_14) : Vec Ideal S32x16x64x128 .f32) (ix4 n (fw h) i v) := by
  unfold out_main_v99
  pointwise
  exact congrArg (V (Proc.devRef .tc main_v79_14)) (by
    funext d; refine Fin.ext ?_; fin_cases d <;> simp [ix4, ix3, ix2, row, col, Fin.rev] <;> omega)

theorem read111 (V : Val) (n : Fin 32) (i : Fin 64) (h : Fin 8) (v : Fin 128) :
    (out_main_v111 V : Vec Ideal S2048x1024 .f32) (ix2 (row n i) (col h v))
      = (V (Proc.devRef .tc main_v79_12) : Vec Ideal S32x16x64x128 .f32) (ix4 n.rev (bw h) i.rev v) := by
  unfold out_main_v111
  pointwise
  exact congrArg (V (Proc.devRef .tc main_v79_12)) (by
    funext d; refine Fin.ext ?_; fin_cases d <;> simp [ix4, ix3, ix2, row, col, Fin.rev] <;> omega)

theorem read117 (V : Val) (n : Fin 32) (i : Fin 64) (h : Fin 8) (v : Fin 128) :
    (out_main_v117 V : Vec Ideal S2048x1024 .f32) (ix2 (row n i) (col h v))
      = (V (Proc.devRef .tc main_v79_13) : Vec Ideal S32x16x64x128 .f32) (ix4 n.rev (bw h) i.rev v) := by
  unfold out_main_v117
  pointwise
  exact congrArg (V (Proc.devRef .tc main_v79_13)) (by
    funext d; refine Fin.ext ?_; fin_cases d <;> simp [ix4, ix3, ix2, row, col, Fin.rev] <;> omega)

theorem read123 (V : Val) (n : Fin 32) (i : Fin 64) (h : Fin 8) (v : Fin 128) :
    (out_main_v123 V : Vec Ideal S2048x1024 .f32) (ix2 (row n i) (col h v))
      = (V (Proc.devRef .tc main_v79_10) : Vec Ideal S32x16x64x128 .f32) (ix4 n.rev (bw h) i.rev v) := by
  unfold out_main_v123
  pointwise
  exact congrArg (V (Proc.devRef .tc main_v79_10)) (by
    funext d; refine Fin.ext ?_; fin_cases d <;> simp [ix4, ix3, ix2, row, col, Fin.rev] <;> omega)

theorem read129 (V : Val) (n : Fin 32) (i : Fin 64) (h : Fin 8) (v : Fin 128) :
    (out_main_v129 V : Vec Ideal S2048x1024 .f32) (ix2 (row n i) (col h v))
      = (V (Proc.devRef .tc main_v79_14) : Vec Ideal S32x16x64x128 .f32) (ix4 n.rev (bw h) i.rev v) := by
  unfold out_main_v129
  pointwise
  exact congrArg (V (Proc.devRef .tc main_v79_14)) (by
    funext d; refine Fin.ext ?_; fin_cases d <;> simp [ix4, ix3, ix2, row, col, Fin.rev] <;> omega)

theorem read102 (V : Val) (h : Fin 8) (n : Fin 32) (i : Fin 64) (s : Fin 64) :
    (out_main_v102 V : Vec Ideal S8x2048x64 .f32) (ix3 h (row n i) s)
      = (V (Proc.devRef .tc main_v79_11) : Vec Ideal S32x16x64x64 .f32) (ix4 n (fw h) i s) := by
  unfold out_main_v102
  pointwise
  exact congrArg (V (Proc.devRef .tc main_v79_11)) (by
    funext d; refine Fin.ext ?_; fin_cases d <;> simp [ix4, ix3, ix2, row, col, Fin.rev] <;> omega)

theorem read133 (V : Val) (h : Fin 8) (n : Fin 32) (i : Fin 64) (s : Fin 64) :
    (out_main_v133 V : Vec Ideal S8x2048x64 .f32) (ix3 h (row n i) s)
      = (V (Proc.devRef .tc main_v79_11) : Vec Ideal S32x16x64x64 .f32) (ix4 n.rev (bw h) i.rev s.rev) := by
  unfold out_main_v133
  pointwise
  exact congrArg (V (Proc.devRef .tc main_v79_11)) (by
    funext d; refine Fin.ext ?_; fin_cases d <;> simp [ix4, ix3, ix2, row, col, Fin.rev] <;> omega)

theorem read105 (V : Val) (n : Fin 32) (h : Fin 8) (l : Fin 128) :
    (out_main_v105 V : Vec Ideal S32x8x128 .f32) (ix3 n h l)
      = (V (Proc.devRef .tc main_v79_15) : Vec Ideal S32x16 .f32) (ix2 n (fw h)) := by
  unfold out_main_v105
  pointwise

theorem read137 (V : Val) (n : Fin 32) (h : Fin 8) (l : Fin 128) :
    (out_main_v137 V : Vec Ideal S32x8x128 .f32) (ix3 n h l)
      = (V (Proc.devRef .tc main_v79_15) : Vec Ideal S32x16 .f32) (ix2 n.rev (bw h)) := by
  unfold out_main_v137
  pointwise
  exact congrArg (V (Proc.devRef .tc main_v79_15)) (by
    funext d; refine Fin.ext ?_; fin_cases d <;> simp [ix4, ix3, ix2, row, col, Fin.rev] <;> omega)

variable (m : (ℓ : Loc nD τ sig) → Buf (Elt Ideal) ℓ) (c : Dev nD)

theorem back_fwd (h : Fin 8) : back (entryContents preI m c) (fw h) = (arrays m c).scan 0 h :=
  funext fun _ => rdat_fwd m c _ h

theorem back_bwd (h : Fin 8) : back (entryContents preI m c) (bw h) = fun t => ((arrays m c).scan 1 h t).flip :=
  funext fun _ => rdat_bwd m c _ h

theorem cot_fwd (h : Fin 8) (n : Fin 32) :
    Chain.cot (back (entryContents preI m c) (fw h)) (31 - n.val) = (arrays m c).cotAt 0 h n := by
  rw [back_fwd]; rfl

theorem cot_bwd (h : Fin 8) (n : Fin 32) :
    Chain.cot (back (entryContents preI m c) (bw h)) (31 - n.rev.val) = (arrays m c).cotAt 1 h n := by
  rw [back_bwd, Chain.cot_flip]
  exact congrArg _ (show 31 - n.rev.val = n.val by rw [Fin.val_rev]; omega)

abbrev END : Val := STEP^[32] (entryContents preI m c)

theorem out84 (n : Fin 32) (i : Fin 64) (h : Fin 8) (v : Fin 128) :
    (out_main_v84 (END m c) : Vec Ideal S2048x1024 .f32) (ix2 (row n i) (col h v))
      = ((arrays m c).chunk 0 h n).du ((arrays m c).cotAt 0 h n) i v := by
  refine (read84 _ n i h v).trans ?_
  refine (stack12 (ctr_entry m c) (entry9 m c) n (fw h) i v 32 le_rfl (by omega)).trans ?_
  rw [cot_fwd, rdat_fwd]

theorem out89 (n : Fin 32) (i : Fin 64) (h : Fin 8) (v : Fin 128) :
    (out_main_v89 (END m c) : Vec Ideal S2048x1024 .f32) (ix2 (row n i) (col h v))
      = ((arrays m c).chunk 0 h n).dw ((arrays m c).cotAt 0 h n) i v := by
  refine (read89 _ n i h v).trans ?_
  refine (stack13 (ctr_entry m c) (entry9 m c) n (fw h) i v 32 le_rfl (by omega)).trans ?_
  rw [cot_fwd, rdat_fwd]

theorem out94 (n : Fin 32) (i : Fin 64) (h : Fin 8) (v : Fin 128) :
    (out_main_v94 (END m c) : Vec Ideal S2048x1024 .f32) (ix2 (row n i) (col h v))
      = ((arrays m c).chunk 0 h n).dq i v := by
  refine (read94 _ n i h v).trans ?_
  refine (stack10 (ctr_entry m c) (entry9 m c) n (fw h) i v 32 le_rfl (by omega)).trans ?_
  rw [rdat_fwd]

theorem out99 (n : Fin 32) (i : Fin 64) (h : Fin 8) (v : Fin 128) :
    (out_main_v99 (END m c) : Vec Ideal S2048x1024 .f32) (ix2 (row n i) (col h v))
      = ((arrays m c).chunk 0 h n).dk ((arrays m c).cotAt 0 h n) i v := by
  refine (read99 _ n i h v).trans ?_
  refine (stack14 (ctr_entry m c) (entry9 m c) n (fw h) i v 32 le_rfl (by omega)).trans ?_
  rw [cot_fwd, rdat_fwd]

theorem out111 (n : Fin 32) (i : Fin 64) (h : Fin 8) (v : Fin 128) :
    (out_main_v111 (END m c) : Vec Ideal S2048x1024 .f32) (ix2 (row n i) (col h v))
      = ((arrays m c).chunk 1 h n).du ((arrays m c).cotAt 1 h n) i v := by
  refine (read111 _ n i h v).trans ?_
  refine (stack12 (ctr_entry m c) (entry9 m c) n.rev (bw h) i.rev v 32 le_rfl (by omega)).trans ?_
  rw [cot_bwd, rdat_bwd, Chain.Data.flip_du, Fin.rev_rev, Fin.rev_rev]

theorem out117 (n : Fin 32) (i : Fin 64) (h : Fin 8) (v : Fin 128) :
    (out_main_v117 (END m c) : Vec Ideal S2048x1024 .f32) (ix2 (row n i) (col h v))
      = ((arrays m c).chunk 1 h n).dw ((arrays m c).cotAt 1 h n) i v := by
  refine (read117 _ n i h v).trans ?_
  refine (stack13 (ctr_entry m c) (entry9 m c) n.rev (bw h) i.rev v 32 le_rfl (by omega)).trans ?_
  rw [cot_bwd, rdat_bwd, Chain.Data.flip_dw, Fin.rev_rev, Fin.rev_rev]

theorem out123 (n : Fin 32) (i : Fin 64) (h : Fin 8) (v : Fin 128) :
    (out_main_v123 (END m c) : Vec Ideal S2048x1024 .f32) (ix2 (row n i) (col h v))
      = ((arrays m c).chunk 1 h n).dq i v := by
  refine (read123 _ n i h v).trans ?_
  refine (stack10 (ctr_entry m c) (entry9 m c) n.rev (bw h) i.rev v 32 le_rfl (by omega)).trans ?_
  rw [rdat_bwd, Chain.Data.flip_dq, Fin.rev_rev, Fin.rev_rev]

theorem out129 (n : Fin 32) (i : Fin 64) (h : Fin 8) (v : Fin 128) :
    (out_main_v129 (END m c) : Vec Ideal S2048x1024 .f32) (ix2 (row n i) (col h v))
      = ((arrays m c).chunk 1 h n).dk ((arrays m c).cotAt 1 h n) i v := by
  refine (read129 _ n i h v).trans ?_
  refine (stack14 (ctr_entry m c) (entry9 m c) n.rev (bw h) i.rev v 32 le_rfl (by omega)).trans ?_
  rw [cot_bwd, rdat_bwd, Chain.Data.flip_dk, Fin.rev_rev, Fin.rev_rev]

theorem out102 (h : Fin 8) (n : Fin 32) (i : Fin 64) (s : Fin 64) :
    (out_main_v102 (END m c) : Vec Ideal S8x2048x64 .f32) (ix3 h (row n i) s) = ((arrays m c).chunk 0 h n).dqk i s := by
  refine (read102 _ h n i s).trans ?_
  refine (stack11 (ctr_entry m c) (entry9 m c) n (fw h) i s 32 le_rfl (by omega)).trans ?_
  rw [rdat_fwd]

theorem out133 (h : Fin 8) (n : Fin 32) (i : Fin 64) (s : Fin 64) :
    (out_main_v133 (END m c) : Vec Ideal S8x2048x64 .f32) (ix3 h (row n i) s) = ((arrays m c).chunk 1 h n).dqk i s := by
  refine (read133 _ h n i s).trans ?_
  refine (stack11 (ctr_entry m c) (entry9 m c) n.rev (bw h) i.rev s.rev 32 le_rfl (by omega)).trans ?_
  rw [rdat_bwd, Chain.Data.flip_dqk, Fin.rev_rev, Fin.rev_rev, Fin.rev_rev]

theorem out105 (n : Fin 32) (h : Fin 8) (l : Fin 128) :
    (out_main_v105 (END m c) : Vec Ideal S32x8x128 .f32) (ix3 n h l)
      = ((arrays m c).chunk 0 h n).ddec ((arrays m c).cotAt 0 h n) := by
  refine (read105 _ n h l).trans ?_
  refine (stack15 (ctr_entry m c) (entry9 m c) n (fw h) 32 le_rfl (by omega)).trans ?_
  rw [cot_fwd, rdat_fwd]

theorem out137 (n : Fin 32) (h : Fin 8) (l : Fin 128) :
    (out_main_v137 (END m c) : Vec Ideal S32x8x128 .f32) (ix3 n h l)
      = ((arrays m c).chunk 1 h n).ddec ((arrays m c).cotAt 1 h n) := by
  refine (read137 _ n h l).trans ?_
  refine (stack15 (ctr_entry m c) (entry9 m c) n.rev (bw h) 32 le_rfl (by omega)).trans ?_
  rw [cot_bwd, rdat_bwd, Chain.Data.flip_ddec, Fin.rev_rev]

end Cert.RValue

end
-- ==== Proof.RArr.lean ====
/- The reference's results, whole, in the form the kernel's arrays are stated in. -/
module

public import proofs.«01_k».proof.Proof.KArr
public import proofs.«01_k».proof.Proof.RValue

@[expose] public noncomputable section

namespace Cert.RArr

open Idealize.ShloMosaic Idealize.ShloMosaic.TcCoe Idealize.SL.Sem
open Cert.ReferenceIdeal Cert.ReferenceIdeal.Gen Cert.ReferenceIdeal.Value
open Cert.REntry Cert.RValue Cert.Args Cert.KArr

variable (m : (ℓ : Loc nD τ sig) → Buf (Elt Ideal) ℓ) (c : Dev nD)

theorem res84 : (out_main_v84 (END m c) : Vec Ideal S2048x1024 .f32)
    = wide fun h n => ((arrays m c).chunk 0 h n).du ((arrays m c).cotAt 0 h n) :=
  ext_wide fun n i h v => (out84 m c n i h v).trans (wide_at (fun h n => ((arrays m c).chunk 0 h n).du ((arrays m c).cotAt 0 h n)) (ix2 (row n i) (col h v)) h n i v rfl rfl).symm

theorem res89 : (out_main_v89 (END m c) : Vec Ideal S2048x1024 .f32)
    = wide fun h n => ((arrays m c).chunk 0 h n).dw ((arrays m c).cotAt 0 h n) :=
  ext_wide fun n i h v => (out89 m c n i h v).trans (wide_at (fun h n => ((arrays m c).chunk 0 h n).dw ((arrays m c).cotAt 0 h n)) (ix2 (row n i) (col h v)) h n i v rfl rfl).symm

theorem res94 : (out_main_v94 (END m c) : Vec Ideal S2048x1024 .f32)
    = wide fun h n => ((arrays m c).chunk 0 h n).dq :=
  ext_wide fun n i h v => (out94 m c n i h v).trans (wide_at (fun h n => ((arrays m c).chunk 0 h n).dq) (ix2 (row n i) (col h v)) h n i v rfl rfl).symm

theorem res99 : (out_main_v99 (END m c) : Vec Ideal S2048x1024 .f32)
    = wide fun h n => ((arrays m c).chunk 0 h n).dk ((arrays m c).cotAt 0 h n) :=
  ext_wide fun n i h v => (out99 m c n i h v).trans (wide_at (fun h n => ((arrays m c).chunk 0 h n).dk ((arrays m c).cotAt 0 h n)) (ix2 (row n i) (col h v)) h n i v rfl rfl).symm

theorem res102 : (out_main_v102 (END m c) : Vec Ideal S8x2048x64 .f32)
    = tall fun h n => ((arrays m c).chunk 0 h n).dqk :=
  ext_qk fun h n i s => (out102 m c h n i s).trans (tall_at (fun h n => ((arrays m c).chunk 0 h n).dqk) (ix3 h (row n i) s) h n i s rfl rfl rfl).symm

theorem res105 : (out_main_v105 (END m c) : Vec Ideal S32x8x128 .f32)
    = lanes fun h n => ((arrays m c).chunk 0 h n).ddec ((arrays m c).cotAt 0 h n) :=
  ext_dec fun n h l => (out105 m c n h l).trans (lanes_at (fun h n => ((arrays m c).chunk 0 h n).ddec ((arrays m c).cotAt 0 h n)) (ix3 n h l) h n rfl rfl).symm

theorem res111 : (out_main_v111 (END m c) : Vec Ideal S2048x1024 .f32)
    = wide fun h n => ((arrays m c).chunk 1 h n).du ((arrays m c).cotAt 1 h n) :=
  ext_wide fun n i h v => (out111 m c n i h v).trans (wide_at (fun h n => ((arrays m c).chunk 1 h n).du ((arrays m c).cotAt 1 h n)) (ix2 (row n i) (col h v)) h n i v rfl rfl).symm

theorem res117 : (out_main_v117 (END m c) : Vec Ideal S2048x1024 .f32)
    = wide fun h n => ((arrays m c).chunk 1 h n).dw ((arrays m c).cotAt 1 h n) :=
  ext_wide fun n i h v => (out117 m c n i h v).trans (wide_at (fun h n => ((arrays m c).chunk 1 h n).dw ((arrays m c).cotAt 1 h n)) (ix2 (row n i) (col h v)) h n i v rfl rfl).symm

theorem res123 : (out_main_v123 (END m c) : Vec Ideal S2048x1024 .f32)
    = wide fun h n => ((arrays m c).chunk 1 h n).dq :=
  ext_wide fun n i h v => (out123 m c n i h v).trans (wide_at (fun h n => ((arrays m c).chunk 1 h n).dq) (ix2 (row n i) (col h v)) h n i v rfl rfl).symm

theorem res129 : (out_main_v129 (END m c) : Vec Ideal S2048x1024 .f32)
    = wide fun h n => ((arrays m c).chunk 1 h n).dk ((arrays m c).cotAt 1 h n) :=
  ext_wide fun n i h v => (out129 m c n i h v).trans (wide_at (fun h n => ((arrays m c).chunk 1 h n).dk ((arrays m c).cotAt 1 h n)) (ix2 (row n i) (col h v)) h n i v rfl rfl).symm

theorem res133 : (out_main_v133 (END m c) : Vec Ideal S8x2048x64 .f32)
    = tall fun h n => ((arrays m c).chunk 1 h n).dqk :=
  ext_qk fun h n i s => (out133 m c h n i s).trans (tall_at (fun h n => ((arrays m c).chunk 1 h n).dqk) (ix3 h (row n i) s) h n i s rfl rfl rfl).symm

theorem res137 : (out_main_v137 (END m c) : Vec Ideal S32x8x128 .f32)
    = lanes fun h n => ((arrays m c).chunk 1 h n).ddec ((arrays m c).cotAt 1 h n) :=
  ext_dec fun n h l => (out137 m c n h l).trans (lanes_at (fun h n => ((arrays m c).chunk 1 h n).ddec ((arrays m c).cotAt 1 h n)) (ix3 n h l) h n rfl rfl).symm

end Cert.RArr

end
-- ==== Proof.P2.lean ====
/- The product `mm_in_wgrad`: the kernel's result array is the reference's. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Claim

@[expose] public noncomputable section

set_option maxRecDepth 16384

namespace Cert.P2

open Idealize.ShloMosaic Idealize.ShloMosaic.TcCoe Idealize.SL Idealize.SL.Sem

section

open Cert.Reference2Ideal Cert.Reference2Ideal.Gen

/-- The reference's result, as a function of the arguments. -/
def ref (a : FVec Ideal S2048x2048 .bf16) (b : FVec Ideal S2048x10368 .bf16) : FVec Ideal S2048x10368 .bf16 :=
  truncf .bf16 (transpose S2048x10368 [1, 0] (Host.dotGeneral dot_S2048x10368_S2048x2048_S10368x2048_0_0_1_1_n_n none (extf .f32 b bitsLt_bf16_f32) (extf .f32 a bitsLt_bf16_f32)) transposes_S10368x2048_S2048x10368_1_0) bitsLt_bf16_f32

end

open Cert.Kernel2Ideal Cert.Kernel2Ideal.Gen

variable (m : (ℓ : Loc nD τ sig) → Buf (Elt Ideal) ℓ) (c : Dev nD)

theorem index : ∀ t : Fin grid0.N,
    win0_0.index t = ![0, 0] ∧ win0_1.index t = ![0, t.val] ∧ win0_2.index t = ![0, t.val] := by decide +kernel

theorem equal : (dats m 0 c).arrAt 2 cfg0.N
    = ref (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := index t
  blk_simp
  rw [after0_2]
  frame_out
  simp only [k0_pay1, ref]
  pointwise
  refine Finset.sum_congr (M := EReal) rfl fun k _ => (mul_comm (G := EReal) _ _).trans (congrArg₂ (fun a b : EReal => a * b) ?_ ?_)
  · blk_ext [iblk, V, i1, i2]
  · blk_ext [iblk, V, i0, i2]

end Cert.P2

end
-- ==== Proof.P3.lean ====
/- The product `mm_down_wgrad`: the kernel's result array is the reference's. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim

@[expose] public noncomputable section

set_option maxRecDepth 16384

namespace Cert.P3

open Idealize.ShloMosaic Idealize.ShloMosaic.TcCoe Idealize.SL Idealize.SL.Sem

section

open Cert.Reference3Ideal Cert.Reference3Ideal.Gen

/-- The reference's result, as a function of the arguments. -/
def ref (a : FVec Ideal S2048x5632 .bf16) (b : FVec Ideal S2048x2048 .bf16) : FVec Ideal S5632x2048 .bf16 :=
  truncf .bf16 (transpose S5632x2048 [1, 0] (Host.dotGeneral dot_S2048x2048_S2048x5632_S2048x5632_0_0_1_1_n_n none (extf .f32 b bitsLt_bf16_f32) (extf .f32 a bitsLt_bf16_f32)) transposes_S2048x5632_S5632x2048_1_0) bitsLt_bf16_f32

end

open Cert.Kernel3Ideal Cert.Kernel3Ideal.Gen

variable (m : (ℓ : Loc nD τ sig) → Buf (Elt Ideal) ℓ) (c : Dev nD)

theorem index : ∀ t : Fin grid0.N,
    win0_0.index t = ![0, t.val / 2] ∧ win0_1.index t = ![0, t.val % 2] ∧ win0_2.index t = ![t.val / 2, t.val % 2] := by decide +kernel

theorem equal : (dats m 0 c).arrAt 2 cfg0.N
    = ref (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := index t
  blk_simp
  rw [after0_2]
  frame_out
  simp only [k0_pay1, ref]
  pointwise
  refine Finset.sum_congr (M := EReal) rfl fun k _ => (mul_comm (G := EReal) _ _).trans (congrArg₂ (fun a b : EReal => a * b) ?_ ?_)
  · blk_ext [iblk, V, i1, i2]
  · blk_ext [iblk, V, i0, i2]

end Cert.P3

end
-- ==== Proof.P4.lean ====
/- The product `mm_down_dgrad`: the kernel's result array is the reference's. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim

@[expose] public noncomputable section

set_option maxRecDepth 16384

namespace Cert.P4

open Idealize.ShloMosaic Idealize.ShloMosaic.TcCoe Idealize.SL Idealize.SL.Sem

section

open Cert.Reference4Ideal Cert.Reference4Ideal.Gen

/-- The reference's result, as a function of the arguments. -/
def ref (a : FVec Ideal S2048x2048 .bf16) (b : FVec Ideal S5632x2048 .bf16) : FVec Ideal S2048x5632 .bf16 :=
  truncf .bf16 (Host.dotGeneral dot_S2048x2048_S5632x2048_S2048x5632_1_1_0_0_n_n none (extf .f32 a bitsLt_bf16_f32) (extf .f32 b bitsLt_bf16_f32)) bitsLt_bf16_f32

end

open Cert.Kernel4Ideal Cert.Kernel4Ideal.Gen

variable (m : (ℓ : Loc nD τ sig) → Buf (Elt Ideal) ℓ) (c : Dev nD)

theorem index : ∀ t : Fin grid0.N,
    win0_0.index t = ![0, 0] ∧ win0_1.index t = ![t.val, 0] ∧ win0_2.index t = ![0, t.val] := by decide +kernel

theorem equal : (dats m 0 c).arrAt 2 cfg0.N
    = ref (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := index t
  blk_simp
  rw [after0_2]
  frame_out
  simp only [k0_pay1, ref]
  pointwise
  refine Finset.sum_congr (M := EReal) rfl fun k _ => congrArg₂ (fun a b : EReal => a * b) ?_ ?_
  · blk_ext [iblk, V, i0, i2]
  · blk_ext [iblk, V, i1, i2]

end Cert.P4

end
-- ==== Proof.P5.lean ====
/- The product `mm_up_wgrad`: the kernel's result array is the reference's. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Claim

@[expose] public noncomputable section

set_option maxRecDepth 16384

namespace Cert.P5

open Idealize.ShloMosaic Idealize.ShloMosaic.TcCoe Idealize.SL Idealize.SL.Sem

section

open Cert.Reference5Ideal Cert.Reference5Ideal.Gen

/-- The reference's result, as a function of the arguments. -/
def ref (a : FVec Ideal S2048x2048 .bf16) (b : FVec Ideal S2x2048x5632 .bf16) : FVec Ideal S4x2048x2816 .bf16 :=
  truncf .bf16 (transpose S4x2048x2816 [1, 0, 2] (shapeCast _ (transpose S2048x11264 [1, 0] (Host.dotGeneral dot_S2048x11264_S2048x2048_S11264x2048_0_0_1_1_n_n none (extf .f32 (concatenate S2048x11264 1 [⟨S2048x5632, (shapeCast _ (extractStridedSlice S1x2048x5632 ![0, 0, 0] b slices_S2x2048x5632_S1x2048x5632_0_0_0) shapeCasts_S1x2048x5632_S2048x5632)⟩, ⟨S2048x5632, (shapeCast _ (extractStridedSlice S1x2048x5632 ![1, 0, 0] b slices_S2x2048x5632_S1x2048x5632_1_0_0) shapeCasts_S1x2048x5632_S2048x5632)⟩] concatenates_S2048x5632_S2048x5632_S2048x11264_d1) bitsLt_bf16_f32) (extf .f32 a bitsLt_bf16_f32)) transposes_S11264x2048_S2048x11264_1_0) shapeCasts_S2048x11264_S2048x4x2816) transposes_S2048x4x2816_S4x2048x2816_1_0_2) bitsLt_bf16_f32

end

open Cert.Kernel5Ideal Cert.Kernel5Ideal.Gen

variable (m : (ℓ : Loc nD τ sig) → Buf (Elt Ideal) ℓ) (c : Dev nD)

theorem index : ∀ t : Fin grid0.N,
    win0_0.index t = ![0, 0] ∧ win0_1.index t = ![t.val / 4, 0, t.val % 4] ∧ win0_2.index t = ![t.val / 2, 0, t.val % 2] := by decide +kernel

theorem equal : (dats m 0 c).arrAt 2 cfg0.N
    = ref (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := index t
  have hN : t.val < 8 := lt_of_lt_of_eq t.isLt (show cfg0.N = 8 from N_0)
  have y2 : (y 2).val < 1408 := (y 2).isLt
  blk_simp
  rw [after0_2]
  frame_out
  simp only [k0_pay1, ref]
  pointwise
  refine Finset.sum_congr (M := EReal) rfl fun k _ => (mul_comm (G := EReal) _ _).trans (congrArg₂ (fun a b : EReal => a * b) ?_ ?_)
  · blk_simp [i2]
    split
    · rename_i h
      blk_ext [iblk, V, i1]
      all_goals omega
    · rename_i h
      blk_ext [iblk, V, i1]
      all_goals omega
  · blk_ext [iblk, V, i0, i2]

end Cert.P5

end
-- ==== Proof.P6.lean ====
/- The product `mm_up_dgrad`: the kernel's result array is the reference's. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Pointwise
public import Idealize.ShloMosaic.Lib.Claim

@[expose] public noncomputable section

set_option maxRecDepth 16384

namespace Cert.P6

open Idealize.ShloMosaic Idealize.ShloMosaic.TcCoe Idealize.SL Idealize.SL.Sem

section

open Cert.Reference6Ideal Cert.Reference6Ideal.Gen

/-- The reference's result, as a function of the arguments. -/
def ref (a : FVec Ideal S2x2048x5632 .bf16) (b : FVec Ideal S4x2048x2816 .bf16) : FVec Ideal S2048x2048 .f32 :=
  Host.dotGeneral dot_S2048x11264_S2048x11264_S2048x2048_1_1_0_0_n_n none (extf .f32 (concatenate S2048x11264 1 [⟨S2048x5632, (shapeCast _ (extractStridedSlice S1x2048x5632 ![0, 0, 0] a slices_S2x2048x5632_S1x2048x5632_0_0_0) shapeCasts_S1x2048x5632_S2048x5632)⟩, ⟨S2048x5632, (shapeCast _ (extractStridedSlice S1x2048x5632 ![1, 0, 0] a slices_S2x2048x5632_S1x2048x5632_1_0_0) shapeCasts_S1x2048x5632_S2048x5632)⟩] concatenates_S2048x5632_S2048x5632_S2048x11264_d1) bitsLt_bf16_f32) (extf .f32 (shapeCast _ (transpose S2048x4x2816 [1, 0, 2] b transposes_S4x2048x2816_S2048x4x2816_1_0_2) shapeCasts_S2048x4x2816_S2048x11264) bitsLt_bf16_f32)

end

open Cert.Kernel6Ideal Cert.Kernel6Ideal.Gen

variable (m : (ℓ : Loc nD τ sig) → Buf (Elt Ideal) ℓ) (c : Dev nD)

/-- What one point adds to the accumulator. -/
def part (t : Fin cfg0.N) (y : S1024x1024.Idx) : EReal :=
  ∑ k : Fin 2816, (show EReal from iblk m c 0 t (ix3 0 (y 0) k)) * (show EReal from iblk m c 1 t (ix3 0 (y 1) k))

theorem first (t : Fin cfg0.N) (h : t.val % 4 = 0) (y : S1024x1024.Idx) :
    (outsAt0 m c t.val t.isLt).2 y = part m c t y := by
  rw [outsAt0_A m c t h (by omega) (by omega)]
  frame_out
  simp only [k0_pay2, k0_pay1, part]
  pointwise

theorem middle (t : Fin cfg0.N) (h : 1 ≤ t.val % 4 ∧ t.val % 4 ≤ 2) (y : S1024x1024.Idx) :
    (outsAt0 m c t.val t.isLt).2 y
      = (show EReal from (outsAt0 m c (t.val - 1) (Nat.lt_of_le_of_lt (Nat.sub_le _ _) t.isLt)).2 y) + part m c t y := by
  rw [outsAt0_B m c t (by omega) h (by omega)]
  frame_out
  simp only [read_unread_whole, k0_pay3, k0_pay1, part]
  pointwise

theorem last (t : Fin cfg0.N) (h : t.val % 4 = 3) (y : S1024x1024.Idx) :
    (outsAt0 m c t.val t.isLt).1 y
      = (show EReal from (outsAt0 m c (t.val - 1) (Nat.lt_of_le_of_lt (Nat.sub_le _ _) t.isLt)).2 y) + part m c t y := by
  rw [outsAt0_C m c t (by omega) (by omega) h]
  frame_out
  simp only [read_unread_whole, k0_pay4, k0_pay1, part]
  pointwise

theorem split (a b : ℕ) {n : ℕ} (h : n = a + b) (f : Fin n → EReal) :
    ∑ x, f x = ∑ k : Fin a, f ⟨k.val, by omega⟩ + ∑ k : Fin b, f ⟨a + k.val, by omega⟩ := by
  subst h
  exact Fin.sum_univ_add f

theorem index : ∀ t : Fin grid0.N,
    win0_0.index t = ![t.val % 4 / 2, t.val / 8, t.val % 4 % 2] ∧ win0_1.index t = ![t.val % 4, t.val / 4 % 2, 0] ∧
      win0_2.index t = ![t.val / 8, t.val / 4 % 2] := by decide +kernel

set_option maxHeartbeats 1600000 in
theorem equal : (dats m 0 c).arrAt 2 cfg0.N
    = ref (m ((c.tc : Thread nD τ).loc main_arg0)) (m ((c.tc : Thread nD τ).loc main_arg1)) := by
  refine (dats m 0 c).arrAt_eq_of_covers 2 _ (by decide +kernel) fun t hf y => ?_
  have hm : t.val % 4 = 3 := (flush0_2 t).mp hf
  have hN : t.val < 16 := lt_of_lt_of_eq t.isLt (show cfg0.N = 16 from N_0)
  obtain ⟨_, _, i2⟩ := index t
  obtain ⟨j0, j1, _⟩ := index t
  have h1 : t.val - 1 < cfg0.N := Nat.lt_of_le_of_lt (Nat.sub_le _ _) t.isLt
  have h2 : t.val - 1 - 1 < cfg0.N := Nat.lt_of_le_of_lt (Nat.sub_le _ _) h1
  have h3 : t.val - 1 - 1 - 1 < cfg0.N := Nat.lt_of_le_of_lt (Nat.sub_le _ _) h2
  obtain ⟨k0, k1, _⟩ := index ⟨t.val - 1, h1⟩
  obtain ⟨l0, l1, _⟩ := index ⟨t.val - 1 - 1, h2⟩
  obtain ⟨n0, n1, _⟩ := index ⟨t.val - 1 - 1 - 1, h3⟩
  blk_simp
  rw [after0_2]
  refine (last m c t hm y).trans ?_
  rw [show (outsAt0 m c (t.val - 1) h1).2 y = _ from middle m c ⟨t.val - 1, h1⟩
      (by show 1 ≤ (t.val - 1) % 4 ∧ (t.val - 1) % 4 ≤ 2; omega) y,
    show (outsAt0 m c (t.val - 1 - 1) h2).2 y = _ from middle m c ⟨t.val - 1 - 1, h2⟩
      (by show 1 ≤ (t.val - 1 - 1) % 4 ∧ (t.val - 1 - 1) % 4 ≤ 2; omega) y,
    show (outsAt0 m c (t.val - 1 - 1 - 1) h3).2 y = _ from first m c ⟨t.val - 1 - 1 - 1, h3⟩
      (by show (t.val - 1 - 1 - 1) % 4 = 0; omega) y]
  simp only [ref]
  pointwise
  refine Eq.trans ?_ (congrArg₂ (fun x z : EReal => x + z) (split 2816 2816 rfl _) (split 2816 2816 rfl _)).symm
  simp only [part]
  refine (add_assoc (G := EReal) _ _ _).trans (congrArg₂ (fun x z : EReal => x + z)
    (congrArg₂ (fun x z : EReal => x + z) ?_ ?_) (congrArg₂ (fun x z : EReal => x + z) ?_ ?_))
  all_goals refine Finset.sum_congr (M := EReal) rfl fun k _ => congrArg₂ (fun a b : EReal => a * b) ?_ ?_
  all_goals have hk : k.val < 2816 := k.isLt
  all_goals
    blk_ext [iblk, V, i2, j0, j1, k0, k1, l0, l1, n0, n1]
    all_goals omega

end Cert.P6

end
-- ==== Proof.P7.lean ====
/- The product `mm_in_dgrad`: the kernel's result array is the reference's. -/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.Pointwise
public import Idealize.ShloMosaic.Lib.Claim

@[expose] public noncomputable section

set_option maxRecDepth 16384

namespace Cert.P7

open Idealize.ShloMosaic Idealize.ShloMosaic.TcCoe Idealize.SL Idealize.SL.Sem

section

open Cert.Reference7Ideal Cert.Reference7Ideal.Gen

/-- The reference's result, as a function of the arguments. -/
def ref (a : FVec Ideal S2048x10368 .bf16) (b : FVec Ideal S2048x10368 .bf16) : FVec Ideal S2048x2048 .f32 :=
  Host.dotGeneral dot_S2048x10368_S2048x10368_S2048x2048_1_1_0_0_n_n none (extf .f32 a bitsLt_bf16_f32) (extf .f32 b bitsLt_bf16_f32)

end

open Cert.Kernel7Ideal Cert.Kernel7Ideal.Gen

variable (m : (ℓ : Loc nD τ sig) → Buf (Elt Ideal) ℓ) (c : Dev nD)

/-- What one point adds to the accumulator. -/
def part (t : Fin cfg0.N) (y : S1024x1024.Idx) : EReal :=
  ∑ k : Fin 3456, (show EReal from iblk m c 0 t (ix2 (y 0) k)) * (show EReal from iblk m c 1 t (ix2 (y 1) k))

theorem first (t : Fin cfg0.N) (h : t.val % 3 = 0) (y : S1024x1024.Idx) :
    (outsAt0 m c t.val t.isLt).2 y = part m c t y := by
  rw [outsAt0_A m c t h (by omega) (by omega)]
  frame_out
  simp only [k0_pay2, k0_pay1, part]
  pointwise

theorem middle (t : Fin cfg0.N) (h : t.val % 3 = 1) (y : S1024x1024.Idx) :
    (outsAt0 m c t.val t.isLt).2 y
      = (show EReal from (outsAt0 m c (t.val - 1) (Nat.lt_of_le_of_lt (Nat.sub_le _ _) t.isLt)).2 y) + part m c t y := by
  rw [outsAt0_B m c t (by omega) h (by omega)]
  frame_out
  simp only [read_unread_whole, k0_pay3, k0_pay1, part]
  pointwise

theorem last (t : Fin cfg0.N) (h : t.val % 3 = 2) (y : S1024x1024.Idx) :
    (outsAt0 m c t.val t.isLt).1 y
      = (show EReal from (outsAt0 m c (t.val - 1) (Nat.lt_of_le_of_lt (Nat.sub_le _ _) t.isLt)).2 y) + part m c t y := by
  rw [outsAt0_C m c t (by omega) (by omega) h]
  frame_out
  simp only [read_unread_whole, k0_pay4, k0_pay1, part]
  pointwise

theorem split (a b : ℕ) {n : ℕ} (h : n = a + b) (f : Fin n → EReal) :
    ∑ x, f x = ∑ k : Fin a, f ⟨k.val, by omega⟩ + ∑ k : Fin b, f ⟨a + k.val, by omega⟩ := by
  subst h
  exact Fin.sum_univ_add f

theorem index : ∀ t : Fin grid0.N,
    win0_0.index t = ![t.val / 6, t.val % 3] ∧ win0_1.index t = ![t.val / 3 % 2, t.val % 3] ∧
      win0_2.index t = ![t.val / 6, t.val / 3 % 2] := by decide +kernel

theorem equal : (dats m 0 c).arrAt 2 cfg0.N
    = ref (m ((c.tc : Thread nD τ).loc main_arg0)) (m ((c.tc : Thread nD τ).loc main_arg1)) := by
  refine (dats m 0 c).arrAt_eq_of_covers 2 _ (by decide +kernel) fun t hf y => ?_
  have hm : t.val % 3 = 2 := (flush0_2 t).mp hf
  have hN : t.val < 12 := lt_of_lt_of_eq t.isLt (show cfg0.N = 12 from N_0)
  obtain ⟨_, _, i2⟩ := index t
  obtain ⟨j0, j1, _⟩ := index t
  have h1 : t.val - 1 < cfg0.N := Nat.lt_of_le_of_lt (Nat.sub_le _ _) t.isLt
  have h2 : t.val - 1 - 1 < cfg0.N := Nat.lt_of_le_of_lt (Nat.sub_le _ _) h1
  obtain ⟨k0, k1, _⟩ := index ⟨t.val - 1, h1⟩
  obtain ⟨l0, l1, _⟩ := index ⟨t.val - 1 - 1, h2⟩
  blk_simp
  rw [after0_2]
  refine (last m c t hm y).trans ?_
  rw [show (outsAt0 m c (t.val - 1) h1).2 y = _ from middle m c ⟨t.val - 1, h1⟩ (by show (t.val - 1) % 3 = 1; omega) y,
    show (outsAt0 m c (t.val - 1 - 1) h2).2 y = _ from first m c ⟨t.val - 1 - 1, h2⟩ (by show (t.val - 1 - 1) % 3 = 0; omega) y]
  simp only [ref]
  pointwise
  refine Eq.trans ?_ ((split 6912 3456 rfl _).trans (congrArg (fun x : EReal => x + _) (split 3456 3456 rfl _))).symm
  simp only [part]
  refine congrArg₂ (fun x z : EReal => x + z) (congrArg₂ (fun x z : EReal => x + z) ?_ ?_) ?_
  all_goals refine Finset.sum_congr (M := EReal) rfl fun k _ => congrArg₂ (fun a b : EReal => a * b) ?_ ?_
  all_goals
    blk_ext [iblk, V, i2, j0, j1, k0, k1, l0, l1]
    all_goals omega

end Cert.P7

end
-- ==== Proof.P8.lean ====
/- The product `mm_in`: the kernel's result array is the reference's. -/
module

public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.Claim

@[expose] public noncomputable section

set_option maxRecDepth 16384

namespace Cert.P8

open Idealize.ShloMosaic Idealize.ShloMosaic.TcCoe Idealize.SL Idealize.SL.Sem

section

open Cert.Reference8Ideal Cert.Reference8Ideal.Gen

/-- The reference's result, as a function of the arguments. -/
def ref (a : FVec Ideal S2048x2048 .bf16) (b : FVec Ideal S2048x10368 .bf16) : FVec Ideal S2048x10368 .f32 :=
  Host.dotGeneral dot_S2048x2048_S2048x10368_S2048x10368_1_0_0_1_n_n none (extf .f32 a bitsLt_bf16_f32) (extf .f32 b bitsLt_bf16_f32)

end

open Cert.Kernel8Ideal Cert.Kernel8Ideal.Gen

variable (m : (ℓ : Loc nD τ sig) → Buf (Elt Ideal) ℓ) (c : Dev nD)

theorem index : ∀ t : Fin grid0.N,
    win0_0.index t = ![0, 0] ∧ win0_1.index t = ![0, t.val] ∧ win0_2.index t = ![0, t.val] := by decide +kernel

theorem equal : (dats m 0 c).arrAt 2 cfg0.N
    = ref (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := index t
  blk_simp
  rw [after0_2]
  frame_out
  simp only [k0_pay1, ref]
  pointwise
  refine Finset.sum_congr (M := EReal) rfl fun k _ => congrArg₂ (fun a b : EReal => a * b) ?_ ?_
  · blk_ext [iblk, V, i0, i2]
  · blk_ext [iblk, V, i1, i2]

end Cert.P8

end
-- ==== Proof.P9.lean ====
/- The product `mm_up`: the kernel's result array is the reference's. -/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import Idealize.ShloMosaic.Lib.Claim

@[expose] public noncomputable section

set_option maxRecDepth 16384

namespace Cert.P9

open Idealize.ShloMosaic Idealize.ShloMosaic.TcCoe Idealize.SL Idealize.SL.Sem

section

open Cert.Reference9Ideal Cert.Reference9Ideal.Gen

/-- The reference's result, as a function of the arguments. -/
def ref (a : FVec Ideal S2048x2048 .bf16) (b : FVec Ideal S4x2048x2816 .bf16) : FVec Ideal S2x2048x5632 .f32 :=
  concatenate S2x2048x5632 0 [⟨S1x2048x5632, (broadcastInDim S1x2048x5632 ![1, 2] bcast_S2048x5632_S1x2048x5632_1_2 (extractStridedSlice S2048x5632 ![0, 0] (Host.dotGeneral dot_S2048x2048_S2048x11264_S2048x11264_1_0_0_1_n_n none (extf .f32 a bitsLt_bf16_f32) (extf .f32 (shapeCast _ (transpose S2048x4x2816 [1, 0, 2] b transposes_S4x2048x2816_S2048x4x2816_1_0_2) shapeCasts_S2048x4x2816_S2048x11264) bitsLt_bf16_f32)) slices_S2048x11264_S2048x5632_0_0))⟩, ⟨S1x2048x5632, (broadcastInDim S1x2048x5632 ![1, 2] bcast_S2048x5632_S1x2048x5632_1_2 (extractStridedSlice S2048x5632 ![0, 5632] (Host.dotGeneral dot_S2048x2048_S2048x11264_S2048x11264_1_0_0_1_n_n none (extf .f32 a bitsLt_bf16_f32) (extf .f32 (shapeCast _ (transpose S2048x4x2816 [1, 0, 2] b transposes_S4x2048x2816_S2048x4x2816_1_0_2) shapeCasts_S2048x4x2816_S2048x11264) bitsLt_bf16_f32)) slices_S2048x11264_S2048x5632_0_5632))⟩] concatenates_S1x2048x5632_S1x2048x5632_S2x2048x5632_d0

end

open Cert.Kernel9Ideal Cert.Kernel9Ideal.Gen

variable (m : (ℓ : Loc nD τ sig) → Buf (Elt Ideal) ℓ) (c : Dev nD)

theorem index : ∀ t : Fin grid0.N,
    win0_0.index t = ![t.val / 8, 0] ∧ win0_1.index t = ![t.val % 8 / 2, 0, t.val % 8 % 2] ∧ win0_2.index t = ![t.val % 8 / 4, t.val / 8, t.val % 8 % 4] := by decide +kernel

theorem equal : (dats m 0 c).arrAt 2 cfg0.N
    = ref (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := index t
  have hN : t.val < 16 := lt_of_lt_of_eq t.isLt (show cfg0.N = 16 from N_0)
  have y2 : (y 2).val < 1408 := (y 2).isLt
  blk_simp
  rw [after0_2]
  frame_out
  simp only [k0_pay1, ref]
  pointwise
  split
  all_goals
    rename_i h
    blk_simp [i2] at h
    refine Finset.sum_congr (M := EReal) rfl fun k _ => congrArg₂ (fun a b : EReal => a * b) ?_ ?_
    · blk_ext [iblk, V, i0, i2]
    · blk_ext [iblk, V, i1, i2]
      all_goals omega

end Cert.P9

end
-- ==== Proof.P10.lean ====
/- The product `mm_down`: the kernel's result array is the reference's. -/
module

public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack
public import Idealize.ShloMosaic.Lib.Pointwise
public import Idealize.ShloMosaic.Lib.Claim

@[expose] public noncomputable section

set_option maxRecDepth 16384

namespace Cert.P10

open Idealize.ShloMosaic Idealize.ShloMosaic.TcCoe Idealize.SL Idealize.SL.Sem

section

open Cert.Reference10Ideal Cert.Reference10Ideal.Gen

/-- The reference's result, as a function of the arguments. -/
def ref (a : FVec Ideal S2048x5632 .bf16) (b : FVec Ideal S5632x2048 .bf16) (d : FVec Ideal S2048x2048 .f32) : FVec Ideal S2048x2048 .f32 :=
  addf d (Host.dotGeneral dot_S2048x5632_S5632x2048_S2048x2048_1_0_0_1_n_n none (extf .f32 a bitsLt_bf16_f32) (extf .f32 b bitsLt_bf16_f32))

end

open Cert.Kernel10Ideal Cert.Kernel10Ideal.Gen

variable (m : (ℓ : Loc nD τ sig) → Buf (Elt Ideal) ℓ) (c : Dev nD)

/-- What one point adds to the accumulator. -/
def part (t : Fin cfg0.N) (y : S1024x1024.Idx) : EReal :=
  ∑ k : Fin 2816, (show EReal from iblk m c 0 t (ix2 (y 0) k)) * (show EReal from iblk m c 1 t (ix2 k (y 1)))

theorem first (t : Fin cfg0.N) (h : t.val % 2 = 0) (y : S1024x1024.Idx) :
    (outsAt0 m c t.val t.isLt).2 y = part m c t y := by
  rw [outsAt0_A m c t h (by omega)]
  frame_out
  simp only [k0_pay2, k0_pay1, part]
  pointwise

theorem last (t : Fin cfg0.N) (h : t.val % 2 = 1) (y : S1024x1024.Idx) :
    (outsAt0 m c t.val t.isLt).1 y
      = ((show EReal from (outsAt0 m c (t.val - 1) (Nat.lt_of_le_of_lt (Nat.sub_le _ _) t.isLt)).2 y) + part m c t y)
        + (show EReal from iblk m c 2 t y) := by
  rw [outsAt0_B m c t (by omega) h]
  frame_out
  simp only [read_unread_whole, k0_pay4, k0_pay1, part]
  pointwise

theorem split (a b : ℕ) {n : ℕ} (h : n = a + b) (f : Fin n → EReal) :
    ∑ x, f x = ∑ k : Fin a, f ⟨k.val, by omega⟩ + ∑ k : Fin b, f ⟨a + k.val, by omega⟩ := by
  subst h
  exact Fin.sum_univ_add f

theorem index : ∀ t : Fin grid0.N,
    win0_0.index t = ![t.val / 4, t.val % 2] ∧ win0_1.index t = ![t.val % 2, t.val / 2 % 2] ∧
      win0_2.index t = ![t.val / 4, t.val / 2 % 2] ∧ win0_3.index t = ![t.val / 4, t.val / 2 % 2] := by decide +kernel

theorem equal : (dats m 0 c).arrAt 3 cfg0.N
    = ref (m ((c.tc : Thread nD τ).loc main_arg0)) (m ((c.tc : Thread nD τ).loc main_arg1))
        (m ((c.tc : Thread nD τ).loc main_arg2)) := by
  refine (dats m 0 c).arrAt_eq_of_covers 3 _ (by decide +kernel) fun t hf y => ?_
  have hm : t.val % 2 = 1 := (flush0_3 t).mp hf
  have hN : t.val < 8 := lt_of_lt_of_eq t.isLt (show cfg0.N = 8 from N_0)
  obtain ⟨j0, j1, i2, i3⟩ := index t
  have h1 : t.val - 1 < cfg0.N := Nat.lt_of_le_of_lt (Nat.sub_le _ _) t.isLt
  obtain ⟨k0, k1, _, _⟩ := index ⟨t.val - 1, h1⟩
  blk_simp
  rw [after0_3]
  refine (last m c t hm y).trans ?_
  rw [show (outsAt0 m c (t.val - 1) h1).2 y = _ from first m c ⟨t.val - 1, h1⟩ (by show (t.val - 1) % 2 = 0; omega) y]
  simp only [ref]
  pointwise
  refine (add_comm (G := EReal) _ _).trans (congrArg₂ (fun x z : EReal => x + z) ?_ ?_)
  · blk_ext [iblk, V, i2, i3]
  refine Eq.trans ?_ (split 2816 2816 rfl _).symm
  simp only [part]
  refine congrArg₂ (fun x z : EReal => x + z) ?_ ?_
  all_goals refine Finset.sum_congr (M := EReal) rfl fun k _ => congrArg₂ (fun a b : EReal => a * b) ?_ ?_
  all_goals
    blk_ext [iblk, V, i3, j0, j1, k0, k1]
    all_goals omega

end Cert.P10

end
-- ==== Proof.P11.lean ====
/- The product `mm_out_wgrad`: the kernel's result array is the reference's. -/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import Idealize.ShloMosaic.Lib.Pointwise
public import Idealize.ShloMosaic.Lib.Claim

@[expose] public noncomputable section

set_option maxRecDepth 16384

namespace Cert.P11

open Idealize.ShloMosaic Idealize.ShloMosaic.TcCoe Idealize.SL Idealize.SL.Sem

section

open Cert.Reference11Ideal Cert.Reference11Ideal.Gen

/-- The reference's result, as a function of the arguments. -/
def ref (a : FVec Ideal S2048x2048 .bf16) (b : FVec Ideal S2048x2048 .bf16) : FVec Ideal S2048x2048 .bf16 :=
  truncf .bf16 (transpose S2048x2048 [1, 0] (Host.dotGeneral dot_S2048x2048_S2048x2048_S2048x2048_0_0_1_1_n_n none (extf .f32 b bitsLt_bf16_f32) (extf .f32 a bitsLt_bf16_f32)) transposes_S2048x2048_S2048x2048_1_0) bitsLt_bf16_f32

end

open Cert.Kernel11Ideal Cert.Kernel11Ideal.Gen

variable (m : (ℓ : Loc nD τ sig) → Buf (Elt Ideal) ℓ) (c : Dev nD)

theorem index : ∀ t : Fin grid0.N,
    win0_0.index t = ![0, 0] ∧ win0_1.index t = ![0, t.val] ∧ win0_2.index t = ![0, t.val] := by decide +kernel

theorem equal : (dats m 0 c).arrAt 2 cfg0.N
    = ref (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := index t
  blk_simp
  rw [after0_2]
  frame_out
  simp only [k0_pay1, ref]
  pointwise
  refine Finset.sum_congr (M := EReal) rfl fun k _ => (mul_comm (G := EReal) _ _).trans (congrArg₂ (fun a b : EReal => a * b) ?_ ?_)
  · blk_ext [iblk, V, i1, i2]
  · blk_ext [iblk, V, i0, i2]

end Cert.P11

end
-- ==== Proof.P12.lean ====
/- The product `mm_out_dgrad`: the kernel's result array is the reference's. -/
module

public import proofs.«01_k».proof.Proof.Gen.Kernel12Ideal.Value
public import proofs.«01_k».proof.Proof.Gen.Reference12Ideal.Run
public import Idealize.ShloMosaic.Lib.Pipeline.ValueKit
public import Idealize.ShloMosaic.Lib.Pipeline.ReadBack
public import Idealize.ShloMosaic.Lib.Pointwise
public import Idealize.ShloMosaic.Lib.Claim

@[expose] public noncomputable section

set_option maxRecDepth 16384

namespace Cert.P12

open Idealize.ShloMosaic Idealize.ShloMosaic.TcCoe Idealize.SL Idealize.SL.Sem

section

open Cert.Reference12Ideal Cert.Reference12Ideal.Gen

/-- The reference's result, as a function of the arguments. -/
def ref (a : FVec Ideal S2048x2048 .bf16) (b : FVec Ideal S2048x2048 .bf16) : FVec Ideal S2048x2048 .f32 :=
  Host.dotGeneral dot_S2048x2048_S2048x2048_S2048x2048_1_1_0_0_n_n none (extf .f32 a bitsLt_bf16_f32) (extf .f32 b bitsLt_bf16_f32)

end

open Cert.Kernel12Ideal Cert.Kernel12Ideal.Gen

variable (m : (ℓ : Loc nD τ sig) → Buf (Elt Ideal) ℓ) (c : Dev nD)

theorem index : ∀ t : Fin grid0.N,
    win0_0.index t = ![0, 0] ∧ win0_1.index t = ![t.val, 0] ∧ win0_2.index t = ![0, t.val] := by decide +kernel

theorem equal : (dats m 0 c).arrAt 2 cfg0.N
    = ref (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := index t
  blk_simp
  rw [after0_2]
  frame_out
  simp only [k0_pay1, ref]
  pointwise
  refine Finset.sum_congr (M := EReal) rfl fun k _ => congrArg₂ (fun a b : EReal => a * b) ?_ ?_
  · blk_ext [iblk, V, i0, i2]
  · blk_ext [iblk, V, i1, i2]

end Cert.P12

end
-- ==== Proof.P13.lean ====
/- The product `mm_branch_a_wgrad`: the kernel's result array is the reference's. -/
module

public import proofs.«01_k».proof.Proof.Gen.Kernel13Ideal.Value
public import proofs.«01_k».proof.Proof.Gen.Reference13Ideal.Run
public import Idealize.ShloMosaic.Lib.Pipeline.ValueKit
public import Idealize.ShloMosaic.Lib.Pipeline.ReadBack
public import Idealize.ShloMosaic.Lib.Pointwise
public import Idealize.ShloMosaic.Lib.Claim

@[expose] public noncomputable section

set_option maxRecDepth 16384

namespace Cert.P13

open Idealize.ShloMosaic Idealize.ShloMosaic.TcCoe Idealize.SL Idealize.SL.Sem

section

open Cert.Reference13Ideal Cert.Reference13Ideal.Gen

/-- The reference's result, as a function of the arguments. -/
def ref (a : FVec Ideal S2048x1024 .bf16) (b : FVec Ideal S2048x2048 .bf16) : FVec Ideal S4x1024x512 .bf16 :=
  truncf .bf16 (transpose S4x1024x512 [1, 0, 2] (shapeCast _ (transpose S1024x2048 [1, 0] (Host.dotGeneral dot_S2048x2048_S2048x1024_S2048x1024_0_0_1_1_n_n none (extf .f32 b bitsLt_bf16_f32) (extf .f32 a bitsLt_bf16_f32)) transposes_S2048x1024_S1024x2048_1_0) shapeCasts_S1024x2048_S1024x4x512) transposes_S1024x4x512_S4x1024x512_1_0_2) bitsLt_bf16_f32

end

open Cert.Kernel13Ideal Cert.Kernel13Ideal.Gen

variable (m : (ℓ : Loc nD τ sig) → Buf (Elt Ideal) ℓ) (c : Dev nD)

theorem index : ∀ t : Fin grid0.N,
    win0_0.index t = ![0, 0] ∧ win0_1.index t = ![0, t.val] ∧ win0_2.index t = ![t.val, 0, 0] := by decide +kernel

theorem equal : (dats m 0 c).arrAt 2 cfg0.N
    = ref (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := index t
  blk_simp
  rw [after0_2]
  frame_out
  simp only [k0_pay1, ref]
  pointwise
  refine Finset.sum_congr (M := EReal) rfl fun k _ => (mul_comm (G := EReal) _ _).trans (congrArg₂ (fun a b : EReal => a * b) ?_ ?_)
  · blk_ext [iblk, V, i1, i2]
  · blk_ext [iblk, V, i0, i2]

end Cert.P13

end
-- ==== Proof.P14.lean ====
/- The product `mm_branch_a_dgrad`: the kernel's result array is the reference's. -/
module

public import proofs.«01_k».proof.Proof.Gen.Kernel14Ideal.Value
public import proofs.«01_k».proof.Proof.Gen.Reference14Ideal.Run
public import Idealize.ShloMosaic.Lib.Pipeline.ValueKit
public import Idealize.ShloMosaic.Lib.Pipeline.ReadBack
public import Idealize.ShloMosaic.Lib.Pointwise
public import Idealize.ShloMosaic.Lib.Claim

@[expose] public noncomputable section

set_option maxRecDepth 16384

namespace Cert.P14

open Idealize.ShloMosaic Idealize.ShloMosaic.TcCoe Idealize.SL Idealize.SL.Sem

section

open Cert.Reference14Ideal Cert.Reference14Ideal.Gen

/-- The reference's result, as a function of the arguments. -/
def ref (a : FVec Ideal S2048x2048 .bf16) (b : FVec Ideal S4x1024x512 .bf16) : FVec Ideal S2048x1024 .bf16 :=
  truncf .bf16 (Host.dotGeneral dot_S2048x2048_S1024x2048_S2048x1024_1_1_0_0_n_n none (extf .f32 a bitsLt_bf16_f32) (extf .f32 (shapeCast _ (transpose S1024x4x512 [1, 0, 2] b transposes_S4x1024x512_S1024x4x512_1_0_2) shapeCasts_S1024x4x512_S1024x2048) bitsLt_bf16_f32)) bitsLt_bf16_f32

end

open Cert.Kernel14Ideal Cert.Kernel14Ideal.Gen

variable (m : (ℓ : Loc nD τ sig) → Buf (Elt Ideal) ℓ) (c : Dev nD)

/-- What one point adds to the accumulator. -/
def part (t : Fin cfg0.N) (y : S2048x1024.Idx) : EReal :=
  ∑ k : Fin 512, (show EReal from iblk m c 0 t (ix2 (y 0) k)) * (show EReal from iblk m c 1 t (ix3 0 (y 1) k))

theorem first (t : Fin cfg0.N) (h : t.val % 4 = 0) (y : S2048x1024.Idx) :
    (outsAt0 m c t.val t.isLt).2 y = part m c t y := by
  rw [outsAt0_A m c t h (by omega) (by omega)]
  frame_out
  simp only [k0_pay2, k0_pay1, part]
  pointwise

theorem middle (t : Fin cfg0.N) (h : 1 ≤ t.val % 4 ∧ t.val % 4 ≤ 2) (y : S2048x1024.Idx) :
    (outsAt0 m c t.val t.isLt).2 y
      = (show EReal from (outsAt0 m c (t.val - 1) (Nat.lt_of_le_of_lt (Nat.sub_le _ _) t.isLt)).2 y) + part m c t y := by
  rw [outsAt0_B m c t (by omega) h (by omega)]
  frame_out
  simp only [read_unread_whole, k0_pay3, k0_pay1, part]
  pointwise

theorem last (t : Fin cfg0.N) (h : t.val % 4 = 3) (y : S2048x1024.Idx) :
    (outsAt0 m c t.val t.isLt).1 y
      = (show EReal from (outsAt0 m c (t.val - 1) (Nat.lt_of_le_of_lt (Nat.sub_le _ _) t.isLt)).2 y) + part m c t y := by
  rw [outsAt0_C m c t (by omega) (by omega) h]
  frame_out
  simp only [read_unread_whole, k0_pay4, k0_pay1, part]
  pointwise

theorem split (a b : ℕ) {n : ℕ} (h : n = a + b) (f : Fin n → EReal) :
    ∑ x, f x = ∑ k : Fin a, f ⟨k.val, by omega⟩ + ∑ k : Fin b, f ⟨a + k.val, by omega⟩ := by
  subst h
  exact Fin.sum_univ_add f

theorem index : ∀ t : Fin grid0.N,
    win0_0.index t = ![0, t.val] ∧ win0_1.index t = ![t.val, 0, 0] ∧ win0_2.index t = ![0, 0] := by decide +kernel

set_option maxHeartbeats 1600000 in
theorem equal : (dats m 0 c).arrAt 2 cfg0.N
    = ref (m ((c.tc : Thread nD τ).loc main_arg0)) (m ((c.tc : Thread nD τ).loc main_arg1)) := by
  refine (dats m 0 c).arrAt_eq_of_covers 2 _ (by decide +kernel) fun t hf y => ?_
  have hm : t.val % 4 = 3 := (flush0_2 t).mp hf
  have hN : t.val < 4 := lt_of_lt_of_eq t.isLt (show cfg0.N = 4 from N_0)
  obtain ⟨_, _, i2⟩ := index t
  obtain ⟨j0, j1, _⟩ := index t
  have h1 : t.val - 1 < cfg0.N := Nat.lt_of_le_of_lt (Nat.sub_le _ _) t.isLt
  have h2 : t.val - 1 - 1 < cfg0.N := Nat.lt_of_le_of_lt (Nat.sub_le _ _) h1
  have h3 : t.val - 1 - 1 - 1 < cfg0.N := Nat.lt_of_le_of_lt (Nat.sub_le _ _) h2
  obtain ⟨k0, k1, _⟩ := index ⟨t.val - 1, h1⟩
  obtain ⟨l0, l1, _⟩ := index ⟨t.val - 1 - 1, h2⟩
  obtain ⟨n0, n1, _⟩ := index ⟨t.val - 1 - 1 - 1, h3⟩
  blk_simp
  rw [after0_2]
  refine (last m c t hm y).trans ?_
  rw [show (outsAt0 m c (t.val - 1) h1).2 y = _ from middle m c ⟨t.val - 1, h1⟩
      (by show 1 ≤ (t.val - 1) % 4 ∧ (t.val - 1) % 4 ≤ 2; omega) y,
    show (outsAt0 m c (t.val - 1 - 1) h2).2 y = _ from middle m c ⟨t.val - 1 - 1, h2⟩
      (by show 1 ≤ (t.val - 1 - 1) % 4 ∧ (t.val - 1 - 1) % 4 ≤ 2; omega) y,
    show (outsAt0 m c (t.val - 1 - 1 - 1) h3).2 y = _ from first m c ⟨t.val - 1 - 1 - 1, h3⟩
      (by show (t.val - 1 - 1 - 1) % 4 = 0; omega) y]
  simp only [ref]
  pointwise
  refine Eq.trans ?_ ((split 1536 512 rfl _).trans
    (congrArg (fun x : EReal => x + _) ((split 1024 512 rfl _).trans (congrArg (fun x : EReal => x + _) (split 512 512 rfl _))))).symm
  simp only [part]
  refine congrArg₂ (fun x z : EReal => x + z) (congrArg₂ (fun x z : EReal => x + z)
    (congrArg₂ (fun x z : EReal => x + z) ?_ ?_) ?_) ?_
  all_goals refine Finset.sum_congr (M := EReal) rfl fun k _ => congrArg₂ (fun a b : EReal => a * b) ?_ ?_
  all_goals have hk : k.val < 512 := k.isLt
  all_goals
    blk_ext [iblk, V, i2, j0, j1, k0, k1, l0, l1, n0, n1]
    all_goals omega

end Cert.P14

end
-- ==== Proof.P15.lean ====
/- The product `mm_branch_b_wgrad`: the kernel's result array is the reference's. -/
module

public import proofs.«01_k».proof.Proof.Gen.Kernel15Ideal.Value
public import proofs.«01_k».proof.Proof.Gen.Reference15Ideal.Run
public import Idealize.ShloMosaic.Lib.Pipeline.ValueKit
public import Idealize.ShloMosaic.Lib.Pipeline.ReadBack
public import Idealize.ShloMosaic.Lib.Pointwise
public import Idealize.ShloMosaic.Lib.Claim

@[expose] public noncomputable section

set_option maxRecDepth 16384

namespace Cert.P15

open Idealize.ShloMosaic Idealize.ShloMosaic.TcCoe Idealize.SL Idealize.SL.Sem

section

open Cert.Reference15Ideal Cert.Reference15Ideal.Gen

/-- The reference's result, as a function of the arguments. -/
def ref (a : FVec Ideal S2048x1024 .bf16) (b : FVec Ideal S2048x2048 .bf16) : FVec Ideal S4x1024x512 .bf16 :=
  truncf .bf16 (transpose S4x1024x512 [1, 0, 2] (shapeCast _ (transpose S1024x2048 [1, 0] (Host.dotGeneral dot_S2048x2048_S2048x1024_S2048x1024_0_0_1_1_n_n none (extf .f32 b bitsLt_bf16_f32) (extf .f32 a bitsLt_bf16_f32)) transposes_S2048x1024_S1024x2048_1_0) shapeCasts_S1024x2048_S1024x4x512) transposes_S1024x4x512_S4x1024x512_1_0_2) bitsLt_bf16_f32

end

open Cert.Kernel15Ideal Cert.Kernel15Ideal.Gen

variable (m : (ℓ : Loc nD τ sig) → Buf (Elt Ideal) ℓ) (c : Dev nD)

theorem index : ∀ t : Fin grid0.N,
    win0_0.index t = ![0, 0] ∧ win0_1.index t = ![0, t.val] ∧ win0_2.index t = ![t.val, 0, 0] := by decide +kernel

theorem equal : (dats m 0 c).arrAt 2 cfg0.N
    = ref (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := index t
  blk_simp
  rw [after0_2]
  frame_out
  simp only [k0_pay1, ref]
  pointwise
  refine Finset.sum_congr (M := EReal) rfl fun k _ => (mul_comm (G := EReal) _ _).trans (congrArg₂ (fun a b : EReal => a * b) ?_ ?_)
  · blk_ext [iblk, V, i1, i2]
  · blk_ext [iblk, V, i0, i2]

end Cert.P15

end
-- ==== Proof.P16.lean ====
/- The product `mm_branch_b_dgrad`: the kernel's result array is the reference's. -/
module

public import proofs.«01_k».proof.Proof.Gen.Kernel16Ideal.Value
public import proofs.«01_k».proof.Proof.Gen.Reference16Ideal.Run
public import Idealize.ShloMosaic.Lib.Pipeline.ValueKit
public import Idealize.ShloMosaic.Lib.Pipeline.ReadBack
public import Idealize.ShloMosaic.Lib.Pointwise
public import Idealize.ShloMosaic.Lib.Claim

@[expose] public noncomputable section

set_option maxRecDepth 16384

namespace Cert.P16

open Idealize.ShloMosaic Idealize.ShloMosaic.TcCoe Idealize.SL Idealize.SL.Sem

section

open Cert.Reference16Ideal Cert.Reference16Ideal.Gen

/-- The reference's result, as a function of the arguments. -/
def ref (a : FVec Ideal S2048x2048 .bf16) (b : FVec Ideal S4x1024x512 .bf16) : FVec Ideal S2048x1024 .bf16 :=
  truncf .bf16 (Host.dotGeneral dot_S2048x2048_S1024x2048_S2048x1024_1_1_0_0_n_n none (extf .f32 a bitsLt_bf16_f32) (extf .f32 (shapeCast _ (transpose S1024x4x512 [1, 0, 2] b transposes_S4x1024x512_S1024x4x512_1_0_2) shapeCasts_S1024x4x512_S1024x2048) bitsLt_bf16_f32)) bitsLt_bf16_f32

end

open Cert.Kernel16Ideal Cert.Kernel16Ideal.Gen

variable (m : (ℓ : Loc nD τ sig) → Buf (Elt Ideal) ℓ) (c : Dev nD)

/-- What one point adds to the accumulator. -/
def part (t : Fin cfg0.N) (y : S2048x1024.Idx) : EReal :=
  ∑ k : Fin 512, (show EReal from iblk m c 0 t (ix2 (y 0) k)) * (show EReal from iblk m c 1 t (ix3 0 (y 1) k))

theorem first (t : Fin cfg0.N) (h : t.val % 4 = 0) (y : S2048x1024.Idx) :
    (outsAt0 m c t.val t.isLt).2 y = part m c t y := by
  rw [outsAt0_A m c t h (by omega) (by omega)]
  frame_out
  simp only [k0_pay2, k0_pay1, part]
  pointwise

theorem middle (t : Fin cfg0.N) (h : 1 ≤ t.val % 4 ∧ t.val % 4 ≤ 2) (y : S2048x1024.Idx) :
    (outsAt0 m c t.val t.isLt).2 y
      = (show EReal from (outsAt0 m c (t.val - 1) (Nat.lt_of_le_of_lt (Nat.sub_le _ _) t.isLt)).2 y) + part m c t y := by
  rw [outsAt0_B m c t (by omega) h (by omega)]
  frame_out
  simp only [read_unread_whole, k0_pay3, k0_pay1, part]
  pointwise

theorem last (t : Fin cfg0.N) (h : t.val % 4 = 3) (y : S2048x1024.Idx) :
    (outsAt0 m c t.val t.isLt).1 y
      = (show EReal from (outsAt0 m c (t.val - 1) (Nat.lt_of_le_of_lt (Nat.sub_le _ _) t.isLt)).2 y) + part m c t y := by
  rw [outsAt0_C m c t (by omega) (by omega) h]
  frame_out
  simp only [read_unread_whole, k0_pay4, k0_pay1, part]
  pointwise

theorem split (a b : ℕ) {n : ℕ} (h : n = a + b) (f : Fin n → EReal) :
    ∑ x, f x = ∑ k : Fin a, f ⟨k.val, by omega⟩ + ∑ k : Fin b, f ⟨a + k.val, by omega⟩ := by
  subst h
  exact Fin.sum_univ_add f

theorem index : ∀ t : Fin grid0.N,
    win0_0.index t = ![0, t.val] ∧ win0_1.index t = ![t.val, 0, 0] ∧ win0_2.index t = ![0, 0] := by decide +kernel

set_option maxHeartbeats 1600000 in
theorem equal : (dats m 0 c).arrAt 2 cfg0.N
    = ref (m ((c.tc : Thread nD τ).loc main_arg0)) (m ((c.tc : Thread nD τ).loc main_arg1)) := by
  refine (dats m 0 c).arrAt_eq_of_covers 2 _ (by decide +kernel) fun t hf y => ?_
  have hm : t.val % 4 = 3 := (flush0_2 t).mp hf
  have hN : t.val < 4 := lt_of_lt_of_eq t.isLt (show cfg0.N = 4 from N_0)
  obtain ⟨_, _, i2⟩ := index t
  obtain ⟨j0, j1, _⟩ := index t
  have h1 : t.val - 1 < cfg0.N := Nat.lt_of_le_of_lt (Nat.sub_le _ _) t.isLt
  have h2 : t.val - 1 - 1 < cfg0.N := Nat.lt_of_le_of_lt (Nat.sub_le _ _) h1
  have h3 : t.val - 1 - 1 - 1 < cfg0.N := Nat.lt_of_le_of_lt (Nat.sub_le _ _) h2
  obtain ⟨k0, k1, _⟩ := index ⟨t.val - 1, h1⟩
  obtain ⟨l0, l1, _⟩ := index ⟨t.val - 1 - 1, h2⟩
  obtain ⟨n0, n1, _⟩ := index ⟨t.val - 1 - 1 - 1, h3⟩
  blk_simp
  rw [after0_2]
  refine (last m c t hm y).trans ?_
  rw [show (outsAt0 m c (t.val - 1) h1).2 y = _ from middle m c ⟨t.val - 1, h1⟩
      (by show 1 ≤ (t.val - 1) % 4 ∧ (t.val - 1) % 4 ≤ 2; omega) y,
    show (outsAt0 m c (t.val - 1 - 1) h2).2 y = _ from middle m c ⟨t.val - 1 - 1, h2⟩
      (by show 1 ≤ (t.val - 1 - 1) % 4 ∧ (t.val - 1 - 1) % 4 ≤ 2; omega) y,
    show (outsAt0 m c (t.val - 1 - 1 - 1) h3).2 y = _ from first m c ⟨t.val - 1 - 1 - 1, h3⟩
      (by show (t.val - 1 - 1 - 1) % 4 = 0; omega) y]
  simp only [ref]
  pointwise
  refine Eq.trans ?_ ((split 1536 512 rfl _).trans
    (congrArg (fun x : EReal => x + _) ((split 1024 512 rfl _).trans (congrArg (fun x : EReal => x + _) (split 512 512 rfl _))))).symm
  simp only [part]
  refine congrArg₂ (fun x z : EReal => x + z) (congrArg₂ (fun x z : EReal => x + z)
    (congrArg₂ (fun x z : EReal => x + z) ?_ ?_) ?_) ?_
  all_goals refine Finset.sum_congr (M := EReal) rfl fun k _ => congrArg₂ (fun a b : EReal => a * b) ?_ ?_
  all_goals have hk : k.val < 512 := k.isLt
  all_goals
    blk_ext [iblk, V, i2, j0, j1, k0, k1, l0, l1, n0, n1]
    all_goals omega

end Cert.P16

end
-- ==== Proof.P17.lean ====
/- The product `mm_out`: the kernel's result array is the reference's. -/
module

public import proofs.«01_k».proof.Proof.Gen.Kernel17Ideal.Value
public import proofs.«01_k».proof.Proof.Gen.Reference17Ideal.Run
public import Idealize.ShloMosaic.Lib.Pipeline.ValueKit
public import Idealize.ShloMosaic.Lib.Pipeline.ReadBack
public import Idealize.ShloMosaic.Lib.Pointwise
public import Idealize.ShloMosaic.Lib.Claim

@[expose] public noncomputable section

set_option maxRecDepth 16384

namespace Cert.P17

open Idealize.ShloMosaic Idealize.ShloMosaic.TcCoe Idealize.SL Idealize.SL.Sem

section

open Cert.Reference17Ideal Cert.Reference17Ideal.Gen

/-- The reference's result, as a function of the arguments. -/
def ref (a : FVec Ideal S2048x2048 .bf16) (b : FVec Ideal S2048x2048 .bf16) (d : FVec Ideal S2048x2048 .f32) : FVec Ideal S2048x2048 .f32 :=
  addf d (Host.dotGeneral dot_S2048x2048_S2048x2048_S2048x2048_1_0_0_1_n_n none (extf .f32 a bitsLt_bf16_f32) (extf .f32 b bitsLt_bf16_f32))

end

open Cert.Kernel17Ideal Cert.Kernel17Ideal.Gen

variable (m : (ℓ : Loc nD τ sig) → Buf (Elt Ideal) ℓ) (c : Dev nD)

theorem index : ∀ t : Fin grid0.N,
    win0_0.index t = ![t.val / 2, 0] ∧ win0_1.index t = ![0, t.val % 2] ∧
      win0_2.index t = ![t.val / 2, t.val % 2] ∧ win0_3.index t = ![t.val / 2, t.val % 2] := by decide +kernel

theorem equal : (dats m 0 c).arrAt 3 cfg0.N
    = ref (m ((c.tc : Thread nD τ).loc main_arg0)) (m ((c.tc : Thread nD τ).loc main_arg1))
        (m ((c.tc : Thread nD τ).loc main_arg2)) := by
  refine (dats m 0 c).arrAt_eq_of_covers 3 _ (by decide +kernel) fun t hf y => ?_
  obtain ⟨i0, i1, i2, i3⟩ := index t
  blk_simp
  rw [after0_3]
  frame_out
  simp only [k0_pay1, ref]
  pointwise
  refine (add_comm (G := EReal) _ _).trans (congrArg₂ (fun x z : EReal => x + z) ?_ ?_)
  · blk_ext [iblk, V, i2, i3]
  refine Finset.sum_congr (M := EReal) rfl fun k _ => congrArg₂ (fun a b : EReal => a * b) ?_ ?_
  · blk_ext [iblk, V, i0, i3]
  · blk_ext [iblk, V, i1, i3]

end Cert.P17

end
-- ==== Proof.P18.lean ====
/- The product `mm_branch_a`: the kernel's result array is the reference's. -/
module

public import proofs.«01_k».proof.Proof.Gen.Kernel18Ideal.Value
public import proofs.«01_k».proof.Proof.Gen.Reference18Ideal.Run
public import Idealize.ShloMosaic.Lib.Pipeline.ValueKit
public import Idealize.ShloMosaic.Lib.Pipeline.ReadBack
public import Idealize.ShloMosaic.Lib.Pointwise
public import Idealize.ShloMosaic.Lib.Claim

@[expose] public noncomputable section

set_option maxRecDepth 16384

namespace Cert.P18

open Idealize.ShloMosaic Idealize.ShloMosaic.TcCoe Idealize.SL Idealize.SL.Sem

section

open Cert.Reference18Ideal Cert.Reference18Ideal.Gen

/-- The reference's result, as a function of the arguments. -/
def ref (a : FVec Ideal S2048x1024 .bf16) (b : FVec Ideal S4x1024x512 .bf16) : FVec Ideal S2048x2048 .f32 :=
  Host.dotGeneral dot_S2048x1024_S1024x2048_S2048x2048_1_0_0_1_n_n none (extf .f32 a bitsLt_bf16_f32) (extf .f32 (shapeCast _ (transpose S1024x4x512 [1, 0, 2] b transposes_S4x1024x512_S1024x4x512_1_0_2) shapeCasts_S1024x4x512_S1024x2048) bitsLt_bf16_f32)

end

open Cert.Kernel18Ideal Cert.Kernel18Ideal.Gen

variable (m : (ℓ : Loc nD τ sig) → Buf (Elt Ideal) ℓ) (c : Dev nD)

theorem index : ∀ t : Fin grid0.N,
    win0_0.index t = ![0, 0] ∧ win0_1.index t = ![t.val, 0, 0] ∧ win0_2.index t = ![0, t.val] := by decide +kernel

theorem equal : (dats m 0 c).arrAt 2 cfg0.N
    = ref (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := index t
  blk_simp
  rw [after0_2]
  frame_out
  simp only [k0_pay1, ref]
  pointwise
  refine Finset.sum_congr (M := EReal) rfl fun k _ => congrArg₂ (fun a b : EReal => a * b) ?_ ?_
  · blk_ext [iblk, V, i0, i2]
  · blk_ext [iblk, V, i1, i2]

end Cert.P18

end
-- ==== Proof.P19.lean ====
/- The product `mm_branch_b`: the kernel's result array is the reference's. -/
module

public import proofs.«01_k».proof.Proof.Gen.Kernel19Ideal.Value
public import proofs.«01_k».proof.Proof.Gen.Reference19Ideal.Run
public import Idealize.ShloMosaic.Lib.Pipeline.ValueKit
public import Idealize.ShloMosaic.Lib.Pipeline.ReadBack
public import Idealize.ShloMosaic.Lib.Pointwise
public import Idealize.ShloMosaic.Lib.Claim

@[expose] public noncomputable section

set_option maxRecDepth 16384

namespace Cert.P19

open Idealize.ShloMosaic Idealize.ShloMosaic.TcCoe Idealize.SL Idealize.SL.Sem

section

open Cert.Reference19Ideal Cert.Reference19Ideal.Gen

/-- The reference's result, as a function of the arguments. -/
def ref (a : FVec Ideal S2048x1024 .bf16) (b : FVec Ideal S4x1024x512 .bf16) : FVec Ideal S2048x2048 .f32 :=
  Host.dotGeneral dot_S2048x1024_S1024x2048_S2048x2048_1_0_0_1_n_n none (extf .f32 a bitsLt_bf16_f32) (extf .f32 (shapeCast _ (transpose S1024x4x512 [1, 0, 2] b transposes_S4x1024x512_S1024x4x512_1_0_2) shapeCasts_S1024x4x512_S1024x2048) bitsLt_bf16_f32)

end

open Cert.Kernel19Ideal Cert.Kernel19Ideal.Gen

variable (m : (ℓ : Loc nD τ sig) → Buf (Elt Ideal) ℓ) (c : Dev nD)

theorem index : ∀ t : Fin grid0.N,
    win0_0.index t = ![0, 0] ∧ win0_1.index t = ![t.val, 0, 0] ∧ win0_2.index t = ![0, t.val] := by decide +kernel

theorem equal : (dats m 0 c).arrAt 2 cfg0.N
    = ref (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := index t
  blk_simp
  rw [after0_2]
  frame_out
  simp only [k0_pay1, ref]
  pointwise
  refine Finset.sum_congr (M := EReal) rfl fun k _ => congrArg₂ (fun a b : EReal => a * b) ?_ ?_
  · blk_ext [iblk, V, i0, i2]
  · blk_ext [iblk, V, i1, i2]

end Cert.P19

end
-- ==== Proof.P20.lean ====
/- The optimiser's call `adamw_w_in`: the kernel's result arrays are the reference's. -/
module

public import proofs.«01_k».proof.Proof.Gen.Kernel20Ideal.Value
public import proofs.«01_k».proof.Proof.Gen.Reference20Ideal.Run
public import Idealize.ShloMosaic.Lib.Pipeline.ValueKit
public import Idealize.ShloMosaic.Lib.Pointwise
public import Idealize.ShloMosaic.Lib.Claim

@[expose] public noncomputable section

set_option maxRecDepth 16384

namespace Cert.P20

open Idealize.ShloMosaic Idealize.ShloMosaic.TcCoe Idealize.SL Idealize.SL.Sem

section

open Cert.Reference20Ideal Cert.Reference20Ideal.Gen

/-- The reference's step of the weight. -/
def delta (w g p q : FVec Ideal S8192x2568 .f32) : FVec Ideal S8192x2568 .f32 :=
  mulf (broadcastInDim S8192x2568 ![] bcast_S_S8192x2568 (constant S_ .f32 0xBA83126F#32)) (addf (Host.divf (Host.divf (addf (mulf (broadcastInDim S8192x2568 ![] bcast_S_S8192x2568 (constant S_ .f32 0x3F666666#32)) p) (mulf (broadcastInDim S8192x2568 ![] bcast_S_S8192x2568 (constant S_ .f32 0x3DCCCCCD#32)) g)) (broadcastInDim S8192x2568 ![] bcast_S_S8192x2568 (constant S_ .f32 0x3F26BD02#32))) (addf (Host.sqrt (Host.divf (addf (mulf (broadcastInDim S8192x2568 ![] bcast_S_S8192x2568 (constant S_ .f32 0x3F7FBE77#32)) q) (mulf (broadcastInDim S8192x2568 ![] bcast_S_S8192x2568 (constant S_ .f32 0x3A83126F#32)) (mulf g g))) (broadcastInDim S8192x2568 ![] bcast_S_S8192x2568 (constant S_ .f32 0x3C231ACC#32)))) (broadcastInDim S8192x2568 ![] bcast_S_S8192x2568 (constant S_ .f32 0x322BCC77#32)))) (mulf (broadcastInDim S8192x2568 ![] bcast_S_S8192x2568 (constant S_ .f32 0x3C23D70A#32)) w))

/-- The reference's next first moment. -/
def newM (g p : FVec Ideal S8192x2568 .f32) : FVec Ideal S8192x2568 .f32 :=
  addf (mulf (broadcastInDim S8192x2568 ![] bcast_S_S8192x2568 (constant S_ .f32 0x3F666666#32)) p) (mulf (broadcastInDim S8192x2568 ![] bcast_S_S8192x2568 (constant S_ .f32 0x3DCCCCCD#32)) g)

/-- The reference's next second moment. -/
def newV (g q : FVec Ideal S8192x2568 .f32) : FVec Ideal S8192x2568 .f32 :=
  addf (mulf (broadcastInDim S8192x2568 ![] bcast_S_S8192x2568 (constant S_ .f32 0x3F7FBE77#32)) q) (mulf (broadcastInDim S8192x2568 ![] bcast_S_S8192x2568 (constant S_ .f32 0x3A83126F#32)) (mulf g g))

end

open Cert.Kernel20Ideal Cert.Kernel20Ideal.Gen

variable (m : (ℓ : Loc nD τ sig) → Buf (Elt Ideal) ℓ) (c : Dev nD)

theorem index : ∀ t : Fin grid0.N,
    win0_0.index t = ![t.val, 0] ∧ win0_1.index t = ![t.val, 0] ∧ win0_2.index t = ![t.val, 0] ∧ win0_3.index t = ![t.val, 0] ∧
      win0_4.index t = ![t.val, 0] ∧ win0_5.index t = ![t.val, 0] ∧ win0_6.index t = ![t.val, 0] ∧ win0_7.index t = ![t.val, 0] := by decide +kernel

theorem delta_eq : (dats m 0 c).arrAt 4 cfg0.N
    = delta (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨i0, i1, i2, i3, i4, i5, i6, i7⟩ := index t
  blk_simp
  rw [after0_4]
  frame_out
  simp only [k0_pay3, k0_pay2, k0_pay1, delta]
  pointwise
  have e0 : iblk m c 0 t y = m ((c.tc : Thread nD τ).loc main_arg0) ((win0_4.blk t).view.emb y) := by
    blk_ext [iblk, V, i0, i4]
  have e1 : iblk m c 1 t y = m ((c.tc : Thread nD τ).loc main_arg1) ((win0_4.blk t).view.emb y) := by
    blk_ext [iblk, V, i1, i4]
  have e2 : iblk m c 2 t y = m ((c.tc : Thread nD τ).loc main_arg2) ((win0_4.blk t).view.emb y) := by
    blk_ext [iblk, V, i2, i4]
  have e3 : iblk m c 3 t y = m ((c.tc : Thread nD τ).loc main_arg3) ((win0_4.blk t).view.emb y) := by
    blk_ext [iblk, V, i3, i4]
  simp only [e0, e1, e2, e3]

theorem newM_eq : (dats m 0 c).arrAt 5 cfg0.N
    = newM (m ((c.tc : Thread nD τ).loc main_arg1)) (m ((c.tc : Thread nD τ).loc main_arg2)) := by
  refine (dats m 0 c).arrAt_eq_of_covers 5 _ (by decide +kernel) fun t hf y => ?_
  obtain ⟨i0, i1, i2, i3, i4, i5, i6, i7⟩ := index t
  blk_simp
  rw [after0_5]
  frame_out
  simp only [k0_pay1, newM]
  pointwise
  have e1 : iblk m c 1 t y = m ((c.tc : Thread nD τ).loc main_arg1) ((win0_5.blk t).view.emb y) := by
    blk_ext [iblk, V, i1, i5]
  have e2 : iblk m c 2 t y = m ((c.tc : Thread nD τ).loc main_arg2) ((win0_5.blk t).view.emb y) := by
    blk_ext [iblk, V, i2, i5]
  simp only [e1, e2]

theorem newV_eq : (dats m 0 c).arrAt 6 cfg0.N
    = newV (m ((c.tc : Thread nD τ).loc main_arg1)) (m ((c.tc : Thread nD τ).loc main_arg3)) := by
  refine (dats m 0 c).arrAt_eq_of_covers 6 _ (by decide +kernel) fun t hf y => ?_
  obtain ⟨i0, i1, i2, i3, i4, i5, i6, i7⟩ := index t
  blk_simp
  rw [after0_6]
  frame_out
  simp only [k0_pay2, newV]
  pointwise
  have e1 : iblk m c 1 t y = m ((c.tc : Thread nD τ).loc main_arg1) ((win0_6.blk t).view.emb y) := by
    blk_ext [iblk, V, i1, i6]
  have e3 : iblk m c 3 t y = m ((c.tc : Thread nD τ).loc main_arg3) ((win0_6.blk t).view.emb y) := by
    blk_ext [iblk, V, i3, i6]
  simp only [e1, e3]

theorem passed_eq : (dats m 0 c).arrAt 7 cfg0.N
    = m ((c.tc : Thread nD τ).loc main_arg1) := by
  refine (dats m 0 c).arrAt_eq_of_covers 7 _ (by decide +kernel) fun t hf y => ?_
  obtain ⟨i0, i1, i2, i3, i4, i5, i6, i7⟩ := index t
  blk_simp
  rw [after0_7]
  frame_out
  blk_ext [iblk, V, i1, i7]

end Cert.P20

end
-- ==== Proof.P21.lean ====
/- The optimiser's call `adamw_w_up`: the kernel's result arrays are the reference's. -/
module

public import proofs.«01_k».proof.Proof.Gen.Kernel21Ideal.Value
public import proofs.«01_k».proof.Proof.Gen.Reference21Ideal.Run
public import Idealize.ShloMosaic.Lib.Pipeline.ValueKit
public import Idealize.ShloMosaic.Lib.Pointwise
public import Idealize.ShloMosaic.Lib.Claim

@[expose] public noncomputable section

set_option maxRecDepth 16384

namespace Cert.P21

open Idealize.ShloMosaic Idealize.ShloMosaic.TcCoe Idealize.SL Idealize.SL.Sem

section

open Cert.Reference21Ideal Cert.Reference21Ideal.Gen

/-- The reference's step of the weight. -/
def delta (w g p q : FVec Ideal S8192x2816 .f32) : FVec Ideal S8192x2816 .f32 :=
  mulf (broadcastInDim S8192x2816 ![] bcast_S_S8192x2816 (constant S_ .f32 0xBA83126F#32)) (addf (Host.divf (Host.divf (addf (mulf (broadcastInDim S8192x2816 ![] bcast_S_S8192x2816 (constant S_ .f32 0x3F666666#32)) p) (mulf (broadcastInDim S8192x2816 ![] bcast_S_S8192x2816 (constant S_ .f32 0x3DCCCCCD#32)) g)) (broadcastInDim S8192x2816 ![] bcast_S_S8192x2816 (constant S_ .f32 0x3F26BD02#32))) (addf (Host.sqrt (Host.divf (addf (mulf (broadcastInDim S8192x2816 ![] bcast_S_S8192x2816 (constant S_ .f32 0x3F7FBE77#32)) q) (mulf (broadcastInDim S8192x2816 ![] bcast_S_S8192x2816 (constant S_ .f32 0x3A83126F#32)) (mulf g g))) (broadcastInDim S8192x2816 ![] bcast_S_S8192x2816 (constant S_ .f32 0x3C231ACC#32)))) (broadcastInDim S8192x2816 ![] bcast_S_S8192x2816 (constant S_ .f32 0x322BCC77#32)))) (mulf (broadcastInDim S8192x2816 ![] bcast_S_S8192x2816 (constant S_ .f32 0x3C23D70A#32)) w))

/-- The reference's next first moment. -/
def newM (g p : FVec Ideal S8192x2816 .f32) : FVec Ideal S8192x2816 .f32 :=
  addf (mulf (broadcastInDim S8192x2816 ![] bcast_S_S8192x2816 (constant S_ .f32 0x3F666666#32)) p) (mulf (broadcastInDim S8192x2816 ![] bcast_S_S8192x2816 (constant S_ .f32 0x3DCCCCCD#32)) g)

/-- The reference's next second moment. -/
def newV (g q : FVec Ideal S8192x2816 .f32) : FVec Ideal S8192x2816 .f32 :=
  addf (mulf (broadcastInDim S8192x2816 ![] bcast_S_S8192x2816 (constant S_ .f32 0x3F7FBE77#32)) q) (mulf (broadcastInDim S8192x2816 ![] bcast_S_S8192x2816 (constant S_ .f32 0x3A83126F#32)) (mulf g g))

end

open Cert.Kernel21Ideal Cert.Kernel21Ideal.Gen

variable (m : (ℓ : Loc nD τ sig) → Buf (Elt Ideal) ℓ) (c : Dev nD)

theorem index : ∀ t : Fin grid0.N,
    win0_0.index t = ![t.val, 0] ∧ win0_1.index t = ![t.val, 0] ∧ win0_2.index t = ![t.val, 0] ∧ win0_3.index t = ![t.val, 0] ∧
      win0_4.index t = ![t.val, 0] ∧ win0_5.index t = ![t.val, 0] ∧ win0_6.index t = ![t.val, 0] ∧ win0_7.index t = ![t.val, 0] := by decide +kernel

theorem delta_eq : (dats m 0 c).arrAt 4 cfg0.N
    = delta (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨i0, i1, i2, i3, i4, i5, i6, i7⟩ := index t
  blk_simp
  rw [after0_4]
  frame_out
  simp only [k0_pay3, k0_pay2, k0_pay1, delta]
  pointwise
  have e0 : iblk m c 0 t y = m ((c.tc : Thread nD τ).loc main_arg0) ((win0_4.blk t).view.emb y) := by
    blk_ext [iblk, V, i0, i4]
  have e1 : iblk m c 1 t y = m ((c.tc : Thread nD τ).loc main_arg1) ((win0_4.blk t).view.emb y) := by
    blk_ext [iblk, V, i1, i4]
  have e2 : iblk m c 2 t y = m ((c.tc : Thread nD τ).loc main_arg2) ((win0_4.blk t).view.emb y) := by
    blk_ext [iblk, V, i2, i4]
  have e3 : iblk m c 3 t y = m ((c.tc : Thread nD τ).loc main_arg3) ((win0_4.blk t).view.emb y) := by
    blk_ext [iblk, V, i3, i4]
  simp only [e0, e1, e2, e3]

theorem newM_eq : (dats m 0 c).arrAt 5 cfg0.N
    = newM (m ((c.tc : Thread nD τ).loc main_arg1)) (m ((c.tc : Thread nD τ).loc main_arg2)) := by
  refine (dats m 0 c).arrAt_eq_of_covers 5 _ (by decide +kernel) fun t hf y => ?_
  obtain ⟨i0, i1, i2, i3, i4, i5, i6, i7⟩ := index t
  blk_simp
  rw [after0_5]
  frame_out
  simp only [k0_pay1, newM]
  pointwise
  have e1 : iblk m c 1 t y = m ((c.tc : Thread nD τ).loc main_arg1) ((win0_5.blk t).view.emb y) := by
    blk_ext [iblk, V, i1, i5]
  have e2 : iblk m c 2 t y = m ((c.tc : Thread nD τ).loc main_arg2) ((win0_5.blk t).view.emb y) := by
    blk_ext [iblk, V, i2, i5]
  simp only [e1, e2]

theorem newV_eq : (dats m 0 c).arrAt 6 cfg0.N
    = newV (m ((c.tc : Thread nD τ).loc main_arg1)) (m ((c.tc : Thread nD τ).loc main_arg3)) := by
  refine (dats m 0 c).arrAt_eq_of_covers 6 _ (by decide +kernel) fun t hf y => ?_
  obtain ⟨i0, i1, i2, i3, i4, i5, i6, i7⟩ := index t
  blk_simp
  rw [after0_6]
  frame_out
  simp only [k0_pay2, newV]
  pointwise
  have e1 : iblk m c 1 t y = m ((c.tc : Thread nD τ).loc main_arg1) ((win0_6.blk t).view.emb y) := by
    blk_ext [iblk, V, i1, i6]
  have e3 : iblk m c 3 t y = m ((c.tc : Thread nD τ).loc main_arg3) ((win0_6.blk t).view.emb y) := by
    blk_ext [iblk, V, i3, i6]
  simp only [e1, e3]

theorem passed_eq : (dats m 0 c).arrAt 7 cfg0.N
    = m ((c.tc : Thread nD τ).loc main_arg1) := by
  refine (dats m 0 c).arrAt_eq_of_covers 7 _ (by decide +kernel) fun t hf y => ?_
  obtain ⟨i0, i1, i2, i3, i4, i5, i6, i7⟩ := index t
  blk_simp
  rw [after0_7]
  frame_out
  blk_ext [iblk, V, i1, i7]

end Cert.P21

end
-- ==== Proof.P22.lean ====
/- The optimiser's call `adamw_w_down`: the kernel's result arrays are the reference's. -/
module

public import proofs.«01_k».proof.Proof.Gen.Kernel22Ideal.Value
public import proofs.«01_k».proof.Proof.Gen.Reference22Ideal.Run
public import Idealize.ShloMosaic.Lib.Pipeline.ValueKit
public import Idealize.ShloMosaic.Lib.Pointwise
public import Idealize.ShloMosaic.Lib.Claim

@[expose] public noncomputable section

set_option maxRecDepth 16384

namespace Cert.P22

open Idealize.ShloMosaic Idealize.ShloMosaic.TcCoe Idealize.SL Idealize.SL.Sem

section

open Cert.Reference22Ideal Cert.Reference22Ideal.Gen

/-- The reference's step of the weight. -/
def delta (w g p q : FVec Ideal S5632x2048 .f32) : FVec Ideal S5632x2048 .f32 :=
  mulf (broadcastInDim S5632x2048 ![] bcast_S_S5632x2048 (constant S_ .f32 0xBA83126F#32)) (addf (Host.divf (Host.divf (addf (mulf (broadcastInDim S5632x2048 ![] bcast_S_S5632x2048 (constant S_ .f32 0x3F666666#32)) p) (mulf (broadcastInDim S5632x2048 ![] bcast_S_S5632x2048 (constant S_ .f32 0x3DCCCCCD#32)) g)) (broadcastInDim S5632x2048 ![] bcast_S_S5632x2048 (constant S_ .f32 0x3F26BD02#32))) (addf (Host.sqrt (Host.divf (addf (mulf (broadcastInDim S5632x2048 ![] bcast_S_S5632x2048 (constant S_ .f32 0x3F7FBE77#32)) q) (mulf (broadcastInDim S5632x2048 ![] bcast_S_S5632x2048 (constant S_ .f32 0x3A83126F#32)) (mulf g g))) (broadcastInDim S5632x2048 ![] bcast_S_S5632x2048 (constant S_ .f32 0x3C231ACC#32)))) (broadcastInDim S5632x2048 ![] bcast_S_S5632x2048 (constant S_ .f32 0x322BCC77#32)))) (mulf (broadcastInDim S5632x2048 ![] bcast_S_S5632x2048 (constant S_ .f32 0x3C23D70A#32)) w))

/-- The reference's next first moment. -/
def newM (g p : FVec Ideal S5632x2048 .f32) : FVec Ideal S5632x2048 .f32 :=
  addf (mulf (broadcastInDim S5632x2048 ![] bcast_S_S5632x2048 (constant S_ .f32 0x3F666666#32)) p) (mulf (broadcastInDim S5632x2048 ![] bcast_S_S5632x2048 (constant S_ .f32 0x3DCCCCCD#32)) g)

/-- The reference's next second moment. -/
def newV (g q : FVec Ideal S5632x2048 .f32) : FVec Ideal S5632x2048 .f32 :=
  addf (mulf (broadcastInDim S5632x2048 ![] bcast_S_S5632x2048 (constant S_ .f32 0x3F7FBE77#32)) q) (mulf (broadcastInDim S5632x2048 ![] bcast_S_S5632x2048 (constant S_ .f32 0x3A83126F#32)) (mulf g g))

end

open Cert.Kernel22Ideal Cert.Kernel22Ideal.Gen

variable (m : (ℓ : Loc nD τ sig) → Buf (Elt Ideal) ℓ) (c : Dev nD)

theorem index : ∀ t : Fin grid0.N,
    win0_0.index t = ![t.val, 0] ∧ win0_1.index t = ![t.val, 0] ∧ win0_2.index t = ![t.val, 0] ∧ win0_3.index t = ![t.val, 0] ∧
      win0_4.index t = ![t.val, 0] ∧ win0_5.index t = ![t.val, 0] ∧ win0_6.index t = ![t.val, 0] ∧ win0_7.index t = ![t.val, 0] := by decide +kernel

theorem delta_eq : (dats m 0 c).arrAt 4 cfg0.N
    = delta (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨i0, i1, i2, i3, i4, i5, i6, i7⟩ := index t
  blk_simp
  rw [after0_4]
  frame_out
  simp only [k0_pay3, k0_pay2, k0_pay1, delta]
  pointwise
  have e0 : iblk m c 0 t y = m ((c.tc : Thread nD τ).loc main_arg0) ((win0_4.blk t).view.emb y) := by
    blk_ext [iblk, V, i0, i4]
  have e1 : iblk m c 1 t y = m ((c.tc : Thread nD τ).loc main_arg1) ((win0_4.blk t).view.emb y) := by
    blk_ext [iblk, V, i1, i4]
  have e2 : iblk m c 2 t y = m ((c.tc : Thread nD τ).loc main_arg2) ((win0_4.blk t).view.emb y) := by
    blk_ext [iblk, V, i2, i4]
  have e3 : iblk m c 3 t y = m ((c.tc : Thread nD τ).loc main_arg3) ((win0_4.blk t).view.emb y) := by
    blk_ext [iblk, V, i3, i4]
  simp only [e0, e1, e2, e3]

theorem newM_eq : (dats m 0 c).arrAt 5 cfg0.N
    = newM (m ((c.tc : Thread nD τ).loc main_arg1)) (m ((c.tc : Thread nD τ).loc main_arg2)) := by
  refine (dats m 0 c).arrAt_eq_of_covers 5 _ (by decide +kernel) fun t hf y => ?_
  obtain ⟨i0, i1, i2, i3, i4, i5, i6, i7⟩ := index t
  blk_simp
  rw [after0_5]
  frame_out
  simp only [k0_pay1, newM]
  pointwise
  have e1 : iblk m c 1 t y = m ((c.tc : Thread nD τ).loc main_arg1) ((win0_5.blk t).view.emb y) := by
    blk_ext [iblk, V, i1, i5]
  have e2 : iblk m c 2 t y = m ((c.tc : Thread nD τ).loc main_arg2) ((win0_5.blk t).view.emb y) := by
    blk_ext [iblk, V, i2, i5]
  simp only [e1, e2]

theorem newV_eq : (dats m 0 c).arrAt 6 cfg0.N
    = newV (m ((c.tc : Thread nD τ).loc main_arg1)) (m ((c.tc : Thread nD τ).loc main_arg3)) := by
  refine (dats m 0 c).arrAt_eq_of_covers 6 _ (by decide +kernel) fun t hf y => ?_
  obtain ⟨i0, i1, i2, i3, i4, i5, i6, i7⟩ := index t
  blk_simp
  rw [after0_6]
  frame_out
  simp only [k0_pay2, newV]
  pointwise
  have e1 : iblk m c 1 t y = m ((c.tc : Thread nD τ).loc main_arg1) ((win0_6.blk t).view.emb y) := by
    blk_ext [iblk, V, i1, i6]
  have e3 : iblk m c 3 t y = m ((c.tc : Thread nD τ).loc main_arg3) ((win0_6.blk t).view.emb y) := by
    blk_ext [iblk, V, i3, i6]
  simp only [e1, e3]

theorem passed_eq : (dats m 0 c).arrAt 7 cfg0.N
    = m ((c.tc : Thread nD τ).loc main_arg1) := by
  refine (dats m 0 c).arrAt_eq_of_covers 7 _ (by decide +kernel) fun t hf y => ?_
  obtain ⟨i0, i1, i2, i3, i4, i5, i6, i7⟩ := index t
  blk_simp
  rw [after0_7]
  frame_out
  blk_ext [iblk, V, i1, i7]

end Cert.P22

end
-- ==== Proof.P23.lean ====
/- The optimiser's call `adamw_w_out`: the kernel's result arrays are the reference's. -/
module

public import proofs.«01_k».proof.Proof.Gen.Kernel23Ideal.Value
public import proofs.«01_k».proof.Proof.Gen.Reference23Ideal.Run
public import Idealize.ShloMosaic.Lib.Pipeline.ValueKit
public import Idealize.ShloMosaic.Lib.Pointwise
public import Idealize.ShloMosaic.Lib.Claim

@[expose] public noncomputable section

set_option maxRecDepth 16384

namespace Cert.P23

open Idealize.ShloMosaic Idealize.ShloMosaic.TcCoe Idealize.SL Idealize.SL.Sem

section

open Cert.Reference23Ideal Cert.Reference23Ideal.Gen

/-- The reference's step of the weight. -/
def delta (w g p q : FVec Ideal S2048x2048 .f32) : FVec Ideal S2048x2048 .f32 :=
  mulf (broadcastInDim S2048x2048 ![] bcast_S_S2048x2048 (constant S_ .f32 0xBA83126F#32)) (addf (Host.divf (Host.divf (addf (mulf (broadcastInDim S2048x2048 ![] bcast_S_S2048x2048 (constant S_ .f32 0x3F666666#32)) p) (mulf (broadcastInDim S2048x2048 ![] bcast_S_S2048x2048 (constant S_ .f32 0x3DCCCCCD#32)) g)) (broadcastInDim S2048x2048 ![] bcast_S_S2048x2048 (constant S_ .f32 0x3F26BD02#32))) (addf (Host.sqrt (Host.divf (addf (mulf (broadcastInDim S2048x2048 ![] bcast_S_S2048x2048 (constant S_ .f32 0x3F7FBE77#32)) q) (mulf (broadcastInDim S2048x2048 ![] bcast_S_S2048x2048 (constant S_ .f32 0x3A83126F#32)) (mulf g g))) (broadcastInDim S2048x2048 ![] bcast_S_S2048x2048 (constant S_ .f32 0x3C231ACC#32)))) (broadcastInDim S2048x2048 ![] bcast_S_S2048x2048 (constant S_ .f32 0x322BCC77#32)))) (mulf (broadcastInDim S2048x2048 ![] bcast_S_S2048x2048 (constant S_ .f32 0x3C23D70A#32)) w))

/-- The reference's next first moment. -/
def newM (g p : FVec Ideal S2048x2048 .f32) : FVec Ideal S2048x2048 .f32 :=
  addf (mulf (broadcastInDim S2048x2048 ![] bcast_S_S2048x2048 (constant S_ .f32 0x3F666666#32)) p) (mulf (broadcastInDim S2048x2048 ![] bcast_S_S2048x2048 (constant S_ .f32 0x3DCCCCCD#32)) g)

/-- The reference's next second moment. -/
def newV (g q : FVec Ideal S2048x2048 .f32) : FVec Ideal S2048x2048 .f32 :=
  addf (mulf (broadcastInDim S2048x2048 ![] bcast_S_S2048x2048 (constant S_ .f32 0x3F7FBE77#32)) q) (mulf (broadcastInDim S2048x2048 ![] bcast_S_S2048x2048 (constant S_ .f32 0x3A83126F#32)) (mulf g g))

end

open Cert.Kernel23Ideal Cert.Kernel23Ideal.Gen

variable (m : (ℓ : Loc nD τ sig) → Buf (Elt Ideal) ℓ) (c : Dev nD)

theorem index : ∀ t : Fin grid0.N,
    win0_0.index t = ![t.val, 0] ∧ win0_1.index t = ![t.val, 0] ∧ win0_2.index t = ![t.val, 0] ∧ win0_3.index t = ![t.val, 0] ∧
      win0_4.index t = ![t.val, 0] ∧ win0_5.index t = ![t.val, 0] ∧ win0_6.index t = ![t.val, 0] ∧ win0_7.index t = ![t.val, 0] := by decide +kernel

theorem delta_eq : (dats m 0 c).arrAt 4 cfg0.N
    = delta (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨i0, i1, i2, i3, i4, i5, i6, i7⟩ := index t
  blk_simp
  rw [after0_4]
  frame_out
  simp only [k0_pay3, k0_pay2, k0_pay1, delta]
  pointwise
  have e0 : iblk m c 0 t y = m ((c.tc : Thread nD τ).loc main_arg0) ((win0_4.blk t).view.emb y) := by
    blk_ext [iblk, V, i0, i4]
  have e1 : iblk m c 1 t y = m ((c.tc : Thread nD τ).loc main_arg1) ((win0_4.blk t).view.emb y) := by
    blk_ext [iblk, V, i1, i4]
  have e2 : iblk m c 2 t y = m ((c.tc : Thread nD τ).loc main_arg2) ((win0_4.blk t).view.emb y) := by
    blk_ext [iblk, V, i2, i4]
  have e3 : iblk m c 3 t y = m ((c.tc : Thread nD τ).loc main_arg3) ((win0_4.blk t).view.emb y) := by
    blk_ext [iblk, V, i3, i4]
  simp only [e0, e1, e2, e3]

theorem newM_eq : (dats m 0 c).arrAt 5 cfg0.N
    = newM (m ((c.tc : Thread nD τ).loc main_arg1)) (m ((c.tc : Thread nD τ).loc main_arg2)) := by
  refine (dats m 0 c).arrAt_eq_of_covers 5 _ (by decide +kernel) fun t hf y => ?_
  obtain ⟨i0, i1, i2, i3, i4, i5, i6, i7⟩ := index t
  blk_simp
  rw [after0_5]
  frame_out
  simp only [k0_pay1, newM]
  pointwise
  have e1 : iblk m c 1 t y = m ((c.tc : Thread nD τ).loc main_arg1) ((win0_5.blk t).view.emb y) := by
    blk_ext [iblk, V, i1, i5]
  have e2 : iblk m c 2 t y = m ((c.tc : Thread nD τ).loc main_arg2) ((win0_5.blk t).view.emb y) := by
    blk_ext [iblk, V, i2, i5]
  simp only [e1, e2]

theorem newV_eq : (dats m 0 c).arrAt 6 cfg0.N
    = newV (m ((c.tc : Thread nD τ).loc main_arg1)) (m ((c.tc : Thread nD τ).loc main_arg3)) := by
  refine (dats m 0 c).arrAt_eq_of_covers 6 _ (by decide +kernel) fun t hf y => ?_
  obtain ⟨i0, i1, i2, i3, i4, i5, i6, i7⟩ := index t
  blk_simp
  rw [after0_6]
  frame_out
  simp only [k0_pay2, newV]
  pointwise
  have e1 : iblk m c 1 t y = m ((c.tc : Thread nD τ).loc main_arg1) ((win0_6.blk t).view.emb y) := by
    blk_ext [iblk, V, i1, i6]
  have e3 : iblk m c 3 t y = m ((c.tc : Thread nD τ).loc main_arg3) ((win0_6.blk t).view.emb y) := by
    blk_ext [iblk, V, i3, i6]
  simp only [e1, e3]

theorem passed_eq : (dats m 0 c).arrAt 7 cfg0.N
    = m ((c.tc : Thread nD τ).loc main_arg1) := by
  refine (dats m 0 c).arrAt_eq_of_covers 7 _ (by decide +kernel) fun t hf y => ?_
  obtain ⟨i0, i1, i2, i3, i4, i5, i6, i7⟩ := index t
  blk_simp
  rw [after0_7]
  frame_out
  blk_ext [iblk, V, i1, i7]

end Cert.P23

end
-- ==== Proof.P24.lean ====
/- The optimiser's call `adamw_w_branch_a`: the kernel's result arrays are the reference's. -/
module

public import proofs.«01_k».proof.Proof.Gen.Kernel24Ideal.Value
public import proofs.«01_k».proof.Proof.Gen.Reference24Ideal.Run
public import Idealize.ShloMosaic.Lib.Pipeline.ValueKit
public import Idealize.ShloMosaic.Lib.Pointwise
public import Idealize.ShloMosaic.Lib.Claim

@[expose] public noncomputable section

set_option maxRecDepth 16384

namespace Cert.P24

open Idealize.ShloMosaic Idealize.ShloMosaic.TcCoe Idealize.SL Idealize.SL.Sem

section

open Cert.Reference24Ideal Cert.Reference24Ideal.Gen

/-- The reference's step of the weight. -/
def delta (w g p q : FVec Ideal S4096x512 .f32) : FVec Ideal S4096x512 .f32 :=
  mulf (broadcastInDim S4096x512 ![] bcast_S_S4096x512 (constant S_ .f32 0xBA83126F#32)) (addf (Host.divf (Host.divf (addf (mulf (broadcastInDim S4096x512 ![] bcast_S_S4096x512 (constant S_ .f32 0x3F666666#32)) p) (mulf (broadcastInDim S4096x512 ![] bcast_S_S4096x512 (constant S_ .f32 0x3DCCCCCD#32)) g)) (broadcastInDim S4096x512 ![] bcast_S_S4096x512 (constant S_ .f32 0x3F26BD02#32))) (addf (Host.sqrt (Host.divf (addf (mulf (broadcastInDim S4096x512 ![] bcast_S_S4096x512 (constant S_ .f32 0x3F7FBE77#32)) q) (mulf (broadcastInDim S4096x512 ![] bcast_S_S4096x512 (constant S_ .f32 0x3A83126F#32)) (mulf g g))) (broadcastInDim S4096x512 ![] bcast_S_S4096x512 (constant S_ .f32 0x3C231ACC#32)))) (broadcastInDim S4096x512 ![] bcast_S_S4096x512 (constant S_ .f32 0x322BCC77#32)))) (mulf (broadcastInDim S4096x512 ![] bcast_S_S4096x512 (constant S_ .f32 0x3C23D70A#32)) w))

/-- The reference's next first moment. -/
def newM (g p : FVec Ideal S4096x512 .f32) : FVec Ideal S4096x512 .f32 :=
  addf (mulf (broadcastInDim S4096x512 ![] bcast_S_S4096x512 (constant S_ .f32 0x3F666666#32)) p) (mulf (broadcastInDim S4096x512 ![] bcast_S_S4096x512 (constant S_ .f32 0x3DCCCCCD#32)) g)

/-- The reference's next second moment. -/
def newV (g q : FVec Ideal S4096x512 .f32) : FVec Ideal S4096x512 .f32 :=
  addf (mulf (broadcastInDim S4096x512 ![] bcast_S_S4096x512 (constant S_ .f32 0x3F7FBE77#32)) q) (mulf (broadcastInDim S4096x512 ![] bcast_S_S4096x512 (constant S_ .f32 0x3A83126F#32)) (mulf g g))

end

open Cert.Kernel24Ideal Cert.Kernel24Ideal.Gen

variable (m : (ℓ : Loc nD τ sig) → Buf (Elt Ideal) ℓ) (c : Dev nD)

theorem index : ∀ t : Fin grid0.N,
    win0_0.index t = ![t.val, 0] ∧ win0_1.index t = ![t.val, 0] ∧ win0_2.index t = ![t.val, 0] ∧ win0_3.index t = ![t.val, 0] ∧
      win0_4.index t = ![t.val, 0] ∧ win0_5.index t = ![t.val, 0] ∧ win0_6.index t = ![t.val, 0] ∧ win0_7.index t = ![t.val, 0] := by decide +kernel

theorem delta_eq : (dats m 0 c).arrAt 4 cfg0.N
    = delta (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨i0, i1, i2, i3, i4, i5, i6, i7⟩ := index t
  blk_simp
  rw [after0_4]
  frame_out
  simp only [k0_pay3, k0_pay2, k0_pay1, delta]
  pointwise
  have e0 : iblk m c 0 t y = m ((c.tc : Thread nD τ).loc main_arg0) ((win0_4.blk t).view.emb y) := by
    blk_ext [iblk, V, i0, i4]
  have e1 : iblk m c 1 t y = m ((c.tc : Thread nD τ).loc main_arg1) ((win0_4.blk t).view.emb y) := by
    blk_ext [iblk, V, i1, i4]
  have e2 : iblk m c 2 t y = m ((c.tc : Thread nD τ).loc main_arg2) ((win0_4.blk t).view.emb y) := by
    blk_ext [iblk, V, i2, i4]
  have e3 : iblk m c 3 t y = m ((c.tc : Thread nD τ).loc main_arg3) ((win0_4.blk t).view.emb y) := by
    blk_ext [iblk, V, i3, i4]
  simp only [e0, e1, e2, e3]

theorem newM_eq : (dats m 0 c).arrAt 5 cfg0.N
    = newM (m ((c.tc : Thread nD τ).loc main_arg1)) (m ((c.tc : Thread nD τ).loc main_arg2)) := by
  refine (dats m 0 c).arrAt_eq_of_covers 5 _ (by decide +kernel) fun t hf y => ?_
  obtain ⟨i0, i1, i2, i3, i4, i5, i6, i7⟩ := index t
  blk_simp
  rw [after0_5]
  frame_out
  simp only [k0_pay1, newM]
  pointwise
  have e1 : iblk m c 1 t y = m ((c.tc : Thread nD τ).loc main_arg1) ((win0_5.blk t).view.emb y) := by
    blk_ext [iblk, V, i1, i5]
  have e2 : iblk m c 2 t y = m ((c.tc : Thread nD τ).loc main_arg2) ((win0_5.blk t).view.emb y) := by
    blk_ext [iblk, V, i2, i5]
  simp only [e1, e2]

theorem newV_eq : (dats m 0 c).arrAt 6 cfg0.N
    = newV (m ((c.tc : Thread nD τ).loc main_arg1)) (m ((c.tc : Thread nD τ).loc main_arg3)) := by
  refine (dats m 0 c).arrAt_eq_of_covers 6 _ (by decide +kernel) fun t hf y => ?_
  obtain ⟨i0, i1, i2, i3, i4, i5, i6, i7⟩ := index t
  blk_simp
  rw [after0_6]
  frame_out
  simp only [k0_pay2, newV]
  pointwise
  have e1 : iblk m c 1 t y = m ((c.tc : Thread nD τ).loc main_arg1) ((win0_6.blk t).view.emb y) := by
    blk_ext [iblk, V, i1, i6]
  have e3 : iblk m c 3 t y = m ((c.tc : Thread nD τ).loc main_arg3) ((win0_6.blk t).view.emb y) := by
    blk_ext [iblk, V, i3, i6]
  simp only [e1, e3]

theorem passed_eq : (dats m 0 c).arrAt 7 cfg0.N
    = m ((c.tc : Thread nD τ).loc main_arg1) := by
  refine (dats m 0 c).arrAt_eq_of_covers 7 _ (by decide +kernel) fun t hf y => ?_
  obtain ⟨i0, i1, i2, i3, i4, i5, i6, i7⟩ := index t
  blk_simp
  rw [after0_7]
  frame_out
  blk_ext [iblk, V, i1, i7]

end Cert.P24

end
-- ==== Proof.P25.lean ====
/- The optimiser's call `adamw_norm_mix_g`: the kernel's result arrays are the reference's. -/
module

public import proofs.«01_k».proof.Proof.Gen.Kernel25Ideal.Value
public import proofs.«01_k».proof.Proof.Gen.Reference25Ideal.Run
public import Idealize.ShloMosaic.Lib.Pipeline.ValueKit
public import Idealize.ShloMosaic.Lib.Pointwise
public import Idealize.ShloMosaic.Lib.Claim

@[expose] public noncomputable section

set_option maxRecDepth 16384

namespace Cert.P25

open Idealize.ShloMosaic Idealize.ShloMosaic.TcCoe Idealize.SL Idealize.SL.Sem

section

open Cert.Reference25Ideal Cert.Reference25Ideal.Gen

/-- The reference's step of the weight. -/
def delta (w g p q : FVec Ideal S4x2048 .f32) : FVec Ideal S4x2048 .f32 :=
  mulf (broadcastInDim S4x2048 ![] bcast_S_S4x2048 (constant S_ .f32 0xBA83126F#32)) (addf (Host.divf (Host.divf (addf (mulf (broadcastInDim S4x2048 ![] bcast_S_S4x2048 (constant S_ .f32 0x3F666666#32)) p) (mulf (broadcastInDim S4x2048 ![] bcast_S_S4x2048 (constant S_ .f32 0x3DCCCCCD#32)) g)) (broadcastInDim S4x2048 ![] bcast_S_S4x2048 (constant S_ .f32 0x3F26BD02#32))) (addf (Host.sqrt (Host.divf (addf (mulf (broadcastInDim S4x2048 ![] bcast_S_S4x2048 (constant S_ .f32 0x3F7FBE77#32)) q) (mulf (broadcastInDim S4x2048 ![] bcast_S_S4x2048 (constant S_ .f32 0x3A83126F#32)) (mulf g g))) (broadcastInDim S4x2048 ![] bcast_S_S4x2048 (constant S_ .f32 0x3C231ACC#32)))) (broadcastInDim S4x2048 ![] bcast_S_S4x2048 (constant S_ .f32 0x322BCC77#32)))) (mulf (broadcastInDim S4x2048 ![] bcast_S_S4x2048 (constant S_ .f32 0x3C23D70A#32)) w))

/-- The reference's next first moment. -/
def newM (g p : FVec Ideal S4x2048 .f32) : FVec Ideal S4x2048 .f32 :=
  addf (mulf (broadcastInDim S4x2048 ![] bcast_S_S4x2048 (constant S_ .f32 0x3F666666#32)) p) (mulf (broadcastInDim S4x2048 ![] bcast_S_S4x2048 (constant S_ .f32 0x3DCCCCCD#32)) g)

/-- The reference's next second moment. -/
def newV (g q : FVec Ideal S4x2048 .f32) : FVec Ideal S4x2048 .f32 :=
  addf (mulf (broadcastInDim S4x2048 ![] bcast_S_S4x2048 (constant S_ .f32 0x3F7FBE77#32)) q) (mulf (broadcastInDim S4x2048 ![] bcast_S_S4x2048 (constant S_ .f32 0x3A83126F#32)) (mulf g g))

end

open Cert.Kernel25Ideal Cert.Kernel25Ideal.Gen

variable (m : (ℓ : Loc nD τ sig) → Buf (Elt Ideal) ℓ) (c : Dev nD)

theorem index : ∀ t : Fin grid0.N,
    win0_0.index t = ![t.val, 0] ∧ win0_1.index t = ![t.val, 0] ∧ win0_2.index t = ![t.val, 0] ∧ win0_3.index t = ![t.val, 0] ∧
      win0_4.index t = ![t.val, 0] ∧ win0_5.index t = ![t.val, 0] ∧ win0_6.index t = ![t.val, 0] := by decide +kernel

theorem delta_eq : (dats m 0 c).arrAt 4 cfg0.N
    = delta (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨i0, i1, i2, i3, i4, i5, i6⟩ := index t
  blk_simp
  rw [after0_4]
  frame_out
  simp only [k0_pay3, k0_pay2, k0_pay1, delta]
  pointwise
  have e0 : iblk m c 0 t y = m ((c.tc : Thread nD τ).loc main_arg0) ((win0_4.blk t).view.emb y) := by
    blk_ext [iblk, V, i0, i4]
  have e1 : iblk m c 1 t y = m ((c.tc : Thread nD τ).loc main_arg1) ((win0_4.blk t).view.emb y) := by
    blk_ext [iblk, V, i1, i4]
  have e2 : iblk m c 2 t y = m ((c.tc : Thread nD τ).loc main_arg2) ((win0_4.blk t).view.emb y) := by
    blk_ext [iblk, V, i2, i4]
  have e3 : iblk m c 3 t y = m ((c.tc : Thread nD τ).loc main_arg3) ((win0_4.blk t).view.emb y) := by
    blk_ext [iblk, V, i3, i4]
  simp only [e0, e1, e2, e3]

theorem newM_eq : (dats m 0 c).arrAt 5 cfg0.N
    = newM (m ((c.tc : Thread nD τ).loc main_arg1)) (m ((c.tc : Thread nD τ).loc main_arg2)) := by
  refine (dats m 0 c).arrAt_eq_of_covers 5 _ (by decide +kernel) fun t hf y => ?_
  obtain ⟨i0, i1, i2, i3, i4, i5, i6⟩ := index t
  blk_simp
  rw [after0_5]
  frame_out
  simp only [k0_pay1, newM]
  pointwise
  have e1 : iblk m c 1 t y = m ((c.tc : Thread nD τ).loc main_arg1) ((win0_5.blk t).view.emb y) := by
    blk_ext [iblk, V, i1, i5]
  have e2 : iblk m c 2 t y = m ((c.tc : Thread nD τ).loc main_arg2) ((win0_5.blk t).view.emb y) := by
    blk_ext [iblk, V, i2, i5]
  simp only [e1, e2]

theorem newV_eq : (dats m 0 c).arrAt 6 cfg0.N
    = newV (m ((c.tc : Thread nD τ).loc main_arg1)) (m ((c.tc : Thread nD τ).loc main_arg3)) := by
  refine (dats m 0 c).arrAt_eq_of_covers 6 _ (by decide +kernel) fun t hf y => ?_
  obtain ⟨i0, i1, i2, i3, i4, i5, i6⟩ := index t
  blk_simp
  rw [after0_6]
  frame_out
  simp only [k0_pay2, newV]
  pointwise
  have e1 : iblk m c 1 t y = m ((c.tc : Thread nD τ).loc main_arg1) ((win0_6.blk t).view.emb y) := by
    blk_ext [iblk, V, i1, i6]
  have e3 : iblk m c 3 t y = m ((c.tc : Thread nD τ).loc main_arg3) ((win0_6.blk t).view.emb y) := by
    blk_ext [iblk, V, i3, i6]
  simp only [e1, e3]

end Cert.P25

end
-- ==== Proof.P26.lean ====
/- The optimiser's call `adamw_sgu_ln_g`: the kernel's result arrays are the reference's. -/
module

public import proofs.«01_k».proof.Proof.Gen.Kernel26Ideal.Value
public import proofs.«01_k».proof.Proof.Gen.Reference26Ideal.Run
public import Idealize.ShloMosaic.Lib.Pipeline.ValueKit
public import Idealize.ShloMosaic.Lib.Pointwise
public import Idealize.ShloMosaic.Lib.Claim

@[expose] public noncomputable section

set_option maxRecDepth 16384

namespace Cert.P26

open Idealize.ShloMosaic Idealize.ShloMosaic.TcCoe Idealize.SL Idealize.SL.Sem

section

open Cert.Reference26Ideal Cert.Reference26Ideal.Gen

/-- The reference's step of the weight. -/
def delta (w g p q : FVec Ideal S4x1024 .f32) : FVec Ideal S4x1024 .f32 :=
  mulf (broadcastInDim S4x1024 ![] bcast_S_S4x1024 (constant S_ .f32 0xBA83126F#32)) (addf (Host.divf (Host.divf (addf (mulf (broadcastInDim S4x1024 ![] bcast_S_S4x1024 (constant S_ .f32 0x3F666666#32)) p) (mulf (broadcastInDim S4x1024 ![] bcast_S_S4x1024 (constant S_ .f32 0x3DCCCCCD#32)) g)) (broadcastInDim S4x1024 ![] bcast_S_S4x1024 (constant S_ .f32 0x3F26BD02#32))) (addf (Host.sqrt (Host.divf (addf (mulf (broadcastInDim S4x1024 ![] bcast_S_S4x1024 (constant S_ .f32 0x3F7FBE77#32)) q) (mulf (broadcastInDim S4x1024 ![] bcast_S_S4x1024 (constant S_ .f32 0x3A83126F#32)) (mulf g g))) (broadcastInDim S4x1024 ![] bcast_S_S4x1024 (constant S_ .f32 0x3C231ACC#32)))) (broadcastInDim S4x1024 ![] bcast_S_S4x1024 (constant S_ .f32 0x322BCC77#32)))) (mulf (broadcastInDim S4x1024 ![] bcast_S_S4x1024 (constant S_ .f32 0x3C23D70A#32)) w))

/-- The reference's next first moment. -/
def newM (g p : FVec Ideal S4x1024 .f32) : FVec Ideal S4x1024 .f32 :=
  addf (mulf (broadcastInDim S4x1024 ![] bcast_S_S4x1024 (constant S_ .f32 0x3F666666#32)) p) (mulf (broadcastInDim S4x1024 ![] bcast_S_S4x1024 (constant S_ .f32 0x3DCCCCCD#32)) g)

/-- The reference's next second moment. -/
def newV (g q : FVec Ideal S4x1024 .f32) : FVec Ideal S4x1024 .f32 :=
  addf (mulf (broadcastInDim S4x1024 ![] bcast_S_S4x1024 (constant S_ .f32 0x3F7FBE77#32)) q) (mulf (broadcastInDim S4x1024 ![] bcast_S_S4x1024 (constant S_ .f32 0x3A83126F#32)) (mulf g g))

end

open Cert.Kernel26Ideal Cert.Kernel26Ideal.Gen

variable (m : (ℓ : Loc nD τ sig) → Buf (Elt Ideal) ℓ) (c : Dev nD)

theorem index : ∀ t : Fin grid0.N,
    win0_0.index t = ![t.val, 0] ∧ win0_1.index t = ![t.val, 0] ∧ win0_2.index t = ![t.val, 0] ∧ win0_3.index t = ![t.val, 0] ∧
      win0_4.index t = ![t.val, 0] ∧ win0_5.index t = ![t.val, 0] ∧ win0_6.index t = ![t.val, 0] := by decide +kernel

theorem delta_eq : (dats m 0 c).arrAt 4 cfg0.N
    = delta (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨i0, i1, i2, i3, i4, i5, i6⟩ := index t
  blk_simp
  rw [after0_4]
  frame_out
  simp only [k0_pay3, k0_pay2, k0_pay1, delta]
  pointwise
  have e0 : iblk m c 0 t y = m ((c.tc : Thread nD τ).loc main_arg0) ((win0_4.blk t).view.emb y) := by
    blk_ext [iblk, V, i0, i4]
  have e1 : iblk m c 1 t y = m ((c.tc : Thread nD τ).loc main_arg1) ((win0_4.blk t).view.emb y) := by
    blk_ext [iblk, V, i1, i4]
  have e2 : iblk m c 2 t y = m ((c.tc : Thread nD τ).loc main_arg2) ((win0_4.blk t).view.emb y) := by
    blk_ext [iblk, V, i2, i4]
  have e3 : iblk m c 3 t y = m ((c.tc : Thread nD τ).loc main_arg3) ((win0_4.blk t).view.emb y) := by
    blk_ext [iblk, V, i3, i4]
  simp only [e0, e1, e2, e3]

theorem newM_eq : (dats m 0 c).arrAt 5 cfg0.N
    = newM (m ((c.tc : Thread nD τ).loc main_arg1)) (m ((c.tc : Thread nD τ).loc main_arg2)) := by
  refine (dats m 0 c).arrAt_eq_of_covers 5 _ (by decide +kernel) fun t hf y => ?_
  obtain ⟨i0, i1, i2, i3, i4, i5, i6⟩ := index t
  blk_simp
  rw [after0_5]
  frame_out
  simp only [k0_pay1, newM]
  pointwise
  have e1 : iblk m c 1 t y = m ((c.tc : Thread nD τ).loc main_arg1) ((win0_5.blk t).view.emb y) := by
    blk_ext [iblk, V, i1, i5]
  have e2 : iblk m c 2 t y = m ((c.tc : Thread nD τ).loc main_arg2) ((win0_5.blk t).view.emb y) := by
    blk_ext [iblk, V, i2, i5]
  simp only [e1, e2]

theorem newV_eq : (dats m 0 c).arrAt 6 cfg0.N
    = newV (m ((c.tc : Thread nD τ).loc main_arg1)) (m ((c.tc : Thread nD τ).loc main_arg3)) := by
  refine (dats m 0 c).arrAt_eq_of_covers 6 _ (by decide +kernel) fun t hf y => ?_
  obtain ⟨i0, i1, i2, i3, i4, i5, i6⟩ := index t
  blk_simp
  rw [after0_6]
  frame_out
  simp only [k0_pay2, newV]
  pointwise
  have e1 : iblk m c 1 t y = m ((c.tc : Thread nD τ).loc main_arg1) ((win0_6.blk t).view.emb y) := by
    blk_ext [iblk, V, i1, i6]
  have e3 : iblk m c 3 t y = m ((c.tc : Thread nD τ).loc main_arg3) ((win0_6.blk t).view.emb y) := by
    blk_ext [iblk, V, i3, i6]
  simp only [e1, e3]

end Cert.P26

end
-- ==== Proof.P27.lean ====
/- The optimiser's call `adamw_gdn_norm_g`: the kernel's result arrays are the reference's. -/
module

public import proofs.«01_k».proof.Proof.Gen.Kernel27Ideal.Value
public import proofs.«01_k».proof.Proof.Gen.Reference27Ideal.Run
public import Idealize.ShloMosaic.Lib.Pipeline.ValueKit
public import Idealize.ShloMosaic.Lib.Pointwise
public import Idealize.ShloMosaic.Lib.Claim

@[expose] public noncomputable section

set_option maxRecDepth 16384

namespace Cert.P27

open Idealize.ShloMosaic Idealize.ShloMosaic.TcCoe Idealize.SL Idealize.SL.Sem

section

open Cert.Reference27Ideal Cert.Reference27Ideal.Gen

/-- The reference's step of the weight. -/
def delta (w g p q : FVec Ideal S4x128 .f32) : FVec Ideal S4x128 .f32 :=
  mulf (broadcastInDim S4x128 ![] bcast_S_S4x128 (constant S_ .f32 0xBA83126F#32)) (addf (Host.divf (Host.divf (addf (mulf (broadcastInDim S4x128 ![] bcast_S_S4x128 (constant S_ .f32 0x3F666666#32)) p) (mulf (broadcastInDim S4x128 ![] bcast_S_S4x128 (constant S_ .f32 0x3DCCCCCD#32)) g)) (broadcastInDim S4x128 ![] bcast_S_S4x128 (constant S_ .f32 0x3F26BD02#32))) (addf (Host.sqrt (Host.divf (addf (mulf (broadcastInDim S4x128 ![] bcast_S_S4x128 (constant S_ .f32 0x3F7FBE77#32)) q) (mulf (broadcastInDim S4x128 ![] bcast_S_S4x128 (constant S_ .f32 0x3A83126F#32)) (mulf g g))) (broadcastInDim S4x128 ![] bcast_S_S4x128 (constant S_ .f32 0x3C231ACC#32)))) (broadcastInDim S4x128 ![] bcast_S_S4x128 (constant S_ .f32 0x322BCC77#32)))) (mulf (broadcastInDim S4x128 ![] bcast_S_S4x128 (constant S_ .f32 0x3C23D70A#32)) w))

/-- The reference's next first moment. -/
def newM (g p : FVec Ideal S4x128 .f32) : FVec Ideal S4x128 .f32 :=
  addf (mulf (broadcastInDim S4x128 ![] bcast_S_S4x128 (constant S_ .f32 0x3F666666#32)) p) (mulf (broadcastInDim S4x128 ![] bcast_S_S4x128 (constant S_ .f32 0x3DCCCCCD#32)) g)

/-- The reference's next second moment. -/
def newV (g q : FVec Ideal S4x128 .f32) : FVec Ideal S4x128 .f32 :=
  addf (mulf (broadcastInDim S4x128 ![] bcast_S_S4x128 (constant S_ .f32 0x3F7FBE77#32)) q) (mulf (broadcastInDim S4x128 ![] bcast_S_S4x128 (constant S_ .f32 0x3A83126F#32)) (mulf g g))

end

open Cert.Kernel27Ideal Cert.Kernel27Ideal.Gen

variable (m : (ℓ : Loc nD τ sig) → Buf (Elt Ideal) ℓ) (c : Dev nD)

theorem index : ∀ t : Fin grid0.N,
    win0_0.index t = ![t.val, 0] ∧ win0_1.index t = ![t.val, 0] ∧ win0_2.index t = ![t.val, 0] ∧ win0_3.index t = ![t.val, 0] ∧
      win0_4.index t = ![t.val, 0] ∧ win0_5.index t = ![t.val, 0] ∧ win0_6.index t = ![t.val, 0] := by decide +kernel

theorem delta_eq : (dats m 0 c).arrAt 4 cfg0.N
    = delta (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨i0, i1, i2, i3, i4, i5, i6⟩ := index t
  blk_simp
  rw [after0_4]
  frame_out
  simp only [k0_pay3, k0_pay2, k0_pay1, delta]
  pointwise
  have e0 : iblk m c 0 t y = m ((c.tc : Thread nD τ).loc main_arg0) ((win0_4.blk t).view.emb y) := by
    blk_ext [iblk, V, i0, i4]
  have e1 : iblk m c 1 t y = m ((c.tc : Thread nD τ).loc main_arg1) ((win0_4.blk t).view.emb y) := by
    blk_ext [iblk, V, i1, i4]
  have e2 : iblk m c 2 t y = m ((c.tc : Thread nD τ).loc main_arg2) ((win0_4.blk t).view.emb y) := by
    blk_ext [iblk, V, i2, i4]
  have e3 : iblk m c 3 t y = m ((c.tc : Thread nD τ).loc main_arg3) ((win0_4.blk t).view.emb y) := by
    blk_ext [iblk, V, i3, i4]
  simp only [e0, e1, e2, e3]

theorem newM_eq : (dats m 0 c).arrAt 5 cfg0.N
    = newM (m ((c.tc : Thread nD τ).loc main_arg1)) (m ((c.tc : Thread nD τ).loc main_arg2)) := by
  refine (dats m 0 c).arrAt_eq_of_covers 5 _ (by decide +kernel) fun t hf y => ?_
  obtain ⟨i0, i1, i2, i3, i4, i5, i6⟩ := index t
  blk_simp
  rw [after0_5]
  frame_out
  simp only [k0_pay1, newM]
  pointwise
  have e1 : iblk m c 1 t y = m ((c.tc : Thread nD τ).loc main_arg1) ((win0_5.blk t).view.emb y) := by
    blk_ext [iblk, V, i1, i5]
  have e2 : iblk m c 2 t y = m ((c.tc : Thread nD τ).loc main_arg2) ((win0_5.blk t).view.emb y) := by
    blk_ext [iblk, V, i2, i5]
  simp only [e1, e2]

theorem newV_eq : (dats m 0 c).arrAt 6 cfg0.N
    = newV (m ((c.tc : Thread nD τ).loc main_arg1)) (m ((c.tc : Thread nD τ).loc main_arg3)) := by
  refine (dats m 0 c).arrAt_eq_of_covers 6 _ (by decide +kernel) fun t hf y => ?_
  obtain ⟨i0, i1, i2, i3, i4, i5, i6⟩ := index t
  blk_simp
  rw [after0_6]
  frame_out
  simp only [k0_pay2, newV]
  pointwise
  have e1 : iblk m c 1 t y = m ((c.tc : Thread nD τ).loc main_arg1) ((win0_6.blk t).view.emb y) := by
    blk_ext [iblk, V, i1, i6]
  have e3 : iblk m c 3 t y = m ((c.tc : Thread nD τ).loc main_arg3) ((win0_6.blk t).view.emb y) := by
    blk_ext [iblk, V, i3, i6]
  simp only [e1, e3]

end Cert.P27

end
-- ==== Proof.P28.lean ====
/- The optimiser's call `adamw_a_log`: the kernel's result arrays are the reference's. -/
module

public import proofs.«01_k».proof.Proof.Gen.Kernel28Ideal.Value
public import proofs.«01_k».proof.Proof.Gen.Reference28Ideal.Run
public import Idealize.ShloMosaic.Lib.Pipeline.ValueKit
public import Idealize.ShloMosaic.Lib.Pointwise
public import Idealize.ShloMosaic.Lib.Claim

@[expose] public noncomputable section

set_option maxRecDepth 16384

namespace Cert.P28

open Idealize.ShloMosaic Idealize.ShloMosaic.TcCoe Idealize.SL Idealize.SL.Sem

section

open Cert.Reference28Ideal Cert.Reference28Ideal.Gen

/-- The reference's step of the weight. -/
def delta (w g p q : FVec Ideal S8x8 .f32) : FVec Ideal S8x8 .f32 :=
  mulf (broadcastInDim S8x8 ![] bcast_S_S8x8 (constant S_ .f32 0xBA83126F#32)) (addf (Host.divf (Host.divf (addf (mulf (broadcastInDim S8x8 ![] bcast_S_S8x8 (constant S_ .f32 0x3F666666#32)) p) (mulf (broadcastInDim S8x8 ![] bcast_S_S8x8 (constant S_ .f32 0x3DCCCCCD#32)) g)) (broadcastInDim S8x8 ![] bcast_S_S8x8 (constant S_ .f32 0x3F26BD02#32))) (addf (Host.sqrt (Host.divf (addf (mulf (broadcastInDim S8x8 ![] bcast_S_S8x8 (constant S_ .f32 0x3F7FBE77#32)) q) (mulf (broadcastInDim S8x8 ![] bcast_S_S8x8 (constant S_ .f32 0x3A83126F#32)) (mulf g g))) (broadcastInDim S8x8 ![] bcast_S_S8x8 (constant S_ .f32 0x3C231ACC#32)))) (broadcastInDim S8x8 ![] bcast_S_S8x8 (constant S_ .f32 0x322BCC77#32)))) (mulf (broadcastInDim S8x8 ![] bcast_S_S8x8 (constant S_ .f32 0x3C23D70A#32)) w))

/-- The reference's next first moment. -/
def newM (g p : FVec Ideal S8x8 .f32) : FVec Ideal S8x8 .f32 :=
  addf (mulf (broadcastInDim S8x8 ![] bcast_S_S8x8 (constant S_ .f32 0x3F666666#32)) p) (mulf (broadcastInDim S8x8 ![] bcast_S_S8x8 (constant S_ .f32 0x3DCCCCCD#32)) g)

/-- The reference's next second moment. -/
def newV (g q : FVec Ideal S8x8 .f32) : FVec Ideal S8x8 .f32 :=
  addf (mulf (broadcastInDim S8x8 ![] bcast_S_S8x8 (constant S_ .f32 0x3F7FBE77#32)) q) (mulf (broadcastInDim S8x8 ![] bcast_S_S8x8 (constant S_ .f32 0x3A83126F#32)) (mulf g g))

end

open Cert.Kernel28Ideal Cert.Kernel28Ideal.Gen

variable (m : (ℓ : Loc nD τ sig) → Buf (Elt Ideal) ℓ) (c : Dev nD)

theorem index : ∀ t : Fin grid0.N,
    win0_0.index t = ![t.val, 0] ∧ win0_1.index t = ![t.val, 0] ∧ win0_2.index t = ![t.val, 0] ∧ win0_3.index t = ![t.val, 0] ∧
      win0_4.index t = ![t.val, 0] ∧ win0_5.index t = ![t.val, 0] ∧ win0_6.index t = ![t.val, 0] := by decide +kernel

theorem delta_eq : (dats m 0 c).arrAt 4 cfg0.N
    = delta (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨i0, i1, i2, i3, i4, i5, i6⟩ := index t
  blk_simp
  rw [after0_4]
  frame_out
  simp only [k0_pay3, k0_pay2, k0_pay1, delta]
  pointwise
  have e0 : iblk m c 0 t y = m ((c.tc : Thread nD τ).loc main_arg0) ((win0_4.blk t).view.emb y) := by
    blk_ext [iblk, V, i0, i4]
  have e1 : iblk m c 1 t y = m ((c.tc : Thread nD τ).loc main_arg1) ((win0_4.blk t).view.emb y) := by
    blk_ext [iblk, V, i1, i4]
  have e2 : iblk m c 2 t y = m ((c.tc : Thread nD τ).loc main_arg2) ((win0_4.blk t).view.emb y) := by
    blk_ext [iblk, V, i2, i4]
  have e3 : iblk m c 3 t y = m ((c.tc : Thread nD τ).loc main_arg3) ((win0_4.blk t).view.emb y) := by
    blk_ext [iblk, V, i3, i4]
  simp only [e0, e1, e2, e3]

theorem newM_eq : (dats m 0 c).arrAt 5 cfg0.N
    = newM (m ((c.tc : Thread nD τ).loc main_arg1)) (m ((c.tc : Thread nD τ).loc main_arg2)) := by
  refine (dats m 0 c).arrAt_eq_of_covers 5 _ (by decide +kernel) fun t hf y => ?_
  obtain ⟨i0, i1, i2, i3, i4, i5, i6⟩ := index t
  blk_simp
  rw [after0_5]
  frame_out
  simp only [k0_pay1, newM]
  pointwise
  have e1 : iblk m c 1 t y = m ((c.tc : Thread nD τ).loc main_arg1) ((win0_5.blk t).view.emb y) := by
    blk_ext [iblk, V, i1, i5]
  have e2 : iblk m c 2 t y = m ((c.tc : Thread nD τ).loc main_arg2) ((win0_5.blk t).view.emb y) := by
    blk_ext [iblk, V, i2, i5]
  simp only [e1, e2]

theorem newV_eq : (dats m 0 c).arrAt 6 cfg0.N
    = newV (m ((c.tc : Thread nD τ).loc main_arg1)) (m ((c.tc : Thread nD τ).loc main_arg3)) := by
  refine (dats m 0 c).arrAt_eq_of_covers 6 _ (by decide +kernel) fun t hf y => ?_
  obtain ⟨i0, i1, i2, i3, i4, i5, i6⟩ := index t
  blk_simp
  rw [after0_6]
  frame_out
  simp only [k0_pay2, newV]
  pointwise
  have e1 : iblk m c 1 t y = m ((c.tc : Thread nD τ).loc main_arg1) ((win0_6.blk t).view.emb y) := by
    blk_ext [iblk, V, i1, i6]
  have e3 : iblk m c 3 t y = m ((c.tc : Thread nD τ).loc main_arg3) ((win0_6.blk t).view.emb y) := by
    blk_ext [iblk, V, i3, i6]
  simp only [e1, e3]

end Cert.P28

end
-- ==== Proof.P29.lean ====
/- The optimiser's call `adamw_sgu_w`: the kernel's result arrays are the reference's. -/
module

public import proofs.«01_k».proof.Proof.Gen.Kernel29Ideal.Value
public import proofs.«01_k».proof.Proof.Gen.Reference29Ideal.Run
public import Idealize.ShloMosaic.Lib.Pipeline.ValueKit
public import Idealize.ShloMosaic.Lib.Pointwise
public import Idealize.ShloMosaic.Lib.Claim

@[expose] public noncomputable section

set_option maxRecDepth 16384

namespace Cert.P29

open Idealize.ShloMosaic Idealize.ShloMosaic.TcCoe Idealize.SL Idealize.SL.Sem

section

open Cert.Reference29Ideal Cert.Reference29Ideal.Gen

/-- The reference's step of the weight. -/
def delta (w g p q : FVec Ideal S4096x128 .f32) : FVec Ideal S4096x128 .f32 :=
  mulf (broadcastInDim S4096x128 ![] bcast_S_S4096x128 (constant S_ .f32 0xBA83126F#32)) (addf (Host.divf (Host.divf (addf (mulf (broadcastInDim S4096x128 ![] bcast_S_S4096x128 (constant S_ .f32 0x3F666666#32)) p) (mulf (broadcastInDim S4096x128 ![] bcast_S_S4096x128 (constant S_ .f32 0x3DCCCCCD#32)) g)) (broadcastInDim S4096x128 ![] bcast_S_S4096x128 (constant S_ .f32 0x3F26BD02#32))) (addf (Host.sqrt (Host.divf (addf (mulf (broadcastInDim S4096x128 ![] bcast_S_S4096x128 (constant S_ .f32 0x3F7FBE77#32)) q) (mulf (broadcastInDim S4096x128 ![] bcast_S_S4096x128 (constant S_ .f32 0x3A83126F#32)) (mulf g g))) (broadcastInDim S4096x128 ![] bcast_S_S4096x128 (constant S_ .f32 0x3C231ACC#32)))) (broadcastInDim S4096x128 ![] bcast_S_S4096x128 (constant S_ .f32 0x322BCC77#32)))) (mulf (broadcastInDim S4096x128 ![] bcast_S_S4096x128 (constant S_ .f32 0x3C23D70A#32)) w))

/-- The reference's next first moment. -/
def newM (g p : FVec Ideal S4096x128 .f32) : FVec Ideal S4096x128 .f32 :=
  addf (mulf (broadcastInDim S4096x128 ![] bcast_S_S4096x128 (constant S_ .f32 0x3F666666#32)) p) (mulf (broadcastInDim S4096x128 ![] bcast_S_S4096x128 (constant S_ .f32 0x3DCCCCCD#32)) g)

/-- The reference's next second moment. -/
def newV (g q : FVec Ideal S4096x128 .f32) : FVec Ideal S4096x128 .f32 :=
  addf (mulf (broadcastInDim S4096x128 ![] bcast_S_S4096x128 (constant S_ .f32 0x3F7FBE77#32)) q) (mulf (broadcastInDim S4096x128 ![] bcast_S_S4096x128 (constant S_ .f32 0x3A83126F#32)) (mulf g g))

end

open Cert.Kernel29Ideal Cert.Kernel29Ideal.Gen

variable (m : (ℓ : Loc nD τ sig) → Buf (Elt Ideal) ℓ) (c : Dev nD)

theorem index : ∀ t : Fin grid0.N,
    win0_0.index t = ![t.val, 0] ∧ win0_1.index t = ![t.val, 0] ∧ win0_2.index t = ![t.val, 0] ∧ win0_3.index t = ![t.val, 0] ∧
      win0_4.index t = ![t.val, 0] ∧ win0_5.index t = ![t.val, 0] ∧ win0_6.index t = ![t.val, 0] := by decide +kernel

theorem delta_eq : (dats m 0 c).arrAt 4 cfg0.N
    = delta (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨i0, i1, i2, i3, i4, i5, i6⟩ := index t
  blk_simp
  rw [after0_4]
  frame_out
  simp only [k0_pay3, k0_pay2, k0_pay1, delta]
  pointwise
  have e0 : iblk m c 0 t y = m ((c.tc : Thread nD τ).loc main_arg0) ((win0_4.blk t).view.emb y) := by
    blk_ext [iblk, V, i0, i4]
  have e1 : iblk m c 1 t y = m ((c.tc : Thread nD τ).loc main_arg1) ((win0_4.blk t).view.emb y) := by
    blk_ext [iblk, V, i1, i4]
  have e2 : iblk m c 2 t y = m ((c.tc : Thread nD τ).loc main_arg2) ((win0_4.blk t).view.emb y) := by
    blk_ext [iblk, V, i2, i4]
  have e3 : iblk m c 3 t y = m ((c.tc : Thread nD τ).loc main_arg3) ((win0_4.blk t).view.emb y) := by
    blk_ext [iblk, V, i3, i4]
  simp only [e0, e1, e2, e3]

theorem newM_eq : (dats m 0 c).arrAt 5 cfg0.N
    = newM (m ((c.tc : Thread nD τ).loc main_arg1)) (m ((c.tc : Thread nD τ).loc main_arg2)) := by
  refine (dats m 0 c).arrAt_eq_of_covers 5 _ (by decide +kernel) fun t hf y => ?_
  obtain ⟨i0, i1, i2, i3, i4, i5, i6⟩ := index t
  blk_simp
  rw [after0_5]
  frame_out
  simp only [k0_pay1, newM]
  pointwise
  have e1 : iblk m c 1 t y = m ((c.tc : Thread nD τ).loc main_arg1) ((win0_5.blk t).view.emb y) := by
    blk_ext [iblk, V, i1, i5]
  have e2 : iblk m c 2 t y = m ((c.tc : Thread nD τ).loc main_arg2) ((win0_5.blk t).view.emb y) := by
    blk_ext [iblk, V, i2, i5]
  simp only [e1, e2]

theorem newV_eq : (dats m 0 c).arrAt 6 cfg0.N
    = newV (m ((c.tc : Thread nD τ).loc main_arg1)) (m ((c.tc : Thread nD τ).loc main_arg3)) := by
  refine (dats m 0 c).arrAt_eq_of_covers 6 _ (by decide +kernel) fun t hf y => ?_
  obtain ⟨i0, i1, i2, i3, i4, i5, i6⟩ := index t
  blk_simp
  rw [after0_6]
  frame_out
  simp only [k0_pay2, newV]
  pointwise
  have e1 : iblk m c 1 t y = m ((c.tc : Thread nD τ).loc main_arg1) ((win0_6.blk t).view.emb y) := by
    blk_ext [iblk, V, i1, i6]
  have e3 : iblk m c 3 t y = m ((c.tc : Thread nD τ).loc main_arg3) ((win0_6.blk t).view.emb y) := by
    blk_ext [iblk, V, i3, i6]
  simp only [e1, e3]

end Cert.P29

end
-- ==== Proof.P30.lean ====
/- The optimiser's call `adamw_sgu_b`: the kernel's result arrays are the reference's. -/
module

public import proofs.«01_k».proof.Proof.Gen.Kernel30Ideal.Value
public import proofs.«01_k».proof.Proof.Gen.Reference30Ideal.Run
public import Idealize.ShloMosaic.Lib.Pipeline.ValueKit
public import Idealize.ShloMosaic.Lib.Pointwise
public import Idealize.ShloMosaic.Lib.Claim

@[expose] public noncomputable section

set_option maxRecDepth 16384

namespace Cert.P30

open Idealize.ShloMosaic Idealize.ShloMosaic.TcCoe Idealize.SL Idealize.SL.Sem

section

open Cert.Reference30Ideal Cert.Reference30Ideal.Gen

/-- The reference's step of the weight. -/
def delta (w g p q : FVec Ideal S32x128 .f32) : FVec Ideal S32x128 .f32 :=
  mulf (broadcastInDim S32x128 ![] bcast_S_S32x128 (constant S_ .f32 0xBA83126F#32)) (addf (Host.divf (Host.divf (addf (mulf (broadcastInDim S32x128 ![] bcast_S_S32x128 (constant S_ .f32 0x3F666666#32)) p) (mulf (broadcastInDim S32x128 ![] bcast_S_S32x128 (constant S_ .f32 0x3DCCCCCD#32)) g)) (broadcastInDim S32x128 ![] bcast_S_S32x128 (constant S_ .f32 0x3F26BD02#32))) (addf (Host.sqrt (Host.divf (addf (mulf (broadcastInDim S32x128 ![] bcast_S_S32x128 (constant S_ .f32 0x3F7FBE77#32)) q) (mulf (broadcastInDim S32x128 ![] bcast_S_S32x128 (constant S_ .f32 0x3A83126F#32)) (mulf g g))) (broadcastInDim S32x128 ![] bcast_S_S32x128 (constant S_ .f32 0x3C231ACC#32)))) (broadcastInDim S32x128 ![] bcast_S_S32x128 (constant S_ .f32 0x322BCC77#32)))) (mulf (broadcastInDim S32x128 ![] bcast_S_S32x128 (constant S_ .f32 0x3C23D70A#32)) w))

/-- The reference's next first moment. -/
def newM (g p : FVec Ideal S32x128 .f32) : FVec Ideal S32x128 .f32 :=
  addf (mulf (broadcastInDim S32x128 ![] bcast_S_S32x128 (constant S_ .f32 0x3F666666#32)) p) (mulf (broadcastInDim S32x128 ![] bcast_S_S32x128 (constant S_ .f32 0x3DCCCCCD#32)) g)

/-- The reference's next second moment. -/
def newV (g q : FVec Ideal S32x128 .f32) : FVec Ideal S32x128 .f32 :=
  addf (mulf (broadcastInDim S32x128 ![] bcast_S_S32x128 (constant S_ .f32 0x3F7FBE77#32)) q) (mulf (broadcastInDim S32x128 ![] bcast_S_S32x128 (constant S_ .f32 0x3A83126F#32)) (mulf g g))

end

open Cert.Kernel30Ideal Cert.Kernel30Ideal.Gen

variable (m : (ℓ : Loc nD τ sig) → Buf (Elt Ideal) ℓ) (c : Dev nD)

theorem index : ∀ t : Fin grid0.N,
    win0_0.index t = ![t.val, 0] ∧ win0_1.index t = ![t.val, 0] ∧ win0_2.index t = ![t.val, 0] ∧ win0_3.index t = ![t.val, 0] ∧
      win0_4.index t = ![t.val, 0] ∧ win0_5.index t = ![t.val, 0] ∧ win0_6.index t = ![t.val, 0] := by decide +kernel

theorem delta_eq : (dats m 0 c).arrAt 4 cfg0.N
    = delta (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨i0, i1, i2, i3, i4, i5, i6⟩ := index t
  blk_simp
  rw [after0_4]
  frame_out
  simp only [k0_pay3, k0_pay2, k0_pay1, delta]
  pointwise
  have e0 : iblk m c 0 t y = m ((c.tc : Thread nD τ).loc main_arg0) ((win0_4.blk t).view.emb y) := by
    blk_ext [iblk, V, i0, i4]
  have e1 : iblk m c 1 t y = m ((c.tc : Thread nD τ).loc main_arg1) ((win0_4.blk t).view.emb y) := by
    blk_ext [iblk, V, i1, i4]
  have e2 : iblk m c 2 t y = m ((c.tc : Thread nD τ).loc main_arg2) ((win0_4.blk t).view.emb y) := by
    blk_ext [iblk, V, i2, i4]
  have e3 : iblk m c 3 t y = m ((c.tc : Thread nD τ).loc main_arg3) ((win0_4.blk t).view.emb y) := by
    blk_ext [iblk, V, i3, i4]
  simp only [e0, e1, e2, e3]

theorem newM_eq : (dats m 0 c).arrAt 5 cfg0.N
    = newM (m ((c.tc : Thread nD τ).loc main_arg1)) (m ((c.tc : Thread nD τ).loc main_arg2)) := by
  refine (dats m 0 c).arrAt_eq_of_covers 5 _ (by decide +kernel) fun t hf y => ?_
  obtain ⟨i0, i1, i2, i3, i4, i5, i6⟩ := index t
  blk_simp
  rw [after0_5]
  frame_out
  simp only [k0_pay1, newM]
  pointwise
  have e1 : iblk m c 1 t y = m ((c.tc : Thread nD τ).loc main_arg1) ((win0_5.blk t).view.emb y) := by
    blk_ext [iblk, V, i1, i5]
  have e2 : iblk m c 2 t y = m ((c.tc : Thread nD τ).loc main_arg2) ((win0_5.blk t).view.emb y) := by
    blk_ext [iblk, V, i2, i5]
  simp only [e1, e2]

theorem newV_eq : (dats m 0 c).arrAt 6 cfg0.N
    = newV (m ((c.tc : Thread nD τ).loc main_arg1)) (m ((c.tc : Thread nD τ).loc main_arg3)) := by
  refine (dats m 0 c).arrAt_eq_of_covers 6 _ (by decide +kernel) fun t hf y => ?_
  obtain ⟨i0, i1, i2, i3, i4, i5, i6⟩ := index t
  blk_simp
  rw [after0_6]
  frame_out
  simp only [k0_pay2, newV]
  pointwise
  have e1 : iblk m c 1 t y = m ((c.tc : Thread nD τ).loc main_arg1) ((win0_6.blk t).view.emb y) := by
    blk_ext [iblk, V, i1, i6]
  have e3 : iblk m c 3 t y = m ((c.tc : Thread nD τ).loc main_arg3) ((win0_6.blk t).view.emb y) := by
    blk_ext [iblk, V, i3, i6]
  simp only [e1, e3]

end Cert.P30

end
-- ==== Proof.P31.lean ====
/- The optimiser's call `adamw_qkv_conv_w`: the kernel's result arrays are the reference's. -/
module

public import proofs.«01_k».proof.Proof.Gen.Kernel31Ideal.Value
public import proofs.«01_k».proof.Proof.Gen.Reference31Ideal.Run
public import Idealize.ShloMosaic.Lib.Pipeline.ValueKit
public import Idealize.ShloMosaic.Lib.Pointwise
public import Idealize.ShloMosaic.Lib.Claim

@[expose] public noncomputable section

set_option maxRecDepth 16384

namespace Cert.P31

open Idealize.ShloMosaic Idealize.ShloMosaic.TcCoe Idealize.SL Idealize.SL.Sem

section

open Cert.Reference31Ideal Cert.Reference31Ideal.Gen

/-- The reference's step of the weight. -/
def delta (w g p q : FVec Ideal S20x768 .f32) : FVec Ideal S20x768 .f32 :=
  mulf (broadcastInDim S20x768 ![] bcast_S_S20x768 (constant S_ .f32 0xBA83126F#32)) (addf (Host.divf (Host.divf (addf (mulf (broadcastInDim S20x768 ![] bcast_S_S20x768 (constant S_ .f32 0x3F666666#32)) p) (mulf (broadcastInDim S20x768 ![] bcast_S_S20x768 (constant S_ .f32 0x3DCCCCCD#32)) g)) (broadcastInDim S20x768 ![] bcast_S_S20x768 (constant S_ .f32 0x3F26BD02#32))) (addf (Host.sqrt (Host.divf (addf (mulf (broadcastInDim S20x768 ![] bcast_S_S20x768 (constant S_ .f32 0x3F7FBE77#32)) q) (mulf (broadcastInDim S20x768 ![] bcast_S_S20x768 (constant S_ .f32 0x3A83126F#32)) (mulf g g))) (broadcastInDim S20x768 ![] bcast_S_S20x768 (constant S_ .f32 0x3C231ACC#32)))) (broadcastInDim S20x768 ![] bcast_S_S20x768 (constant S_ .f32 0x322BCC77#32)))) (mulf (broadcastInDim S20x768 ![] bcast_S_S20x768 (constant S_ .f32 0x3C23D70A#32)) w))

/-- The reference's next first moment. -/
def newM (g p : FVec Ideal S20x768 .f32) : FVec Ideal S20x768 .f32 :=
  addf (mulf (broadcastInDim S20x768 ![] bcast_S_S20x768 (constant S_ .f32 0x3F666666#32)) p) (mulf (broadcastInDim S20x768 ![] bcast_S_S20x768 (constant S_ .f32 0x3DCCCCCD#32)) g)

/-- The reference's next second moment. -/
def newV (g q : FVec Ideal S20x768 .f32) : FVec Ideal S20x768 .f32 :=
  addf (mulf (broadcastInDim S20x768 ![] bcast_S_S20x768 (constant S_ .f32 0x3F7FBE77#32)) q) (mulf (broadcastInDim S20x768 ![] bcast_S_S20x768 (constant S_ .f32 0x3A83126F#32)) (mulf g g))

end

open Cert.Kernel31Ideal Cert.Kernel31Ideal.Gen

variable (m : (ℓ : Loc nD τ sig) → Buf (Elt Ideal) ℓ) (c : Dev nD)

theorem index : ∀ t : Fin grid0.N,
    win0_0.index t = ![t.val, 0] ∧ win0_1.index t = ![t.val, 0] ∧ win0_2.index t = ![t.val, 0] ∧ win0_3.index t = ![t.val, 0] ∧
      win0_4.index t = ![t.val, 0] ∧ win0_5.index t = ![t.val, 0] ∧ win0_6.index t = ![t.val, 0] := by decide +kernel

theorem delta_eq : (dats m 0 c).arrAt 4 cfg0.N
    = delta (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨i0, i1, i2, i3, i4, i5, i6⟩ := index t
  blk_simp
  rw [after0_4]
  frame_out
  simp only [k0_pay3, k0_pay2, k0_pay1, delta]
  pointwise
  have e0 : iblk m c 0 t y = m ((c.tc : Thread nD τ).loc main_arg0) ((win0_4.blk t).view.emb y) := by
    blk_ext [iblk, V, i0, i4]
  have e1 : iblk m c 1 t y = m ((c.tc : Thread nD τ).loc main_arg1) ((win0_4.blk t).view.emb y) := by
    blk_ext [iblk, V, i1, i4]
  have e2 : iblk m c 2 t y = m ((c.tc : Thread nD τ).loc main_arg2) ((win0_4.blk t).view.emb y) := by
    blk_ext [iblk, V, i2, i4]
  have e3 : iblk m c 3 t y = m ((c.tc : Thread nD τ).loc main_arg3) ((win0_4.blk t).view.emb y) := by
    blk_ext [iblk, V, i3, i4]
  simp only [e0, e1, e2, e3]

theorem newM_eq : (dats m 0 c).arrAt 5 cfg0.N
    = newM (m ((c.tc : Thread nD τ).loc main_arg1)) (m ((c.tc : Thread nD τ).loc main_arg2)) := by
  refine (dats m 0 c).arrAt_eq_of_covers 5 _ (by decide +kernel) fun t hf y => ?_
  obtain ⟨i0, i1, i2, i3, i4, i5, i6⟩ := index t
  blk_simp
  rw [after0_5]
  frame_out
  simp only [k0_pay1, newM]
  pointwise
  have e1 : iblk m c 1 t y = m ((c.tc : Thread nD τ).loc main_arg1) ((win0_5.blk t).view.emb y) := by
    blk_ext [iblk, V, i1, i5]
  have e2 : iblk m c 2 t y = m ((c.tc : Thread nD τ).loc main_arg2) ((win0_5.blk t).view.emb y) := by
    blk_ext [iblk, V, i2, i5]
  simp only [e1, e2]

theorem newV_eq : (dats m 0 c).arrAt 6 cfg0.N
    = newV (m ((c.tc : Thread nD τ).loc main_arg1)) (m ((c.tc : Thread nD τ).loc main_arg3)) := by
  refine (dats m 0 c).arrAt_eq_of_covers 6 _ (by decide +kernel) fun t hf y => ?_
  obtain ⟨i0, i1, i2, i3, i4, i5, i6⟩ := index t
  blk_simp
  rw [after0_6]
  frame_out
  simp only [k0_pay2, newV]
  pointwise
  have e1 : iblk m c 1 t y = m ((c.tc : Thread nD τ).loc main_arg1) ((win0_6.blk t).view.emb y) := by
    blk_ext [iblk, V, i1, i6]
  have e3 : iblk m c 3 t y = m ((c.tc : Thread nD τ).loc main_arg3) ((win0_6.blk t).view.emb y) := by
    blk_ext [iblk, V, i3, i6]
  simp only [e1, e3]

end Cert.P31

end
-- ==== Proof.P32.lean ====
/- The optimiser's call `adamw_ffn_conv_w`: the kernel's result arrays are the reference's. -/
module

public import proofs.«01_k».proof.Proof.Gen.Kernel32Ideal.Value
public import proofs.«01_k».proof.Proof.Gen.Reference32Ideal.Run
public import Idealize.ShloMosaic.Lib.Pipeline.ValueKit
public import Idealize.ShloMosaic.Lib.Pointwise
public import Idealize.ShloMosaic.Lib.Claim

@[expose] public noncomputable section

set_option maxRecDepth 16384

namespace Cert.P32

open Idealize.ShloMosaic Idealize.ShloMosaic.TcCoe Idealize.SL Idealize.SL.Sem

section

open Cert.Reference32Ideal Cert.Reference32Ideal.Gen

/-- The reference's step of the weight. -/
def delta (w g p q : FVec Ideal S12x2816 .f32) : FVec Ideal S12x2816 .f32 :=
  mulf (broadcastInDim S12x2816 ![] bcast_S_S12x2816 (constant S_ .f32 0xBA83126F#32)) (addf (Host.divf (Host.divf (addf (mulf (broadcastInDim S12x2816 ![] bcast_S_S12x2816 (constant S_ .f32 0x3F666666#32)) p) (mulf (broadcastInDim S12x2816 ![] bcast_S_S12x2816 (constant S_ .f32 0x3DCCCCCD#32)) g)) (broadcastInDim S12x2816 ![] bcast_S_S12x2816 (constant S_ .f32 0x3F26BD02#32))) (addf (Host.sqrt (Host.divf (addf (mulf (broadcastInDim S12x2816 ![] bcast_S_S12x2816 (constant S_ .f32 0x3F7FBE77#32)) q) (mulf (broadcastInDim S12x2816 ![] bcast_S_S12x2816 (constant S_ .f32 0x3A83126F#32)) (mulf g g))) (broadcastInDim S12x2816 ![] bcast_S_S12x2816 (constant S_ .f32 0x3C231ACC#32)))) (broadcastInDim S12x2816 ![] bcast_S_S12x2816 (constant S_ .f32 0x322BCC77#32)))) (mulf (broadcastInDim S12x2816 ![] bcast_S_S12x2816 (constant S_ .f32 0x3C23D70A#32)) w))

/-- The reference's next first moment. -/
def newM (g p : FVec Ideal S12x2816 .f32) : FVec Ideal S12x2816 .f32 :=
  addf (mulf (broadcastInDim S12x2816 ![] bcast_S_S12x2816 (constant S_ .f32 0x3F666666#32)) p) (mulf (broadcastInDim S12x2816 ![] bcast_S_S12x2816 (constant S_ .f32 0x3DCCCCCD#32)) g)

/-- The reference's next second moment. -/
def newV (g q : FVec Ideal S12x2816 .f32) : FVec Ideal S12x2816 .f32 :=
  addf (mulf (broadcastInDim S12x2816 ![] bcast_S_S12x2816 (constant S_ .f32 0x3F7FBE77#32)) q) (mulf (broadcastInDim S12x2816 ![] bcast_S_S12x2816 (constant S_ .f32 0x3A83126F#32)) (mulf g g))

end

open Cert.Kernel32Ideal Cert.Kernel32Ideal.Gen

variable (m : (ℓ : Loc nD τ sig) → Buf (Elt Ideal) ℓ) (c : Dev nD)

theorem index : ∀ t : Fin grid0.N,
    win0_0.index t = ![t.val, 0] ∧ win0_1.index t = ![t.val, 0] ∧ win0_2.index t = ![t.val, 0] ∧ win0_3.index t = ![t.val, 0] ∧
      win0_4.index t = ![t.val, 0] ∧ win0_5.index t = ![t.val, 0] ∧ win0_6.index t = ![t.val, 0] := by decide +kernel

theorem delta_eq : (dats m 0 c).arrAt 4 cfg0.N
    = delta (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨i0, i1, i2, i3, i4, i5, i6⟩ := index t
  blk_simp
  rw [after0_4]
  frame_out
  simp only [k0_pay3, k0_pay2, k0_pay1, delta]
  pointwise
  have e0 : iblk m c 0 t y = m ((c.tc : Thread nD τ).loc main_arg0) ((win0_4.blk t).view.emb y) := by
    blk_ext [iblk, V, i0, i4]
  have e1 : iblk m c 1 t y = m ((c.tc : Thread nD τ).loc main_arg1) ((win0_4.blk t).view.emb y) := by
    blk_ext [iblk, V, i1, i4]
  have e2 : iblk m c 2 t y = m ((c.tc : Thread nD τ).loc main_arg2) ((win0_4.blk t).view.emb y) := by
    blk_ext [iblk, V, i2, i4]
  have e3 : iblk m c 3 t y = m ((c.tc : Thread nD τ).loc main_arg3) ((win0_4.blk t).view.emb y) := by
    blk_ext [iblk, V, i3, i4]
  simp only [e0, e1, e2, e3]

theorem newM_eq : (dats m 0 c).arrAt 5 cfg0.N
    = newM (m ((c.tc : Thread nD τ).loc main_arg1)) (m ((c.tc : Thread nD τ).loc main_arg2)) := by
  refine (dats m 0 c).arrAt_eq_of_covers 5 _ (by decide +kernel) fun t hf y => ?_
  obtain ⟨i0, i1, i2, i3, i4, i5, i6⟩ := index t
  blk_simp
  rw [after0_5]
  frame_out
  simp only [k0_pay1, newM]
  pointwise
  have e1 : iblk m c 1 t y = m ((c.tc : Thread nD τ).loc main_arg1) ((win0_5.blk t).view.emb y) := by
    blk_ext [iblk, V, i1, i5]
  have e2 : iblk m c 2 t y = m ((c.tc : Thread nD τ).loc main_arg2) ((win0_5.blk t).view.emb y) := by
    blk_ext [iblk, V, i2, i5]
  simp only [e1, e2]

theorem newV_eq : (dats m 0 c).arrAt 6 cfg0.N
    = newV (m ((c.tc : Thread nD τ).loc main_arg1)) (m ((c.tc : Thread nD τ).loc main_arg3)) := by
  refine (dats m 0 c).arrAt_eq_of_covers 6 _ (by decide +kernel) fun t hf y => ?_
  obtain ⟨i0, i1, i2, i3, i4, i5, i6⟩ := index t
  blk_simp
  rw [after0_6]
  frame_out
  simp only [k0_pay2, newV]
  pointwise
  have e1 : iblk m c 1 t y = m ((c.tc : Thread nD τ).loc main_arg1) ((win0_6.blk t).view.emb y) := by
    blk_ext [iblk, V, i1, i6]
  have e3 : iblk m c 3 t y = m ((c.tc : Thread nD τ).loc main_arg3) ((win0_6.blk t).view.emb y) := by
    blk_ext [iblk, V, i3, i6]
  simp only [e1, e3]

end Cert.P32

end
-- ==== Proof.P33.lean ====
/- The optimiser's call `adamw_ffn_conv_b`: the kernel's result arrays are the reference's. -/
module

public import proofs.«01_k».proof.Proof.Gen.Kernel33Ideal.Value
public import proofs.«01_k».proof.Proof.Gen.Reference33Ideal.Run
public import Idealize.ShloMosaic.Lib.Pipeline.ValueKit
public import Idealize.ShloMosaic.Lib.Pointwise
public import Idealize.ShloMosaic.Lib.Claim

@[expose] public noncomputable section

set_option maxRecDepth 16384

namespace Cert.P33

open Idealize.ShloMosaic Idealize.ShloMosaic.TcCoe Idealize.SL Idealize.SL.Sem

section

open Cert.Reference33Ideal Cert.Reference33Ideal.Gen

/-- The reference's step of the weight. -/
def delta (w g p q : FVec Ideal S4x11264 .f32) : FVec Ideal S4x11264 .f32 :=
  mulf (broadcastInDim S4x11264 ![] bcast_S_S4x11264 (constant S_ .f32 0xBA83126F#32)) (addf (Host.divf (Host.divf (addf (mulf (broadcastInDim S4x11264 ![] bcast_S_S4x11264 (constant S_ .f32 0x3F666666#32)) p) (mulf (broadcastInDim S4x11264 ![] bcast_S_S4x11264 (constant S_ .f32 0x3DCCCCCD#32)) g)) (broadcastInDim S4x11264 ![] bcast_S_S4x11264 (constant S_ .f32 0x3F26BD02#32))) (addf (Host.sqrt (Host.divf (addf (mulf (broadcastInDim S4x11264 ![] bcast_S_S4x11264 (constant S_ .f32 0x3F7FBE77#32)) q) (mulf (broadcastInDim S4x11264 ![] bcast_S_S4x11264 (constant S_ .f32 0x3A83126F#32)) (mulf g g))) (broadcastInDim S4x11264 ![] bcast_S_S4x11264 (constant S_ .f32 0x3C231ACC#32)))) (broadcastInDim S4x11264 ![] bcast_S_S4x11264 (constant S_ .f32 0x322BCC77#32)))) (mulf (broadcastInDim S4x11264 ![] bcast_S_S4x11264 (constant S_ .f32 0x3C23D70A#32)) w))

/-- The reference's next first moment. -/
def newM (g p : FVec Ideal S4x11264 .f32) : FVec Ideal S4x11264 .f32 :=
  addf (mulf (broadcastInDim S4x11264 ![] bcast_S_S4x11264 (constant S_ .f32 0x3F666666#32)) p) (mulf (broadcastInDim S4x11264 ![] bcast_S_S4x11264 (constant S_ .f32 0x3DCCCCCD#32)) g)

/-- The reference's next second moment. -/
def newV (g q : FVec Ideal S4x11264 .f32) : FVec Ideal S4x11264 .f32 :=
  addf (mulf (broadcastInDim S4x11264 ![] bcast_S_S4x11264 (constant S_ .f32 0x3F7FBE77#32)) q) (mulf (broadcastInDim S4x11264 ![] bcast_S_S4x11264 (constant S_ .f32 0x3A83126F#32)) (mulf g g))

end

open Cert.Kernel33Ideal Cert.Kernel33Ideal.Gen

variable (m : (ℓ : Loc nD τ sig) → Buf (Elt Ideal) ℓ) (c : Dev nD)

theorem index : ∀ t : Fin grid0.N,
    win0_0.index t = ![t.val, 0] ∧ win0_1.index t = ![t.val, 0] ∧ win0_2.index t = ![t.val, 0] ∧ win0_3.index t = ![t.val, 0] ∧
      win0_4.index t = ![t.val, 0] ∧ win0_5.index t = ![t.val, 0] ∧ win0_6.index t = ![t.val, 0] := by decide +kernel

theorem delta_eq : (dats m 0 c).arrAt 4 cfg0.N
    = delta (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨i0, i1, i2, i3, i4, i5, i6⟩ := index t
  blk_simp
  rw [after0_4]
  frame_out
  simp only [k0_pay3, k0_pay2, k0_pay1, delta]
  pointwise
  have e0 : iblk m c 0 t y = m ((c.tc : Thread nD τ).loc main_arg0) ((win0_4.blk t).view.emb y) := by
    blk_ext [iblk, V, i0, i4]
  have e1 : iblk m c 1 t y = m ((c.tc : Thread nD τ).loc main_arg1) ((win0_4.blk t).view.emb y) := by
    blk_ext [iblk, V, i1, i4]
  have e2 : iblk m c 2 t y = m ((c.tc : Thread nD τ).loc main_arg2) ((win0_4.blk t).view.emb y) := by
    blk_ext [iblk, V, i2, i4]
  have e3 : iblk m c 3 t y = m ((c.tc : Thread nD τ).loc main_arg3) ((win0_4.blk t).view.emb y) := by
    blk_ext [iblk, V, i3, i4]
  simp only [e0, e1, e2, e3]

theorem newM_eq : (dats m 0 c).arrAt 5 cfg0.N
    = newM (m ((c.tc : Thread nD τ).loc main_arg1)) (m ((c.tc : Thread nD τ).loc main_arg2)) := by
  refine (dats m 0 c).arrAt_eq_of_covers 5 _ (by decide +kernel) fun t hf y => ?_
  obtain ⟨i0, i1, i2, i3, i4, i5, i6⟩ := index t
  blk_simp
  rw [after0_5]
  frame_out
  simp only [k0_pay1, newM]
  pointwise
  have e1 : iblk m c 1 t y = m ((c.tc : Thread nD τ).loc main_arg1) ((win0_5.blk t).view.emb y) := by
    blk_ext [iblk, V, i1, i5]
  have e2 : iblk m c 2 t y = m ((c.tc : Thread nD τ).loc main_arg2) ((win0_5.blk t).view.emb y) := by
    blk_ext [iblk, V, i2, i5]
  simp only [e1, e2]

theorem newV_eq : (dats m 0 c).arrAt 6 cfg0.N
    = newV (m ((c.tc : Thread nD τ).loc main_arg1)) (m ((c.tc : Thread nD τ).loc main_arg3)) := by
  refine (dats m 0 c).arrAt_eq_of_covers 6 _ (by decide +kernel) fun t hf y => ?_
  obtain ⟨i0, i1, i2, i3, i4, i5, i6⟩ := index t
  blk_simp
  rw [after0_6]
  frame_out
  simp only [k0_pay2, newV]
  pointwise
  have e1 : iblk m c 1 t y = m ((c.tc : Thread nD τ).loc main_arg1) ((win0_6.blk t).view.emb y) := by
    blk_ext [iblk, V, i1, i6]
  have e3 : iblk m c 3 t y = m ((c.tc : Thread nD τ).loc main_arg3) ((win0_6.blk t).view.emb y) := by
    blk_ext [iblk, V, i3, i6]
  simp only [e1, e3]

end Cert.P33

end
-- ==== Proof.P34.lean ====
/- The optimiser's call `adamw_final_norm_g`: the kernel's result arrays are the reference's. -/
module

public import proofs.«01_k».proof.Proof.Gen.Kernel34Ideal.Value
public import proofs.«01_k».proof.Proof.Gen.Reference34Ideal.Run
public import Idealize.ShloMosaic.Lib.Pipeline.ValueKit
public import Idealize.ShloMosaic.Lib.Pointwise
public import Idealize.ShloMosaic.Lib.Claim

@[expose] public noncomputable section

set_option maxRecDepth 16384

namespace Cert.P34

open Idealize.ShloMosaic Idealize.ShloMosaic.TcCoe Idealize.SL Idealize.SL.Sem

section

open Cert.Reference34Ideal Cert.Reference34Ideal.Gen

/-- The reference's step of the weight. -/
def delta (w g p q : FVec Ideal S1x2048 .f32) : FVec Ideal S1x2048 .f32 :=
  mulf (broadcastInDim S1x2048 ![] bcast_S_S1x2048 (constant S_ .f32 0xBA83126F#32)) (addf (Host.divf (Host.divf (addf (mulf (broadcastInDim S1x2048 ![] bcast_S_S1x2048 (constant S_ .f32 0x3F666666#32)) p) (mulf (broadcastInDim S1x2048 ![] bcast_S_S1x2048 (constant S_ .f32 0x3DCCCCCD#32)) g)) (broadcastInDim S1x2048 ![] bcast_S_S1x2048 (constant S_ .f32 0x3F26BD02#32))) (addf (Host.sqrt (Host.divf (addf (mulf (broadcastInDim S1x2048 ![] bcast_S_S1x2048 (constant S_ .f32 0x3F7FBE77#32)) q) (mulf (broadcastInDim S1x2048 ![] bcast_S_S1x2048 (constant S_ .f32 0x3A83126F#32)) (mulf g g))) (broadcastInDim S1x2048 ![] bcast_S_S1x2048 (constant S_ .f32 0x3C231ACC#32)))) (broadcastInDim S1x2048 ![] bcast_S_S1x2048 (constant S_ .f32 0x322BCC77#32)))) (mulf (broadcastInDim S1x2048 ![] bcast_S_S1x2048 (constant S_ .f32 0x3C23D70A#32)) w))

/-- The reference's next first moment. -/
def newM (g p : FVec Ideal S1x2048 .f32) : FVec Ideal S1x2048 .f32 :=
  addf (mulf (broadcastInDim S1x2048 ![] bcast_S_S1x2048 (constant S_ .f32 0x3F666666#32)) p) (mulf (broadcastInDim S1x2048 ![] bcast_S_S1x2048 (constant S_ .f32 0x3DCCCCCD#32)) g)

/-- The reference's next second moment. -/
def newV (g q : FVec Ideal S1x2048 .f32) : FVec Ideal S1x2048 .f32 :=
  addf (mulf (broadcastInDim S1x2048 ![] bcast_S_S1x2048 (constant S_ .f32 0x3F7FBE77#32)) q) (mulf (broadcastInDim S1x2048 ![] bcast_S_S1x2048 (constant S_ .f32 0x3A83126F#32)) (mulf g g))

end

open Cert.Kernel34Ideal Cert.Kernel34Ideal.Gen

variable (m : (ℓ : Loc nD τ sig) → Buf (Elt Ideal) ℓ) (c : Dev nD)

theorem index : ∀ t : Fin grid0.N,
    win0_0.index t = ![t.val, 0] ∧ win0_1.index t = ![t.val, 0] ∧ win0_2.index t = ![t.val, 0] ∧ win0_3.index t = ![t.val, 0] ∧
      win0_4.index t = ![t.val, 0] ∧ win0_5.index t = ![t.val, 0] ∧ win0_6.index t = ![t.val, 0] := by decide +kernel

theorem delta_eq : (dats m 0 c).arrAt 4 cfg0.N
    = delta (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨i0, i1, i2, i3, i4, i5, i6⟩ := index t
  blk_simp
  rw [after0_4]
  frame_out
  simp only [k0_pay3, k0_pay2, k0_pay1, delta]
  pointwise
  have e0 : iblk m c 0 t y = m ((c.tc : Thread nD τ).loc main_arg0) ((win0_4.blk t).view.emb y) := by
    blk_ext [iblk, V, i0, i4]
  have e1 : iblk m c 1 t y = m ((c.tc : Thread nD τ).loc main_arg1) ((win0_4.blk t).view.emb y) := by
    blk_ext [iblk, V, i1, i4]
  have e2 : iblk m c 2 t y = m ((c.tc : Thread nD τ).loc main_arg2) ((win0_4.blk t).view.emb y) := by
    blk_ext [iblk, V, i2, i4]
  have e3 : iblk m c 3 t y = m ((c.tc : Thread nD τ).loc main_arg3) ((win0_4.blk t).view.emb y) := by
    blk_ext [iblk, V, i3, i4]
  simp only [e0, e1, e2, e3]

theorem newM_eq : (dats m 0 c).arrAt 5 cfg0.N
    = newM (m ((c.tc : Thread nD τ).loc main_arg1)) (m ((c.tc : Thread nD τ).loc main_arg2)) := by
  refine (dats m 0 c).arrAt_eq_of_covers 5 _ (by decide +kernel) fun t hf y => ?_
  obtain ⟨i0, i1, i2, i3, i4, i5, i6⟩ := index t
  blk_simp
  rw [after0_5]
  frame_out
  simp only [k0_pay1, newM]
  pointwise
  have e1 : iblk m c 1 t y = m ((c.tc : Thread nD τ).loc main_arg1) ((win0_5.blk t).view.emb y) := by
    blk_ext [iblk, V, i1, i5]
  have e2 : iblk m c 2 t y = m ((c.tc : Thread nD τ).loc main_arg2) ((win0_5.blk t).view.emb y) := by
    blk_ext [iblk, V, i2, i5]
  simp only [e1, e2]

theorem newV_eq : (dats m 0 c).arrAt 6 cfg0.N
    = newV (m ((c.tc : Thread nD τ).loc main_arg1)) (m ((c.tc : Thread nD τ).loc main_arg3)) := by
  refine (dats m 0 c).arrAt_eq_of_covers 6 _ (by decide +kernel) fun t hf y => ?_
  obtain ⟨i0, i1, i2, i3, i4, i5, i6⟩ := index t
  blk_simp
  rw [after0_6]
  frame_out
  simp only [k0_pay2, newV]
  pointwise
  have e1 : iblk m c 1 t y = m ((c.tc : Thread nD τ).loc main_arg1) ((win0_6.blk t).view.emb y) := by
    blk_ext [iblk, V, i1, i6]
  have e3 : iblk m c 3 t y = m ((c.tc : Thread nD τ).loc main_arg3) ((win0_6.blk t).view.emb y) := by
    blk_ext [iblk, V, i3, i6]
  simp only [e1, e3]

end Cert.P34

end
-- ==== Proof.P35.lean ====
/- The norm's backward call `rms_mix_bwd`: the kernel's result arrays are the reference's. -/
module

public import proofs.«01_k».proof.Proof.Gen.Kernel35Ideal.Value
public import proofs.«01_k».proof.Proof.Gen.Reference35Ideal.Run
public import Idealize.ShloMosaic.Lib.Pipeline.ValueKit
public import Idealize.ShloMosaic.Lib.Pipeline.ReadBack
public import Idealize.ShloMosaic.Lib.Pointwise
public import Idealize.ShloMosaic.Lib.Claim

@[expose] public noncomputable section

set_option maxRecDepth 16384

namespace Cert.P35

open Idealize.ShloMosaic Idealize.ShloMosaic.TcCoe Idealize.SL Idealize.SL.Sem

section

open Cert.Reference35Ideal Cert.Reference35Ideal.Gen

/-- The reference's cotangent of the norm's input, added to the residual's. -/
def dx (x : FVec Ideal S2048x2048 .f32) (g : FVec Ideal S1x2048 .f32) (h d : FVec Ideal S2048x2048 .f32) : FVec Ideal S2048x2048 .f32 :=
  addf (addf (addf (mulf (mulf h (broadcastInDim S2048x2048 ![0, 1] bcast_S1x2048_S2048x2048_0_1 g)) (broadcastInDim S2048x2048 ![0, 1] bcast_S2048x1_S2048x2048_0_1 (Host.rsqrt (addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (mulf x (broadcastInDim S2048x2048 ![0] bcast_S2048_S2048x2048_0 (Host.reduceAdd (Host.divf (mulf (shapeCast _ (Host.reduceAdd (mulf x (mulf h (broadcastInDim S2048x2048 ![0, 1] bcast_S1x2048_S2048x2048_0_1 g))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf x (mulf h (broadcastInDim S2048x2048 ![0, 1] bcast_S1x2048_S2048x2048_0_1 g))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) x)) d

/-- The same, rounded. -/
def dxBf (x : FVec Ideal S2048x2048 .f32) (g : FVec Ideal S1x2048 .f32) (h d : FVec Ideal S2048x2048 .f32) : FVec Ideal S2048x2048 .bf16 :=
  truncf .bf16 (dx x g h d) bitsLt_bf16_f32

/-- The reference's gradient of the gain. -/
def dg (x h : FVec Ideal S2048x2048 .f32) : FVec Ideal S1x2048 .f32 :=
  shapeCast _ (Host.reduceAdd (mulf (mulf x (broadcastInDim S2048x2048 ![0, 1] bcast_S2048x1_S2048x2048_0_1 (Host.rsqrt (addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) h) (constant S_ .f32 0x00000000#32) reducesTo_S2048x2048_S2048_d0 h_S_) shapeCasts_S2048_S1x2048

end

open Cert.Kernel35Ideal Cert.Kernel35Ideal.Gen

variable (m : (ℓ : Loc nD τ sig) → Buf (Elt Ideal) ℓ) (c : Dev nD)

theorem index : ∀ t : Fin grid0.N,
    win0_0.index t = ![t.val, 0] ∧ win0_1.index t = ![0, 0] ∧ win0_2.index t = ![t.val, 0] ∧ win0_3.index t = ![t.val, 0] ∧
      win0_4.index t = ![t.val, 0] ∧ win0_5.index t = ![t.val, 0] ∧ win0_6.index t = ![0, 0] := by decide +kernel

theorem out_dx (t : Fin cfg0.N) : (outsAt0 m c t.val t.isLt).1
    = k0_pay5 (iblk m c 0 t) (iblk m c 1 t) (iblk m c 2 t) (iblk m c 3 t) := by
  have hN : t.val < 8 := lt_of_lt_of_eq t.isLt (show cfg0.N = 8 from N_0)
  by_cases h : t.val % 8 = 0
  · rw [outsAt0_A m c t h (by omega)]
    funext y
    frame_out
  · rw [outsAt0_B m c t h (by omega)]
    funext y
    frame_out

theorem out_dxBf (t : Fin cfg0.N) : (outsAt0 m c t.val t.isLt).2.1
    = k0_pay6 (iblk m c 0 t) (iblk m c 1 t) (iblk m c 2 t) (iblk m c 3 t) := by
  have hN : t.val < 8 := lt_of_lt_of_eq t.isLt (show cfg0.N = 8 from N_0)
  by_cases h : t.val % 8 = 0
  · rw [outsAt0_A m c t h (by omega)]
    funext y
    frame_out
  · rw [outsAt0_B m c t h (by omega)]
    funext y
    frame_out

/-- The gain's gradient from one point's rows. -/
theorem first (t : Fin cfg0.N) (h : t.val = 0) (y : S1x2048.Idx) : (outsAt0 m c t.val t.isLt).2.2 y
    = k0_pay4 (iblk m c 0 t) (iblk m c 2 t) y := by
  rw [outsAt0_A m c t (by omega) (by omega)]
  frame_out

theorem later (t : Fin cfg0.N) (h : 1 ≤ t.val) (y : S1x2048.Idx) : (outsAt0 m c t.val t.isLt).2.2 y
    = (show EReal from (outsAt0 m c (t.val - 1) (Nat.lt_of_le_of_lt (Nat.sub_le _ _) t.isLt)).2.2 y)
      + k0_pay4 (iblk m c 0 t) (iblk m c 2 t) y := by
  have hN : t.val < 8 := lt_of_lt_of_eq t.isLt (show cfg0.N = 8 from N_0)
  rw [outsAt0_B m c t (by omega) h]
  frame_out
  simp only [read_unread_whole, k0_pay1]
  pointwise

theorem split (a b : ℕ) {n : ℕ} (h : n = a + b) (f : Fin n → EReal) :
    ∑ x, f x = ∑ k : Fin a, f ⟨k.val, by omega⟩ + ∑ k : Fin b, f ⟨a + k.val, by omega⟩ := by
  subst h
  exact Fin.sum_univ_add f

/-- One row's share of the gain's gradient. -/
def row (x h : FVec Ideal S2048x2048 .f32) (j r : Fin 2048) : EReal :=
  x (ix2 r j) * Ideal.rsqrt (Ideal.div (∑ k : Fin 2048, (show EReal from x (ix2 r k)) * x (ix2 r k)) (Ideal.ofBits .f32 1157627904#32)
    + Ideal.ofBits .f32 897988541#32) * h (ix2 r j)

theorem part (t : Fin cfg0.N) (y : S1x2048.Idx) (hN : t.val < 8) : k0_pay4 (iblk m c 0 t) (iblk m c 2 t) y
    = ∑ k : Fin 256, row (m ((c.tc : Thread nD τ).loc main_arg0)) (m ((c.tc : Thread nD τ).loc main_arg2)) (y 1)
        ⟨256 * t.val + k.val, by omega⟩ := by
  obtain ⟨i0, i1, i2, i3, i4, i5, i6⟩ := index t
  simp only [k0_pay4, k0_pay3, k0_pay2, row]
  pointwise
  have f0 : ∀ (r : Fin 256) (k : Fin 2048), iblk m c 0 t (ix2 r k)
      = m ((c.tc : Thread nD τ).loc main_arg0) (ix2 ⟨256 * t.val + r.val, by omega⟩ k) := by
    intro r k
    blk_ext [iblk, V, i0]
  have g0 : ∀ r : Fin 256, iblk m c 0 t (ix2 r (y 1))
      = m ((c.tc : Thread nD τ).loc main_arg0) (ix2 ⟨256 * t.val + r.val, by omega⟩ (y 1)) := by
    intro r
    blk_ext [iblk, V, i0]
  have g2 : ∀ r : Fin 256, iblk m c 2 t (ix2 r (y 1))
      = m ((c.tc : Thread nD τ).loc main_arg2) (ix2 ⟨256 * t.val + r.val, by omega⟩ (y 1)) := by
    intro r
    blk_ext [iblk, V, i2]
  simp only [f0, g0, g2]

/-- After point `n` the buffer holds the sum over the rows of the points so far. -/
theorem sum_rows (y : S1x2048.Idx) : ∀ (n : ℕ) (hn : n < cfg0.N) (h8 : n < 8), (outsAt0 m c n hn).2.2 y
    = ∑ r : Fin (256 * (n + 1)), row (m ((c.tc : Thread nD τ).loc main_arg0)) (m ((c.tc : Thread nD τ).loc main_arg2)) (y 1)
        ⟨r.val, by omega⟩ := by
  intro n
  induction n with
  | zero =>
    intro hn h8
    refine (first m c ⟨0, hn⟩ rfl y).trans ((part m c ⟨0, hn⟩ y h8).trans ?_)
    refine Finset.sum_congr (M := EReal) rfl fun k _ => congrArg _ (Fin.ext ?_)
    show 256 * 0 + k.val = k.val
    omega
  | succ n ih =>
    intro hn h8
    refine (later m c ⟨n + 1, hn⟩ (Nat.le_add_left 1 n) y).trans ?_
    refine Eq.trans ?_ (split (256 * (n + 1)) 256 (by omega) _).symm
    exact congrArg₂ (fun a b : EReal => a + b) (ih (Nat.lt_of_succ_lt hn) (by omega)) (part m c ⟨n + 1, hn⟩ y h8)

theorem whole (y : S1x2048.Idx) (n : ℕ) (hn : n < cfg0.N) (h7 : n = 7) : (outsAt0 m c n hn).2.2 y
    = ∑ r : Fin 2048, row (m ((c.tc : Thread nD τ).loc main_arg0)) (m ((c.tc : Thread nD τ).loc main_arg2)) (y 1) r := by
  subst h7
  exact sum_rows m c y 7 hn (by omega)

theorem dx_eq : (dats m 0 c).arrAt 4 cfg0.N = dx (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  obtain ⟨i0, i1, i2, i3, i4, i5, i6⟩ := index t
  blk_simp
  rw [after0_4, out_dx]
  simp only [k0_pay5, k0_pay3, k0_pay2, dx]
  pointwise
  have e0 : iblk m c 0 t y = m ((c.tc : Thread nD τ).loc main_arg0) ((win0_4.blk t).view.emb y) := by
    blk_ext [iblk, V, i0, i4]
  have e2 : iblk m c 2 t y = m ((c.tc : Thread nD τ).loc main_arg2) ((win0_4.blk t).view.emb y) := by
    blk_ext [iblk, V, i2, i4]
  have e3 : iblk m c 3 t y = m ((c.tc : Thread nD τ).loc main_arg3) ((win0_4.blk t).view.emb y) := by
    blk_ext [iblk, V, i3, i4]
  have f0 : ∀ k, iblk m c 0 t (ix2 (y 0) k) = m ((c.tc : Thread nD τ).loc main_arg0) (ix2 ((win0_4.blk t).view.emb y 0) k) := by
    intro k
    blk_ext [iblk, V, i0, i4]
  have f2 : ∀ k, iblk m c 2 t (ix2 (y 0) k) = m ((c.tc : Thread nD τ).loc main_arg2) (ix2 ((win0_4.blk t).view.emb y 0) k) := by
    intro k
    blk_ext [iblk, V, i2, i4]
  have e1 : iblk m c 1 t (ix2 0 (y 1)) = m ((c.tc : Thread nD τ).loc main_arg1) (ix2 0 ((win0_4.blk t).view.emb y 1)) := by
    blk_ext [iblk, V, i1, i4]
  have f1 : ∀ k, iblk m c 1 t (ix2 0 k) = m ((c.tc : Thread nD τ).loc main_arg1) (ix2 0 k) := by
    intro k
    blk_ext [iblk, V, i1]
  simp only [e0, e1, e2, e3, f0, f1, f2]

theorem dxBf_eq : (dats m 0 c).arrAt 5 cfg0.N = dxBf (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t hf y => ?_
  obtain ⟨i0, i1, i2, i3, i4, i5, i6⟩ := index t
  blk_simp
  rw [after0_5, out_dxBf]
  simp only [k0_pay6, k0_pay5, k0_pay3, k0_pay2, dxBf, dx]
  pointwise
  have e0 : iblk m c 0 t y = m ((c.tc : Thread nD τ).loc main_arg0) ((win0_5.blk t).view.emb y) := by
    blk_ext [iblk, V, i0, i5]
  have e2 : iblk m c 2 t y = m ((c.tc : Thread nD τ).loc main_arg2) ((win0_5.blk t).view.emb y) := by
    blk_ext [iblk, V, i2, i5]
  have e3 : iblk m c 3 t y = m ((c.tc : Thread nD τ).loc main_arg3) ((win0_5.blk t).view.emb y) := by
    blk_ext [iblk, V, i3, i5]
  have f0 : ∀ k, iblk m c 0 t (ix2 (y 0) k) = m ((c.tc : Thread nD τ).loc main_arg0) (ix2 ((win0_5.blk t).view.emb y 0) k) := by
    intro k
    blk_ext [iblk, V, i0, i5]
  have f2 : ∀ k, iblk m c 2 t (ix2 (y 0) k) = m ((c.tc : Thread nD τ).loc main_arg2) (ix2 ((win0_5.blk t).view.emb y 0) k) := by
    intro k
    blk_ext [iblk, V, i2, i5]
  have e1 : iblk m c 1 t (ix2 0 (y 1)) = m ((c.tc : Thread nD τ).loc main_arg1) (ix2 0 ((win0_5.blk t).view.emb y 1)) := by
    blk_ext [iblk, V, i1, i5]
  have f1 : ∀ k, iblk m c 1 t (ix2 0 k) = m ((c.tc : Thread nD τ).loc main_arg1) (ix2 0 k) := by
    intro k
    blk_ext [iblk, V, i1]
  simp only [e0, e1, e2, e3, f0, f1, f2]

theorem dg_eq : (dats m 0 c).arrAt 6 cfg0.N = dg (m ((c.tc : Thread nD τ).loc main_arg0)) (m ((c.tc : Thread nD τ).loc main_arg2)) := by
  refine (dats m 0 c).arrAt_eq_of_covers 6 _ (by decide +kernel) fun t hf y => ?_
  have hm : t.val % 8 = 7 := (flush0_6 t).mp hf
  have hN : t.val < 8 := lt_of_lt_of_eq t.isLt (show cfg0.N = 8 from N_0)
  obtain ⟨i0, i1, i2, i3, i4, i5, i6⟩ := index t
  blk_simp
  rw [after0_6]
  refine (whole m c y t.val t.isLt (by omega)).trans ?_
  simp only [dg]
  pointwise
  refine Finset.sum_congr (M := EReal) rfl fun k _ => ?_
  have e : ((win0_6.blk t).view.emb y) 1 = y 1 := by
    apply Fin.ext
    blk_simp [i6]
  rw [show row _ _ (y 1) ⟨k.val, _⟩ = row _ _ (((win0_6.blk t).view.emb y) 1) k from congrArg (fun j => row _ _ j k) e.symm]
  rfl

end Cert.P35

end
-- ==== Proof.P36.lean ====
/- The norm's call `rms_mix_fwd`: the kernel's result array is the reference's. -/
module

public import proofs.«01_k».proof.Proof.Gen.Kernel36Ideal.Value
public import proofs.«01_k».proof.Proof.Gen.Reference36Ideal.Run
public import Idealize.ShloMosaic.Lib.Pipeline.ValueKit
public import Idealize.ShloMosaic.Lib.Pointwise
public import Idealize.ShloMosaic.Lib.Claim

@[expose] public noncomputable section

set_option maxRecDepth 16384

namespace Cert.P36

open Idealize.ShloMosaic Idealize.ShloMosaic.TcCoe Idealize.SL Idealize.SL.Sem

section

open Cert.Reference36Ideal Cert.Reference36Ideal.Gen

/-- The reference's normalised input. -/
def ref (x : FVec Ideal S2048x2048 .f32) (g : FVec Ideal S1x2048 .f32) : FVec Ideal S2048x2048 .bf16 :=
  truncf .bf16 (mulf (mulf x (broadcastInDim S2048x2048 ![0, 1] bcast_S2048x1_S2048x2048_0_1 (Host.rsqrt (addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 g)) bitsLt_bf16_f32

end

open Cert.Kernel36Ideal Cert.Kernel36Ideal.Gen

variable (m : (ℓ : Loc nD τ sig) → Buf (Elt Ideal) ℓ) (c : Dev nD)

theorem index : ∀ t : Fin grid0.N,
    win0_0.index t = ![t.val, 0] ∧ win0_1.index t = ![0, 0] ∧ win0_2.index t = ![t.val, 0] := by decide +kernel

theorem equal : (dats m 0 c).arrAt 2 cfg0.N = ref (m ((c.tc : Thread nD τ).loc main_arg0)) (m ((c.tc : Thread nD τ).loc main_arg1)) := by
  refine (dats m 0 c).arrAt_eq_of_covers 2 _ (by decide +kernel) fun t hf y => ?_
  obtain ⟨i0, i1, i2⟩ := index t
  blk_simp
  rw [after0_2]
  frame_out
  simp only [k0_pay1, ref]
  pointwise
  have e0 : iblk m c 0 t y = m ((c.tc : Thread nD τ).loc main_arg0) ((win0_2.blk t).view.emb y) := by
    blk_ext [iblk, V, i0, i2]
  have f0 : ∀ k, iblk m c 0 t (ix2 (y 0) k) = m ((c.tc : Thread nD τ).loc main_arg0) (ix2 ((win0_2.blk t).view.emb y 0) k) := by
    intro k
    blk_ext [iblk, V, i0, i2]
  have f1 : iblk m c 1 t (ix2 0 (y 1)) = m ((c.tc : Thread nD τ).loc main_arg1) (ix2 0 ((win0_2.blk t).view.emb y 1)) := by
    blk_ext [iblk, V, i1, i2]
  simp only [e0, f0, f1]

end Cert.P36

end
-- ==== Proof.lean ====
module

public import proofs.«01_k».proof.Defs
public import proofs.«01_k».proof.Proof.Gen.Kernel
public import proofs.«01_k».proof.Proof.NDat
public import proofs.«01_k».proof.Proof.Gen.KernelIdeal
public import proofs.«01_k».proof.Proof.Gen.ReferenceIdeal
public import proofs.«01_k».proof.Proof.Gen.ReferenceIdeal.Run
public import proofs.«01_k».proof.Proof.KArr
public import proofs.«01_k».proof.Proof.RArr
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.P2
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.P3
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.P4
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.P5
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.P6
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.P7
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.P8
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal.Run
public import proofs.«01_k».proof.Proof.P9
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal.Run
public import proofs.«01_k».proof.Proof.P10
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal.Run
public import proofs.«01_k».proof.Proof.P11
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal.Run
public import proofs.«01_k».proof.Proof.P12
public import proofs.«01_k».proof.Proof.Gen.Kernel13
public import proofs.«01_k».proof.Proof.Gen.Kernel13.Frame
public import proofs.«01_k».proof.Proof.Gen.Kernel13Ideal.Value
public import proofs.«01_k».proof.Proof.Gen.Reference13Ideal.Run
public import proofs.«01_k».proof.Proof.P13
public import proofs.«01_k».proof.Proof.Gen.Kernel14
public import proofs.«01_k».proof.Proof.Gen.Kernel14.Frame
public import proofs.«01_k».proof.Proof.Gen.Kernel14Ideal.Value
public import proofs.«01_k».proof.Proof.Gen.Reference14Ideal.Run
public import proofs.«01_k».proof.Proof.P14
public import proofs.«01_k».proof.Proof.Gen.Kernel15
public import proofs.«01_k».proof.Proof.Gen.Kernel15.Frame
public import proofs.«01_k».proof.Proof.Gen.Kernel15Ideal.Value
public import proofs.«01_k».proof.Proof.Gen.Reference15Ideal.Run
public import proofs.«01_k».proof.Proof.P15
public import proofs.«01_k».proof.Proof.Gen.Kernel16
public import proofs.«01_k».proof.Proof.Gen.Kernel16.Frame
public import proofs.«01_k».proof.Proof.Gen.Kernel16Ideal.Value
public import proofs.«01_k».proof.Proof.Gen.Reference16Ideal.Run
public import proofs.«01_k».proof.Proof.P16
public import proofs.«01_k».proof.Proof.Gen.Kernel17
public import proofs.«01_k».proof.Proof.Gen.Kernel17.Frame
public import proofs.«01_k».proof.Proof.Gen.Kernel17Ideal.Value
public import proofs.«01_k».proof.Proof.Gen.Reference17Ideal.Run
public import proofs.«01_k».proof.Proof.P17
public import proofs.«01_k».proof.Proof.Gen.Kernel18
public import proofs.«01_k».proof.Proof.Gen.Kernel18.Frame
public import proofs.«01_k».proof.Proof.Gen.Kernel18Ideal.Value
public import proofs.«01_k».proof.Proof.Gen.Reference18Ideal.Run
public import proofs.«01_k».proof.Proof.P18
public import proofs.«01_k».proof.Proof.Gen.Kernel19
public import proofs.«01_k».proof.Proof.Gen.Kernel19.Frame
public import proofs.«01_k».proof.Proof.Gen.Kernel19Ideal.Value
public import proofs.«01_k».proof.Proof.Gen.Reference19Ideal.Run
public import proofs.«01_k».proof.Proof.P19
public import proofs.«01_k».proof.Proof.Gen.Kernel20
public import proofs.«01_k».proof.Proof.Gen.Kernel20.Frame
public import proofs.«01_k».proof.Proof.Gen.Kernel20Ideal.Value
public import proofs.«01_k».proof.Proof.Gen.Reference20Ideal.Run
public import proofs.«01_k».proof.Proof.P20
public import proofs.«01_k».proof.Proof.Gen.Kernel21
public import proofs.«01_k».proof.Proof.Gen.Kernel21.Frame
public import proofs.«01_k».proof.Proof.Gen.Kernel21Ideal.Value
public import proofs.«01_k».proof.Proof.Gen.Reference21Ideal.Run
public import proofs.«01_k».proof.Proof.P21
public import proofs.«01_k».proof.Proof.Gen.Kernel22
public import proofs.«01_k».proof.Proof.Gen.Kernel22.Frame
public import proofs.«01_k».proof.Proof.Gen.Kernel22Ideal.Value
public import proofs.«01_k».proof.Proof.Gen.Reference22Ideal.Run
public import proofs.«01_k».proof.Proof.P22
public import proofs.«01_k».proof.Proof.Gen.Kernel23
public import proofs.«01_k».proof.Proof.Gen.Kernel23.Frame
public import proofs.«01_k».proof.Proof.Gen.Kernel23Ideal.Value
public import proofs.«01_k».proof.Proof.Gen.Reference23Ideal.Run
public import proofs.«01_k».proof.Proof.P23
public import proofs.«01_k».proof.Proof.Gen.Kernel24
public import proofs.«01_k».proof.Proof.Gen.Kernel24.Frame
public import proofs.«01_k».proof.Proof.Gen.Kernel24Ideal.Value
public import proofs.«01_k».proof.Proof.Gen.Reference24Ideal.Run
public import proofs.«01_k».proof.Proof.P24
public import proofs.«01_k».proof.Proof.Gen.Kernel25
public import proofs.«01_k».proof.Proof.Gen.Kernel25.Frame
public import proofs.«01_k».proof.Proof.Gen.Kernel25Ideal.Value
public import proofs.«01_k».proof.Proof.Gen.Reference25Ideal.Run
public import proofs.«01_k».proof.Proof.P25
public import proofs.«01_k».proof.Proof.Gen.Kernel26
public import proofs.«01_k».proof.Proof.Gen.Kernel26.Frame
public import proofs.«01_k».proof.Proof.Gen.Kernel26Ideal.Value
public import proofs.«01_k».proof.Proof.Gen.Reference26Ideal.Run
public import proofs.«01_k».proof.Proof.P26
public import proofs.«01_k».proof.Proof.Gen.Kernel27
public import proofs.«01_k».proof.Proof.Gen.Kernel27.Frame
public import proofs.«01_k».proof.Proof.Gen.Kernel27Ideal.Value
public import proofs.«01_k».proof.Proof.Gen.Reference27Ideal.Run
public import proofs.«01_k».proof.Proof.P27
public import proofs.«01_k».proof.Proof.Gen.Kernel28
public import proofs.«01_k».proof.Proof.Gen.Kernel28.Frame
public import proofs.«01_k».proof.Proof.Gen.Kernel28Ideal.Value
public import proofs.«01_k».proof.Proof.Gen.Reference28Ideal.Run
public import proofs.«01_k».proof.Proof.P28
public import proofs.«01_k».proof.Proof.Gen.Kernel29
public import proofs.«01_k».proof.Proof.Gen.Kernel29.Frame
public import proofs.«01_k».proof.Proof.Gen.Kernel29Ideal.Value
public import proofs.«01_k».proof.Proof.Gen.Reference29Ideal.Run
public import proofs.«01_k».proof.Proof.P29
public import proofs.«01_k».proof.Proof.Gen.Kernel30
public import proofs.«01_k».proof.Proof.Gen.Kernel30.Frame
public import proofs.«01_k».proof.Proof.Gen.Kernel30Ideal.Value
public import proofs.«01_k».proof.Proof.Gen.Reference30Ideal.Run
public import proofs.«01_k».proof.Proof.P30
public import proofs.«01_k».proof.Proof.Gen.Kernel31
public import proofs.«01_k».proof.Proof.Gen.Kernel31.Frame
public import proofs.«01_k».proof.Proof.Gen.Kernel31Ideal.Value
public import proofs.«01_k».proof.Proof.Gen.Reference31Ideal.Run
public import proofs.«01_k».proof.Proof.P31
public import proofs.«01_k».proof.Proof.Gen.Kernel32
public import proofs.«01_k».proof.Proof.Gen.Kernel32.Frame
public import proofs.«01_k».proof.Proof.Gen.Kernel32Ideal.Value
public import proofs.«01_k».proof.Proof.Gen.Reference32Ideal.Run
public import proofs.«01_k».proof.Proof.P32
public import proofs.«01_k».proof.Proof.Gen.Kernel33
public import proofs.«01_k».proof.Proof.Gen.Kernel33.Frame
public import proofs.«01_k».proof.Proof.Gen.Kernel33Ideal.Value
public import proofs.«01_k».proof.Proof.Gen.Reference33Ideal.Run
public import proofs.«01_k».proof.Proof.P33
public import proofs.«01_k».proof.Proof.Gen.Kernel34
public import proofs.«01_k».proof.Proof.Gen.Kernel34.Frame
public import proofs.«01_k».proof.Proof.Gen.Kernel34Ideal.Value
public import proofs.«01_k».proof.Proof.Gen.Reference34Ideal.Run
public import proofs.«01_k».proof.Proof.P34
public import proofs.«01_k».proof.Proof.Gen.Kernel35
public import proofs.«01_k».proof.Proof.Gen.Kernel35.Frame
public import proofs.«01_k».proof.Proof.Gen.Kernel35Ideal.Value
public import proofs.«01_k».proof.Proof.Gen.Reference35Ideal.Run
public import proofs.«01_k».proof.Proof.P35
public import proofs.«01_k».proof.Proof.Gen.Kernel36
public import proofs.«01_k».proof.Proof.Gen.Kernel36.Frame
public import proofs.«01_k».proof.Proof.Gen.Kernel36Ideal.Value
public import proofs.«01_k».proof.Proof.Gen.Reference36Ideal.Run
public import proofs.«01_k».proof.Proof.P36
public import Idealize.ShloMosaic.Adequacy
public import Idealize.ShloMosaic.Init

@[expose] public section

noncomputable section

namespace Cert.Proof

open Idealize.ShloMosaic Idealize.ShloMosaic.TcCoe Idealize.SL.Sem Cert.KArr

theorem frame_Kernel : Cert.quiescent_Kernel (hKernel := Cert.Kernel.Gen.facts) := fun m ρ _ =>
  Cert.Kernel.Gen.frame (F := Bits) m ρ

theorem frame_KernelIdeal : Cert.quiescent_KernelIdeal (hKernelIdeal := Cert.KernelIdeal.Gen.facts) := fun m ρ _ =>
  Cert.KernelIdeal.Gen.frame (F := Ideal) m ρ

/-- The reference declares no semaphore, so its counters are zero in every state. -/
theorem frame_ReferenceIdeal : Cert.quiescent_ReferenceIdeal (hReferenceIdeal := Cert.ReferenceIdeal.Gen.facts) := fun m ρ _ =>
  (θ_run Cert.ReferenceIdeal.defs _ _).mono
    (fun r h => ⟨fun c => (h c).2.2.2.2.2.2.2.2.2.2.2.2, sem_eq_zero_of_no_sems rfl r.2⟩)
    (Cert.ReferenceIdeal.Value.run (F := Ideal) m ρ)

section
open Cert.KernelIdeal Cert.KernelIdeal.Gen

/-- The kernel's run: each result array is the one its windows wrote, and the arguments are unchanged. -/
theorem run_Kernel (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2_0) = (dats m 0 c).arrAt 16 cfg0.N
      ∧ r.2.mem ((c.tc : Thread nD τ).loc main_v2_1) = (dats m 0 c).arrAt 17 cfg0.N
      ∧ r.2.mem ((c.tc : Thread nD τ).loc main_v2_2) = (dats m 0 c).arrAt 18 cfg0.N
      ∧ r.2.mem ((c.tc : Thread nD τ).loc main_v2_3) = (dats m 0 c).arrAt 19 cfg0.N
      ∧ r.2.mem ((c.tc : Thread nD τ).loc main_v2_4) = (dats m 0 c).arrAt 20 cfg0.N
      ∧ r.2.mem ((c.tc : Thread nD τ).loc main_v2_5) = (dats m 0 c).arrAt 21 cfg0.N
      ∧ r.2.mem ((c.tc : Thread nD τ).loc main_v2_6) = (dats m 0 c).arrAt 22 cfg0.N
      ∧ r.2.mem ((c.tc : Thread nD τ).loc main_v2_7) = (dats m 0 c).arrAt 23 cfg0.N
      ∧ r.2.mem ((c.tc : Thread nD τ).loc main_v2_8) = (dats m 0 c).arrAt 24 cfg0.N
      ∧ r.2.mem ((c.tc : Thread nD τ).loc main_v2_9) = (dats m 0 c).arrAt 25 cfg0.N
      ∧ r.2.mem ((c.tc : Thread nD τ).loc main_v2_10) = (dats m 0 c).arrAt 26 cfg0.N
      ∧ r.2.mem ((c.tc : Thread nD τ).loc main_v2_11) = (dats m 0 c).arrAt 27 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h.1 c).1 16, (h.1 c).1 17, (h.1 c).1 18, (h.1 c).1 19, (h.1 c).1 20, (h.1 c).1 21, (h.1 c).1 22, (h.1 c).1 23, (h.1 c).1 24, (h.1 c).1 25, (h.1 c).1 26, (h.1 c).1 27, h.2 c⟩)
    (θ_run_and (run_main m ρ) (unchanged m ρ))

end

abbrev V84 (X : Cert.Args.Arrays) : Vec Ideal Cert.KernelIdeal.S2048x1024 .f32 :=
  wide fun h n => (X.chunk 0 h n).du (X.cotAt 0 h n)

abbrev V89 (X : Cert.Args.Arrays) : Vec Ideal Cert.KernelIdeal.S2048x1024 .f32 :=
  wide fun h n => (X.chunk 0 h n).dw (X.cotAt 0 h n)

abbrev V94 (X : Cert.Args.Arrays) : Vec Ideal Cert.KernelIdeal.S2048x1024 .f32 :=
  wide fun h n => (X.chunk 0 h n).dq

abbrev V99 (X : Cert.Args.Arrays) : Vec Ideal Cert.KernelIdeal.S2048x1024 .f32 :=
  wide fun h n => (X.chunk 0 h n).dk (X.cotAt 0 h n)

abbrev V102 (X : Cert.Args.Arrays) : Vec Ideal Cert.KernelIdeal.S8x2048x64 .f32 :=
  tall fun h n => (X.chunk 0 h n).dqk

abbrev V105 (X : Cert.Args.Arrays) : Vec Ideal Cert.KernelIdeal.S32x8x128 .f32 :=
  lanes fun h n => (X.chunk 0 h n).ddec (X.cotAt 0 h n)

abbrev V111 (X : Cert.Args.Arrays) : Vec Ideal Cert.KernelIdeal.S2048x1024 .f32 :=
  wide fun h n => (X.chunk 1 h n).du (X.cotAt 1 h n)

abbrev V117 (X : Cert.Args.Arrays) : Vec Ideal Cert.KernelIdeal.S2048x1024 .f32 :=
  wide fun h n => (X.chunk 1 h n).dw (X.cotAt 1 h n)

abbrev V123 (X : Cert.Args.Arrays) : Vec Ideal Cert.KernelIdeal.S2048x1024 .f32 :=
  wide fun h n => (X.chunk 1 h n).dq

abbrev V129 (X : Cert.Args.Arrays) : Vec Ideal Cert.KernelIdeal.S2048x1024 .f32 :=
  wide fun h n => (X.chunk 1 h n).dk (X.cotAt 1 h n)

abbrev V133 (X : Cert.Args.Arrays) : Vec Ideal Cert.KernelIdeal.S8x2048x64 .f32 :=
  tall fun h n => (X.chunk 1 h n).dqk

abbrev V137 (X : Cert.Args.Arrays) : Vec Ideal Cert.KernelIdeal.S32x8x128 .f32 :=
  lanes fun h n => (X.chunk 1 h n).ddec (X.cotAt 1 h n)

theorem algebraic : Cert.algebraic_KernelIdeal_ReferenceIdeal (hKernelIdeal := Cert.KernelIdeal.Gen.facts)
    (hReferenceIdeal := Cert.ReferenceIdeal.Gen.facts) := by
  intro m g m' g' _ hargs
  have hA : ∀ c : Dev Cert.KernelIdeal.nD, Cert.REntry.arrays m' c = Cert.KRead.arrays m c := fun c => by
    obtain ⟨h0, h1, h2, h3, h4, h5, h6, h7, h8⟩ := hargs c
    exact Cert.Args.Arrays.mk.injEq .. |>.mpr ⟨h0, h1, h2, h3, h4, h5, h6, h7, h8⟩
  refine ⟨(fun c => V84 (Cert.KRead.arrays m c)), (fun c => V89 (Cert.KRead.arrays m c)), (fun c => V94 (Cert.KRead.arrays m c)), (fun c => V99 (Cert.KRead.arrays m c)), (fun c => V102 (Cert.KRead.arrays m c)), (fun c => V105 (Cert.KRead.arrays m c)), (fun c => V111 (Cert.KRead.arrays m c)), (fun c => V117 (Cert.KRead.arrays m c)), (fun c => V123 (Cert.KRead.arrays m c)), (fun c => V129 (Cert.KRead.arrays m c)), (fun c => V133 (Cert.KRead.arrays m c)), (fun c => V137 (Cert.KRead.arrays m c)),
    (θ_run Cert.KernelIdeal.defs _ _).mono (fun r h c => ?_) (run_Kernel m g),
    (θ_run Cert.ReferenceIdeal.defs _ _).mono (fun r h c => ?_) (Cert.ReferenceIdeal.Value.run (F := Ideal) m' g')⟩
  · obtain ⟨k0, k1, k2, k3, k4, k5, k6, k7, k8, k9, k10, k11, kept⟩ := h c
    exact ⟨k0.trans (arr16 m c), k1.trans (arr17 m c), k2.trans (arr18 m c), k3.trans (arr19 m c), k4.trans (arr20 m c), k5.trans (arr21 m c), k6.trans (arr22 m c), k7.trans (arr23 m c), k8.trans (arr24 m c), k9.trans (arr25 m c), k10.trans (arr26 m c), k11.trans (arr27 m c), kept⟩
  · obtain ⟨k0, k1, k2, k3, k4, k5, k6, k7, k8, k9, k10, k11, kept⟩ := h c
    have e := hA c
    exact ⟨k0.trans ((Cert.RArr.res84 m' c).trans (congrArg V84 e)), k1.trans ((Cert.RArr.res89 m' c).trans (congrArg V89 e)), k2.trans ((Cert.RArr.res94 m' c).trans (congrArg V94 e)), k3.trans ((Cert.RArr.res99 m' c).trans (congrArg V99 e)), k4.trans ((Cert.RArr.res102 m' c).trans (congrArg V102 e)), k5.trans ((Cert.RArr.res105 m' c).trans (congrArg V105 e)), k6.trans ((Cert.RArr.res111 m' c).trans (congrArg V111 e)), k7.trans ((Cert.RArr.res117 m' c).trans (congrArg V117 e)), k8.trans ((Cert.RArr.res123 m' c).trans (congrArg V123 e)), k9.trans ((Cert.RArr.res129 m' c).trans (congrArg V129 e)), k10.trans ((Cert.RArr.res133 m' c).trans (congrArg V133 e)), k11.trans ((Cert.RArr.res137 m' c).trans (congrArg V137 e)), kept⟩

/-! ## `mm_in_wgrad` -/

theorem frame_Kernel2 : Cert.quiescent_Kernel2 (hKernel2 := Cert.Kernel2.Gen.facts) := fun m ρ _ =>
  Cert.Kernel2.Gen.frame (F := Bits) m ρ

theorem frame_Kernel2Ideal : Cert.quiescent_Kernel2Ideal (hKernel2Ideal := Cert.Kernel2Ideal.Gen.facts) := fun m ρ _ =>
  Cert.Kernel2Ideal.Gen.frame (F := Ideal) m ρ

theorem frame_Reference2Ideal : Cert.quiescent_Reference2Ideal (hReference2Ideal := Cert.Reference2Ideal.Gen.facts) := fun m ρ _ =>
  (θ_run Cert.Reference2Ideal.defs _ _).mono (fun r h => ⟨fun c => (h c).2, sem_eq_zero_of_no_sems rfl r.2⟩)
    (Cert.Reference2Ideal.Value.run (F := Ideal) m ρ)

theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.P2.ref (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    (θ_run Cert.Kernel2Ideal.defs _ _).mono (fun r h c => ⟨(h c).1.trans (Cert.P2.equal m c), (h c).2⟩)
      (Cert.Kernel2Ideal.Value.run_blocks (F := Ideal) m g),
    (θ_run Cert.Reference2Ideal.defs _ _).mono (fun r h c => ?_) (Cert.Reference2Ideal.Value.run (F := Ideal) m' g')⟩
  obtain ⟨h0, h1⟩ := hargs c
  refine ⟨(h c).1.trans ?_, (h c).2⟩
  rw [h0, h1]
  rfl

/-! ## `mm_down_wgrad` -/

theorem frame_Kernel3 : Cert.quiescent_Kernel3 (hKernel3 := Cert.Kernel3.Gen.facts) := fun m ρ _ =>
  Cert.Kernel3.Gen.frame (F := Bits) m ρ

theorem frame_Kernel3Ideal : Cert.quiescent_Kernel3Ideal (hKernel3Ideal := Cert.Kernel3Ideal.Gen.facts) := fun m ρ _ =>
  Cert.Kernel3Ideal.Gen.frame (F := Ideal) m ρ

theorem frame_Reference3Ideal : Cert.quiescent_Reference3Ideal (hReference3Ideal := Cert.Reference3Ideal.Gen.facts) := fun m ρ _ =>
  (θ_run Cert.Reference3Ideal.defs _ _).mono (fun r h => ⟨fun c => (h c).2, sem_eq_zero_of_no_sems rfl r.2⟩)
    (Cert.Reference3Ideal.Value.run (F := Ideal) m ρ)

theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.P3.ref (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    (θ_run Cert.Kernel3Ideal.defs _ _).mono (fun r h c => ⟨(h c).1.trans (Cert.P3.equal m c), (h c).2⟩)
      (Cert.Kernel3Ideal.Value.run_blocks (F := Ideal) m g),
    (θ_run Cert.Reference3Ideal.defs _ _).mono (fun r h c => ?_) (Cert.Reference3Ideal.Value.run (F := Ideal) m' g')⟩
  obtain ⟨h0, h1⟩ := hargs c
  refine ⟨(h c).1.trans ?_, (h c).2⟩
  rw [h0, h1]
  rfl

/-! ## `mm_down_dgrad` -/

theorem frame_Kernel4 : Cert.quiescent_Kernel4 (hKernel4 := Cert.Kernel4.Gen.facts) := fun m ρ _ =>
  Cert.Kernel4.Gen.frame (F := Bits) m ρ

theorem frame_Kernel4Ideal : Cert.quiescent_Kernel4Ideal (hKernel4Ideal := Cert.Kernel4Ideal.Gen.facts) := fun m ρ _ =>
  Cert.Kernel4Ideal.Gen.frame (F := Ideal) m ρ

theorem frame_Reference4Ideal : Cert.quiescent_Reference4Ideal (hReference4Ideal := Cert.Reference4Ideal.Gen.facts) := fun m ρ _ =>
  (θ_run Cert.Reference4Ideal.defs _ _).mono (fun r h => ⟨fun c => (h c).2, sem_eq_zero_of_no_sems rfl r.2⟩)
    (Cert.Reference4Ideal.Value.run (F := Ideal) m ρ)

theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.P4.ref (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    (θ_run Cert.Kernel4Ideal.defs _ _).mono (fun r h c => ⟨(h c).1.trans (Cert.P4.equal m c), (h c).2⟩)
      (Cert.Kernel4Ideal.Value.run_blocks (F := Ideal) m g),
    (θ_run Cert.Reference4Ideal.defs _ _).mono (fun r h c => ?_) (Cert.Reference4Ideal.Value.run (F := Ideal) m' g')⟩
  obtain ⟨h0, h1⟩ := hargs c
  refine ⟨(h c).1.trans ?_, (h c).2⟩
  rw [h0, h1]
  rfl

/-! ## `mm_up_wgrad` -/

theorem frame_Kernel5 : Cert.quiescent_Kernel5 (hKernel5 := Cert.Kernel5.Gen.facts) := fun m ρ _ =>
  Cert.Kernel5.Gen.frame (F := Bits) m ρ

theorem frame_Kernel5Ideal : Cert.quiescent_Kernel5Ideal (hKernel5Ideal := Cert.Kernel5Ideal.Gen.facts) := fun m ρ _ =>
  Cert.Kernel5Ideal.Gen.frame (F := Ideal) m ρ

theorem frame_Reference5Ideal : Cert.quiescent_Reference5Ideal (hReference5Ideal := Cert.Reference5Ideal.Gen.facts) := fun m ρ _ =>
  (θ_run Cert.Reference5Ideal.defs _ _).mono (fun r h => ⟨fun c => (h c).2, sem_eq_zero_of_no_sems rfl r.2⟩)
    (Cert.Reference5Ideal.Value.run (F := Ideal) m ρ)

theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨fun c => Cert.P5.ref (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
    (θ_run Cert.Kernel5Ideal.defs _ _).mono (fun r h c => ⟨(h c).1.trans (Cert.P5.equal m c), (h c).2⟩)
      (Cert.Kernel5Ideal.Value.run_blocks (F := Ideal) m g),
    (θ_run Cert.Reference5Ideal.defs _ _).mono (fun r h c => ?_) (Cert.Reference5Ideal.Value.run (F := Ideal) m' g')⟩
  obtain ⟨h0, h1⟩ := hargs c
  refine ⟨(h c).1.trans ?_, (h c).2⟩
  rw [h0, h1]
  rfl

/-! ## `mm_up_dgrad` -/

theorem frame_Kernel6 : Cert.quiescent_Kernel6 (hKernel6 := Cert.Kernel6.Gen.facts) := fun m ρ _ =>
  Cert.Kernel6.Gen.frame (F := Bits) m ρ

theorem frame_Kernel6Ideal : Cert.quiescent_Kernel6Ideal (hKernel6Ideal := Cert.Kernel6Ideal.Gen.facts) := fun m ρ _ =>
  Cert.Kernel6Ideal.Gen.frame (F := Ideal) m ρ

theorem frame_Reference6Ideal : Cert.quiescent_Reference6Ideal (hReference6Ideal := Cert.Reference6Ideal.Gen.facts) := fun m ρ _ =>
  (θ_run Cert.Reference6Ideal.defs _ _).mono (fun r h => ⟨fun c => (h c).2, sem_eq_zero_of_no_sems rfl r.2⟩)
    (Cert.Reference6Ideal.Value.run (F := Ideal) m ρ)

theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.P6.ref (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    (θ_run Cert.Kernel6Ideal.defs _ _).mono (fun r h c => ⟨(h c).1.trans (Cert.P6.equal m c), (h c).2⟩)
      (Cert.Kernel6Ideal.Value.run_blocks (F := Ideal) m g),
    (θ_run Cert.Reference6Ideal.defs _ _).mono (fun r h c => ?_) (Cert.Reference6Ideal.Value.run (F := Ideal) m' g')⟩
  obtain ⟨h0, h1⟩ := hargs c
  refine ⟨(h c).1.trans ?_, (h c).2⟩
  rw [h0, h1]
  rfl

/-! ## `mm_in_dgrad` -/

theorem frame_Kernel7 : Cert.quiescent_Kernel7 (hKernel7 := Cert.Kernel7.Gen.facts) := fun m ρ _ =>
  Cert.Kernel7.Gen.frame (F := Bits) m ρ

theorem frame_Kernel7Ideal : Cert.quiescent_Kernel7Ideal (hKernel7Ideal := Cert.Kernel7Ideal.Gen.facts) := fun m ρ _ =>
  Cert.Kernel7Ideal.Gen.frame (F := Ideal) m ρ

theorem frame_Reference7Ideal : Cert.quiescent_Reference7Ideal (hReference7Ideal := Cert.Reference7Ideal.Gen.facts) := fun m ρ _ =>
  (θ_run Cert.Reference7Ideal.defs _ _).mono (fun r h => ⟨fun c => (h c).2, sem_eq_zero_of_no_sems rfl r.2⟩)
    (Cert.Reference7Ideal.Value.run (F := Ideal) m ρ)

theorem algebraic7 : Cert.algebraic_Kernel7Ideal_Reference7Ideal (hKernel7Ideal := Cert.Kernel7Ideal.Gen.facts)
    (hReference7Ideal := Cert.Reference7Ideal.Gen.facts) := by
  intro m g m' g' _ hargs
  refine ⟨fun c => Cert.P7.ref (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    (θ_run Cert.Kernel7Ideal.defs _ _).mono (fun r h c => ⟨(h c).1.trans (Cert.P7.equal m c), (h c).2⟩)
      (Cert.Kernel7Ideal.Value.run_blocks (F := Ideal) m g),
    (θ_run Cert.Reference7Ideal.defs _ _).mono (fun r h c => ?_) (Cert.Reference7Ideal.Value.run (F := Ideal) m' g')⟩
  obtain ⟨h0, h1⟩ := hargs c
  refine ⟨(h c).1.trans ?_, (h c).2⟩
  rw [h0, h1]
  rfl

/-! ## `mm_in` -/

theorem frame_Kernel8 : Cert.quiescent_Kernel8 (hKernel8 := Cert.Kernel8.Gen.facts) := fun m ρ _ =>
  Cert.Kernel8.Gen.frame (F := Bits) m ρ

theorem frame_Kernel8Ideal : Cert.quiescent_Kernel8Ideal (hKernel8Ideal := Cert.Kernel8Ideal.Gen.facts) := fun m ρ _ =>
  Cert.Kernel8Ideal.Gen.frame (F := Ideal) m ρ

theorem frame_Reference8Ideal : Cert.quiescent_Reference8Ideal (hReference8Ideal := Cert.Reference8Ideal.Gen.facts) := fun m ρ _ =>
  (θ_run Cert.Reference8Ideal.defs _ _).mono (fun r h => ⟨fun c => (h c).2, sem_eq_zero_of_no_sems rfl r.2⟩)
    (Cert.Reference8Ideal.Value.run (F := Ideal) m ρ)

theorem algebraic8 : Cert.algebraic_Kernel8Ideal_Reference8Ideal (hKernel8Ideal := Cert.Kernel8Ideal.Gen.facts)
    (hReference8Ideal := Cert.Reference8Ideal.Gen.facts) := by
  intro m g m' g' _ hargs
  refine ⟨fun c => Cert.P8.ref (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)),
    (θ_run Cert.Kernel8Ideal.defs _ _).mono (fun r h c => ⟨(h c).1.trans (Cert.P8.equal m c), (h c).2⟩)
      (Cert.Kernel8Ideal.Value.run_blocks (F := Ideal) m g),
    (θ_run Cert.Reference8Ideal.defs _ _).mono (fun r h c => ?_) (Cert.Reference8Ideal.Value.run (F := Ideal) m' g')⟩
  obtain ⟨h0, h1⟩ := hargs c
  refine ⟨(h c).1.trans ?_, (h c).2⟩
  rw [h0, h1]
  rfl

/-! ## `mm_up` -/

theorem frame_Kernel9 : Cert.quiescent_Kernel9 (hKernel9 := Cert.Kernel9.Gen.facts) := fun m ρ _ =>
  Cert.Kernel9.Gen.frame (F := Bits) m ρ

theorem frame_Kernel9Ideal : Cert.quiescent_Kernel9Ideal (hKernel9Ideal := Cert.Kernel9Ideal.Gen.facts) := fun m ρ _ =>
  Cert.Kernel9Ideal.Gen.frame (F := Ideal) m ρ

theorem frame_Reference9Ideal : Cert.quiescent_Reference9Ideal (hReference9Ideal := Cert.Reference9Ideal.Gen.facts) := fun m ρ _ =>
  (θ_run Cert.Reference9Ideal.defs _ _).mono (fun r h => ⟨fun c => (h c).2, sem_eq_zero_of_no_sems rfl r.2⟩)
    (Cert.Reference9Ideal.Value.run (F := Ideal) m ρ)

theorem algebraic9 : Cert.algebraic_Kernel9Ideal_Reference9Ideal (hKernel9Ideal := Cert.Kernel9Ideal.Gen.facts)
    (hReference9Ideal := Cert.Reference9Ideal.Gen.facts) := by
  intro m g m' g' _ hargs
  refine ⟨fun c => Cert.P9.ref (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    (θ_run Cert.Kernel9Ideal.defs _ _).mono (fun r h c => ⟨(h c).1.trans (Cert.P9.equal m c), (h c).2⟩)
      (Cert.Kernel9Ideal.Value.run_blocks (F := Ideal) m g),
    (θ_run Cert.Reference9Ideal.defs _ _).mono (fun r h c => ?_) (Cert.Reference9Ideal.Value.run (F := Ideal) m' g')⟩
  obtain ⟨h0, h1⟩ := hargs c
  refine ⟨(h c).1.trans ?_, (h c).2⟩
  rw [h0, h1]
  rfl

/-! ## `mm_down` -/

theorem frame_Kernel10 : Cert.quiescent_Kernel10 (hKernel10 := Cert.Kernel10.Gen.facts) := fun m ρ _ =>
  Cert.Kernel10.Gen.frame (F := Bits) m ρ

theorem frame_Kernel10Ideal : Cert.quiescent_Kernel10Ideal (hKernel10Ideal := Cert.Kernel10Ideal.Gen.facts) := fun m ρ _ =>
  Cert.Kernel10Ideal.Gen.frame (F := Ideal) m ρ

theorem frame_Reference10Ideal : Cert.quiescent_Reference10Ideal (hReference10Ideal := Cert.Reference10Ideal.Gen.facts) := fun m ρ _ =>
  (θ_run Cert.Reference10Ideal.defs _ _).mono (fun r h => ⟨fun c => (h c).2, sem_eq_zero_of_no_sems rfl r.2⟩)
    (Cert.Reference10Ideal.Value.run (F := Ideal) m ρ)

theorem algebraic10 : Cert.algebraic_Kernel10Ideal_Reference10Ideal (hKernel10Ideal := Cert.Kernel10Ideal.Gen.facts)
    (hReference10Ideal := Cert.Reference10Ideal.Gen.facts) := by
  intro m g m' g' _ hargs
  refine ⟨fun c => Cert.P10.ref (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)),
    (θ_run Cert.Kernel10Ideal.defs _ _).mono (fun r h c => ⟨(h c).1.trans (Cert.P10.equal m c), (h c).2⟩)
      (Cert.Kernel10Ideal.Value.run_blocks (F := Ideal) m g),
    (θ_run Cert.Reference10Ideal.defs _ _).mono (fun r h c => ?_) (Cert.Reference10Ideal.Value.run (F := Ideal) m' g')⟩
  obtain ⟨h0, h1, h2⟩ := hargs c
  refine ⟨(h c).1.trans ?_, (h c).2⟩
  rw [h0, h1, h2]
  rfl

/-! ## `mm_out_wgrad` -/

theorem frame_Kernel11 : Cert.quiescent_Kernel11 (hKernel11 := Cert.Kernel11.Gen.facts) := fun m ρ _ =>
  Cert.Kernel11.Gen.frame (F := Bits) m ρ

theorem frame_Kernel11Ideal : Cert.quiescent_Kernel11Ideal (hKernel11Ideal := Cert.Kernel11Ideal.Gen.facts) := fun m ρ _ =>
  Cert.Kernel11Ideal.Gen.frame (F := Ideal) m ρ

theorem frame_Reference11Ideal : Cert.quiescent_Reference11Ideal (hReference11Ideal := Cert.Reference11Ideal.Gen.facts) := fun m ρ _ =>
  (θ_run Cert.Reference11Ideal.defs _ _).mono (fun r h => ⟨fun c => (h c).2, sem_eq_zero_of_no_sems rfl r.2⟩)
    (Cert.Reference11Ideal.Value.run (F := Ideal) m ρ)

theorem algebraic11 : Cert.algebraic_Kernel11Ideal_Reference11Ideal (hKernel11Ideal := Cert.Kernel11Ideal.Gen.facts)
    (hReference11Ideal := Cert.Reference11Ideal.Gen.facts) := by
  intro m g m' g' _ hargs
  refine ⟨fun c => Cert.P11.ref (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)),
    (θ_run Cert.Kernel11Ideal.defs _ _).mono (fun r h c => ⟨(h c).1.trans (Cert.P11.equal m c), (h c).2⟩)
      (Cert.Kernel11Ideal.Value.run_blocks (F := Ideal) m g),
    (θ_run Cert.Reference11Ideal.defs _ _).mono (fun r h c => ?_) (Cert.Reference11Ideal.Value.run (F := Ideal) m' g')⟩
  obtain ⟨h0, h1⟩ := hargs c
  refine ⟨(h c).1.trans ?_, (h c).2⟩
  rw [h0, h1]
  rfl

/-! ## `mm_out_dgrad` -/

theorem frame_Kernel12 : Cert.quiescent_Kernel12 (hKernel12 := Cert.Kernel12.Gen.facts) := fun m ρ _ =>
  Cert.Kernel12.Gen.frame (F := Bits) m ρ

theorem frame_Kernel12Ideal : Cert.quiescent_Kernel12Ideal (hKernel12Ideal := Cert.Kernel12Ideal.Gen.facts) := fun m ρ _ =>
  Cert.Kernel12Ideal.Gen.frame (F := Ideal) m ρ

theorem frame_Reference12Ideal : Cert.quiescent_Reference12Ideal (hReference12Ideal := Cert.Reference12Ideal.Gen.facts) := fun m ρ _ =>
  (θ_run Cert.Reference12Ideal.defs _ _).mono (fun r h => ⟨fun c => (h c).2, sem_eq_zero_of_no_sems rfl r.2⟩)
    (Cert.Reference12Ideal.Value.run (F := Ideal) m ρ)

theorem algebraic12 : Cert.algebraic_Kernel12Ideal_Reference12Ideal (hKernel12Ideal := Cert.Kernel12Ideal.Gen.facts)
    (hReference12Ideal := Cert.Reference12Ideal.Gen.facts) := by
  intro m g m' g' _ hargs
  refine ⟨fun c => Cert.P12.ref (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)),
    (θ_run Cert.Kernel12Ideal.defs _ _).mono (fun r h c => ⟨(h c).1.trans (Cert.P12.equal m c), (h c).2⟩)
      (Cert.Kernel12Ideal.Value.run_blocks (F := Ideal) m g),
    (θ_run Cert.Reference12Ideal.defs _ _).mono (fun r h c => ?_) (Cert.Reference12Ideal.Value.run (F := Ideal) m' g')⟩
  obtain ⟨h0, h1⟩ := hargs c
  refine ⟨(h c).1.trans ?_, (h c).2⟩
  rw [h0, h1]
  rfl

/-! ## `mm_branch_a_wgrad` -/

theorem frame_Kernel13 : Cert.quiescent_Kernel13 (hKernel13 := Cert.Kernel13.Gen.facts) := fun m ρ _ =>
  Cert.Kernel13.Gen.frame (F := Bits) m ρ

theorem frame_Kernel13Ideal : Cert.quiescent_Kernel13Ideal (hKernel13Ideal := Cert.Kernel13Ideal.Gen.facts) := fun m ρ _ =>
  Cert.Kernel13Ideal.Gen.frame (F := Ideal) m ρ

theorem frame_Reference13Ideal : Cert.quiescent_Reference13Ideal (hReference13Ideal := Cert.Reference13Ideal.Gen.facts) := fun m ρ _ =>
  (θ_run Cert.Reference13Ideal.defs _ _).mono (fun r h => ⟨fun c => (h c).2, sem_eq_zero_of_no_sems rfl r.2⟩)
    (Cert.Reference13Ideal.Value.run (F := Ideal) m ρ)

theorem algebraic13 : Cert.algebraic_Kernel13Ideal_Reference13Ideal (hKernel13Ideal := Cert.Kernel13Ideal.Gen.facts)
    (hReference13Ideal := Cert.Reference13Ideal.Gen.facts) := by
  intro m g m' g' _ hargs
  refine ⟨fun c => Cert.P13.ref (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)),
    (θ_run Cert.Kernel13Ideal.defs _ _).mono (fun r h c => ⟨(h c).1.trans (Cert.P13.equal m c), (h c).2⟩)
      (Cert.Kernel13Ideal.Value.run_blocks (F := Ideal) m g),
    (θ_run Cert.Reference13Ideal.defs _ _).mono (fun r h c => ?_) (Cert.Reference13Ideal.Value.run (F := Ideal) m' g')⟩
  obtain ⟨h0, h1⟩ := hargs c
  refine ⟨(h c).1.trans ?_, (h c).2⟩
  rw [h0, h1]
  rfl

/-! ## `mm_branch_a_dgrad` -/

theorem frame_Kernel14 : Cert.quiescent_Kernel14 (hKernel14 := Cert.Kernel14.Gen.facts) := fun m ρ _ =>
  Cert.Kernel14.Gen.frame (F := Bits) m ρ

theorem frame_Kernel14Ideal : Cert.quiescent_Kernel14Ideal (hKernel14Ideal := Cert.Kernel14Ideal.Gen.facts) := fun m ρ _ =>
  Cert.Kernel14Ideal.Gen.frame (F := Ideal) m ρ

theorem frame_Reference14Ideal : Cert.quiescent_Reference14Ideal (hReference14Ideal := Cert.Reference14Ideal.Gen.facts) := fun m ρ _ =>
  (θ_run Cert.Reference14Ideal.defs _ _).mono (fun r h => ⟨fun c => (h c).2, sem_eq_zero_of_no_sems rfl r.2⟩)
    (Cert.Reference14Ideal.Value.run (F := Ideal) m ρ)

theorem algebraic14 : Cert.algebraic_Kernel14Ideal_Reference14Ideal (hKernel14Ideal := Cert.Kernel14Ideal.Gen.facts)
    (hReference14Ideal := Cert.Reference14Ideal.Gen.facts) := by
  intro m g m' g' _ hargs
  refine ⟨fun c => Cert.P14.ref (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)),
    (θ_run Cert.Kernel14Ideal.defs _ _).mono (fun r h c => ⟨(h c).1.trans (Cert.P14.equal m c), (h c).2⟩)
      (Cert.Kernel14Ideal.Value.run_blocks (F := Ideal) m g),
    (θ_run Cert.Reference14Ideal.defs _ _).mono (fun r h c => ?_) (Cert.Reference14Ideal.Value.run (F := Ideal) m' g')⟩
  obtain ⟨h0, h1⟩ := hargs c
  refine ⟨(h c).1.trans ?_, (h c).2⟩
  rw [h0, h1]
  rfl

/-! ## `mm_branch_b_wgrad` -/

theorem frame_Kernel15 : Cert.quiescent_Kernel15 (hKernel15 := Cert.Kernel15.Gen.facts) := fun m ρ _ =>
  Cert.Kernel15.Gen.frame (F := Bits) m ρ

theorem frame_Kernel15Ideal : Cert.quiescent_Kernel15Ideal (hKernel15Ideal := Cert.Kernel15Ideal.Gen.facts) := fun m ρ _ =>
  Cert.Kernel15Ideal.Gen.frame (F := Ideal) m ρ

theorem frame_Reference15Ideal : Cert.quiescent_Reference15Ideal (hReference15Ideal := Cert.Reference15Ideal.Gen.facts) := fun m ρ _ =>
  (θ_run Cert.Reference15Ideal.defs _ _).mono (fun r h => ⟨fun c => (h c).2, sem_eq_zero_of_no_sems rfl r.2⟩)
    (Cert.Reference15Ideal.Value.run (F := Ideal) m ρ)

theorem algebraic15 : Cert.algebraic_Kernel15Ideal_Reference15Ideal (hKernel15Ideal := Cert.Kernel15Ideal.Gen.facts)
    (hReference15Ideal := Cert.Reference15Ideal.Gen.facts) := by
  intro m g m' g' _ hargs
  refine ⟨fun c => Cert.P15.ref (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)),
    (θ_run Cert.Kernel15Ideal.defs _ _).mono (fun r h c => ⟨(h c).1.trans (Cert.P15.equal m c), (h c).2⟩)
      (Cert.Kernel15Ideal.Value.run_blocks (F := Ideal) m g),
    (θ_run Cert.Reference15Ideal.defs _ _).mono (fun r h c => ?_) (Cert.Reference15Ideal.Value.run (F := Ideal) m' g')⟩
  obtain ⟨h0, h1⟩ := hargs c
  refine ⟨(h c).1.trans ?_, (h c).2⟩
  rw [h0, h1]
  rfl

/-! ## `mm_branch_b_dgrad` -/

theorem frame_Kernel16 : Cert.quiescent_Kernel16 (hKernel16 := Cert.Kernel16.Gen.facts) := fun m ρ _ =>
  Cert.Kernel16.Gen.frame (F := Bits) m ρ

theorem frame_Kernel16Ideal : Cert.quiescent_Kernel16Ideal (hKernel16Ideal := Cert.Kernel16Ideal.Gen.facts) := fun m ρ _ =>
  Cert.Kernel16Ideal.Gen.frame (F := Ideal) m ρ

theorem frame_Reference16Ideal : Cert.quiescent_Reference16Ideal (hReference16Ideal := Cert.Reference16Ideal.Gen.facts) := fun m ρ _ =>
  (θ_run Cert.Reference16Ideal.defs _ _).mono (fun r h => ⟨fun c => (h c).2, sem_eq_zero_of_no_sems rfl r.2⟩)
    (Cert.Reference16Ideal.Value.run (F := Ideal) m ρ)

theorem algebraic16 : Cert.algebraic_Kernel16Ideal_Reference16Ideal (hKernel16Ideal := Cert.Kernel16Ideal.Gen.facts)
    (hReference16Ideal := Cert.Reference16Ideal.Gen.facts) := by
  intro m g m' g' _ hargs
  refine ⟨fun c => Cert.P16.ref (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)),
    (θ_run Cert.Kernel16Ideal.defs _ _).mono (fun r h c => ⟨(h c).1.trans (Cert.P16.equal m c), (h c).2⟩)
      (Cert.Kernel16Ideal.Value.run_blocks (F := Ideal) m g),
    (θ_run Cert.Reference16Ideal.defs _ _).mono (fun r h c => ?_) (Cert.Reference16Ideal.Value.run (F := Ideal) m' g')⟩
  obtain ⟨h0, h1⟩ := hargs c
  refine ⟨(h c).1.trans ?_, (h c).2⟩
  rw [h0, h1]
  rfl

/-! ## `mm_out` -/

theorem frame_Kernel17 : Cert.quiescent_Kernel17 (hKernel17 := Cert.Kernel17.Gen.facts) := fun m ρ _ =>
  Cert.Kernel17.Gen.frame (F := Bits) m ρ

theorem frame_Kernel17Ideal : Cert.quiescent_Kernel17Ideal (hKernel17Ideal := Cert.Kernel17Ideal.Gen.facts) := fun m ρ _ =>
  Cert.Kernel17Ideal.Gen.frame (F := Ideal) m ρ

theorem frame_Reference17Ideal : Cert.quiescent_Reference17Ideal (hReference17Ideal := Cert.Reference17Ideal.Gen.facts) := fun m ρ _ =>
  (θ_run Cert.Reference17Ideal.defs _ _).mono (fun r h => ⟨fun c => (h c).2, sem_eq_zero_of_no_sems rfl r.2⟩)
    (Cert.Reference17Ideal.Value.run (F := Ideal) m ρ)

theorem algebraic17 : Cert.algebraic_Kernel17Ideal_Reference17Ideal (hKernel17Ideal := Cert.Kernel17Ideal.Gen.facts)
    (hReference17Ideal := Cert.Reference17Ideal.Gen.facts) := by
  intro m g m' g' _ hargs
  refine ⟨fun c => Cert.P17.ref (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)),
    (θ_run Cert.Kernel17Ideal.defs _ _).mono (fun r h c => ⟨(h c).1.trans (Cert.P17.equal m c), (h c).2⟩)
      (Cert.Kernel17Ideal.Value.run_blocks (F := Ideal) m g),
    (θ_run Cert.Reference17Ideal.defs _ _).mono (fun r h c => ?_) (Cert.Reference17Ideal.Value.run (F := Ideal) m' g')⟩
  obtain ⟨h0, h1, h2⟩ := hargs c
  refine ⟨(h c).1.trans ?_, (h c).2⟩
  rw [h0, h1, h2]
  rfl

/-! ## `mm_branch_a` -/

theorem frame_Kernel18 : Cert.quiescent_Kernel18 (hKernel18 := Cert.Kernel18.Gen.facts) := fun m ρ _ =>
  Cert.Kernel18.Gen.frame (F := Bits) m ρ

theorem frame_Kernel18Ideal : Cert.quiescent_Kernel18Ideal (hKernel18Ideal := Cert.Kernel18Ideal.Gen.facts) := fun m ρ _ =>
  Cert.Kernel18Ideal.Gen.frame (F := Ideal) m ρ

theorem frame_Reference18Ideal : Cert.quiescent_Reference18Ideal (hReference18Ideal := Cert.Reference18Ideal.Gen.facts) := fun m ρ _ =>
  (θ_run Cert.Reference18Ideal.defs _ _).mono (fun r h => ⟨fun c => (h c).2, sem_eq_zero_of_no_sems rfl r.2⟩)
    (Cert.Reference18Ideal.Value.run (F := Ideal) m ρ)

theorem algebraic18 : Cert.algebraic_Kernel18Ideal_Reference18Ideal (hKernel18Ideal := Cert.Kernel18Ideal.Gen.facts)
    (hReference18Ideal := Cert.Reference18Ideal.Gen.facts) := by
  intro m g m' g' _ hargs
  refine ⟨fun c => Cert.P18.ref (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)),
    (θ_run Cert.Kernel18Ideal.defs _ _).mono (fun r h c => ⟨(h c).1.trans (Cert.P18.equal m c), (h c).2⟩)
      (Cert.Kernel18Ideal.Value.run_blocks (F := Ideal) m g),
    (θ_run Cert.Reference18Ideal.defs _ _).mono (fun r h c => ?_) (Cert.Reference18Ideal.Value.run (F := Ideal) m' g')⟩
  obtain ⟨h0, h1⟩ := hargs c
  refine ⟨(h c).1.trans ?_, (h c).2⟩
  rw [h0, h1]
  rfl

/-! ## `mm_branch_b` -/

theorem frame_Kernel19 : Cert.quiescent_Kernel19 (hKernel19 := Cert.Kernel19.Gen.facts) := fun m ρ _ =>
  Cert.Kernel19.Gen.frame (F := Bits) m ρ

theorem frame_Kernel19Ideal : Cert.quiescent_Kernel19Ideal (hKernel19Ideal := Cert.Kernel19Ideal.Gen.facts) := fun m ρ _ =>
  Cert.Kernel19Ideal.Gen.frame (F := Ideal) m ρ

theorem frame_Reference19Ideal : Cert.quiescent_Reference19Ideal (hReference19Ideal := Cert.Reference19Ideal.Gen.facts) := fun m ρ _ =>
  (θ_run Cert.Reference19Ideal.defs _ _).mono (fun r h => ⟨fun c => (h c).2, sem_eq_zero_of_no_sems rfl r.2⟩)
    (Cert.Reference19Ideal.Value.run (F := Ideal) m ρ)

theorem algebraic19 : Cert.algebraic_Kernel19Ideal_Reference19Ideal (hKernel19Ideal := Cert.Kernel19Ideal.Gen.facts)
    (hReference19Ideal := Cert.Reference19Ideal.Gen.facts) := by
  intro m g m' g' _ hargs
  refine ⟨fun c => Cert.P19.ref (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)),
    (θ_run Cert.Kernel19Ideal.defs _ _).mono (fun r h c => ⟨(h c).1.trans (Cert.P19.equal m c), (h c).2⟩)
      (Cert.Kernel19Ideal.Value.run_blocks (F := Ideal) m g),
    (θ_run Cert.Reference19Ideal.defs _ _).mono (fun r h c => ?_) (Cert.Reference19Ideal.Value.run (F := Ideal) m' g')⟩
  obtain ⟨h0, h1⟩ := hargs c
  refine ⟨(h c).1.trans ?_, (h c).2⟩
  rw [h0, h1]
  rfl

/-! ## `adamw_w_in` -/

theorem frame_Kernel20 : Cert.quiescent_Kernel20 (hKernel20 := Cert.Kernel20.Gen.facts) := fun m ρ _ =>
  Cert.Kernel20.Gen.frame (F := Bits) m ρ

theorem frame_Kernel20Ideal : Cert.quiescent_Kernel20Ideal (hKernel20Ideal := Cert.Kernel20Ideal.Gen.facts) := fun m ρ _ =>
  Cert.Kernel20Ideal.Gen.frame (F := Ideal) m ρ

theorem frame_Reference20Ideal : Cert.quiescent_Reference20Ideal (hReference20Ideal := Cert.Reference20Ideal.Gen.facts) := fun m ρ _ =>
  (θ_run Cert.Reference20Ideal.defs _ _).mono (fun r h => ⟨fun c => (h c).2.2.2.2, sem_eq_zero_of_no_sems rfl r.2⟩)
    (Cert.Reference20Ideal.Value.run (F := Ideal) m ρ)

theorem algebraic20 : Cert.algebraic_Kernel20Ideal_Reference20Ideal (hKernel20Ideal := Cert.Kernel20Ideal.Gen.facts)
    (hReference20Ideal := Cert.Reference20Ideal.Gen.facts) := by
  intro m g m' g' _ hargs
  refine ⟨fun c => Cert.P20.delta (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)),
    fun c => Cert.P20.newM (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)),
    fun c => Cert.P20.newV (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg3)),
    fun c => m ((c.tc : Thread Cert.Kernel20Ideal.nD Cert.Kernel20Ideal.τ).loc Cert.Kernel20Ideal.main_arg1),
    (θ_run Cert.Kernel20Ideal.defs _ _).mono (fun r h c => ?_) (Cert.Kernel20Ideal.Value.run_blocks (F := Ideal) m g),
    (θ_run Cert.Reference20Ideal.defs _ _).mono (fun r h c => ?_) (Cert.Reference20Ideal.Value.run (F := Ideal) m' g')⟩
  · obtain ⟨e0, e1, e2, e3, k⟩ := h c
    exact ⟨e0.trans (Cert.P20.delta_eq m c), e1.trans (Cert.P20.newM_eq m c), e2.trans (Cert.P20.newV_eq m c), e3.trans (Cert.P20.passed_eq m c), k⟩
  obtain ⟨h0, h1, h2, h3⟩ := hargs c
  obtain ⟨e0, e1, e2, e3, k⟩ := h c
  refine ⟨e0.trans ?_, e1.trans ?_, e2.trans ?_, e3.trans ?_, k⟩
  · rw [h0, h1, h2, h3]
    rfl
  · rw [h1, h2]
    rfl
  · rw [h1, h3]
    rfl
  · exact h1

/-! ## `adamw_w_up` -/

theorem frame_Kernel21 : Cert.quiescent_Kernel21 (hKernel21 := Cert.Kernel21.Gen.facts) := fun m ρ _ =>
  Cert.Kernel21.Gen.frame (F := Bits) m ρ

theorem frame_Kernel21Ideal : Cert.quiescent_Kernel21Ideal (hKernel21Ideal := Cert.Kernel21Ideal.Gen.facts) := fun m ρ _ =>
  Cert.Kernel21Ideal.Gen.frame (F := Ideal) m ρ

theorem frame_Reference21Ideal : Cert.quiescent_Reference21Ideal (hReference21Ideal := Cert.Reference21Ideal.Gen.facts) := fun m ρ _ =>
  (θ_run Cert.Reference21Ideal.defs _ _).mono (fun r h => ⟨fun c => (h c).2.2.2.2, sem_eq_zero_of_no_sems rfl r.2⟩)
    (Cert.Reference21Ideal.Value.run (F := Ideal) m ρ)

theorem algebraic21 : Cert.algebraic_Kernel21Ideal_Reference21Ideal (hKernel21Ideal := Cert.Kernel21Ideal.Gen.facts)
    (hReference21Ideal := Cert.Reference21Ideal.Gen.facts) := by
  intro m g m' g' _ hargs
  refine ⟨fun c => Cert.P21.delta (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)),
    fun c => Cert.P21.newM (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)),
    fun c => Cert.P21.newV (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg3)),
    fun c => m ((c.tc : Thread Cert.Kernel21Ideal.nD Cert.Kernel21Ideal.τ).loc Cert.Kernel21Ideal.main_arg1),
    (θ_run Cert.Kernel21Ideal.defs _ _).mono (fun r h c => ?_) (Cert.Kernel21Ideal.Value.run_blocks (F := Ideal) m g),
    (θ_run Cert.Reference21Ideal.defs _ _).mono (fun r h c => ?_) (Cert.Reference21Ideal.Value.run (F := Ideal) m' g')⟩
  · obtain ⟨e0, e1, e2, e3, k⟩ := h c
    exact ⟨e0.trans (Cert.P21.delta_eq m c), e1.trans (Cert.P21.newM_eq m c), e2.trans (Cert.P21.newV_eq m c), e3.trans (Cert.P21.passed_eq m c), k⟩
  obtain ⟨h0, h1, h2, h3⟩ := hargs c
  obtain ⟨e0, e1, e2, e3, k⟩ := h c
  refine ⟨e0.trans ?_, e1.trans ?_, e2.trans ?_, e3.trans ?_, k⟩
  · rw [h0, h1, h2, h3]
    rfl
  · rw [h1, h2]
    rfl
  · rw [h1, h3]
    rfl
  · exact h1

/-! ## `adamw_w_down` -/

theorem frame_Kernel22 : Cert.quiescent_Kernel22 (hKernel22 := Cert.Kernel22.Gen.facts) := fun m ρ _ =>
  Cert.Kernel22.Gen.frame (F := Bits) m ρ

theorem frame_Kernel22Ideal : Cert.quiescent_Kernel22Ideal (hKernel22Ideal := Cert.Kernel22Ideal.Gen.facts) := fun m ρ _ =>
  Cert.Kernel22Ideal.Gen.frame (F := Ideal) m ρ

theorem frame_Reference22Ideal : Cert.quiescent_Reference22Ideal (hReference22Ideal := Cert.Reference22Ideal.Gen.facts) := fun m ρ _ =>
  (θ_run Cert.Reference22Ideal.defs _ _).mono (fun r h => ⟨fun c => (h c).2.2.2.2, sem_eq_zero_of_no_sems rfl r.2⟩)
    (Cert.Reference22Ideal.Value.run (F := Ideal) m ρ)

theorem algebraic22 : Cert.algebraic_Kernel22Ideal_Reference22Ideal (hKernel22Ideal := Cert.Kernel22Ideal.Gen.facts)
    (hReference22Ideal := Cert.Reference22Ideal.Gen.facts) := by
  intro m g m' g' _ hargs
  refine ⟨fun c => Cert.P22.delta (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)),
    fun c => Cert.P22.newM (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)),
    fun c => Cert.P22.newV (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg3)),
    fun c => m ((c.tc : Thread Cert.Kernel22Ideal.nD Cert.Kernel22Ideal.τ).loc Cert.Kernel22Ideal.main_arg1),
    (θ_run Cert.Kernel22Ideal.defs _ _).mono (fun r h c => ?_) (Cert.Kernel22Ideal.Value.run_blocks (F := Ideal) m g),
    (θ_run Cert.Reference22Ideal.defs _ _).mono (fun r h c => ?_) (Cert.Reference22Ideal.Value.run (F := Ideal) m' g')⟩
  · obtain ⟨e0, e1, e2, e3, k⟩ := h c
    exact ⟨e0.trans (Cert.P22.delta_eq m c), e1.trans (Cert.P22.newM_eq m c), e2.trans (Cert.P22.newV_eq m c), e3.trans (Cert.P22.passed_eq m c), k⟩
  obtain ⟨h0, h1, h2, h3⟩ := hargs c
  obtain ⟨e0, e1, e2, e3, k⟩ := h c
  refine ⟨e0.trans ?_, e1.trans ?_, e2.trans ?_, e3.trans ?_, k⟩
  · rw [h0, h1, h2, h3]
    rfl
  · rw [h1, h2]
    rfl
  · rw [h1, h3]
    rfl
  · exact h1

/-! ## `adamw_w_out` -/

theorem frame_Kernel23 : Cert.quiescent_Kernel23 (hKernel23 := Cert.Kernel23.Gen.facts) := fun m ρ _ =>
  Cert.Kernel23.Gen.frame (F := Bits) m ρ

theorem frame_Kernel23Ideal : Cert.quiescent_Kernel23Ideal (hKernel23Ideal := Cert.Kernel23Ideal.Gen.facts) := fun m ρ _ =>
  Cert.Kernel23Ideal.Gen.frame (F := Ideal) m ρ

theorem frame_Reference23Ideal : Cert.quiescent_Reference23Ideal (hReference23Ideal := Cert.Reference23Ideal.Gen.facts) := fun m ρ _ =>
  (θ_run Cert.Reference23Ideal.defs _ _).mono (fun r h => ⟨fun c => (h c).2.2.2.2, sem_eq_zero_of_no_sems rfl r.2⟩)
    (Cert.Reference23Ideal.Value.run (F := Ideal) m ρ)

theorem algebraic23 : Cert.algebraic_Kernel23Ideal_Reference23Ideal (hKernel23Ideal := Cert.Kernel23Ideal.Gen.facts)
    (hReference23Ideal := Cert.Reference23Ideal.Gen.facts) := by
  intro m g m' g' _ hargs
  refine ⟨fun c => Cert.P23.delta (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)),
    fun c => Cert.P23.newM (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)),
    fun c => Cert.P23.newV (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg3)),
    fun c => m ((c.tc : Thread Cert.Kernel23Ideal.nD Cert.Kernel23Ideal.τ).loc Cert.Kernel23Ideal.main_arg1),
    (θ_run Cert.Kernel23Ideal.defs _ _).mono (fun r h c => ?_) (Cert.Kernel23Ideal.Value.run_blocks (F := Ideal) m g),
    (θ_run Cert.Reference23Ideal.defs _ _).mono (fun r h c => ?_) (Cert.Reference23Ideal.Value.run (F := Ideal) m' g')⟩
  · obtain ⟨e0, e1, e2, e3, k⟩ := h c
    exact ⟨e0.trans (Cert.P23.delta_eq m c), e1.trans (Cert.P23.newM_eq m c), e2.trans (Cert.P23.newV_eq m c), e3.trans (Cert.P23.passed_eq m c), k⟩
  obtain ⟨h0, h1, h2, h3⟩ := hargs c
  obtain ⟨e0, e1, e2, e3, k⟩ := h c
  refine ⟨e0.trans ?_, e1.trans ?_, e2.trans ?_, e3.trans ?_, k⟩
  · rw [h0, h1, h2, h3]
    rfl
  · rw [h1, h2]
    rfl
  · rw [h1, h3]
    rfl
  · exact h1

/-! ## `adamw_w_branch_a` -/

theorem frame_Kernel24 : Cert.quiescent_Kernel24 (hKernel24 := Cert.Kernel24.Gen.facts) := fun m ρ _ =>
  Cert.Kernel24.Gen.frame (F := Bits) m ρ

theorem frame_Kernel24Ideal : Cert.quiescent_Kernel24Ideal (hKernel24Ideal := Cert.Kernel24Ideal.Gen.facts) := fun m ρ _ =>
  Cert.Kernel24Ideal.Gen.frame (F := Ideal) m ρ

theorem frame_Reference24Ideal : Cert.quiescent_Reference24Ideal (hReference24Ideal := Cert.Reference24Ideal.Gen.facts) := fun m ρ _ =>
  (θ_run Cert.Reference24Ideal.defs _ _).mono (fun r h => ⟨fun c => (h c).2.2.2.2, sem_eq_zero_of_no_sems rfl r.2⟩)
    (Cert.Reference24Ideal.Value.run (F := Ideal) m ρ)

theorem algebraic24 : Cert.algebraic_Kernel24Ideal_Reference24Ideal (hKernel24Ideal := Cert.Kernel24Ideal.Gen.facts)
    (hReference24Ideal := Cert.Reference24Ideal.Gen.facts) := by
  intro m g m' g' _ hargs
  refine ⟨fun c => Cert.P24.delta (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)),
    fun c => Cert.P24.newM (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)),
    fun c => Cert.P24.newV (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg3)),
    fun c => m ((c.tc : Thread Cert.Kernel24Ideal.nD Cert.Kernel24Ideal.τ).loc Cert.Kernel24Ideal.main_arg1),
    (θ_run Cert.Kernel24Ideal.defs _ _).mono (fun r h c => ?_) (Cert.Kernel24Ideal.Value.run_blocks (F := Ideal) m g),
    (θ_run Cert.Reference24Ideal.defs _ _).mono (fun r h c => ?_) (Cert.Reference24Ideal.Value.run (F := Ideal) m' g')⟩
  · obtain ⟨e0, e1, e2, e3, k⟩ := h c
    exact ⟨e0.trans (Cert.P24.delta_eq m c), e1.trans (Cert.P24.newM_eq m c), e2.trans (Cert.P24.newV_eq m c), e3.trans (Cert.P24.passed_eq m c), k⟩
  obtain ⟨h0, h1, h2, h3⟩ := hargs c
  obtain ⟨e0, e1, e2, e3, k⟩ := h c
  refine ⟨e0.trans ?_, e1.trans ?_, e2.trans ?_, e3.trans ?_, k⟩
  · rw [h0, h1, h2, h3]
    rfl
  · rw [h1, h2]
    rfl
  · rw [h1, h3]
    rfl
  · exact h1

/-! ## `adamw_norm_mix_g` -/

theorem frame_Kernel25 : Cert.quiescent_Kernel25 (hKernel25 := Cert.Kernel25.Gen.facts) := fun m ρ _ =>
  Cert.Kernel25.Gen.frame (F := Bits) m ρ

theorem frame_Kernel25Ideal : Cert.quiescent_Kernel25Ideal (hKernel25Ideal := Cert.Kernel25Ideal.Gen.facts) := fun m ρ _ =>
  Cert.Kernel25Ideal.Gen.frame (F := Ideal) m ρ

theorem frame_Reference25Ideal : Cert.quiescent_Reference25Ideal (hReference25Ideal := Cert.Reference25Ideal.Gen.facts) := fun m ρ _ =>
  (θ_run Cert.Reference25Ideal.defs _ _).mono (fun r h => ⟨fun c => (h c).2.2.2, sem_eq_zero_of_no_sems rfl r.2⟩)
    (Cert.Reference25Ideal.Value.run (F := Ideal) m ρ)

theorem algebraic25 : Cert.algebraic_Kernel25Ideal_Reference25Ideal (hKernel25Ideal := Cert.Kernel25Ideal.Gen.facts)
    (hReference25Ideal := Cert.Reference25Ideal.Gen.facts) := by
  intro m g m' g' _ hargs
  refine ⟨fun c => Cert.P25.delta (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)),
    fun c => Cert.P25.newM (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)),
    fun c => Cert.P25.newV (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg3)),
    (θ_run Cert.Kernel25Ideal.defs _ _).mono (fun r h c => ?_) (Cert.Kernel25Ideal.Value.run_blocks (F := Ideal) m g),
    (θ_run Cert.Reference25Ideal.defs _ _).mono (fun r h c => ?_) (Cert.Reference25Ideal.Value.run (F := Ideal) m' g')⟩
  · obtain ⟨e0, e1, e2, k⟩ := h c
    exact ⟨e0.trans (Cert.P25.delta_eq m c), e1.trans (Cert.P25.newM_eq m c), e2.trans (Cert.P25.newV_eq m c), k⟩
  obtain ⟨h0, h1, h2, h3⟩ := hargs c
  obtain ⟨e0, e1, e2, k⟩ := h c
  refine ⟨e0.trans ?_, e1.trans ?_, e2.trans ?_, k⟩
  · rw [h0, h1, h2, h3]
    rfl
  · rw [h1, h2]
    rfl
  · rw [h1, h3]
    rfl

/-! ## `adamw_sgu_ln_g` -/

theorem frame_Kernel26 : Cert.quiescent_Kernel26 (hKernel26 := Cert.Kernel26.Gen.facts) := fun m ρ _ =>
  Cert.Kernel26.Gen.frame (F := Bits) m ρ

theorem frame_Kernel26Ideal : Cert.quiescent_Kernel26Ideal (hKernel26Ideal := Cert.Kernel26Ideal.Gen.facts) := fun m ρ _ =>
  Cert.Kernel26Ideal.Gen.frame (F := Ideal) m ρ

theorem frame_Reference26Ideal : Cert.quiescent_Reference26Ideal (hReference26Ideal := Cert.Reference26Ideal.Gen.facts) := fun m ρ _ =>
  (θ_run Cert.Reference26Ideal.defs _ _).mono (fun r h => ⟨fun c => (h c).2.2.2, sem_eq_zero_of_no_sems rfl r.2⟩)
    (Cert.Reference26Ideal.Value.run (F := Ideal) m ρ)

theorem algebraic26 : Cert.algebraic_Kernel26Ideal_Reference26Ideal (hKernel26Ideal := Cert.Kernel26Ideal.Gen.facts)
    (hReference26Ideal := Cert.Reference26Ideal.Gen.facts) := by
  intro m g m' g' _ hargs
  refine ⟨fun c => Cert.P26.delta (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)),
    fun c => Cert.P26.newM (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)),
    fun c => Cert.P26.newV (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg3)),
    (θ_run Cert.Kernel26Ideal.defs _ _).mono (fun r h c => ?_) (Cert.Kernel26Ideal.Value.run_blocks (F := Ideal) m g),
    (θ_run Cert.Reference26Ideal.defs _ _).mono (fun r h c => ?_) (Cert.Reference26Ideal.Value.run (F := Ideal) m' g')⟩
  · obtain ⟨e0, e1, e2, k⟩ := h c
    exact ⟨e0.trans (Cert.P26.delta_eq m c), e1.trans (Cert.P26.newM_eq m c), e2.trans (Cert.P26.newV_eq m c), k⟩
  obtain ⟨h0, h1, h2, h3⟩ := hargs c
  obtain ⟨e0, e1, e2, k⟩ := h c
  refine ⟨e0.trans ?_, e1.trans ?_, e2.trans ?_, k⟩
  · rw [h0, h1, h2, h3]
    rfl
  · rw [h1, h2]
    rfl
  · rw [h1, h3]
    rfl

/-! ## `adamw_gdn_norm_g` -/

theorem frame_Kernel27 : Cert.quiescent_Kernel27 (hKernel27 := Cert.Kernel27.Gen.facts) := fun m ρ _ =>
  Cert.Kernel27.Gen.frame (F := Bits) m ρ

theorem frame_Kernel27Ideal : Cert.quiescent_Kernel27Ideal (hKernel27Ideal := Cert.Kernel27Ideal.Gen.facts) := fun m ρ _ =>
  Cert.Kernel27Ideal.Gen.frame (F := Ideal) m ρ

theorem frame_Reference27Ideal : Cert.quiescent_Reference27Ideal (hReference27Ideal := Cert.Reference27Ideal.Gen.facts) := fun m ρ _ =>
  (θ_run Cert.Reference27Ideal.defs _ _).mono (fun r h => ⟨fun c => (h c).2.2.2, sem_eq_zero_of_no_sems rfl r.2⟩)
    (Cert.Reference27Ideal.Value.run (F := Ideal) m ρ)

theorem algebraic27 : Cert.algebraic_Kernel27Ideal_Reference27Ideal (hKernel27Ideal := Cert.Kernel27Ideal.Gen.facts)
    (hReference27Ideal := Cert.Reference27Ideal.Gen.facts) := by
  intro m g m' g' _ hargs
  refine ⟨fun c => Cert.P27.delta (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)),
    fun c => Cert.P27.newM (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)),
    fun c => Cert.P27.newV (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg3)),
    (θ_run Cert.Kernel27Ideal.defs _ _).mono (fun r h c => ?_) (Cert.Kernel27Ideal.Value.run_blocks (F := Ideal) m g),
    (θ_run Cert.Reference27Ideal.defs _ _).mono (fun r h c => ?_) (Cert.Reference27Ideal.Value.run (F := Ideal) m' g')⟩
  · obtain ⟨e0, e1, e2, k⟩ := h c
    exact ⟨e0.trans (Cert.P27.delta_eq m c), e1.trans (Cert.P27.newM_eq m c), e2.trans (Cert.P27.newV_eq m c), k⟩
  obtain ⟨h0, h1, h2, h3⟩ := hargs c
  obtain ⟨e0, e1, e2, k⟩ := h c
  refine ⟨e0.trans ?_, e1.trans ?_, e2.trans ?_, k⟩
  · rw [h0, h1, h2, h3]
    rfl
  · rw [h1, h2]
    rfl
  · rw [h1, h3]
    rfl

/-! ## `adamw_a_log` -/

theorem frame_Kernel28 : Cert.quiescent_Kernel28 (hKernel28 := Cert.Kernel28.Gen.facts) := fun m ρ _ =>
  Cert.Kernel28.Gen.frame (F := Bits) m ρ

theorem frame_Kernel28Ideal : Cert.quiescent_Kernel28Ideal (hKernel28Ideal := Cert.Kernel28Ideal.Gen.facts) := fun m ρ _ =>
  Cert.Kernel28Ideal.Gen.frame (F := Ideal) m ρ

theorem frame_Reference28Ideal : Cert.quiescent_Reference28Ideal (hReference28Ideal := Cert.Reference28Ideal.Gen.facts) := fun m ρ _ =>
  (θ_run Cert.Reference28Ideal.defs _ _).mono (fun r h => ⟨fun c => (h c).2.2.2, sem_eq_zero_of_no_sems rfl r.2⟩)
    (Cert.Reference28Ideal.Value.run (F := Ideal) m ρ)

theorem algebraic28 : Cert.algebraic_Kernel28Ideal_Reference28Ideal (hKernel28Ideal := Cert.Kernel28Ideal.Gen.facts)
    (hReference28Ideal := Cert.Reference28Ideal.Gen.facts) := by
  intro m g m' g' _ hargs
  refine ⟨fun c => Cert.P28.delta (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)),
    fun c => Cert.P28.newM (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)),
    fun c => Cert.P28.newV (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg3)),
    (θ_run Cert.Kernel28Ideal.defs _ _).mono (fun r h c => ?_) (Cert.Kernel28Ideal.Value.run_blocks (F := Ideal) m g),
    (θ_run Cert.Reference28Ideal.defs _ _).mono (fun r h c => ?_) (Cert.Reference28Ideal.Value.run (F := Ideal) m' g')⟩
  · obtain ⟨e0, e1, e2, k⟩ := h c
    exact ⟨e0.trans (Cert.P28.delta_eq m c), e1.trans (Cert.P28.newM_eq m c), e2.trans (Cert.P28.newV_eq m c), k⟩
  obtain ⟨h0, h1, h2, h3⟩ := hargs c
  obtain ⟨e0, e1, e2, k⟩ := h c
  refine ⟨e0.trans ?_, e1.trans ?_, e2.trans ?_, k⟩
  · rw [h0, h1, h2, h3]
    rfl
  · rw [h1, h2]
    rfl
  · rw [h1, h3]
    rfl

/-! ## `adamw_sgu_w` -/

theorem frame_Kernel29 : Cert.quiescent_Kernel29 (hKernel29 := Cert.Kernel29.Gen.facts) := fun m ρ _ =>
  Cert.Kernel29.Gen.frame (F := Bits) m ρ

theorem frame_Kernel29Ideal : Cert.quiescent_Kernel29Ideal (hKernel29Ideal := Cert.Kernel29Ideal.Gen.facts) := fun m ρ _ =>
  Cert.Kernel29Ideal.Gen.frame (F := Ideal) m ρ

theorem frame_Reference29Ideal : Cert.quiescent_Reference29Ideal (hReference29Ideal := Cert.Reference29Ideal.Gen.facts) := fun m ρ _ =>
  (θ_run Cert.Reference29Ideal.defs _ _).mono (fun r h => ⟨fun c => (h c).2.2.2, sem_eq_zero_of_no_sems rfl r.2⟩)
    (Cert.Reference29Ideal.Value.run (F := Ideal) m ρ)

theorem algebraic29 : Cert.algebraic_Kernel29Ideal_Reference29Ideal (hKernel29Ideal := Cert.Kernel29Ideal.Gen.facts)
    (hReference29Ideal := Cert.Reference29Ideal.Gen.facts) := by
  intro m g m' g' _ hargs
  refine ⟨fun c => Cert.P29.delta (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)),
    fun c => Cert.P29.newM (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)),
    fun c => Cert.P29.newV (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg3)),
    (θ_run Cert.Kernel29Ideal.defs _ _).mono (fun r h c => ?_) (Cert.Kernel29Ideal.Value.run_blocks (F := Ideal) m g),
    (θ_run Cert.Reference29Ideal.defs _ _).mono (fun r h c => ?_) (Cert.Reference29Ideal.Value.run (F := Ideal) m' g')⟩
  · obtain ⟨e0, e1, e2, k⟩ := h c
    exact ⟨e0.trans (Cert.P29.delta_eq m c), e1.trans (Cert.P29.newM_eq m c), e2.trans (Cert.P29.newV_eq m c), k⟩
  obtain ⟨h0, h1, h2, h3⟩ := hargs c
  obtain ⟨e0, e1, e2, k⟩ := h c
  refine ⟨e0.trans ?_, e1.trans ?_, e2.trans ?_, k⟩
  · rw [h0, h1, h2, h3]
    rfl
  · rw [h1, h2]
    rfl
  · rw [h1, h3]
    rfl

/-! ## `adamw_sgu_b` -/

theorem frame_Kernel30 : Cert.quiescent_Kernel30 (hKernel30 := Cert.Kernel30.Gen.facts) := fun m ρ _ =>
  Cert.Kernel30.Gen.frame (F := Bits) m ρ

theorem frame_Kernel30Ideal : Cert.quiescent_Kernel30Ideal (hKernel30Ideal := Cert.Kernel30Ideal.Gen.facts) := fun m ρ _ =>
  Cert.Kernel30Ideal.Gen.frame (F := Ideal) m ρ

theorem frame_Reference30Ideal : Cert.quiescent_Reference30Ideal (hReference30Ideal := Cert.Reference30Ideal.Gen.facts) := fun m ρ _ =>
  (θ_run Cert.Reference30Ideal.defs _ _).mono (fun r h => ⟨fun c => (h c).2.2.2, sem_eq_zero_of_no_sems rfl r.2⟩)
    (Cert.Reference30Ideal.Value.run (F := Ideal) m ρ)

theorem algebraic30 : Cert.algebraic_Kernel30Ideal_Reference30Ideal (hKernel30Ideal := Cert.Kernel30Ideal.Gen.facts)
    (hReference30Ideal := Cert.Reference30Ideal.Gen.facts) := by
  intro m g m' g' _ hargs
  refine ⟨fun c => Cert.P30.delta (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)),
    fun c => Cert.P30.newM (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)),
    fun c => Cert.P30.newV (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg3)),
    (θ_run Cert.Kernel30Ideal.defs _ _).mono (fun r h c => ?_) (Cert.Kernel30Ideal.Value.run_blocks (F := Ideal) m g),
    (θ_run Cert.Reference30Ideal.defs _ _).mono (fun r h c => ?_) (Cert.Reference30Ideal.Value.run (F := Ideal) m' g')⟩
  · obtain ⟨e0, e1, e2, k⟩ := h c
    exact ⟨e0.trans (Cert.P30.delta_eq m c), e1.trans (Cert.P30.newM_eq m c), e2.trans (Cert.P30.newV_eq m c), k⟩
  obtain ⟨h0, h1, h2, h3⟩ := hargs c
  obtain ⟨e0, e1, e2, k⟩ := h c
  refine ⟨e0.trans ?_, e1.trans ?_, e2.trans ?_, k⟩
  · rw [h0, h1, h2, h3]
    rfl
  · rw [h1, h2]
    rfl
  · rw [h1, h3]
    rfl

/-! ## `adamw_qkv_conv_w` -/

theorem frame_Kernel31 : Cert.quiescent_Kernel31 (hKernel31 := Cert.Kernel31.Gen.facts) := fun m ρ _ =>
  Cert.Kernel31.Gen.frame (F := Bits) m ρ

theorem frame_Kernel31Ideal : Cert.quiescent_Kernel31Ideal (hKernel31Ideal := Cert.Kernel31Ideal.Gen.facts) := fun m ρ _ =>
  Cert.Kernel31Ideal.Gen.frame (F := Ideal) m ρ

theorem frame_Reference31Ideal : Cert.quiescent_Reference31Ideal (hReference31Ideal := Cert.Reference31Ideal.Gen.facts) := fun m ρ _ =>
  (θ_run Cert.Reference31Ideal.defs _ _).mono (fun r h => ⟨fun c => (h c).2.2.2, sem_eq_zero_of_no_sems rfl r.2⟩)
    (Cert.Reference31Ideal.Value.run (F := Ideal) m ρ)

theorem algebraic31 : Cert.algebraic_Kernel31Ideal_Reference31Ideal (hKernel31Ideal := Cert.Kernel31Ideal.Gen.facts)
    (hReference31Ideal := Cert.Reference31Ideal.Gen.facts) := by
  intro m g m' g' _ hargs
  refine ⟨fun c => Cert.P31.delta (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)),
    fun c => Cert.P31.newM (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)),
    fun c => Cert.P31.newV (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg3)),
    (θ_run Cert.Kernel31Ideal.defs _ _).mono (fun r h c => ?_) (Cert.Kernel31Ideal.Value.run_blocks (F := Ideal) m g),
    (θ_run Cert.Reference31Ideal.defs _ _).mono (fun r h c => ?_) (Cert.Reference31Ideal.Value.run (F := Ideal) m' g')⟩
  · obtain ⟨e0, e1, e2, k⟩ := h c
    exact ⟨e0.trans (Cert.P31.delta_eq m c), e1.trans (Cert.P31.newM_eq m c), e2.trans (Cert.P31.newV_eq m c), k⟩
  obtain ⟨h0, h1, h2, h3⟩ := hargs c
  obtain ⟨e0, e1, e2, k⟩ := h c
  refine ⟨e0.trans ?_, e1.trans ?_, e2.trans ?_, k⟩
  · rw [h0, h1, h2, h3]
    rfl
  · rw [h1, h2]
    rfl
  · rw [h1, h3]
    rfl

/-! ## `adamw_ffn_conv_w` -/

theorem frame_Kernel32 : Cert.quiescent_Kernel32 (hKernel32 := Cert.Kernel32.Gen.facts) := fun m ρ _ =>
  Cert.Kernel32.Gen.frame (F := Bits) m ρ

theorem frame_Kernel32Ideal : Cert.quiescent_Kernel32Ideal (hKernel32Ideal := Cert.Kernel32Ideal.Gen.facts) := fun m ρ _ =>
  Cert.Kernel32Ideal.Gen.frame (F := Ideal) m ρ

theorem frame_Reference32Ideal : Cert.quiescent_Reference32Ideal (hReference32Ideal := Cert.Reference32Ideal.Gen.facts) := fun m ρ _ =>
  (θ_run Cert.Reference32Ideal.defs _ _).mono (fun r h => ⟨fun c => (h c).2.2.2, sem_eq_zero_of_no_sems rfl r.2⟩)
    (Cert.Reference32Ideal.Value.run (F := Ideal) m ρ)

theorem algebraic32 : Cert.algebraic_Kernel32Ideal_Reference32Ideal (hKernel32Ideal := Cert.Kernel32Ideal.Gen.facts)
    (hReference32Ideal := Cert.Reference32Ideal.Gen.facts) := by
  intro m g m' g' _ hargs
  refine ⟨fun c => Cert.P32.delta (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)),
    fun c => Cert.P32.newM (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)),
    fun c => Cert.P32.newV (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg3)),
    (θ_run Cert.Kernel32Ideal.defs _ _).mono (fun r h c => ?_) (Cert.Kernel32Ideal.Value.run_blocks (F := Ideal) m g),
    (θ_run Cert.Reference32Ideal.defs _ _).mono (fun r h c => ?_) (Cert.Reference32Ideal.Value.run (F := Ideal) m' g')⟩
  · obtain ⟨e0, e1, e2, k⟩ := h c
    exact ⟨e0.trans (Cert.P32.delta_eq m c), e1.trans (Cert.P32.newM_eq m c), e2.trans (Cert.P32.newV_eq m c), k⟩
  obtain ⟨h0, h1, h2, h3⟩ := hargs c
  obtain ⟨e0, e1, e2, k⟩ := h c
  refine ⟨e0.trans ?_, e1.trans ?_, e2.trans ?_, k⟩
  · rw [h0, h1, h2, h3]
    rfl
  · rw [h1, h2]
    rfl
  · rw [h1, h3]
    rfl

/-! ## `adamw_ffn_conv_b` -/

theorem frame_Kernel33 : Cert.quiescent_Kernel33 (hKernel33 := Cert.Kernel33.Gen.facts) := fun m ρ _ =>
  Cert.Kernel33.Gen.frame (F := Bits) m ρ

theorem frame_Kernel33Ideal : Cert.quiescent_Kernel33Ideal (hKernel33Ideal := Cert.Kernel33Ideal.Gen.facts) := fun m ρ _ =>
  Cert.Kernel33Ideal.Gen.frame (F := Ideal) m ρ

theorem frame_Reference33Ideal : Cert.quiescent_Reference33Ideal (hReference33Ideal := Cert.Reference33Ideal.Gen.facts) := fun m ρ _ =>
  (θ_run Cert.Reference33Ideal.defs _ _).mono (fun r h => ⟨fun c => (h c).2.2.2, sem_eq_zero_of_no_sems rfl r.2⟩)
    (Cert.Reference33Ideal.Value.run (F := Ideal) m ρ)

theorem algebraic33 : Cert.algebraic_Kernel33Ideal_Reference33Ideal (hKernel33Ideal := Cert.Kernel33Ideal.Gen.facts)
    (hReference33Ideal := Cert.Reference33Ideal.Gen.facts) := by
  intro m g m' g' _ hargs
  refine ⟨fun c => Cert.P33.delta (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)) (m ((c.tc : Thread Cert.Kernel33Ideal.nD Cert.Kernel33Ideal.τ).loc Cert.Kernel33Ideal.main_arg3)),
    fun c => Cert.P33.newM (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2)),
    fun c => Cert.P33.newV (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg3)),
    (θ_run Cert.Kernel33Ideal.defs _ _).mono (fun r h c => ?_) (Cert.Kernel33Ideal.Value.run_blocks (F := Ideal) m g),
    (θ_run Cert.Reference33Ideal.defs _ _).mono (fun r h c => ?_) (Cert.Reference33Ideal.Value.run (F := Ideal) m' g')⟩
  · obtain ⟨e0, e1, e2, k⟩ := h c
    exact ⟨e0.trans (Cert.P33.delta_eq m c), e1.trans (Cert.P33.newM_eq m c), e2.trans (Cert.P33.newV_eq m c), k⟩
  obtain ⟨h0, h1, h2, h3⟩ := hargs c
  obtain ⟨e0, e1, e2, k⟩ := h c
  refine ⟨e0.trans ?_, e1.trans ?_, e2.trans ?_, k⟩
  · rw [h0, h1, h2, h3]
    rfl
  · rw [h1, h2]
    rfl
  · rw [h1, h3]
    rfl

/-! ## `adamw_final_norm_g` -/

theorem frame_Kernel34 : Cert.quiescent_Kernel34 (hKernel34 := Cert.Kernel34.Gen.facts) := fun m ρ _ =>
  Cert.Kernel34.Gen.frame (F := Bits) m ρ

theorem frame_Kernel34Ideal : Cert.quiescent_Kernel34Ideal (hKernel34Ideal := Cert.Kernel34Ideal.Gen.facts) := fun m ρ _ =>
  Cert.Kernel34Ideal.Gen.frame (F := Ideal) m ρ

theorem frame_Reference34Ideal : Cert.quiescent_Reference34Ideal (hReference34Ideal := Cert.Reference34Ideal.Gen.facts) := fun m ρ _ =>
  (θ_run Cert.Reference34Ideal.defs _ _).mono (fun r h => ⟨fun c => (h c).2.2.2, sem_eq_zero_of_no_sems rfl r.2⟩)
    (Cert.Reference34Ideal.Value.run (F := Ideal) m ρ)

theorem algebraic34 : Cert.algebraic_Kernel34Ideal_Reference34Ideal (hKernel34Ideal := Cert.Kernel34Ideal.Gen.facts)
    (hReference34Ideal := Cert.Reference34Ideal.Gen.facts) := by
  intro m g m' g' _ hargs
  refine ⟨fun c => Cert.P34.delta (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2)) (m ((c.tc : Thread Cert.Kernel34Ideal.nD Cert.Kernel34Ideal.τ).loc Cert.Kernel34Ideal.main_arg3)),
    fun c => Cert.P34.newM (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2)),
    fun c => Cert.P34.newV (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg3)),
    (θ_run Cert.Kernel34Ideal.defs _ _).mono (fun r h c => ?_) (Cert.Kernel34Ideal.Value.run_blocks (F := Ideal) m g),
    (θ_run Cert.Reference34Ideal.defs _ _).mono (fun r h c => ?_) (Cert.Reference34Ideal.Value.run (F := Ideal) m' g')⟩
  · obtain ⟨e0, e1, e2, k⟩ := h c
    exact ⟨e0.trans (Cert.P34.delta_eq m c), e1.trans (Cert.P34.newM_eq m c), e2.trans (Cert.P34.newV_eq m c), k⟩
  obtain ⟨h0, h1, h2, h3⟩ := hargs c
  obtain ⟨e0, e1, e2, k⟩ := h c
  refine ⟨e0.trans ?_, e1.trans ?_, e2.trans ?_, k⟩
  · rw [h0, h1, h2, h3]
    rfl
  · rw [h1, h2]
    rfl
  · rw [h1, h3]
    rfl

/-! ## `rms_mix_bwd` -/

theorem frame_Kernel35 : Cert.quiescent_Kernel35 (hKernel35 := Cert.Kernel35.Gen.facts) := fun m ρ _ =>
  Cert.Kernel35.Gen.frame (F := Bits) m ρ

theorem frame_Kernel35Ideal : Cert.quiescent_Kernel35Ideal (hKernel35Ideal := Cert.Kernel35Ideal.Gen.facts) := fun m ρ _ =>
  Cert.Kernel35Ideal.Gen.frame (F := Ideal) m ρ

theorem frame_Reference35Ideal : Cert.quiescent_Reference35Ideal (hReference35Ideal := Cert.Reference35Ideal.Gen.facts) := fun m ρ _ =>
  (θ_run Cert.Reference35Ideal.defs _ _).mono (fun r h => ⟨fun c => (h c).2.2.2, sem_eq_zero_of_no_sems rfl r.2⟩)
    (Cert.Reference35Ideal.Value.run (F := Ideal) m ρ)

theorem algebraic35 : Cert.algebraic_Kernel35Ideal_Reference35Ideal (hKernel35Ideal := Cert.Kernel35Ideal.Gen.facts)
    (hReference35Ideal := Cert.Reference35Ideal.Gen.facts) := by
  intro m g m' g' _ hargs
  refine ⟨fun c => Cert.P35.dx (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2)) (m ((c.tc : Thread Cert.Kernel35Ideal.nD Cert.Kernel35Ideal.τ).loc Cert.Kernel35Ideal.main_arg3)),
    fun c => Cert.P35.dxBf (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2)) (m ((c.tc : Thread Cert.Kernel35Ideal.nD Cert.Kernel35Ideal.τ).loc Cert.Kernel35Ideal.main_arg3)),
    fun c => Cert.P35.dg (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg2)),
    (θ_run Cert.Kernel35Ideal.defs _ _).mono (fun r h c => ?_) (Cert.Kernel35Ideal.Value.run_blocks (F := Ideal) m g),
    (θ_run Cert.Reference35Ideal.defs _ _).mono (fun r h c => ?_) (Cert.Reference35Ideal.Value.run (F := Ideal) m' g')⟩
  · obtain ⟨e0, e1, e2, k⟩ := h c
    exact ⟨e0.trans (Cert.P35.dx_eq m c), e1.trans (Cert.P35.dxBf_eq m c), e2.trans (Cert.P35.dg_eq m c), k⟩
  obtain ⟨h0, h1, h2, h3⟩ := hargs c
  obtain ⟨e0, e1, e2, k⟩ := h c
  refine ⟨e0.trans ?_, e1.trans ?_, e2.trans ?_, k⟩
  · rw [h0, h1, h2, h3]
    rfl
  · rw [h0, h1, h2, h3]
    rfl
  · rw [h0, h2]
    rfl

/-! ## `rms_mix_fwd` -/

theorem frame_Kernel36 : Cert.quiescent_Kernel36 (hKernel36 := Cert.Kernel36.Gen.facts) := fun m ρ _ =>
  Cert.Kernel36.Gen.frame (F := Bits) m ρ

theorem frame_Kernel36Ideal : Cert.quiescent_Kernel36Ideal (hKernel36Ideal := Cert.Kernel36Ideal.Gen.facts) := fun m ρ _ =>
  Cert.Kernel36Ideal.Gen.frame (F := Ideal) m ρ

theorem frame_Reference36Ideal : Cert.quiescent_Reference36Ideal (hReference36Ideal := Cert.Reference36Ideal.Gen.facts) := fun m ρ _ =>
  (θ_run Cert.Reference36Ideal.defs _ _).mono (fun r h => ⟨fun c => (h c).2, sem_eq_zero_of_no_sems rfl r.2⟩)
    (Cert.Reference36Ideal.Value.run (F := Ideal) m ρ)

theorem algebraic36 : Cert.algebraic_Kernel36Ideal_Reference36Ideal (hKernel36Ideal := Cert.Kernel36Ideal.Gen.facts)
    (hReference36Ideal := Cert.Reference36Ideal.Gen.facts) := by
  intro m g m' g' _ hargs
  refine ⟨fun c => Cert.P36.ref (m ((c.tc : Thread Cert.Kernel36Ideal.nD Cert.Kernel36Ideal.τ).loc Cert.Kernel36Ideal.main_arg0)) (m ((c.tc : Thread Cert.Kernel36Ideal.nD Cert.Kernel36Ideal.τ).loc Cert.Kernel36Ideal.main_arg1)),
    (θ_run Cert.Kernel36Ideal.defs _ _).mono (fun r h c => ?_) (Cert.Kernel36Ideal.Value.run_blocks (F := Ideal) m g),
    (θ_run Cert.Reference36Ideal.defs _ _).mono (fun r h c => ?_) (Cert.Reference36Ideal.Value.run (F := Ideal) m' g')⟩
  · obtain ⟨e0, k⟩ := h c
    exact ⟨e0.trans (Cert.P36.equal m c), k⟩
  obtain ⟨h0, h1⟩ := hargs c
  obtain ⟨e0, k⟩ := h c
  refine ⟨e0.trans ?_, k⟩
  rw [h0, h1]
  rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  frame_Kernel, frame_KernelIdeal, frame_ReferenceIdeal,
  frame_Kernel2, frame_Kernel2Ideal, frame_Reference2Ideal,
  frame_Kernel3, frame_Kernel3Ideal, frame_Reference3Ideal,
  frame_Kernel4, frame_Kernel4Ideal, frame_Reference4Ideal,
  frame_Kernel5, frame_Kernel5Ideal, frame_Reference5Ideal,
  frame_Kernel6, frame_Kernel6Ideal, frame_Reference6Ideal,
  frame_Kernel7, frame_Kernel7Ideal, frame_Reference7Ideal,
  frame_Kernel8, frame_Kernel8Ideal, frame_Reference8Ideal,
  frame_Kernel9, frame_Kernel9Ideal, frame_Reference9Ideal,
  frame_Kernel10, frame_Kernel10Ideal, frame_Reference10Ideal,
  frame_Kernel11, frame_Kernel11Ideal, frame_Reference11Ideal,
  frame_Kernel12, frame_Kernel12Ideal, frame_Reference12Ideal,
  frame_Kernel13, frame_Kernel13Ideal, frame_Reference13Ideal,
  frame_Kernel14, frame_Kernel14Ideal, frame_Reference14Ideal,
  frame_Kernel15, frame_Kernel15Ideal, frame_Reference15Ideal,
  frame_Kernel16, frame_Kernel16Ideal, frame_Reference16Ideal,
  frame_Kernel17, frame_Kernel17Ideal, frame_Reference17Ideal,
  frame_Kernel18, frame_Kernel18Ideal, frame_Reference18Ideal,
  frame_Kernel19, frame_Kernel19Ideal, frame_Reference19Ideal,
  frame_Kernel20, frame_Kernel20Ideal, frame_Reference20Ideal,
  frame_Kernel21, frame_Kernel21Ideal, frame_Reference21Ideal,
  frame_Kernel22, frame_Kernel22Ideal, frame_Reference22Ideal,
  frame_Kernel23, frame_Kernel23Ideal, frame_Reference23Ideal,
  frame_Kernel24, frame_Kernel24Ideal, frame_Reference24Ideal,
  frame_Kernel25, frame_Kernel25Ideal, frame_Reference25Ideal,
  frame_Kernel26, frame_Kernel26Ideal, frame_Reference26Ideal,
  frame_Kernel27, frame_Kernel27Ideal, frame_Reference27Ideal,
  frame_Kernel28, frame_Kernel28Ideal, frame_Reference28Ideal,
  frame_Kernel29, frame_Kernel29Ideal, frame_Reference29Ideal,
  frame_Kernel30, frame_Kernel30Ideal, frame_Reference30Ideal,
  frame_Kernel31, frame_Kernel31Ideal, frame_Reference31Ideal,
  frame_Kernel32, frame_Kernel32Ideal, frame_Reference32Ideal,
  frame_Kernel33, frame_Kernel33Ideal, frame_Reference33Ideal,
  frame_Kernel34, frame_Kernel34Ideal, frame_Reference34Ideal,
  frame_Kernel35, frame_Kernel35Ideal, frame_Reference35Ideal,
  frame_Kernel36, frame_Kernel36Ideal, frame_Reference36Ideal,
  trivial, algebraic,
  trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17, trivial, algebraic18, trivial, algebraic19, trivial, algebraic20, trivial, algebraic21, trivial, algebraic22, trivial, algebraic23, trivial, algebraic24, trivial, algebraic25, trivial, algebraic26, trivial, algebraic27, trivial, algebraic28, trivial, algebraic29, trivial, algebraic30, trivial, algebraic31, trivial, algebraic32, trivial, algebraic33, trivial, algebraic34, trivial, algebraic35, trivial, algebraic36⟩

end Cert.Proof

end
